-- ==== Defs.lean ====
def Pre_Tail (m : (ℓ : Loc Cert.Tail.nD Cert.Tail.τ Cert.Tail.sig) → Buf (Elt Bits) ℓ) : Prop :=
  True

def Pre_TailIdeal (m : (ℓ : Loc Cert.TailIdeal.nD Cert.TailIdeal.τ Cert.TailIdeal.sig) → Buf (Elt Ideal) ℓ) : Prop :=
  True

def Pre_TailRefIdeal (m : (ℓ : Loc Cert.TailRefIdeal.nD Cert.TailRefIdeal.τ Cert.TailRefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_Scan (m : (ℓ : Loc Cert.Scan.nD Cert.Scan.τ Cert.Scan.sig) → Buf (Elt Bits) ℓ) : Prop :=
  True

def Pre_ScanIdeal (m : (ℓ : Loc Cert.ScanIdeal.nD Cert.ScanIdeal.τ Cert.ScanIdeal.sig) → Buf (Elt Ideal) ℓ) : Prop :=
  True

def Pre_ScanIdeal_scan_real [hPre_scan_real : Cert.Pre_scan_real.Facts] (m : (ℓ : Loc Cert.ScanIdeal.nD Cert.ScanIdeal.τ Cert.ScanIdeal.sig) → Buf (Elt Ideal) ℓ) : Prop :=
  ∀ c : Dev Cert.ScanIdeal.nD,
    (Cert.Pre_scan_real.fn (F := Ideal) (m ((c.tc : Thread Cert.ScanIdeal.nD Cert.ScanIdeal.τ).loc Cert.ScanIdeal.main_arg0)) (m ((c.tc : Thread Cert.ScanIdeal.nD Cert.ScanIdeal.τ).loc Cert.ScanIdeal.main_arg1)) (m ((c.tc : Thread Cert.ScanIdeal.nD Cert.ScanIdeal.τ).loc Cert.ScanIdeal.main_arg2)) (m ((c.tc : Thread Cert.ScanIdeal.nD Cert.ScanIdeal.τ).loc Cert.ScanIdeal.main_arg3)) (m ((c.tc : Thread Cert.ScanIdeal.nD Cert.ScanIdeal.τ).loc Cert.ScanIdeal.main_arg4)) (m ((c.tc : Thread Cert.ScanIdeal.nD Cert.ScanIdeal.τ).loc Cert.ScanIdeal.main_arg5)) (m ((c.tc : Thread Cert.ScanIdeal.nD Cert.ScanIdeal.τ).loc Cert.ScanIdeal.main_arg6)) (m ((c.tc : Thread Cert.ScanIdeal.nD Cert.ScanIdeal.τ).loc Cert.ScanIdeal.main_arg7)) (m ((c.tc : Thread Cert.ScanIdeal.nD Cert.ScanIdeal.τ).loc Cert.ScanIdeal.main_arg8)) (m ((c.tc : Thread Cert.ScanIdeal.nD Cert.ScanIdeal.τ).loc Cert.ScanIdeal.main_arg9))).1 = (fun _ => 1#1)
    ∧ (Cert.Pre_scan_real.fn (F := Ideal) (m ((c.tc : Thread Cert.ScanIdeal.nD Cert.ScanIdeal.τ).loc Cert.ScanIdeal.main_arg0)) (m ((c.tc : Thread Cert.ScanIdeal.nD Cert.ScanIdeal.τ).loc Cert.ScanIdeal.main_arg1)) (m ((c.tc : Thread Cert.ScanIdeal.nD Cert.ScanIdeal.τ).loc Cert.ScanIdeal.main_arg2)) (m ((c.tc : Thread Cert.ScanIdeal.nD Cert.ScanIdeal.τ).loc Cert.ScanIdeal.main_arg3)) (m ((c.tc : Thread Cert.ScanIdeal.nD Cert.ScanIdeal.τ).loc Cert.ScanIdeal.main_arg4)) (m ((c.tc : Thread Cert.ScanIdeal.nD Cert.ScanIdeal.τ).loc Cert.ScanIdeal.main_arg5)) (m ((c.tc : Thread Cert.ScanIdeal.nD Cert.ScanIdeal.τ).loc Cert.ScanIdeal.main_arg6)) (m ((c.tc : Thread Cert.ScanIdeal.nD Cert.ScanIdeal.τ).loc Cert.ScanIdeal.main_arg7)) (m ((c.tc : Thread Cert.ScanIdeal.nD Cert.ScanIdeal.τ).loc Cert.ScanIdeal.main_arg8)) (m ((c.tc : Thread Cert.ScanIdeal.nD Cert.ScanIdeal.τ).loc Cert.ScanIdeal.main_arg9))).2.1 = (fun _ => 1#1)
    ∧ (Cert.Pre_scan_real.fn (F := Ideal) (m ((c.tc : Thread Cert.ScanIdeal.nD Cert.ScanIdeal.τ).loc Cert.ScanIdeal.main_arg0)) (m ((c.tc : Thread Cert.ScanIdeal.nD Cert.ScanIdeal.τ).loc Cert.ScanIdeal.main_arg1)) (m ((c.tc : Thread Cert.ScanIdeal.nD Cert.ScanIdeal.τ).loc Cert.ScanIdeal.main_arg2)) (m ((c.tc : Thread Cert.ScanIdeal.nD Cert.ScanIdeal.τ).loc Cert.ScanIdeal.main_arg3)) (m ((c.tc : Thread Cert.ScanIdeal.nD Cert.ScanIdeal.τ).loc Cert.ScanIdeal.main_arg4)) (m ((c.tc : Thread Cert.ScanIdeal.nD Cert.ScanIdeal.τ).loc Cert.ScanIdeal.main_arg5)) (m ((c.tc : Thread Cert.ScanIdeal.nD Cert.ScanIdeal.τ).loc Cert.ScanIdeal.main_arg6)) (m ((c.tc : Thread Cert.ScanIdeal.nD Cert.ScanIdeal.τ).loc Cert.ScanIdeal.main_arg7)) (m ((c.tc : Thread Cert.ScanIdeal.nD Cert.ScanIdeal.τ).loc Cert.ScanIdeal.main_arg8)) (m ((c.tc : Thread Cert.ScanIdeal.nD Cert.ScanIdeal.τ).loc Cert.ScanIdeal.main_arg9))).2.2.1 = (fun _ => 1#1)
    ∧ (Cert.Pre_scan_real.fn (F := Ideal) (m ((c.tc : Thread Cert.ScanIdeal.nD Cert.ScanIdeal.τ).loc Cert.ScanIdeal.main_arg0)) (m ((c.tc : Thread Cert.ScanIdeal.nD Cert.ScanIdeal.τ).loc Cert.ScanIdeal.main_arg1)) (m ((c.tc : Thread Cert.ScanIdeal.nD Cert.ScanIdeal.τ).loc Cert.ScanIdeal.main_arg2)) (m ((c.tc : Thread Cert.ScanIdeal.nD Cert.ScanIdeal.τ).loc Cert.ScanIdeal.main_arg3)) (m ((c.tc : Thread Cert.ScanIdeal.nD Cert.ScanIdeal.τ).loc Cert.ScanIdeal.main_arg4)) (m ((c.tc : Thread Cert.ScanIdeal.nD Cert.ScanIdeal.τ).loc Cert.ScanIdeal.main_arg5)) (m ((c.tc : Thread Cert.ScanIdeal.nD Cert.ScanIdeal.τ).loc Cert.ScanIdeal.main_arg6)) (m ((c.tc : Thread Cert.ScanIdeal.nD Cert.ScanIdeal.τ).loc Cert.ScanIdeal.main_arg7)) (m ((c.tc : Thread Cert.ScanIdeal.nD Cert.ScanIdeal.τ).loc Cert.ScanIdeal.main_arg8)) (m ((c.tc : Thread Cert.ScanIdeal.nD Cert.ScanIdeal.τ).loc Cert.ScanIdeal.main_arg9))).2.2.2.1 = (fun _ => 1#1)
    ∧ (Cert.Pre_scan_real.fn (F := Ideal) (m ((c.tc : Thread Cert.ScanIdeal.nD Cert.ScanIdeal.τ).loc Cert.ScanIdeal.main_arg0)) (m ((c.tc : Thread Cert.ScanIdeal.nD Cert.ScanIdeal.τ).loc Cert.ScanIdeal.main_arg1)) (m ((c.tc : Thread Cert.ScanIdeal.nD Cert.ScanIdeal.τ).loc Cert.ScanIdeal.main_arg2)) (m ((c.tc : Thread Cert.ScanIdeal.nD Cert.ScanIdeal.τ).loc Cert.ScanIdeal.main_arg3)) (m ((c.tc : Thread Cert.ScanIdeal.nD Cert.ScanIdeal.τ).loc Cert.ScanIdeal.main_arg4)) (m ((c.tc : Thread Cert.ScanIdeal.nD Cert.ScanIdeal.τ).loc Cert.ScanIdeal.main_arg5)) (m ((c.tc : Thread Cert.ScanIdeal.nD Cert.ScanIdeal.τ).loc Cert.ScanIdeal.main_arg6)) (m ((c.tc : Thread Cert.ScanIdeal.nD Cert.ScanIdeal.τ).loc Cert.ScanIdeal.main_arg7)) (m ((c.tc : Thread Cert.ScanIdeal.nD Cert.ScanIdeal.τ).loc Cert.ScanIdeal.main_arg8)) (m ((c.tc : Thread Cert.ScanIdeal.nD Cert.ScanIdeal.τ).loc Cert.ScanIdeal.main_arg9))).2.2.2.2.1 = (fun _ => 1#1)
    ∧ (Cert.Pre_scan_real.fn (F := Ideal) (m ((c.tc : Thread Cert.ScanIdeal.nD Cert.ScanIdeal.τ).loc Cert.ScanIdeal.main_arg0)) (m ((c.tc : Thread Cert.ScanIdeal.nD Cert.ScanIdeal.τ).loc Cert.ScanIdeal.main_arg1)) (m ((c.tc : Thread Cert.ScanIdeal.nD Cert.ScanIdeal.τ).loc Cert.ScanIdeal.main_arg2)) (m ((c.tc : Thread Cert.ScanIdeal.nD Cert.ScanIdeal.τ).loc Cert.ScanIdeal.main_arg3)) (m ((c.tc : Thread Cert.ScanIdeal.nD Cert.ScanIdeal.τ).loc Cert.ScanIdeal.main_arg4)) (m ((c.tc : Thread Cert.ScanIdeal.nD Cert.ScanIdeal.τ).loc Cert.ScanIdeal.main_arg5)) (m ((c.tc : Thread Cert.ScanIdeal.nD Cert.ScanIdeal.τ).loc Cert.ScanIdeal.main_arg6)) (m ((c.tc : Thread Cert.ScanIdeal.nD Cert.ScanIdeal.τ).loc Cert.ScanIdeal.main_arg7)) (m ((c.tc : Thread Cert.ScanIdeal.nD Cert.ScanIdeal.τ).loc Cert.ScanIdeal.main_arg8)) (m ((c.tc : Thread Cert.ScanIdeal.nD Cert.ScanIdeal.τ).loc Cert.ScanIdeal.main_arg9))).2.2.2.2.2 = (fun _ => 1#1)

def Pre_ScanRefIdeal (m : (ℓ : Loc Cert.ScanRefIdeal.nD Cert.ScanRefIdeal.τ Cert.ScanRefIdeal.sig) → Buf (Elt Ideal) ℓ) : Prop :=
  True

def Pre_ScanRefIdeal_scan_real [hPre_scan_real : Cert.Pre_scan_real.Facts] (m : (ℓ : Loc Cert.ScanRefIdeal.nD Cert.ScanRefIdeal.τ Cert.ScanRefIdeal.sig) → Buf (Elt Ideal) ℓ) : Prop :=
  ∀ c : Dev Cert.ScanRefIdeal.nD,
    (Cert.Pre_scan_real.fn (F := Ideal) (m ((c.tc : Thread Cert.ScanRefIdeal.nD Cert.ScanRefIdeal.τ).loc Cert.ScanRefIdeal.main_arg0)) (m ((c.tc : Thread Cert.ScanRefIdeal.nD Cert.ScanRefIdeal.τ).loc Cert.ScanRefIdeal.main_arg1)) (m ((c.tc : Thread Cert.ScanRefIdeal.nD Cert.ScanRefIdeal.τ).loc Cert.ScanRefIdeal.main_arg2)) (m ((c.tc : Thread Cert.ScanRefIdeal.nD Cert.ScanRefIdeal.τ).loc Cert.ScanRefIdeal.main_arg3)) (m ((c.tc : Thread Cert.ScanRefIdeal.nD Cert.ScanRefIdeal.τ).loc Cert.ScanRefIdeal.main_arg4)) (m ((c.tc : Thread Cert.ScanRefIdeal.nD Cert.ScanRefIdeal.τ).loc Cert.ScanRefIdeal.main_arg5)) (m ((c.tc : Thread Cert.ScanRefIdeal.nD Cert.ScanRefIdeal.τ).loc Cert.ScanRefIdeal.main_arg6)) (m ((c.tc : Thread Cert.ScanRefIdeal.nD Cert.ScanRefIdeal.τ).loc Cert.ScanRefIdeal.main_arg7)) (m ((c.tc : Thread Cert.ScanRefIdeal.nD Cert.ScanRefIdeal.τ).loc Cert.ScanRefIdeal.main_arg8)) (m ((c.tc : Thread Cert.ScanRefIdeal.nD Cert.ScanRefIdeal.τ).loc Cert.ScanRefIdeal.main_arg9))).1 = (fun _ => 1#1)
    ∧ (Cert.Pre_scan_real.fn (F := Ideal) (m ((c.tc : Thread Cert.ScanRefIdeal.nD Cert.ScanRefIdeal.τ).loc Cert.ScanRefIdeal.main_arg0)) (m ((c.tc : Thread Cert.ScanRefIdeal.nD Cert.ScanRefIdeal.τ).loc Cert.ScanRefIdeal.main_arg1)) (m ((c.tc : Thread Cert.ScanRefIdeal.nD Cert.ScanRefIdeal.τ).loc Cert.ScanRefIdeal.main_arg2)) (m ((c.tc : Thread Cert.ScanRefIdeal.nD Cert.ScanRefIdeal.τ).loc Cert.ScanRefIdeal.main_arg3)) (m ((c.tc : Thread Cert.ScanRefIdeal.nD Cert.ScanRefIdeal.τ).loc Cert.ScanRefIdeal.main_arg4)) (m ((c.tc : Thread Cert.ScanRefIdeal.nD Cert.ScanRefIdeal.τ).loc Cert.ScanRefIdeal.main_arg5)) (m ((c.tc : Thread Cert.ScanRefIdeal.nD Cert.ScanRefIdeal.τ).loc Cert.ScanRefIdeal.main_arg6)) (m ((c.tc : Thread Cert.ScanRefIdeal.nD Cert.ScanRefIdeal.τ).loc Cert.ScanRefIdeal.main_arg7)) (m ((c.tc : Thread Cert.ScanRefIdeal.nD Cert.ScanRefIdeal.τ).loc Cert.ScanRefIdeal.main_arg8)) (m ((c.tc : Thread Cert.ScanRefIdeal.nD Cert.ScanRefIdeal.τ).loc Cert.ScanRefIdeal.main_arg9))).2.1 = (fun _ => 1#1)
    ∧ (Cert.Pre_scan_real.fn (F := Ideal) (m ((c.tc : Thread Cert.ScanRefIdeal.nD Cert.ScanRefIdeal.τ).loc Cert.ScanRefIdeal.main_arg0)) (m ((c.tc : Thread Cert.ScanRefIdeal.nD Cert.ScanRefIdeal.τ).loc Cert.ScanRefIdeal.main_arg1)) (m ((c.tc : Thread Cert.ScanRefIdeal.nD Cert.ScanRefIdeal.τ).loc Cert.ScanRefIdeal.main_arg2)) (m ((c.tc : Thread Cert.ScanRefIdeal.nD Cert.ScanRefIdeal.τ).loc Cert.ScanRefIdeal.main_arg3)) (m ((c.tc : Thread Cert.ScanRefIdeal.nD Cert.ScanRefIdeal.τ).loc Cert.ScanRefIdeal.main_arg4)) (m ((c.tc : Thread Cert.ScanRefIdeal.nD Cert.ScanRefIdeal.τ).loc Cert.ScanRefIdeal.main_arg5)) (m ((c.tc : Thread Cert.ScanRefIdeal.nD Cert.ScanRefIdeal.τ).loc Cert.ScanRefIdeal.main_arg6)) (m ((c.tc : Thread Cert.ScanRefIdeal.nD Cert.ScanRefIdeal.τ).loc Cert.ScanRefIdeal.main_arg7)) (m ((c.tc : Thread Cert.ScanRefIdeal.nD Cert.ScanRefIdeal.τ).loc Cert.ScanRefIdeal.main_arg8)) (m ((c.tc : Thread Cert.ScanRefIdeal.nD Cert.ScanRefIdeal.τ).loc Cert.ScanRefIdeal.main_arg9))).2.2.1 = (fun _ => 1#1)
    ∧ (Cert.Pre_scan_real.fn (F := Ideal) (m ((c.tc : Thread Cert.ScanRefIdeal.nD Cert.ScanRefIdeal.τ).loc Cert.ScanRefIdeal.main_arg0)) (m ((c.tc : Thread Cert.ScanRefIdeal.nD Cert.ScanRefIdeal.τ).loc Cert.ScanRefIdeal.main_arg1)) (m ((c.tc : Thread Cert.ScanRefIdeal.nD Cert.ScanRefIdeal.τ).loc Cert.ScanRefIdeal.main_arg2)) (m ((c.tc : Thread Cert.ScanRefIdeal.nD Cert.ScanRefIdeal.τ).loc Cert.ScanRefIdeal.main_arg3)) (m ((c.tc : Thread Cert.ScanRefIdeal.nD Cert.ScanRefIdeal.τ).loc Cert.ScanRefIdeal.main_arg4)) (m ((c.tc : Thread Cert.ScanRefIdeal.nD Cert.ScanRefIdeal.τ).loc Cert.ScanRefIdeal.main_arg5)) (m ((c.tc : Thread Cert.ScanRefIdeal.nD Cert.ScanRefIdeal.τ).loc Cert.ScanRefIdeal.main_arg6)) (m ((c.tc : Thread Cert.ScanRefIdeal.nD Cert.ScanRefIdeal.τ).loc Cert.ScanRefIdeal.main_arg7)) (m ((c.tc : Thread Cert.ScanRefIdeal.nD Cert.ScanRefIdeal.τ).loc Cert.ScanRefIdeal.main_arg8)) (m ((c.tc : Thread Cert.ScanRefIdeal.nD Cert.ScanRefIdeal.τ).loc Cert.ScanRefIdeal.main_arg9))).2.2.2.1 = (fun _ => 1#1)
    ∧ (Cert.Pre_scan_real.fn (F := Ideal) (m ((c.tc : Thread Cert.ScanRefIdeal.nD Cert.ScanRefIdeal.τ).loc Cert.ScanRefIdeal.main_arg0)) (m ((c.tc : Thread Cert.ScanRefIdeal.nD Cert.ScanRefIdeal.τ).loc Cert.ScanRefIdeal.main_arg1)) (m ((c.tc : Thread Cert.ScanRefIdeal.nD Cert.ScanRefIdeal.τ).loc Cert.ScanRefIdeal.main_arg2)) (m ((c.tc : Thread Cert.ScanRefIdeal.nD Cert.ScanRefIdeal.τ).loc Cert.ScanRefIdeal.main_arg3)) (m ((c.tc : Thread Cert.ScanRefIdeal.nD Cert.ScanRefIdeal.τ).loc Cert.ScanRefIdeal.main_arg4)) (m ((c.tc : Thread Cert.ScanRefIdeal.nD Cert.ScanRefIdeal.τ).loc Cert.ScanRefIdeal.main_arg5)) (m ((c.tc : Thread Cert.ScanRefIdeal.nD Cert.ScanRefIdeal.τ).loc Cert.ScanRefIdeal.main_arg6)) (m ((c.tc : Thread Cert.ScanRefIdeal.nD Cert.ScanRefIdeal.τ).loc Cert.ScanRefIdeal.main_arg7)) (m ((c.tc : Thread Cert.ScanRefIdeal.nD Cert.ScanRefIdeal.τ).loc Cert.ScanRefIdeal.main_arg8)) (m ((c.tc : Thread Cert.ScanRefIdeal.nD Cert.ScanRefIdeal.τ).loc Cert.ScanRefIdeal.main_arg9))).2.2.2.2.1 = (fun _ => 1#1)
    ∧ (Cert.Pre_scan_real.fn (F := Ideal) (m ((c.tc : Thread Cert.ScanRefIdeal.nD Cert.ScanRefIdeal.τ).loc Cert.ScanRefIdeal.main_arg0)) (m ((c.tc : Thread Cert.ScanRefIdeal.nD Cert.ScanRefIdeal.τ).loc Cert.ScanRefIdeal.main_arg1)) (m ((c.tc : Thread Cert.ScanRefIdeal.nD Cert.ScanRefIdeal.τ).loc Cert.ScanRefIdeal.main_arg2)) (m ((c.tc : Thread Cert.ScanRefIdeal.nD Cert.ScanRefIdeal.τ).loc Cert.ScanRefIdeal.main_arg3)) (m ((c.tc : Thread Cert.ScanRefIdeal.nD Cert.ScanRefIdeal.τ).loc Cert.ScanRefIdeal.main_arg4)) (m ((c.tc : Thread Cert.ScanRefIdeal.nD Cert.ScanRefIdeal.τ).loc Cert.ScanRefIdeal.main_arg5)) (m ((c.tc : Thread Cert.ScanRefIdeal.nD Cert.ScanRefIdeal.τ).loc Cert.ScanRefIdeal.main_arg6)) (m ((c.tc : Thread Cert.ScanRefIdeal.nD Cert.ScanRefIdeal.τ).loc Cert.ScanRefIdeal.main_arg7)) (m ((c.tc : Thread Cert.ScanRefIdeal.nD Cert.ScanRefIdeal.τ).loc Cert.ScanRefIdeal.main_arg8)) (m ((c.tc : Thread Cert.ScanRefIdeal.nD Cert.ScanRefIdeal.τ).loc Cert.ScanRefIdeal.main_arg9))).2.2.2.2.2 = (fun _ => 1#1)

def Pre_ProjS (m : (ℓ : Loc Cert.ProjS.nD Cert.ProjS.τ Cert.ProjS.sig) → Buf (Elt Bits) ℓ) : Prop :=
  True

def Pre_ProjSIdeal (m : (ℓ : Loc Cert.ProjSIdeal.nD Cert.ProjSIdeal.τ Cert.ProjSIdeal.sig) → Buf (Elt Ideal) ℓ) : Prop :=
  True

def Pre_ProjSRefIdeal (m : (ℓ : Loc Cert.ProjSRefIdeal.nD Cert.ProjSRefIdeal.τ Cert.ProjSRefIdeal.sig) → Buf (Elt Ideal) ℓ) : Prop :=
  True

def Pre_ScanS (m : (ℓ : Loc Cert.ScanS.nD Cert.ScanS.τ Cert.ScanS.sig) → Buf (Elt Bits) ℓ) : Prop :=
  True

def Pre_ScanSIdeal (m : (ℓ : Loc Cert.ScanSIdeal.nD Cert.ScanSIdeal.τ Cert.ScanSIdeal.sig) → Buf (Elt Ideal) ℓ) : Prop :=
  True

def Pre_ScanSRefIdeal (m : (ℓ : Loc Cert.ScanSRefIdeal.nD Cert.ScanSRefIdeal.τ Cert.ScanSRefIdeal.sig) → Buf (Elt Ideal) ℓ) : Prop :=
  True

def Pre_TailS (m : (ℓ : Loc Cert.TailS.nD Cert.TailS.τ Cert.TailS.sig) → Buf (Elt Bits) ℓ) : Prop :=
  True

def Pre_TailSIdeal (m : (ℓ : Loc Cert.TailSIdeal.nD Cert.TailSIdeal.τ Cert.TailSIdeal.sig) → Buf (Elt Ideal) ℓ) : Prop :=
  True

def Pre_TailSRefIdeal (m : (ℓ : Loc Cert.TailSRefIdeal.nD Cert.TailSRefIdeal.τ Cert.TailSRefIdeal.sig) → Buf (Elt Ideal) ℓ) : Prop :=
  True

def quiescent_Tail [hTail : Cert.Tail.Facts] : Prop :=
  ∀ (m : (ℓ : Loc Cert.Tail.nD Cert.Tail.τ Cert.Tail.sig) → Buf (Elt Bits) ℓ) (g : Dev Cert.Tail.nD → PrngReg), Pre_Tail m →
    θ_run (Cert.Tail.defs (F := Bits)) (onTc (τ := Cert.Tail.τ) (Cert.Tail.main (F := Bits))) ⟨m, fun _ => 0, g⟩ (fun r => (∀ c : Dev Cert.Tail.nD,
      r.2.mem ((c.tc : Thread Cert.Tail.nD Cert.Tail.τ).loc Cert.Tail.main_arg0) = m ((c.tc : Thread Cert.Tail.nD Cert.Tail.τ).loc Cert.Tail.main_arg0)
      ∧ r.2.mem ((c.tc : Thread Cert.Tail.nD Cert.Tail.τ).loc Cert.Tail.main_arg1) = m ((c.tc : Thread Cert.Tail.nD Cert.Tail.τ).loc Cert.Tail.main_arg1)
      ∧ r.2.mem ((c.tc : Thread Cert.Tail.nD Cert.Tail.τ).loc Cert.Tail.main_arg2) = m ((c.tc : Thread Cert.Tail.nD Cert.Tail.τ).loc Cert.Tail.main_arg2)
      ∧ r.2.mem ((c.tc : Thread Cert.Tail.nD Cert.Tail.τ).loc Cert.Tail.main_arg3) = m ((c.tc : Thread Cert.Tail.nD Cert.Tail.τ).loc Cert.Tail.main_arg3)
      ∧ r.2.mem ((c.tc : Thread Cert.Tail.nD Cert.Tail.τ).loc Cert.Tail.main_arg4) = m ((c.tc : Thread Cert.Tail.nD Cert.Tail.τ).loc Cert.Tail.main_arg4)
      ∧ r.2.mem ((c.tc : Thread Cert.Tail.nD Cert.Tail.τ).loc Cert.Tail.main_arg5) = m ((c.tc : Thread Cert.Tail.nD Cert.Tail.τ).loc Cert.Tail.main_arg5)
      ∧ r.2.mem ((c.tc : Thread Cert.Tail.nD Cert.Tail.τ).loc Cert.Tail.main_arg6) = m ((c.tc : Thread Cert.Tail.nD Cert.Tail.τ).loc Cert.Tail.main_arg6)
      ∧ r.2.mem ((c.tc : Thread Cert.Tail.nD Cert.Tail.τ).loc Cert.Tail.main_arg7) = m ((c.tc : Thread Cert.Tail.nD Cert.Tail.τ).loc Cert.Tail.main_arg7)
      ∧ r.2.mem ((c.tc : Thread Cert.Tail.nD Cert.Tail.τ).loc Cert.Tail.main_arg8) = m ((c.tc : Thread Cert.Tail.nD Cert.Tail.τ).loc Cert.Tail.main_arg8)
      ∧ r.2.mem ((c.tc : Thread Cert.Tail.nD Cert.Tail.τ).loc Cert.Tail.main_arg9) = m ((c.tc : Thread Cert.Tail.nD Cert.Tail.τ).loc Cert.Tail.main_arg9)
      ∧ r.2.mem ((c.tc : Thread Cert.Tail.nD Cert.Tail.τ).loc Cert.Tail.main_arg10) = m ((c.tc : Thread Cert.Tail.nD Cert.Tail.τ).loc Cert.Tail.main_arg10))
      ∧ r.2.sem = fun _ => 0)

def quiescent_TailIdeal [hTailIdeal : Cert.TailIdeal.Facts] : Prop :=
  ∀ (m : (ℓ : Loc Cert.TailIdeal.nD Cert.TailIdeal.τ Cert.TailIdeal.sig) → Buf (Elt Ideal) ℓ) (g : Dev Cert.TailIdeal.nD → PrngReg), Pre_TailIdeal m →
    θ_run (Cert.TailIdeal.defs (F := Ideal)) (onTc (τ := Cert.TailIdeal.τ) (Cert.TailIdeal.main (F := Ideal))) ⟨m, fun _ => 0, g⟩ (fun r => (∀ c : Dev Cert.TailIdeal.nD,
      r.2.mem ((c.tc : Thread Cert.TailIdeal.nD Cert.TailIdeal.τ).loc Cert.TailIdeal.main_arg0) = m ((c.tc : Thread Cert.TailIdeal.nD Cert.TailIdeal.τ).loc Cert.TailIdeal.main_arg0)
      ∧ r.2.mem ((c.tc : Thread Cert.TailIdeal.nD Cert.TailIdeal.τ).loc Cert.TailIdeal.main_arg1) = m ((c.tc : Thread Cert.TailIdeal.nD Cert.TailIdeal.τ).loc Cert.TailIdeal.main_arg1)
      ∧ r.2.mem ((c.tc : Thread Cert.TailIdeal.nD Cert.TailIdeal.τ).loc Cert.TailIdeal.main_arg2) = m ((c.tc : Thread Cert.TailIdeal.nD Cert.TailIdeal.τ).loc Cert.TailIdeal.main_arg2)
      ∧ r.2.mem ((c.tc : Thread Cert.TailIdeal.nD Cert.TailIdeal.τ).loc Cert.TailIdeal.main_arg3) = m ((c.tc : Thread Cert.TailIdeal.nD Cert.TailIdeal.τ).loc Cert.TailIdeal.main_arg3)
      ∧ r.2.mem ((c.tc : Thread Cert.TailIdeal.nD Cert.TailIdeal.τ).loc Cert.TailIdeal.main_arg4) = m ((c.tc : Thread Cert.TailIdeal.nD Cert.TailIdeal.τ).loc Cert.TailIdeal.main_arg4)
      ∧ r.2.mem ((c.tc : Thread Cert.TailIdeal.nD Cert.TailIdeal.τ).loc Cert.TailIdeal.main_arg5) = m ((c.tc : Thread Cert.TailIdeal.nD Cert.TailIdeal.τ).loc Cert.TailIdeal.main_arg5)
      ∧ r.2.mem ((c.tc : Thread Cert.TailIdeal.nD Cert.TailIdeal.τ).loc Cert.TailIdeal.main_arg6) = m ((c.tc : Thread Cert.TailIdeal.nD Cert.TailIdeal.τ).loc Cert.TailIdeal.main_arg6)
      ∧ r.2.mem ((c.tc : Thread Cert.TailIdeal.nD Cert.TailIdeal.τ).loc Cert.TailIdeal.main_arg7) = m ((c.tc : Thread Cert.TailIdeal.nD Cert.TailIdeal.τ).loc Cert.TailIdeal.main_arg7)
      ∧ r.2.mem ((c.tc : Thread Cert.TailIdeal.nD Cert.TailIdeal.τ).loc Cert.TailIdeal.main_arg8) = m ((c.tc : Thread Cert.TailIdeal.nD Cert.TailIdeal.τ).loc Cert.TailIdeal.main_arg8)
      ∧ r.2.mem ((c.tc : Thread Cert.TailIdeal.nD Cert.TailIdeal.τ).loc Cert.TailIdeal.main_arg9) = m ((c.tc : Thread Cert.TailIdeal.nD Cert.TailIdeal.τ).loc Cert.TailIdeal.main_arg9)
      ∧ r.2.mem ((c.tc : Thread Cert.TailIdeal.nD Cert.TailIdeal.τ).loc Cert.TailIdeal.main_arg10) = m ((c.tc : Thread Cert.TailIdeal.nD Cert.TailIdeal.τ).loc Cert.TailIdeal.main_arg10))
      ∧ r.2.sem = fun _ => 0)

def quiescent_TailRefIdeal [hTailRefIdeal : Cert.TailRefIdeal.Facts] : Prop :=
  ∀ (m : (ℓ : Loc Cert.TailRefIdeal.nD Cert.TailRefIdeal.τ Cert.TailRefIdeal.sig) → Buf (Elt Ideal) ℓ) (g : Dev Cert.TailRefIdeal.nD → PrngReg), Pre_TailRefIdeal m →
    θ_run (Cert.TailRefIdeal.defs (F := Ideal)) (onTc (τ := Cert.TailRefIdeal.τ) (Cert.TailRefIdeal.main (F := Ideal))) ⟨m, fun _ => 0, g⟩ (fun r => (∀ c : Dev Cert.TailRefIdeal.nD,
      r.2.mem ((c.tc : Thread Cert.TailRefIdeal.nD Cert.TailRefIdeal.τ).loc Cert.TailRefIdeal.main_arg0) = m ((c.tc : Thread Cert.TailRefIdeal.nD Cert.TailRefIdeal.τ).loc Cert.TailRefIdeal.main_arg0)
      ∧ r.2.mem ((c.tc : Thread Cert.TailRefIdeal.nD Cert.TailRefIdeal.τ).loc Cert.TailRefIdeal.main_arg1) = m ((c.tc : Thread Cert.TailRefIdeal.nD Cert.TailRefIdeal.τ).loc Cert.TailRefIdeal.main_arg1)
      ∧ r.2.mem ((c.tc : Thread Cert.TailRefIdeal.nD Cert.TailRefIdeal.τ).loc Cert.TailRefIdeal.main_arg2) = m ((c.tc : Thread Cert.TailRefIdeal.nD Cert.TailRefIdeal.τ).loc Cert.TailRefIdeal.main_arg2)
      ∧ r.2.mem ((c.tc : Thread Cert.TailRefIdeal.nD Cert.TailRefIdeal.τ).loc Cert.TailRefIdeal.main_arg3) = m ((c.tc : Thread Cert.TailRefIdeal.nD Cert.TailRefIdeal.τ).loc Cert.TailRefIdeal.main_arg3)
      ∧ r.2.mem ((c.tc : Thread Cert.TailRefIdeal.nD Cert.TailRefIdeal.τ).loc Cert.TailRefIdeal.main_arg4) = m ((c.tc : Thread Cert.TailRefIdeal.nD Cert.TailRefIdeal.τ).loc Cert.TailRefIdeal.main_arg4)
      ∧ r.2.mem ((c.tc : Thread Cert.TailRefIdeal.nD Cert.TailRefIdeal.τ).loc Cert.TailRefIdeal.main_arg5) = m ((c.tc : Thread Cert.TailRefIdeal.nD Cert.TailRefIdeal.τ).loc Cert.TailRefIdeal.main_arg5)
      ∧ r.2.mem ((c.tc : Thread Cert.TailRefIdeal.nD Cert.TailRefIdeal.τ).loc Cert.TailRefIdeal.main_arg6) = m ((c.tc : Thread Cert.TailRefIdeal.nD Cert.TailRefIdeal.τ).loc Cert.TailRefIdeal.main_arg6)
      ∧ r.2.mem ((c.tc : Thread Cert.TailRefIdeal.nD Cert.TailRefIdeal.τ).loc Cert.TailRefIdeal.main_arg7) = m ((c.tc : Thread Cert.TailRefIdeal.nD Cert.TailRefIdeal.τ).loc Cert.TailRefIdeal.main_arg7)
      ∧ r.2.mem ((c.tc : Thread Cert.TailRefIdeal.nD Cert.TailRefIdeal.τ).loc Cert.TailRefIdeal.main_arg8) = m ((c.tc : Thread Cert.TailRefIdeal.nD Cert.TailRefIdeal.τ).loc Cert.TailRefIdeal.main_arg8)
      ∧ r.2.mem ((c.tc : Thread Cert.TailRefIdeal.nD Cert.TailRefIdeal.τ).loc Cert.TailRefIdeal.main_arg9) = m ((c.tc : Thread Cert.TailRefIdeal.nD Cert.TailRefIdeal.τ).loc Cert.TailRefIdeal.main_arg9)
      ∧ r.2.mem ((c.tc : Thread Cert.TailRefIdeal.nD Cert.TailRefIdeal.τ).loc Cert.TailRefIdeal.main_arg10) = m ((c.tc : Thread Cert.TailRefIdeal.nD Cert.TailRefIdeal.τ).loc Cert.TailRefIdeal.main_arg10))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2))
      ∧ r.2.sem = fun _ => 0)

def quiescent_Scan [hScan : Cert.Scan.Facts] : Prop :=
  ∀ (m : (ℓ : Loc Cert.Scan.nD Cert.Scan.τ Cert.Scan.sig) → Buf (Elt Bits) ℓ) (g : Dev Cert.Scan.nD → PrngReg), Pre_Scan m →
    θ_run (Cert.Scan.defs (F := Bits)) (onTc (τ := Cert.Scan.τ) (Cert.Scan.main (F := Bits))) ⟨m, fun _ => 0, g⟩ (fun r => (∀ c : Dev Cert.Scan.nD,
      r.2.mem ((c.tc : Thread Cert.Scan.nD Cert.Scan.τ).loc Cert.Scan.main_arg0) = m ((c.tc : Thread Cert.Scan.nD Cert.Scan.τ).loc Cert.Scan.main_arg0)
      ∧ r.2.mem ((c.tc : Thread Cert.Scan.nD Cert.Scan.τ).loc Cert.Scan.main_arg1) = m ((c.tc : Thread Cert.Scan.nD Cert.Scan.τ).loc Cert.Scan.main_arg1)
      ∧ r.2.mem ((c.tc : Thread Cert.Scan.nD Cert.Scan.τ).loc Cert.Scan.main_arg2) = m ((c.tc : Thread Cert.Scan.nD Cert.Scan.τ).loc Cert.Scan.main_arg2)
      ∧ r.2.mem ((c.tc : Thread Cert.Scan.nD Cert.Scan.τ).loc Cert.Scan.main_arg3) = m ((c.tc : Thread Cert.Scan.nD Cert.Scan.τ).loc Cert.Scan.main_arg3)
      ∧ r.2.mem ((c.tc : Thread Cert.Scan.nD Cert.Scan.τ).loc Cert.Scan.main_arg4) = m ((c.tc : Thread Cert.Scan.nD Cert.Scan.τ).loc Cert.Scan.main_arg4)
      ∧ r.2.mem ((c.tc : Thread Cert.Scan.nD Cert.Scan.τ).loc Cert.Scan.main_arg5) = m ((c.tc : Thread Cert.Scan.nD Cert.Scan.τ).loc Cert.Scan.main_arg5)
      ∧ r.2.mem ((c.tc : Thread Cert.Scan.nD Cert.Scan.τ).loc Cert.Scan.main_arg6) = m ((c.tc : Thread Cert.Scan.nD Cert.Scan.τ).loc Cert.Scan.main_arg6)
      ∧ r.2.mem ((c.tc : Thread Cert.Scan.nD Cert.Scan.τ).loc Cert.Scan.main_arg7) = m ((c.tc : Thread Cert.Scan.nD Cert.Scan.τ).loc Cert.Scan.main_arg7)
      ∧ r.2.mem ((c.tc : Thread Cert.Scan.nD Cert.Scan.τ).loc Cert.Scan.main_arg8) = m ((c.tc : Thread Cert.Scan.nD Cert.Scan.τ).loc Cert.Scan.main_arg8)
      ∧ r.2.mem ((c.tc : Thread Cert.Scan.nD Cert.Scan.τ).loc Cert.Scan.main_arg9) = m ((c.tc : Thread Cert.Scan.nD Cert.Scan.τ).loc Cert.Scan.main_arg9))
      ∧ r.2.sem = fun _ => 0)

def quiescent_ScanIdeal [hScanIdeal : Cert.ScanIdeal.Facts] : Prop :=
  ∀ (m : (ℓ : Loc Cert.ScanIdeal.nD Cert.ScanIdeal.τ Cert.ScanIdeal.sig) → Buf (Elt Ideal) ℓ) (g : Dev Cert.ScanIdeal.nD → PrngReg), Pre_ScanIdeal m →
    θ_run (Cert.ScanIdeal.defs (F := Ideal)) (onTc (τ := Cert.ScanIdeal.τ) (Cert.ScanIdeal.main (F := Ideal))) ⟨m, fun _ => 0, g⟩ (fun r => (∀ c : Dev Cert.ScanIdeal.nD,
      r.2.mem ((c.tc : Thread Cert.ScanIdeal.nD Cert.ScanIdeal.τ).loc Cert.ScanIdeal.main_arg0) = m ((c.tc : Thread Cert.ScanIdeal.nD Cert.ScanIdeal.τ).loc Cert.ScanIdeal.main_arg0)
      ∧ r.2.mem ((c.tc : Thread Cert.ScanIdeal.nD Cert.ScanIdeal.τ).loc Cert.ScanIdeal.main_arg1) = m ((c.tc : Thread Cert.ScanIdeal.nD Cert.ScanIdeal.τ).loc Cert.ScanIdeal.main_arg1)
      ∧ r.2.mem ((c.tc : Thread Cert.ScanIdeal.nD Cert.ScanIdeal.τ).loc Cert.ScanIdeal.main_arg2) = m ((c.tc : Thread Cert.ScanIdeal.nD Cert.ScanIdeal.τ).loc Cert.ScanIdeal.main_arg2)
      ∧ r.2.mem ((c.tc : Thread Cert.ScanIdeal.nD Cert.ScanIdeal.τ).loc Cert.ScanIdeal.main_arg3) = m ((c.tc : Thread Cert.ScanIdeal.nD Cert.ScanIdeal.τ).loc Cert.ScanIdeal.main_arg3)
      ∧ r.2.mem ((c.tc : Thread Cert.ScanIdeal.nD Cert.ScanIdeal.τ).loc Cert.ScanIdeal.main_arg4) = m ((c.tc : Thread Cert.ScanIdeal.nD Cert.ScanIdeal.τ).loc Cert.ScanIdeal.main_arg4)
      ∧ r.2.mem ((c.tc : Thread Cert.ScanIdeal.nD Cert.ScanIdeal.τ).loc Cert.ScanIdeal.main_arg5) = m ((c.tc : Thread Cert.ScanIdeal.nD Cert.ScanIdeal.τ).loc Cert.ScanIdeal.main_arg5)
      ∧ r.2.mem ((c.tc : Thread Cert.ScanIdeal.nD Cert.ScanIdeal.τ).loc Cert.ScanIdeal.main_arg6) = m ((c.tc : Thread Cert.ScanIdeal.nD Cert.ScanIdeal.τ).loc Cert.ScanIdeal.main_arg6)
      ∧ r.2.mem ((c.tc : Thread Cert.ScanIdeal.nD Cert.ScanIdeal.τ).loc Cert.ScanIdeal.main_arg7) = m ((c.tc : Thread Cert.ScanIdeal.nD Cert.ScanIdeal.τ).loc Cert.ScanIdeal.main_arg7)
      ∧ r.2.mem ((c.tc : Thread Cert.ScanIdeal.nD Cert.ScanIdeal.τ).loc Cert.ScanIdeal.main_arg8) = m ((c.tc : Thread Cert.ScanIdeal.nD Cert.ScanIdeal.τ).loc Cert.ScanIdeal.main_arg8)
      ∧ r.2.mem ((c.tc : Thread Cert.ScanIdeal.nD Cert.ScanIdeal.τ).loc Cert.ScanIdeal.main_arg9) = m ((c.tc : Thread Cert.ScanIdeal.nD Cert.ScanIdeal.τ).loc Cert.ScanIdeal.main_arg9))
      ∧ r.2.sem = fun _ => 0)

def quiescent_ScanIdeal_pre_scan_real [hScanIdeal : Cert.ScanIdeal.Facts] [hPre_scan_real : Cert.Pre_scan_real.Facts] : Prop :=
  ∀ (m : (ℓ : Loc Cert.ScanIdeal.nD Cert.ScanIdeal.τ Cert.ScanIdeal.sig) → Buf (Elt Ideal) ℓ) (g : Dev Cert.ScanIdeal.nD → PrngReg), Pre_ScanIdeal_scan_real m →
    θ_run (Cert.ScanIdeal.defs (F := Ideal)) (onTc (τ := Cert.ScanIdeal.τ) (Cert.ScanIdeal.main (F := Ideal))) ⟨m, fun _ => 0, g⟩ (fun r => (∀ c : Dev Cert.ScanIdeal.nD,
      r.2.mem ((c.tc : Thread Cert.ScanIdeal.nD Cert.ScanIdeal.τ).loc Cert.ScanIdeal.main_arg0) = m ((c.tc : Thread Cert.ScanIdeal.nD Cert.ScanIdeal.τ).loc Cert.ScanIdeal.main_arg0)
      ∧ r.2.mem ((c.tc : Thread Cert.ScanIdeal.nD Cert.ScanIdeal.τ).loc Cert.ScanIdeal.main_arg1) = m ((c.tc : Thread Cert.ScanIdeal.nD Cert.ScanIdeal.τ).loc Cert.ScanIdeal.main_arg1)
      ∧ r.2.mem ((c.tc : Thread Cert.ScanIdeal.nD Cert.ScanIdeal.τ).loc Cert.ScanIdeal.main_arg2) = m ((c.tc : Thread Cert.ScanIdeal.nD Cert.ScanIdeal.τ).loc Cert.ScanIdeal.main_arg2)
      ∧ r.2.mem ((c.tc : Thread Cert.ScanIdeal.nD Cert.ScanIdeal.τ).loc Cert.ScanIdeal.main_arg3) = m ((c.tc : Thread Cert.ScanIdeal.nD Cert.ScanIdeal.τ).loc Cert.ScanIdeal.main_arg3)
      ∧ r.2.mem ((c.tc : Thread Cert.ScanIdeal.nD Cert.ScanIdeal.τ).loc Cert.ScanIdeal.main_arg4) = m ((c.tc : Thread Cert.ScanIdeal.nD Cert.ScanIdeal.τ).loc Cert.ScanIdeal.main_arg4)
      ∧ r.2.mem ((c.tc : Thread Cert.ScanIdeal.nD Cert.ScanIdeal.τ).loc Cert.ScanIdeal.main_arg5) = m ((c.tc : Thread Cert.ScanIdeal.nD Cert.ScanIdeal.τ).loc Cert.ScanIdeal.main_arg5)
      ∧ r.2.mem ((c.tc : Thread Cert.ScanIdeal.nD Cert.ScanIdeal.τ).loc Cert.ScanIdeal.main_arg6) = m ((c.tc : Thread Cert.ScanIdeal.nD Cert.ScanIdeal.τ).loc Cert.ScanIdeal.main_arg6)
      ∧ r.2.mem ((c.tc : Thread Cert.ScanIdeal.nD Cert.ScanIdeal.τ).loc Cert.ScanIdeal.main_arg7) = m ((c.tc : Thread Cert.ScanIdeal.nD Cert.ScanIdeal.τ).loc Cert.ScanIdeal.main_arg7)
      ∧ r.2.mem ((c.tc : Thread Cert.ScanIdeal.nD Cert.ScanIdeal.τ).loc Cert.ScanIdeal.main_arg8) = m ((c.tc : Thread Cert.ScanIdeal.nD Cert.ScanIdeal.τ).loc Cert.ScanIdeal.main_arg8)
      ∧ r.2.mem ((c.tc : Thread Cert.ScanIdeal.nD Cert.ScanIdeal.τ).loc Cert.ScanIdeal.main_arg9) = m ((c.tc : Thread Cert.ScanIdeal.nD Cert.ScanIdeal.τ).loc Cert.ScanIdeal.main_arg9))
      ∧ r.2.sem = fun _ => 0)

def quiescent_ScanRefIdeal [hScanRefIdeal : Cert.ScanRefIdeal.Facts] : Prop :=
  ∀ (m : (ℓ : Loc Cert.ScanRefIdeal.nD Cert.ScanRefIdeal.τ Cert.ScanRefIdeal.sig) → Buf (Elt Ideal) ℓ) (g : Dev Cert.ScanRefIdeal.nD → PrngReg), Pre_ScanRefIdeal m →
    θ_run (Cert.ScanRefIdeal.defs (F := Ideal)) (onTc (τ := Cert.ScanRefIdeal.τ) (Cert.ScanRefIdeal.main (F := Ideal))) ⟨m, fun _ => 0, g⟩ (fun r => (∀ c : Dev Cert.ScanRefIdeal.nD,
      r.2.mem ((c.tc : Thread Cert.ScanRefIdeal.nD Cert.ScanRefIdeal.τ).loc Cert.ScanRefIdeal.main_arg0) = m ((c.tc : Thread Cert.ScanRefIdeal.nD Cert.ScanRefIdeal.τ).loc Cert.ScanRefIdeal.main_arg0)
      ∧ r.2.mem ((c.tc : Thread Cert.ScanRefIdeal.nD Cert.ScanRefIdeal.τ).loc Cert.ScanRefIdeal.main_arg1) = m ((c.tc : Thread Cert.ScanRefIdeal.nD Cert.ScanRefIdeal.τ).loc Cert.ScanRefIdeal.main_arg1)
      ∧ r.2.mem ((c.tc : Thread Cert.ScanRefIdeal.nD Cert.ScanRefIdeal.τ).loc Cert.ScanRefIdeal.main_arg2) = m ((c.tc : Thread Cert.ScanRefIdeal.nD Cert.ScanRefIdeal.τ).loc Cert.ScanRefIdeal.main_arg2)
      ∧ r.2.mem ((c.tc : Thread Cert.ScanRefIdeal.nD Cert.ScanRefIdeal.τ).loc Cert.ScanRefIdeal.main_arg3) = m ((c.tc : Thread Cert.ScanRefIdeal.nD Cert.ScanRefIdeal.τ).loc Cert.ScanRefIdeal.main_arg3)
      ∧ r.2.mem ((c.tc : Thread Cert.ScanRefIdeal.nD Cert.ScanRefIdeal.τ).loc Cert.ScanRefIdeal.main_arg4) = m ((c.tc : Thread Cert.ScanRefIdeal.nD Cert.ScanRefIdeal.τ).loc Cert.ScanRefIdeal.main_arg4)
      ∧ r.2.mem ((c.tc : Thread Cert.ScanRefIdeal.nD Cert.ScanRefIdeal.τ).loc Cert.ScanRefIdeal.main_arg5) = m ((c.tc : Thread Cert.ScanRefIdeal.nD Cert.ScanRefIdeal.τ).loc Cert.ScanRefIdeal.main_arg5)
      ∧ r.2.mem ((c.tc : Thread Cert.ScanRefIdeal.nD Cert.ScanRefIdeal.τ).loc Cert.ScanRefIdeal.main_arg6) = m ((c.tc : Thread Cert.ScanRefIdeal.nD Cert.ScanRefIdeal.τ).loc Cert.ScanRefIdeal.main_arg6)
      ∧ r.2.mem ((c.tc : Thread Cert.ScanRefIdeal.nD Cert.ScanRefIdeal.τ).loc Cert.ScanRefIdeal.main_arg7) = m ((c.tc : Thread Cert.ScanRefIdeal.nD Cert.ScanRefIdeal.τ).loc Cert.ScanRefIdeal.main_arg7)
      ∧ r.2.mem ((c.tc : Thread Cert.ScanRefIdeal.nD Cert.ScanRefIdeal.τ).loc Cert.ScanRefIdeal.main_arg8) = m ((c.tc : Thread Cert.ScanRefIdeal.nD Cert.ScanRefIdeal.τ).loc Cert.ScanRefIdeal.main_arg8)
      ∧ r.2.mem ((c.tc : Thread Cert.ScanRefIdeal.nD Cert.ScanRefIdeal.τ).loc Cert.ScanRefIdeal.main_arg9) = m ((c.tc : Thread Cert.ScanRefIdeal.nD Cert.ScanRefIdeal.τ).loc Cert.ScanRefIdeal.main_arg9))
      ∧ r.2.sem = fun _ => 0)

def quiescent_ScanRefIdeal_pre_scan_real [hScanRefIdeal : Cert.ScanRefIdeal.Facts] [hPre_scan_real : Cert.Pre_scan_real.Facts] : Prop :=
  ∀ (m : (ℓ : Loc Cert.ScanRefIdeal.nD Cert.ScanRefIdeal.τ Cert.ScanRefIdeal.sig) → Buf (Elt Ideal) ℓ) (g : Dev Cert.ScanRefIdeal.nD → PrngReg), Pre_ScanRefIdeal_scan_real m →
    θ_run (Cert.ScanRefIdeal.defs (F := Ideal)) (onTc (τ := Cert.ScanRefIdeal.τ) (Cert.ScanRefIdeal.main (F := Ideal))) ⟨m, fun _ => 0, g⟩ (fun r => (∀ c : Dev Cert.ScanRefIdeal.nD,
      r.2.mem ((c.tc : Thread Cert.ScanRefIdeal.nD Cert.ScanRefIdeal.τ).loc Cert.ScanRefIdeal.main_arg0) = m ((c.tc : Thread Cert.ScanRefIdeal.nD Cert.ScanRefIdeal.τ).loc Cert.ScanRefIdeal.main_arg0)
      ∧ r.2.mem ((c.tc : Thread Cert.ScanRefIdeal.nD Cert.ScanRefIdeal.τ).loc Cert.ScanRefIdeal.main_arg1) = m ((c.tc : Thread Cert.ScanRefIdeal.nD Cert.ScanRefIdeal.τ).loc Cert.ScanRefIdeal.main_arg1)
      ∧ r.2.mem ((c.tc : Thread Cert.ScanRefIdeal.nD Cert.ScanRefIdeal.τ).loc Cert.ScanRefIdeal.main_arg2) = m ((c.tc : Thread Cert.ScanRefIdeal.nD Cert.ScanRefIdeal.τ).loc Cert.ScanRefIdeal.main_arg2)
      ∧ r.2.mem ((c.tc : Thread Cert.ScanRefIdeal.nD Cert.ScanRefIdeal.τ).loc Cert.ScanRefIdeal.main_arg3) = m ((c.tc : Thread Cert.ScanRefIdeal.nD Cert.ScanRefIdeal.τ).loc Cert.ScanRefIdeal.main_arg3)
      ∧ r.2.mem ((c.tc : Thread Cert.ScanRefIdeal.nD Cert.ScanRefIdeal.τ).loc Cert.ScanRefIdeal.main_arg4) = m ((c.tc : Thread Cert.ScanRefIdeal.nD Cert.ScanRefIdeal.τ).loc Cert.ScanRefIdeal.main_arg4)
      ∧ r.2.mem ((c.tc : Thread Cert.ScanRefIdeal.nD Cert.ScanRefIdeal.τ).loc Cert.ScanRefIdeal.main_arg5) = m ((c.tc : Thread Cert.ScanRefIdeal.nD Cert.ScanRefIdeal.τ).loc Cert.ScanRefIdeal.main_arg5)
      ∧ r.2.mem ((c.tc : Thread Cert.ScanRefIdeal.nD Cert.ScanRefIdeal.τ).loc Cert.ScanRefIdeal.main_arg6) = m ((c.tc : Thread Cert.ScanRefIdeal.nD Cert.ScanRefIdeal.τ).loc Cert.ScanRefIdeal.main_arg6)
      ∧ r.2.mem ((c.tc : Thread Cert.ScanRefIdeal.nD Cert.ScanRefIdeal.τ).loc Cert.ScanRefIdeal.main_arg7) = m ((c.tc : Thread Cert.ScanRefIdeal.nD Cert.ScanRefIdeal.τ).loc Cert.ScanRefIdeal.main_arg7)
      ∧ r.2.mem ((c.tc : Thread Cert.ScanRefIdeal.nD Cert.ScanRefIdeal.τ).loc Cert.ScanRefIdeal.main_arg8) = m ((c.tc : Thread Cert.ScanRefIdeal.nD Cert.ScanRefIdeal.τ).loc Cert.ScanRefIdeal.main_arg8)
      ∧ r.2.mem ((c.tc : Thread Cert.ScanRefIdeal.nD Cert.ScanRefIdeal.τ).loc Cert.ScanRefIdeal.main_arg9) = m ((c.tc : Thread Cert.ScanRefIdeal.nD Cert.ScanRefIdeal.τ).loc Cert.ScanRefIdeal.main_arg9))
      ∧ r.2.sem = fun _ => 0)

def quiescent_ProjS [hProjS : Cert.ProjS.Facts] : Prop :=
  ∀ (m : (ℓ : Loc Cert.ProjS.nD Cert.ProjS.τ Cert.ProjS.sig) → Buf (Elt Bits) ℓ) (g : Dev Cert.ProjS.nD → PrngReg), Pre_ProjS m →
    θ_run (Cert.ProjS.defs (F := Bits)) (onTc (τ := Cert.ProjS.τ) (Cert.ProjS.main (F := Bits))) ⟨m, fun _ => 0, g⟩ (fun r => (∀ c : Dev Cert.ProjS.nD,
      r.2.mem ((c.tc : Thread Cert.ProjS.nD Cert.ProjS.τ).loc Cert.ProjS.main_arg0) = m ((c.tc : Thread Cert.ProjS.nD Cert.ProjS.τ).loc Cert.ProjS.main_arg0)
      ∧ r.2.mem ((c.tc : Thread Cert.ProjS.nD Cert.ProjS.τ).loc Cert.ProjS.main_arg1) = m ((c.tc : Thread Cert.ProjS.nD Cert.ProjS.τ).loc Cert.ProjS.main_arg1)
      ∧ r.2.mem ((c.tc : Thread Cert.ProjS.nD Cert.ProjS.τ).loc Cert.ProjS.main_arg2) = m ((c.tc : Thread Cert.ProjS.nD Cert.ProjS.τ).loc Cert.ProjS.main_arg2))
      ∧ r.2.sem = fun _ => 0)

def quiescent_ProjSIdeal [hProjSIdeal : Cert.ProjSIdeal.Facts] : Prop :=
  ∀ (m : (ℓ : Loc Cert.ProjSIdeal.nD Cert.ProjSIdeal.τ Cert.ProjSIdeal.sig) → Buf (Elt Ideal) ℓ) (g : Dev Cert.ProjSIdeal.nD → PrngReg), Pre_ProjSIdeal m →
    θ_run (Cert.ProjSIdeal.defs (F := Ideal)) (onTc (τ := Cert.ProjSIdeal.τ) (Cert.ProjSIdeal.main (F := Ideal))) ⟨m, fun _ => 0, g⟩ (fun r => (∀ c : Dev Cert.ProjSIdeal.nD,
      r.2.mem ((c.tc : Thread Cert.ProjSIdeal.nD Cert.ProjSIdeal.τ).loc Cert.ProjSIdeal.main_arg0) = m ((c.tc : Thread Cert.ProjSIdeal.nD Cert.ProjSIdeal.τ).loc Cert.ProjSIdeal.main_arg0)
      ∧ r.2.mem ((c.tc : Thread Cert.ProjSIdeal.nD Cert.ProjSIdeal.τ).loc Cert.ProjSIdeal.main_arg1) = m ((c.tc : Thread Cert.ProjSIdeal.nD Cert.ProjSIdeal.τ).loc Cert.ProjSIdeal.main_arg1)
      ∧ r.2.mem ((c.tc : Thread Cert.ProjSIdeal.nD Cert.ProjSIdeal.τ).loc Cert.ProjSIdeal.main_arg2) = m ((c.tc : Thread Cert.ProjSIdeal.nD Cert.ProjSIdeal.τ).loc Cert.ProjSIdeal.main_arg2))
      ∧ r.2.sem = fun _ => 0)

def quiescent_ProjSRefIdeal [hProjSRefIdeal : Cert.ProjSRefIdeal.Facts] : Prop :=
  ∀ (m : (ℓ : Loc Cert.ProjSRefIdeal.nD Cert.ProjSRefIdeal.τ Cert.ProjSRefIdeal.sig) → Buf (Elt Ideal) ℓ) (g : Dev Cert.ProjSRefIdeal.nD → PrngReg), Pre_ProjSRefIdeal m →
    θ_run (Cert.ProjSRefIdeal.defs (F := Ideal)) (onTc (τ := Cert.ProjSRefIdeal.τ) (Cert.ProjSRefIdeal.main (F := Ideal))) ⟨m, fun _ => 0, g⟩ (fun r => (∀ c : Dev Cert.ProjSRefIdeal.nD,
      r.2.mem ((c.tc : Thread Cert.ProjSRefIdeal.nD Cert.ProjSRefIdeal.τ).loc Cert.ProjSRefIdeal.main_arg0) = m ((c.tc : Thread Cert.ProjSRefIdeal.nD Cert.ProjSRefIdeal.τ).loc Cert.ProjSRefIdeal.main_arg0)
      ∧ r.2.mem ((c.tc : Thread Cert.ProjSRefIdeal.nD Cert.ProjSRefIdeal.τ).loc Cert.ProjSRefIdeal.main_arg1) = m ((c.tc : Thread Cert.ProjSRefIdeal.nD Cert.ProjSRefIdeal.τ).loc Cert.ProjSRefIdeal.main_arg1)
      ∧ r.2.mem ((c.tc : Thread Cert.ProjSRefIdeal.nD Cert.ProjSRefIdeal.τ).loc Cert.ProjSRefIdeal.main_arg2) = m ((c.tc : Thread Cert.ProjSRefIdeal.nD Cert.ProjSRefIdeal.τ).loc Cert.ProjSRefIdeal.main_arg2))
      ∧ r.2.sem = fun _ => 0)

def quiescent_ScanS [hScanS : Cert.ScanS.Facts] : Prop :=
  ∀ (m : (ℓ : Loc Cert.ScanS.nD Cert.ScanS.τ Cert.ScanS.sig) → Buf (Elt Bits) ℓ) (g : Dev Cert.ScanS.nD → PrngReg), Pre_ScanS m →
    θ_run (Cert.ScanS.defs (F := Bits)) (onTc (τ := Cert.ScanS.τ) (Cert.ScanS.main (F := Bits))) ⟨m, fun _ => 0, g⟩ (fun r => (∀ c : Dev Cert.ScanS.nD,
      r.2.mem ((c.tc : Thread Cert.ScanS.nD Cert.ScanS.τ).loc Cert.ScanS.main_arg0) = m ((c.tc : Thread Cert.ScanS.nD Cert.ScanS.τ).loc Cert.ScanS.main_arg0)
      ∧ r.2.mem ((c.tc : Thread Cert.ScanS.nD Cert.ScanS.τ).loc Cert.ScanS.main_arg1) = m ((c.tc : Thread Cert.ScanS.nD Cert.ScanS.τ).loc Cert.ScanS.main_arg1)
      ∧ r.2.mem ((c.tc : Thread Cert.ScanS.nD Cert.ScanS.τ).loc Cert.ScanS.main_arg2) = m ((c.tc : Thread Cert.ScanS.nD Cert.ScanS.τ).loc Cert.ScanS.main_arg2)
      ∧ r.2.mem ((c.tc : Thread Cert.ScanS.nD Cert.ScanS.τ).loc Cert.ScanS.main_arg3) = m ((c.tc : Thread Cert.ScanS.nD Cert.ScanS.τ).loc Cert.ScanS.main_arg3)
      ∧ r.2.mem ((c.tc : Thread Cert.ScanS.nD Cert.ScanS.τ).loc Cert.ScanS.main_arg4) = m ((c.tc : Thread Cert.ScanS.nD Cert.ScanS.τ).loc Cert.ScanS.main_arg4)
      ∧ r.2.mem ((c.tc : Thread Cert.ScanS.nD Cert.ScanS.τ).loc Cert.ScanS.main_arg5) = m ((c.tc : Thread Cert.ScanS.nD Cert.ScanS.τ).loc Cert.ScanS.main_arg5)
      ∧ r.2.mem ((c.tc : Thread Cert.ScanS.nD Cert.ScanS.τ).loc Cert.ScanS.main_arg6) = m ((c.tc : Thread Cert.ScanS.nD Cert.ScanS.τ).loc Cert.ScanS.main_arg6)
      ∧ r.2.mem ((c.tc : Thread Cert.ScanS.nD Cert.ScanS.τ).loc Cert.ScanS.main_arg7) = m ((c.tc : Thread Cert.ScanS.nD Cert.ScanS.τ).loc Cert.ScanS.main_arg7)
      ∧ r.2.mem ((c.tc : Thread Cert.ScanS.nD Cert.ScanS.τ).loc Cert.ScanS.main_arg8) = m ((c.tc : Thread Cert.ScanS.nD Cert.ScanS.τ).loc Cert.ScanS.main_arg8)
      ∧ r.2.mem ((c.tc : Thread Cert.ScanS.nD Cert.ScanS.τ).loc Cert.ScanS.main_arg9) = m ((c.tc : Thread Cert.ScanS.nD Cert.ScanS.τ).loc Cert.ScanS.main_arg9)
      ∧ r.2.mem ((c.tc : Thread Cert.ScanS.nD Cert.ScanS.τ).loc Cert.ScanS.main_arg10) = m ((c.tc : Thread Cert.ScanS.nD Cert.ScanS.τ).loc Cert.ScanS.main_arg10)
      ∧ r.2.mem ((c.tc : Thread Cert.ScanS.nD Cert.ScanS.τ).loc Cert.ScanS.main_arg11) = m ((c.tc : Thread Cert.ScanS.nD Cert.ScanS.τ).loc Cert.ScanS.main_arg11))
      ∧ r.2.sem = fun _ => 0)

def quiescent_ScanSIdeal [hScanSIdeal : Cert.ScanSIdeal.Facts] : Prop :=
  ∀ (m : (ℓ : Loc Cert.ScanSIdeal.nD Cert.ScanSIdeal.τ Cert.ScanSIdeal.sig) → Buf (Elt Ideal) ℓ) (g : Dev Cert.ScanSIdeal.nD → PrngReg), Pre_ScanSIdeal m →
    θ_run (Cert.ScanSIdeal.defs (F := Ideal)) (onTc (τ := Cert.ScanSIdeal.τ) (Cert.ScanSIdeal.main (F := Ideal))) ⟨m, fun _ => 0, g⟩ (fun r => (∀ c : Dev Cert.ScanSIdeal.nD,
      r.2.mem ((c.tc : Thread Cert.ScanSIdeal.nD Cert.ScanSIdeal.τ).loc Cert.ScanSIdeal.main_arg0) = m ((c.tc : Thread Cert.ScanSIdeal.nD Cert.ScanSIdeal.τ).loc Cert.ScanSIdeal.main_arg0)
      ∧ r.2.mem ((c.tc : Thread Cert.ScanSIdeal.nD Cert.ScanSIdeal.τ).loc Cert.ScanSIdeal.main_arg1) = m ((c.tc : Thread Cert.ScanSIdeal.nD Cert.ScanSIdeal.τ).loc Cert.ScanSIdeal.main_arg1)
      ∧ r.2.mem ((c.tc : Thread Cert.ScanSIdeal.nD Cert.ScanSIdeal.τ).loc Cert.ScanSIdeal.main_arg2) = m ((c.tc : Thread Cert.ScanSIdeal.nD Cert.ScanSIdeal.τ).loc Cert.ScanSIdeal.main_arg2)
      ∧ r.2.mem ((c.tc : Thread Cert.ScanSIdeal.nD Cert.ScanSIdeal.τ).loc Cert.ScanSIdeal.main_arg3) = m ((c.tc : Thread Cert.ScanSIdeal.nD Cert.ScanSIdeal.τ).loc Cert.ScanSIdeal.main_arg3)
      ∧ r.2.mem ((c.tc : Thread Cert.ScanSIdeal.nD Cert.ScanSIdeal.τ).loc Cert.ScanSIdeal.main_arg4) = m ((c.tc : Thread Cert.ScanSIdeal.nD Cert.ScanSIdeal.τ).loc Cert.ScanSIdeal.main_arg4)
      ∧ r.2.mem ((c.tc : Thread Cert.ScanSIdeal.nD Cert.ScanSIdeal.τ).loc Cert.ScanSIdeal.main_arg5) = m ((c.tc : Thread Cert.ScanSIdeal.nD Cert.ScanSIdeal.τ).loc Cert.ScanSIdeal.main_arg5)
      ∧ r.2.mem ((c.tc : Thread Cert.ScanSIdeal.nD Cert.ScanSIdeal.τ).loc Cert.ScanSIdeal.main_arg6) = m ((c.tc : Thread Cert.ScanSIdeal.nD Cert.ScanSIdeal.τ).loc Cert.ScanSIdeal.main_arg6)
      ∧ r.2.mem ((c.tc : Thread Cert.ScanSIdeal.nD Cert.ScanSIdeal.τ).loc Cert.ScanSIdeal.main_arg7) = m ((c.tc : Thread Cert.ScanSIdeal.nD Cert.ScanSIdeal.τ).loc Cert.ScanSIdeal.main_arg7)
      ∧ r.2.mem ((c.tc : Thread Cert.ScanSIdeal.nD Cert.ScanSIdeal.τ).loc Cert.ScanSIdeal.main_arg8) = m ((c.tc : Thread Cert.ScanSIdeal.nD Cert.ScanSIdeal.τ).loc Cert.ScanSIdeal.main_arg8)
      ∧ r.2.mem ((c.tc : Thread Cert.ScanSIdeal.nD Cert.ScanSIdeal.τ).loc Cert.ScanSIdeal.main_arg9) = m ((c.tc : Thread Cert.ScanSIdeal.nD Cert.ScanSIdeal.τ).loc Cert.ScanSIdeal.main_arg9)
      ∧ r.2.mem ((c.tc : Thread Cert.ScanSIdeal.nD Cert.ScanSIdeal.τ).loc Cert.ScanSIdeal.main_arg10) = m ((c.tc : Thread Cert.ScanSIdeal.nD Cert.ScanSIdeal.τ).loc Cert.ScanSIdeal.main_arg10)
      ∧ r.2.mem ((c.tc : Thread Cert.ScanSIdeal.nD Cert.ScanSIdeal.τ).loc Cert.ScanSIdeal.main_arg11) = m ((c.tc : Thread Cert.ScanSIdeal.nD Cert.ScanSIdeal.τ).loc Cert.ScanSIdeal.main_arg11))
      ∧ r.2.sem = fun _ => 0)

def quiescent_ScanSRefIdeal [hScanSRefIdeal : Cert.ScanSRefIdeal.Facts] : Prop :=
  ∀ (m : (ℓ : Loc Cert.ScanSRefIdeal.nD Cert.ScanSRefIdeal.τ Cert.ScanSRefIdeal.sig) → Buf (Elt Ideal) ℓ) (g : Dev Cert.ScanSRefIdeal.nD → PrngReg), Pre_ScanSRefIdeal m →
    θ_run (Cert.ScanSRefIdeal.defs (F := Ideal)) (onTc (τ := Cert.ScanSRefIdeal.τ) (Cert.ScanSRefIdeal.main (F := Ideal))) ⟨m, fun _ => 0, g⟩ (fun r => (∀ c : Dev Cert.ScanSRefIdeal.nD,
      r.2.mem ((c.tc : Thread Cert.ScanSRefIdeal.nD Cert.ScanSRefIdeal.τ).loc Cert.ScanSRefIdeal.main_arg0) = m ((c.tc : Thread Cert.ScanSRefIdeal.nD Cert.ScanSRefIdeal.τ).loc Cert.ScanSRefIdeal.main_arg0)
      ∧ r.2.mem ((c.tc : Thread Cert.ScanSRefIdeal.nD Cert.ScanSRefIdeal.τ).loc Cert.ScanSRefIdeal.main_arg1) = m ((c.tc : Thread Cert.ScanSRefIdeal.nD Cert.ScanSRefIdeal.τ).loc Cert.ScanSRefIdeal.main_arg1)
      ∧ r.2.mem ((c.tc : Thread Cert.ScanSRefIdeal.nD Cert.ScanSRefIdeal.τ).loc Cert.ScanSRefIdeal.main_arg2) = m ((c.tc : Thread Cert.ScanSRefIdeal.nD Cert.ScanSRefIdeal.τ).loc Cert.ScanSRefIdeal.main_arg2)
      ∧ r.2.mem ((c.tc : Thread Cert.ScanSRefIdeal.nD Cert.ScanSRefIdeal.τ).loc Cert.ScanSRefIdeal.main_arg3) = m ((c.tc : Thread Cert.ScanSRefIdeal.nD Cert.ScanSRefIdeal.τ).loc Cert.ScanSRefIdeal.main_arg3)
      ∧ r.2.mem ((c.tc : Thread Cert.ScanSRefIdeal.nD Cert.ScanSRefIdeal.τ).loc Cert.ScanSRefIdeal.main_arg4) = m ((c.tc : Thread Cert.ScanSRefIdeal.nD Cert.ScanSRefIdeal.τ).loc Cert.ScanSRefIdeal.main_arg4)
      ∧ r.2.mem ((c.tc : Thread Cert.ScanSRefIdeal.nD Cert.ScanSRefIdeal.τ).loc Cert.ScanSRefIdeal.main_arg5) = m ((c.tc : Thread Cert.ScanSRefIdeal.nD Cert.ScanSRefIdeal.τ).loc Cert.ScanSRefIdeal.main_arg5)
      ∧ r.2.mem ((c.tc : Thread Cert.ScanSRefIdeal.nD Cert.ScanSRefIdeal.τ).loc Cert.ScanSRefIdeal.main_arg6) = m ((c.tc : Thread Cert.ScanSRefIdeal.nD Cert.ScanSRefIdeal.τ).loc Cert.ScanSRefIdeal.main_arg6)
      ∧ r.2.mem ((c.tc : Thread Cert.ScanSRefIdeal.nD Cert.ScanSRefIdeal.τ).loc Cert.ScanSRefIdeal.main_arg7) = m ((c.tc : Thread Cert.ScanSRefIdeal.nD Cert.ScanSRefIdeal.τ).loc Cert.ScanSRefIdeal.main_arg7)
      ∧ r.2.mem ((c.tc : Thread Cert.ScanSRefIdeal.nD Cert.ScanSRefIdeal.τ).loc Cert.ScanSRefIdeal.main_arg8) = m ((c.tc : Thread Cert.ScanSRefIdeal.nD Cert.ScanSRefIdeal.τ).loc Cert.ScanSRefIdeal.main_arg8)
      ∧ r.2.mem ((c.tc : Thread Cert.ScanSRefIdeal.nD Cert.ScanSRefIdeal.τ).loc Cert.ScanSRefIdeal.main_arg9) = m ((c.tc : Thread Cert.ScanSRefIdeal.nD Cert.ScanSRefIdeal.τ).loc Cert.ScanSRefIdeal.main_arg9)
      ∧ r.2.mem ((c.tc : Thread Cert.ScanSRefIdeal.nD Cert.ScanSRefIdeal.τ).loc Cert.ScanSRefIdeal.main_arg10) = m ((c.tc : Thread Cert.ScanSRefIdeal.nD Cert.ScanSRefIdeal.τ).loc Cert.ScanSRefIdeal.main_arg10)
      ∧ r.2.mem ((c.tc : Thread Cert.ScanSRefIdeal.nD Cert.ScanSRefIdeal.τ).loc Cert.ScanSRefIdeal.main_arg11) = m ((c.tc : Thread Cert.ScanSRefIdeal.nD Cert.ScanSRefIdeal.τ).loc Cert.ScanSRefIdeal.main_arg11))
      ∧ r.2.sem = fun _ => 0)

def quiescent_TailS [hTailS : Cert.TailS.Facts] : Prop :=
  ∀ (m : (ℓ : Loc Cert.TailS.nD Cert.TailS.τ Cert.TailS.sig) → Buf (Elt Bits) ℓ) (g : Dev Cert.TailS.nD → PrngReg), Pre_TailS m →
    θ_run (Cert.TailS.defs (F := Bits)) (onTc (τ := Cert.TailS.τ) (Cert.TailS.main (F := Bits))) ⟨m, fun _ => 0, g⟩ (fun r => (∀ c : Dev Cert.TailS.nD,
      r.2.mem ((c.tc : Thread Cert.TailS.nD Cert.TailS.τ).loc Cert.TailS.main_arg0) = m ((c.tc : Thread Cert.TailS.nD Cert.TailS.τ).loc Cert.TailS.main_arg0)
      ∧ r.2.mem ((c.tc : Thread Cert.TailS.nD Cert.TailS.τ).loc Cert.TailS.main_arg1) = m ((c.tc : Thread Cert.TailS.nD Cert.TailS.τ).loc Cert.TailS.main_arg1)
      ∧ r.2.mem ((c.tc : Thread Cert.TailS.nD Cert.TailS.τ).loc Cert.TailS.main_arg2) = m ((c.tc : Thread Cert.TailS.nD Cert.TailS.τ).loc Cert.TailS.main_arg2)
      ∧ r.2.mem ((c.tc : Thread Cert.TailS.nD Cert.TailS.τ).loc Cert.TailS.main_arg3) = m ((c.tc : Thread Cert.TailS.nD Cert.TailS.τ).loc Cert.TailS.main_arg3)
      ∧ r.2.mem ((c.tc : Thread Cert.TailS.nD Cert.TailS.τ).loc Cert.TailS.main_arg4) = m ((c.tc : Thread Cert.TailS.nD Cert.TailS.τ).loc Cert.TailS.main_arg4)
      ∧ r.2.mem ((c.tc : Thread Cert.TailS.nD Cert.TailS.τ).loc Cert.TailS.main_arg5) = m ((c.tc : Thread Cert.TailS.nD Cert.TailS.τ).loc Cert.TailS.main_arg5)
      ∧ r.2.mem ((c.tc : Thread Cert.TailS.nD Cert.TailS.τ).loc Cert.TailS.main_arg6) = m ((c.tc : Thread Cert.TailS.nD Cert.TailS.τ).loc Cert.TailS.main_arg6)
      ∧ r.2.mem ((c.tc : Thread Cert.TailS.nD Cert.TailS.τ).loc Cert.TailS.main_arg7) = m ((c.tc : Thread Cert.TailS.nD Cert.TailS.τ).loc Cert.TailS.main_arg7)
      ∧ r.2.mem ((c.tc : Thread Cert.TailS.nD Cert.TailS.τ).loc Cert.TailS.main_arg8) = m ((c.tc : Thread Cert.TailS.nD Cert.TailS.τ).loc Cert.TailS.main_arg8)
      ∧ r.2.mem ((c.tc : Thread Cert.TailS.nD Cert.TailS.τ).loc Cert.TailS.main_arg9) = m ((c.tc : Thread Cert.TailS.nD Cert.TailS.τ).loc Cert.TailS.main_arg9)
      ∧ r.2.mem ((c.tc : Thread Cert.TailS.nD Cert.TailS.τ).loc Cert.TailS.main_arg10) = m ((c.tc : Thread Cert.TailS.nD Cert.TailS.τ).loc Cert.TailS.main_arg10))
      ∧ r.2.sem = fun _ => 0)

def quiescent_TailSIdeal [hTailSIdeal : Cert.TailSIdeal.Facts] : Prop :=
  ∀ (m : (ℓ : Loc Cert.TailSIdeal.nD Cert.TailSIdeal.τ Cert.TailSIdeal.sig) → Buf (Elt Ideal) ℓ) (g : Dev Cert.TailSIdeal.nD → PrngReg), Pre_TailSIdeal m →
    θ_run (Cert.TailSIdeal.defs (F := Ideal)) (onTc (τ := Cert.TailSIdeal.τ) (Cert.TailSIdeal.main (F := Ideal))) ⟨m, fun _ => 0, g⟩ (fun r => (∀ c : Dev Cert.TailSIdeal.nD,
      r.2.mem ((c.tc : Thread Cert.TailSIdeal.nD Cert.TailSIdeal.τ).loc Cert.TailSIdeal.main_arg0) = m ((c.tc : Thread Cert.TailSIdeal.nD Cert.TailSIdeal.τ).loc Cert.TailSIdeal.main_arg0)
      ∧ r.2.mem ((c.tc : Thread Cert.TailSIdeal.nD Cert.TailSIdeal.τ).loc Cert.TailSIdeal.main_arg1) = m ((c.tc : Thread Cert.TailSIdeal.nD Cert.TailSIdeal.τ).loc Cert.TailSIdeal.main_arg1)
      ∧ r.2.mem ((c.tc : Thread Cert.TailSIdeal.nD Cert.TailSIdeal.τ).loc Cert.TailSIdeal.main_arg2) = m ((c.tc : Thread Cert.TailSIdeal.nD Cert.TailSIdeal.τ).loc Cert.TailSIdeal.main_arg2)
      ∧ r.2.mem ((c.tc : Thread Cert.TailSIdeal.nD Cert.TailSIdeal.τ).loc Cert.TailSIdeal.main_arg3) = m ((c.tc : Thread Cert.TailSIdeal.nD Cert.TailSIdeal.τ).loc Cert.TailSIdeal.main_arg3)
      ∧ r.2.mem ((c.tc : Thread Cert.TailSIdeal.nD Cert.TailSIdeal.τ).loc Cert.TailSIdeal.main_arg4) = m ((c.tc : Thread Cert.TailSIdeal.nD Cert.TailSIdeal.τ).loc Cert.TailSIdeal.main_arg4)
      ∧ r.2.mem ((c.tc : Thread Cert.TailSIdeal.nD Cert.TailSIdeal.τ).loc Cert.TailSIdeal.main_arg5) = m ((c.tc : Thread Cert.TailSIdeal.nD Cert.TailSIdeal.τ).loc Cert.TailSIdeal.main_arg5)
      ∧ r.2.mem ((c.tc : Thread Cert.TailSIdeal.nD Cert.TailSIdeal.τ).loc Cert.TailSIdeal.main_arg6) = m ((c.tc : Thread Cert.TailSIdeal.nD Cert.TailSIdeal.τ).loc Cert.TailSIdeal.main_arg6)
      ∧ r.2.mem ((c.tc : Thread Cert.TailSIdeal.nD Cert.TailSIdeal.τ).loc Cert.TailSIdeal.main_arg7) = m ((c.tc : Thread Cert.TailSIdeal.nD Cert.TailSIdeal.τ).loc Cert.TailSIdeal.main_arg7)
      ∧ r.2.mem ((c.tc : Thread Cert.TailSIdeal.nD Cert.TailSIdeal.τ).loc Cert.TailSIdeal.main_arg8) = m ((c.tc : Thread Cert.TailSIdeal.nD Cert.TailSIdeal.τ).loc Cert.TailSIdeal.main_arg8)
      ∧ r.2.mem ((c.tc : Thread Cert.TailSIdeal.nD Cert.TailSIdeal.τ).loc Cert.TailSIdeal.main_arg9) = m ((c.tc : Thread Cert.TailSIdeal.nD Cert.TailSIdeal.τ).loc Cert.TailSIdeal.main_arg9)
      ∧ r.2.mem ((c.tc : Thread Cert.TailSIdeal.nD Cert.TailSIdeal.τ).loc Cert.TailSIdeal.main_arg10) = m ((c.tc : Thread Cert.TailSIdeal.nD Cert.TailSIdeal.τ).loc Cert.TailSIdeal.main_arg10))
      ∧ r.2.sem = fun _ => 0)

def quiescent_TailSRefIdeal [hTailSRefIdeal : Cert.TailSRefIdeal.Facts] : Prop :=
  ∀ (m : (ℓ : Loc Cert.TailSRefIdeal.nD Cert.TailSRefIdeal.τ Cert.TailSRefIdeal.sig) → Buf (Elt Ideal) ℓ) (g : Dev Cert.TailSRefIdeal.nD → PrngReg), Pre_TailSRefIdeal m →
    θ_run (Cert.TailSRefIdeal.defs (F := Ideal)) (onTc (τ := Cert.TailSRefIdeal.τ) (Cert.TailSRefIdeal.main (F := Ideal))) ⟨m, fun _ => 0, g⟩ (fun r => (∀ c : Dev Cert.TailSRefIdeal.nD,
      r.2.mem ((c.tc : Thread Cert.TailSRefIdeal.nD Cert.TailSRefIdeal.τ).loc Cert.TailSRefIdeal.main_arg0) = m ((c.tc : Thread Cert.TailSRefIdeal.nD Cert.TailSRefIdeal.τ).loc Cert.TailSRefIdeal.main_arg0)
      ∧ r.2.mem ((c.tc : Thread Cert.TailSRefIdeal.nD Cert.TailSRefIdeal.τ).loc Cert.TailSRefIdeal.main_arg1) = m ((c.tc : Thread Cert.TailSRefIdeal.nD Cert.TailSRefIdeal.τ).loc Cert.TailSRefIdeal.main_arg1)
      ∧ r.2.mem ((c.tc : Thread Cert.TailSRefIdeal.nD Cert.TailSRefIdeal.τ).loc Cert.TailSRefIdeal.main_arg2) = m ((c.tc : Thread Cert.TailSRefIdeal.nD Cert.TailSRefIdeal.τ).loc Cert.TailSRefIdeal.main_arg2)
      ∧ r.2.mem ((c.tc : Thread Cert.TailSRefIdeal.nD Cert.TailSRefIdeal.τ).loc Cert.TailSRefIdeal.main_arg3) = m ((c.tc : Thread Cert.TailSRefIdeal.nD Cert.TailSRefIdeal.τ).loc Cert.TailSRefIdeal.main_arg3)
      ∧ r.2.mem ((c.tc : Thread Cert.TailSRefIdeal.nD Cert.TailSRefIdeal.τ).loc Cert.TailSRefIdeal.main_arg4) = m ((c.tc : Thread Cert.TailSRefIdeal.nD Cert.TailSRefIdeal.τ).loc Cert.TailSRefIdeal.main_arg4)
      ∧ r.2.mem ((c.tc : Thread Cert.TailSRefIdeal.nD Cert.TailSRefIdeal.τ).loc Cert.TailSRefIdeal.main_arg5) = m ((c.tc : Thread Cert.TailSRefIdeal.nD Cert.TailSRefIdeal.τ).loc Cert.TailSRefIdeal.main_arg5)
      ∧ r.2.mem ((c.tc : Thread Cert.TailSRefIdeal.nD Cert.TailSRefIdeal.τ).loc Cert.TailSRefIdeal.main_arg6) = m ((c.tc : Thread Cert.TailSRefIdeal.nD Cert.TailSRefIdeal.τ).loc Cert.TailSRefIdeal.main_arg6)
      ∧ r.2.mem ((c.tc : Thread Cert.TailSRefIdeal.nD Cert.TailSRefIdeal.τ).loc Cert.TailSRefIdeal.main_arg7) = m ((c.tc : Thread Cert.TailSRefIdeal.nD Cert.TailSRefIdeal.τ).loc Cert.TailSRefIdeal.main_arg7)
      ∧ r.2.mem ((c.tc : Thread Cert.TailSRefIdeal.nD Cert.TailSRefIdeal.τ).loc Cert.TailSRefIdeal.main_arg8) = m ((c.tc : Thread Cert.TailSRefIdeal.nD Cert.TailSRefIdeal.τ).loc Cert.TailSRefIdeal.main_arg8)
      ∧ r.2.mem ((c.tc : Thread Cert.TailSRefIdeal.nD Cert.TailSRefIdeal.τ).loc Cert.TailSRefIdeal.main_arg9) = m ((c.tc : Thread Cert.TailSRefIdeal.nD Cert.TailSRefIdeal.τ).loc Cert.TailSRefIdeal.main_arg9)
      ∧ r.2.mem ((c.tc : Thread Cert.TailSRefIdeal.nD Cert.TailSRefIdeal.τ).loc Cert.TailSRefIdeal.main_arg10) = m ((c.tc : Thread Cert.TailSRefIdeal.nD Cert.TailSRefIdeal.τ).loc Cert.TailSRefIdeal.main_arg10))
      ∧ r.2.sem = fun _ => 0)

def preserves_Tail_TailIdeal : Prop :=
  True

def algebraic_TailIdeal_TailRefIdeal [hTailIdeal : Cert.TailIdeal.Facts] [hTailRefIdeal : Cert.TailRefIdeal.Facts] : Prop :=
  ∀ (m : (ℓ : Loc Cert.TailIdeal.nD Cert.TailIdeal.τ Cert.TailIdeal.sig) → Buf (Elt Ideal) ℓ) (g : Dev Cert.TailIdeal.nD → PrngReg)
    (m' : (ℓ : Loc Cert.TailRefIdeal.nD Cert.TailRefIdeal.τ Cert.TailRefIdeal.sig) → Buf (Elt Ideal) ℓ) (g' : Dev Cert.TailRefIdeal.nD → PrngReg), Pre_TailIdeal m →
    (∀ c : Dev Cert.TailIdeal.nD,
      m' ((c.tc : Thread Cert.TailRefIdeal.nD Cert.TailRefIdeal.τ).loc Cert.TailRefIdeal.main_arg0) = m ((c.tc : Thread Cert.TailIdeal.nD Cert.TailIdeal.τ).loc Cert.TailIdeal.main_arg0)
      ∧ m' ((c.tc : Thread Cert.TailRefIdeal.nD Cert.TailRefIdeal.τ).loc Cert.TailRefIdeal.main_arg1) = m ((c.tc : Thread Cert.TailIdeal.nD Cert.TailIdeal.τ).loc Cert.TailIdeal.main_arg1)
      ∧ m' ((c.tc : Thread Cert.TailRefIdeal.nD Cert.TailRefIdeal.τ).loc Cert.TailRefIdeal.main_arg2) = m ((c.tc : Thread Cert.TailIdeal.nD Cert.TailIdeal.τ).loc Cert.TailIdeal.main_arg2)
      ∧ m' ((c.tc : Thread Cert.TailRefIdeal.nD Cert.TailRefIdeal.τ).loc Cert.TailRefIdeal.main_arg3) = m ((c.tc : Thread Cert.TailIdeal.nD Cert.TailIdeal.τ).loc Cert.TailIdeal.main_arg3)
      ∧ m' ((c.tc : Thread Cert.TailRefIdeal.nD Cert.TailRefIdeal.τ).loc Cert.TailRefIdeal.main_arg4) = m ((c.tc : Thread Cert.TailIdeal.nD Cert.TailIdeal.τ).loc Cert.TailIdeal.main_arg4)
      ∧ m' ((c.tc : Thread Cert.TailRefIdeal.nD Cert.TailRefIdeal.τ).loc Cert.TailRefIdeal.main_arg5) = m ((c.tc : Thread Cert.TailIdeal.nD Cert.TailIdeal.τ).loc Cert.TailIdeal.main_arg5)
      ∧ m' ((c.tc : Thread Cert.TailRefIdeal.nD Cert.TailRefIdeal.τ).loc Cert.TailRefIdeal.main_arg6) = m ((c.tc : Thread Cert.TailIdeal.nD Cert.TailIdeal.τ).loc Cert.TailIdeal.main_arg6)
      ∧ m' ((c.tc : Thread Cert.TailRefIdeal.nD Cert.TailRefIdeal.τ).loc Cert.TailRefIdeal.main_arg7) = m ((c.tc : Thread Cert.TailIdeal.nD Cert.TailIdeal.τ).loc Cert.TailIdeal.main_arg7)
      ∧ m' ((c.tc : Thread Cert.TailRefIdeal.nD Cert.TailRefIdeal.τ).loc Cert.TailRefIdeal.main_arg8) = m ((c.tc : Thread Cert.TailIdeal.nD Cert.TailIdeal.τ).loc Cert.TailIdeal.main_arg8)
      ∧ m' ((c.tc : Thread Cert.TailRefIdeal.nD Cert.TailRefIdeal.τ).loc Cert.TailRefIdeal.main_arg9) = m ((c.tc : Thread Cert.TailIdeal.nD Cert.TailIdeal.τ).loc Cert.TailIdeal.main_arg9)
      ∧ m' ((c.tc : Thread Cert.TailRefIdeal.nD Cert.TailRefIdeal.τ).loc Cert.TailRefIdeal.main_arg10) = m ((c.tc : Thread Cert.TailIdeal.nD Cert.TailIdeal.τ).loc Cert.TailIdeal.main_arg10)) →
    ∃ (v0 : (c : Dev Cert.TailIdeal.nD) → Buf (Elt Ideal) ((c.tc : Thread Cert.TailIdeal.nD Cert.TailIdeal.τ).loc Cert.TailIdeal.main_v6)),
      θ_run (Cert.TailIdeal.defs (F := Ideal)) (onTc (τ := Cert.TailIdeal.τ) (Cert.TailIdeal.main (F := Ideal))) ⟨m, fun _ => 0, g⟩ (fun r => ∀ c : Dev Cert.TailIdeal.nD,
          r.2.mem ((c.tc : Thread Cert.TailIdeal.nD Cert.TailIdeal.τ).loc Cert.TailIdeal.main_v6) = v0 c
          ∧ r.2.mem ((c.tc : Thread Cert.TailIdeal.nD Cert.TailIdeal.τ).loc Cert.TailIdeal.main_arg0) = m ((c.tc : Thread Cert.TailIdeal.nD Cert.TailIdeal.τ).loc Cert.TailIdeal.main_arg0)
          ∧ r.2.mem ((c.tc : Thread Cert.TailIdeal.nD Cert.TailIdeal.τ).loc Cert.TailIdeal.main_arg1) = m ((c.tc : Thread Cert.TailIdeal.nD Cert.TailIdeal.τ).loc Cert.TailIdeal.main_arg1)
          ∧ r.2.mem ((c.tc : Thread Cert.TailIdeal.nD Cert.TailIdeal.τ).loc Cert.TailIdeal.main_arg2) = m ((c.tc : Thread Cert.TailIdeal.nD Cert.TailIdeal.τ).loc Cert.TailIdeal.main_arg2)
          ∧ r.2.mem ((c.tc : Thread Cert.TailIdeal.nD Cert.TailIdeal.τ).loc Cert.TailIdeal.main_arg3) = m ((c.tc : Thread Cert.TailIdeal.nD Cert.TailIdeal.τ).loc Cert.TailIdeal.main_arg3)
          ∧ r.2.mem ((c.tc : Thread Cert.TailIdeal.nD Cert.TailIdeal.τ).loc Cert.TailIdeal.main_arg4) = m ((c.tc : Thread Cert.TailIdeal.nD Cert.TailIdeal.τ).loc Cert.TailIdeal.main_arg4)
          ∧ r.2.mem ((c.tc : Thread Cert.TailIdeal.nD Cert.TailIdeal.τ).loc Cert.TailIdeal.main_arg5) = m ((c.tc : Thread Cert.TailIdeal.nD Cert.TailIdeal.τ).loc Cert.TailIdeal.main_arg5)
          ∧ r.2.mem ((c.tc : Thread Cert.TailIdeal.nD Cert.TailIdeal.τ).loc Cert.TailIdeal.main_arg6) = m ((c.tc : Thread Cert.TailIdeal.nD Cert.TailIdeal.τ).loc Cert.TailIdeal.main_arg6)
          ∧ r.2.mem ((c.tc : Thread Cert.TailIdeal.nD Cert.TailIdeal.τ).loc Cert.TailIdeal.main_arg7) = m ((c.tc : Thread Cert.TailIdeal.nD Cert.TailIdeal.τ).loc Cert.TailIdeal.main_arg7)
          ∧ r.2.mem ((c.tc : Thread Cert.TailIdeal.nD Cert.TailIdeal.τ).loc Cert.TailIdeal.main_arg8) = m ((c.tc : Thread Cert.TailIdeal.nD Cert.TailIdeal.τ).loc Cert.TailIdeal.main_arg8)
          ∧ r.2.mem ((c.tc : Thread Cert.TailIdeal.nD Cert.TailIdeal.τ).loc Cert.TailIdeal.main_arg9) = m ((c.tc : Thread Cert.TailIdeal.nD Cert.TailIdeal.τ).loc Cert.TailIdeal.main_arg9)
          ∧ r.2.mem ((c.tc : Thread Cert.TailIdeal.nD Cert.TailIdeal.τ).loc Cert.TailIdeal.main_arg10) = m ((c.tc : Thread Cert.TailIdeal.nD Cert.TailIdeal.τ).loc Cert.TailIdeal.main_arg10))
      ∧ θ_run (Cert.TailRefIdeal.defs (F := Ideal)) (onTc (τ := Cert.TailRefIdeal.τ) (Cert.TailRefIdeal.main (F := Ideal))) ⟨m', fun _ => 0, g'⟩ (fun r => ∀ c : Dev Cert.TailRefIdeal.nD,
          r.2.mem ((c.tc : Thread Cert.TailRefIdeal.nD Cert.TailRefIdeal.τ).loc Cert.TailRefIdeal.main_v37) = v0 c
          ∧ r.2.mem ((c.tc : Thread Cert.TailRefIdeal.nD Cert.TailRefIdeal.τ).loc Cert.TailRefIdeal.main_arg0) = m' ((c.tc : Thread Cert.TailRefIdeal.nD Cert.TailRefIdeal.τ).loc Cert.TailRefIdeal.main_arg0)
          ∧ r.2.mem ((c.tc : Thread Cert.TailRefIdeal.nD Cert.TailRefIdeal.τ).loc Cert.TailRefIdeal.main_arg1) = m' ((c.tc : Thread Cert.TailRefIdeal.nD Cert.TailRefIdeal.τ).loc Cert.TailRefIdeal.main_arg1)
          ∧ r.2.mem ((c.tc : Thread Cert.TailRefIdeal.nD Cert.TailRefIdeal.τ).loc Cert.TailRefIdeal.main_arg2) = m' ((c.tc : Thread Cert.TailRefIdeal.nD Cert.TailRefIdeal.τ).loc Cert.TailRefIdeal.main_arg2)
          ∧ r.2.mem ((c.tc : Thread Cert.TailRefIdeal.nD Cert.TailRefIdeal.τ).loc Cert.TailRefIdeal.main_arg3) = m' ((c.tc : Thread Cert.TailRefIdeal.nD Cert.TailRefIdeal.τ).loc Cert.TailRefIdeal.main_arg3)
          ∧ r.2.mem ((c.tc : Thread Cert.TailRefIdeal.nD Cert.TailRefIdeal.τ).loc Cert.TailRefIdeal.main_arg4) = m' ((c.tc : Thread Cert.TailRefIdeal.nD Cert.TailRefIdeal.τ).loc Cert.TailRefIdeal.main_arg4)
          ∧ r.2.mem ((c.tc : Thread Cert.TailRefIdeal.nD Cert.TailRefIdeal.τ).loc Cert.TailRefIdeal.main_arg5) = m' ((c.tc : Thread Cert.TailRefIdeal.nD Cert.TailRefIdeal.τ).loc Cert.TailRefIdeal.main_arg5)
          ∧ r.2.mem ((c.tc : Thread Cert.TailRefIdeal.nD Cert.TailRefIdeal.τ).loc Cert.TailRefIdeal.main_arg6) = m' ((c.tc : Thread Cert.TailRefIdeal.nD Cert.TailRefIdeal.τ).loc Cert.TailRefIdeal.main_arg6)
          ∧ r.2.mem ((c.tc : Thread Cert.TailRefIdeal.nD Cert.TailRefIdeal.τ).loc Cert.TailRefIdeal.main_arg7) = m' ((c.tc : Thread Cert.TailRefIdeal.nD Cert.TailRefIdeal.τ).loc Cert.TailRefIdeal.main_arg7)
          ∧ r.2.mem ((c.tc : Thread Cert.TailRefIdeal.nD Cert.TailRefIdeal.τ).loc Cert.TailRefIdeal.main_arg8) = m' ((c.tc : Thread Cert.TailRefIdeal.nD Cert.TailRefIdeal.τ).loc Cert.TailRefIdeal.main_arg8)
          ∧ r.2.mem ((c.tc : Thread Cert.TailRefIdeal.nD Cert.TailRefIdeal.τ).loc Cert.TailRefIdeal.main_arg9) = m' ((c.tc : Thread Cert.TailRefIdeal.nD Cert.TailRefIdeal.τ).loc Cert.TailRefIdeal.main_arg9)
          ∧ r.2.mem ((c.tc : Thread Cert.TailRefIdeal.nD Cert.TailRefIdeal.τ).loc Cert.TailRefIdeal.main_arg10) = m' ((c.tc : Thread Cert.TailRefIdeal.nD Cert.TailRefIdeal.τ).loc Cert.TailRefIdeal.main_arg10))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)) →
    ∃ (v0 : (c : Dev Cert.ProjIdeal.nD) → Buf (Elt Ideal) ((c.tc : Thread Cert.ProjIdeal.nD Cert.ProjIdeal.τ).loc Cert.ProjIdeal.main_v38_0)) (v1 : (c : Dev Cert.ProjIdeal.nD) → Buf (Elt Ideal) ((c.tc : Thread Cert.ProjIdeal.nD Cert.ProjIdeal.τ).loc Cert.ProjIdeal.main_v38_1)) (v2 : (c : Dev Cert.ProjIdeal.nD) → Buf (Elt Ideal) ((c.tc : Thread Cert.ProjIdeal.nD Cert.ProjIdeal.τ).loc Cert.ProjIdeal.main_v38_2)) (v3 : (c : Dev Cert.ProjIdeal.nD) → Buf (Elt Ideal) ((c.tc : Thread Cert.ProjIdeal.nD Cert.ProjIdeal.τ).loc Cert.ProjIdeal.main_v38_3)) (v4 : (c : Dev Cert.ProjIdeal.nD) → Buf (Elt Ideal) ((c.tc : Thread Cert.ProjIdeal.nD Cert.ProjIdeal.τ).loc Cert.ProjIdeal.main_v38_4)) (v5 : (c : Dev Cert.ProjIdeal.nD) → Buf (Elt Ideal) ((c.tc : Thread Cert.ProjIdeal.nD Cert.ProjIdeal.τ).loc Cert.ProjIdeal.main_v38_5)) (v6 : (c : Dev Cert.ProjIdeal.nD) → Buf (Elt Ideal) ((c.tc : Thread Cert.ProjIdeal.nD Cert.ProjIdeal.τ).loc Cert.ProjIdeal.main_v38_6)) (v7 : (c : Dev Cert.ProjIdeal.nD) → Buf (Elt Ideal) ((c.tc : Thread Cert.ProjIdeal.nD Cert.ProjIdeal.τ).loc Cert.ProjIdeal.main_v38_7)) (v8 : (c : Dev Cert.ProjIdeal.nD) → Buf (Elt Ideal) ((c.tc : Thread Cert.ProjIdeal.nD Cert.ProjIdeal.τ).loc Cert.ProjIdeal.main_v38_8)) (v9 : (c : Dev Cert.ProjIdeal.nD) → Buf (Elt Ideal) ((c.tc : Thread Cert.ProjIdeal.nD Cert.ProjIdeal.τ).loc Cert.ProjIdeal.main_v38_9)) (v10 : (c : Dev Cert.ProjIdeal.nD) → Buf (Elt Ideal) ((c.tc : Thread Cert.ProjIdeal.nD Cert.ProjIdeal.τ).loc Cert.ProjIdeal.main_v38_10)) (v11 : (c : Dev Cert.ProjIdeal.nD) → Buf (Elt Ideal) ((c.tc : Thread Cert.ProjIdeal.nD Cert.ProjIdeal.τ).loc Cert.ProjIdeal.main_v38_11)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v38_0) = v0 c
          ∧ r.2.mem ((c.tc : Thread Cert.ProjIdeal.nD Cert.ProjIdeal.τ).loc Cert.ProjIdeal.main_v38_1) = v1 c
          ∧ r.2.mem ((c.tc : Thread Cert.ProjIdeal.nD Cert.ProjIdeal.τ).loc Cert.ProjIdeal.main_v38_2) = v2 c
          ∧ r.2.mem ((c.tc : Thread Cert.ProjIdeal.nD Cert.ProjIdeal.τ).loc Cert.ProjIdeal.main_v38_3) = v3 c
          ∧ r.2.mem ((c.tc : Thread Cert.ProjIdeal.nD Cert.ProjIdeal.τ).loc Cert.ProjIdeal.main_v38_4) = v4 c
          ∧ r.2.mem ((c.tc : Thread Cert.ProjIdeal.nD Cert.ProjIdeal.τ).loc Cert.ProjIdeal.main_v38_5) = v5 c
          ∧ r.2.mem ((c.tc : Thread Cert.ProjIdeal.nD Cert.ProjIdeal.τ).loc Cert.ProjIdeal.main_v38_6) = v6 c
          ∧ r.2.mem ((c.tc : Thread Cert.ProjIdeal.nD Cert.ProjIdeal.τ).loc Cert.ProjIdeal.main_v38_7) = v7 c
          ∧ r.2.mem ((c.tc : Thread Cert.ProjIdeal.nD Cert.ProjIdeal.τ).loc Cert.ProjIdeal.main_v38_8) = v8 c
          ∧ r.2.mem ((c.tc : Thread Cert.ProjIdeal.nD Cert.ProjIdeal.τ).loc Cert.ProjIdeal.main_v38_9) = v9 c
          ∧ r.2.mem ((c.tc : Thread Cert.ProjIdeal.nD Cert.ProjIdeal.τ).loc Cert.ProjIdeal.main_v38_10) = v10 c
          ∧ r.2.mem ((c.tc : Thread Cert.ProjIdeal.nD Cert.ProjIdeal.τ).loc Cert.ProjIdeal.main_v38_11) = v11 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v131) = v0 c
          ∧ r.2.mem ((c.tc : Thread Cert.ProjRefIdeal.nD Cert.ProjRefIdeal.τ).loc Cert.ProjRefIdeal.main_v133) = v1 c
          ∧ r.2.mem ((c.tc : Thread Cert.ProjRefIdeal.nD Cert.ProjRefIdeal.τ).loc Cert.ProjRefIdeal.main_v128) = v2 c
          ∧ r.2.mem ((c.tc : Thread Cert.ProjRefIdeal.nD Cert.ProjRefIdeal.τ).loc Cert.ProjRefIdeal.main_v134) = v3 c
          ∧ r.2.mem ((c.tc : Thread Cert.ProjRefIdeal.nD Cert.ProjRefIdeal.τ).loc Cert.ProjRefIdeal.main_v129) = v4 c
          ∧ r.2.mem ((c.tc : Thread Cert.ProjRefIdeal.nD Cert.ProjRefIdeal.τ).loc Cert.ProjRefIdeal.main_v135) = v5 c
          ∧ r.2.mem ((c.tc : Thread Cert.ProjRefIdeal.nD Cert.ProjRefIdeal.τ).loc Cert.ProjRefIdeal.main_v137) = v6 c
          ∧ r.2.mem ((c.tc : Thread Cert.ProjRefIdeal.nD Cert.ProjRefIdeal.τ).loc Cert.ProjRefIdeal.main_v130) = v7 c
          ∧ r.2.mem ((c.tc : Thread Cert.ProjRefIdeal.nD Cert.ProjRefIdeal.τ).loc Cert.ProjRefIdeal.main_v138) = v8 c
          ∧ r.2.mem ((c.tc : Thread Cert.ProjRefIdeal.nD Cert.ProjRefIdeal.τ).loc Cert.ProjRefIdeal.main_v139) = v9 c
          ∧ r.2.mem ((c.tc : Thread Cert.ProjRefIdeal.nD Cert.ProjRefIdeal.τ).loc Cert.ProjRefIdeal.main_v146) = v10 c
          ∧ r.2.mem ((c.tc : Thread Cert.ProjRefIdeal.nD Cert.ProjRefIdeal.τ).loc Cert.ProjRefIdeal.main_v153) = v11 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2))

def preserves_Scan_ScanIdeal : Prop :=
  True

def algebraic_ScanIdeal_ScanRefIdeal_pre_scan_real [hScanIdeal : Cert.ScanIdeal.Facts] [hScanRefIdeal : Cert.ScanRefIdeal.Facts] [hPre_scan_real : Cert.Pre_scan_real.Facts] : Prop :=
  ∀ (m : (ℓ : Loc Cert.ScanIdeal.nD Cert.ScanIdeal.τ Cert.ScanIdeal.sig) → Buf (Elt Ideal) ℓ) (g : Dev Cert.ScanIdeal.nD → PrngReg)
    (m' : (ℓ : Loc Cert.ScanRefIdeal.nD Cert.ScanRefIdeal.τ Cert.ScanRefIdeal.sig) → Buf (Elt Ideal) ℓ) (g' : Dev Cert.ScanRefIdeal.nD → PrngReg), Pre_ScanIdeal_scan_real m →
    (∀ c : Dev Cert.ScanIdeal.nD,
      m' ((c.tc : Thread Cert.ScanRefIdeal.nD Cert.ScanRefIdeal.τ).loc Cert.ScanRefIdeal.main_arg0) = m ((c.tc : Thread Cert.ScanIdeal.nD Cert.ScanIdeal.τ).loc Cert.ScanIdeal.main_arg0)
      ∧ m' ((c.tc : Thread Cert.ScanRefIdeal.nD Cert.ScanRefIdeal.τ).loc Cert.ScanRefIdeal.main_arg1) = m ((c.tc : Thread Cert.ScanIdeal.nD Cert.ScanIdeal.τ).loc Cert.ScanIdeal.main_arg1)
      ∧ m' ((c.tc : Thread Cert.ScanRefIdeal.nD Cert.ScanRefIdeal.τ).loc Cert.ScanRefIdeal.main_arg2) = m ((c.tc : Thread Cert.ScanIdeal.nD Cert.ScanIdeal.τ).loc Cert.ScanIdeal.main_arg2)
      ∧ m' ((c.tc : Thread Cert.ScanRefIdeal.nD Cert.ScanRefIdeal.τ).loc Cert.ScanRefIdeal.main_arg3) = m ((c.tc : Thread Cert.ScanIdeal.nD Cert.ScanIdeal.τ).loc Cert.ScanIdeal.main_arg3)
      ∧ m' ((c.tc : Thread Cert.ScanRefIdeal.nD Cert.ScanRefIdeal.τ).loc Cert.ScanRefIdeal.main_arg4) = m ((c.tc : Thread Cert.ScanIdeal.nD Cert.ScanIdeal.τ).loc Cert.ScanIdeal.main_arg4)
      ∧ m' ((c.tc : Thread Cert.ScanRefIdeal.nD Cert.ScanRefIdeal.τ).loc Cert.ScanRefIdeal.main_arg5) = m ((c.tc : Thread Cert.ScanIdeal.nD Cert.ScanIdeal.τ).loc Cert.ScanIdeal.main_arg5)
      ∧ m' ((c.tc : Thread Cert.ScanRefIdeal.nD Cert.ScanRefIdeal.τ).loc Cert.ScanRefIdeal.main_arg6) = m ((c.tc : Thread Cert.ScanIdeal.nD Cert.ScanIdeal.τ).loc Cert.ScanIdeal.main_arg6)
      ∧ m' ((c.tc : Thread Cert.ScanRefIdeal.nD Cert.ScanRefIdeal.τ).loc Cert.ScanRefIdeal.main_arg7) = m ((c.tc : Thread Cert.ScanIdeal.nD Cert.ScanIdeal.τ).loc Cert.ScanIdeal.main_arg7)
      ∧ m' ((c.tc : Thread Cert.ScanRefIdeal.nD Cert.ScanRefIdeal.τ).loc Cert.ScanRefIdeal.main_arg8) = m ((c.tc : Thread Cert.ScanIdeal.nD Cert.ScanIdeal.τ).loc Cert.ScanIdeal.main_arg8)
      ∧ m' ((c.tc : Thread Cert.ScanRefIdeal.nD Cert.ScanRefIdeal.τ).loc Cert.ScanRefIdeal.main_arg9) = m ((c.tc : Thread Cert.ScanIdeal.nD Cert.ScanIdeal.τ).loc Cert.ScanIdeal.main_arg9)) →
    ∃ (v0 : (c : Dev Cert.ScanIdeal.nD) → Buf (Elt Ideal) ((c.tc : Thread Cert.ScanIdeal.nD Cert.ScanIdeal.τ).loc Cert.ScanIdeal.main_v123_0)) (v1 : (c : Dev Cert.ScanIdeal.nD) → Buf (Elt Ideal) ((c.tc : Thread Cert.ScanIdeal.nD Cert.ScanIdeal.τ).loc Cert.ScanIdeal.main_v123_1)) (v2 : (c : Dev Cert.ScanIdeal.nD) → Buf (Elt Ideal) ((c.tc : Thread Cert.ScanIdeal.nD Cert.ScanIdeal.τ).loc Cert.ScanIdeal.main_v123_2)),
      θ_run (Cert.ScanIdeal.defs (F := Ideal)) (onTc (τ := Cert.ScanIdeal.τ) (Cert.ScanIdeal.main (F := Ideal))) ⟨m, fun _ => 0, g⟩ (fun r => ∀ c : Dev Cert.ScanIdeal.nD,
          r.2.mem ((c.tc : Thread Cert.ScanIdeal.nD Cert.ScanIdeal.τ).loc Cert.ScanIdeal.main_v123_0) = v0 c
          ∧ r.2.mem ((c.tc : Thread Cert.ScanIdeal.nD Cert.ScanIdeal.τ).loc Cert.ScanIdeal.main_v123_1) = v1 c
          ∧ r.2.mem ((c.tc : Thread Cert.ScanIdeal.nD Cert.ScanIdeal.τ).loc Cert.ScanIdeal.main_v123_2) = v2 c
          ∧ r.2.mem ((c.tc : Thread Cert.ScanIdeal.nD Cert.ScanIdeal.τ).loc Cert.ScanIdeal.main_arg0) = m ((c.tc : Thread Cert.ScanIdeal.nD Cert.ScanIdeal.τ).loc Cert.ScanIdeal.main_arg0)
          ∧ r.2.mem ((c.tc : Thread Cert.ScanIdeal.nD Cert.ScanIdeal.τ).loc Cert.ScanIdeal.main_arg1) = m ((c.tc : Thread Cert.ScanIdeal.nD Cert.ScanIdeal.τ).loc Cert.ScanIdeal.main_arg1)
          ∧ r.2.mem ((c.tc : Thread Cert.ScanIdeal.nD Cert.ScanIdeal.τ).loc Cert.ScanIdeal.main_arg2) = m ((c.tc : Thread Cert.ScanIdeal.nD Cert.ScanIdeal.τ).loc Cert.ScanIdeal.main_arg2)
          ∧ r.2.mem ((c.tc : Thread Cert.ScanIdeal.nD Cert.ScanIdeal.τ).loc Cert.ScanIdeal.main_arg3) = m ((c.tc : Thread Cert.ScanIdeal.nD Cert.ScanIdeal.τ).loc Cert.ScanIdeal.main_arg3)
          ∧ r.2.mem ((c.tc : Thread Cert.ScanIdeal.nD Cert.ScanIdeal.τ).loc Cert.ScanIdeal.main_arg4) = m ((c.tc : Thread Cert.ScanIdeal.nD Cert.ScanIdeal.τ).loc Cert.ScanIdeal.main_arg4)
          ∧ r.2.mem ((c.tc : Thread Cert.ScanIdeal.nD Cert.ScanIdeal.τ).loc Cert.ScanIdeal.main_arg5) = m ((c.tc : Thread Cert.ScanIdeal.nD Cert.ScanIdeal.τ).loc Cert.ScanIdeal.main_arg5)
          ∧ r.2.mem ((c.tc : Thread Cert.ScanIdeal.nD Cert.ScanIdeal.τ).loc Cert.ScanIdeal.main_arg6) = m ((c.tc : Thread Cert.ScanIdeal.nD Cert.ScanIdeal.τ).loc Cert.ScanIdeal.main_arg6)
          ∧ r.2.mem ((c.tc : Thread Cert.ScanIdeal.nD Cert.ScanIdeal.τ).loc Cert.ScanIdeal.main_arg7) = m ((c.tc : Thread Cert.ScanIdeal.nD Cert.ScanIdeal.τ).loc Cert.ScanIdeal.main_arg7)
          ∧ r.2.mem ((c.tc : Thread Cert.ScanIdeal.nD Cert.ScanIdeal.τ).loc Cert.ScanIdeal.main_arg8) = m ((c.tc : Thread Cert.ScanIdeal.nD Cert.ScanIdeal.τ).loc Cert.ScanIdeal.main_arg8)
          ∧ r.2.mem ((c.tc : Thread Cert.ScanIdeal.nD Cert.ScanIdeal.τ).loc Cert.ScanIdeal.main_arg9) = m ((c.tc : Thread Cert.ScanIdeal.nD Cert.ScanIdeal.τ).loc Cert.ScanIdeal.main_arg9))
      ∧ θ_run (Cert.ScanRefIdeal.defs (F := Ideal)) (onTc (τ := Cert.ScanRefIdeal.τ) (Cert.ScanRefIdeal.main (F := Ideal))) ⟨m', fun _ => 0, g'⟩ (fun r => ∀ c : Dev Cert.ScanRefIdeal.nD,
          r.2.mem ((c.tc : Thread Cert.ScanRefIdeal.nD Cert.ScanRefIdeal.τ).loc Cert.ScanRefIdeal.main_v44) = v0 c
          ∧ r.2.mem ((c.tc : Thread Cert.ScanRefIdeal.nD Cert.ScanRefIdeal.τ).loc Cert.ScanRefIdeal.main_v45) = v1 c
          ∧ r.2.mem ((c.tc : Thread Cert.ScanRefIdeal.nD Cert.ScanRefIdeal.τ).loc Cert.ScanRefIdeal.main_v46) = v2 c
          ∧ r.2.mem ((c.tc : Thread Cert.ScanRefIdeal.nD Cert.ScanRefIdeal.τ).loc Cert.ScanRefIdeal.main_arg0) = m' ((c.tc : Thread Cert.ScanRefIdeal.nD Cert.ScanRefIdeal.τ).loc Cert.ScanRefIdeal.main_arg0)
          ∧ r.2.mem ((c.tc : Thread Cert.ScanRefIdeal.nD Cert.ScanRefIdeal.τ).loc Cert.ScanRefIdeal.main_arg1) = m' ((c.tc : Thread Cert.ScanRefIdeal.nD Cert.ScanRefIdeal.τ).loc Cert.ScanRefIdeal.main_arg1)
          ∧ r.2.mem ((c.tc : Thread Cert.ScanRefIdeal.nD Cert.ScanRefIdeal.τ).loc Cert.ScanRefIdeal.main_arg2) = m' ((c.tc : Thread Cert.ScanRefIdeal.nD Cert.ScanRefIdeal.τ).loc Cert.ScanRefIdeal.main_arg2)
          ∧ r.2.mem ((c.tc : Thread Cert.ScanRefIdeal.nD Cert.ScanRefIdeal.τ).loc Cert.ScanRefIdeal.main_arg3) = m' ((c.tc : Thread Cert.ScanRefIdeal.nD Cert.ScanRefIdeal.τ).loc Cert.ScanRefIdeal.main_arg3)
          ∧ r.2.mem ((c.tc : Thread Cert.ScanRefIdeal.nD Cert.ScanRefIdeal.τ).loc Cert.ScanRefIdeal.main_arg4) = m' ((c.tc : Thread Cert.ScanRefIdeal.nD Cert.ScanRefIdeal.τ).loc Cert.ScanRefIdeal.main_arg4)
          ∧ r.2.mem ((c.tc : Thread Cert.ScanRefIdeal.nD Cert.ScanRefIdeal.τ).loc Cert.ScanRefIdeal.main_arg5) = m' ((c.tc : Thread Cert.ScanRefIdeal.nD Cert.ScanRefIdeal.τ).loc Cert.ScanRefIdeal.main_arg5)
          ∧ r.2.mem ((c.tc : Thread Cert.ScanRefIdeal.nD Cert.ScanRefIdeal.τ).loc Cert.ScanRefIdeal.main_arg6) = m' ((c.tc : Thread Cert.ScanRefIdeal.nD Cert.ScanRefIdeal.τ).loc Cert.ScanRefIdeal.main_arg6)
          ∧ r.2.mem ((c.tc : Thread Cert.ScanRefIdeal.nD Cert.ScanRefIdeal.τ).loc Cert.ScanRefIdeal.main_arg7) = m' ((c.tc : Thread Cert.ScanRefIdeal.nD Cert.ScanRefIdeal.τ).loc Cert.ScanRefIdeal.main_arg7)
          ∧ r.2.mem ((c.tc : Thread Cert.ScanRefIdeal.nD Cert.ScanRefIdeal.τ).loc Cert.ScanRefIdeal.main_arg8) = m' ((c.tc : Thread Cert.ScanRefIdeal.nD Cert.ScanRefIdeal.τ).loc Cert.ScanRefIdeal.main_arg8)
          ∧ r.2.mem ((c.tc : Thread Cert.ScanRefIdeal.nD Cert.ScanRefIdeal.τ).loc Cert.ScanRefIdeal.main_arg9) = m' ((c.tc : Thread Cert.ScanRefIdeal.nD Cert.ScanRefIdeal.τ).loc Cert.ScanRefIdeal.main_arg9))

def preserves_ProjS_ProjSIdeal : Prop :=
  True

def algebraic_ProjSIdeal_ProjSRefIdeal [hProjSIdeal : Cert.ProjSIdeal.Facts] [hProjSRefIdeal : Cert.ProjSRefIdeal.Facts] : Prop :=
  ∀ (m : (ℓ : Loc Cert.ProjSIdeal.nD Cert.ProjSIdeal.τ Cert.ProjSIdeal.sig) → Buf (Elt Ideal) ℓ) (g : Dev Cert.ProjSIdeal.nD → PrngReg)
    (m' : (ℓ : Loc Cert.ProjSRefIdeal.nD Cert.ProjSRefIdeal.τ Cert.ProjSRefIdeal.sig) → Buf (Elt Ideal) ℓ) (g' : Dev Cert.ProjSRefIdeal.nD → PrngReg), Pre_ProjSIdeal m →
    (∀ c : Dev Cert.ProjSIdeal.nD,
      m' ((c.tc : Thread Cert.ProjSRefIdeal.nD Cert.ProjSRefIdeal.τ).loc Cert.ProjSRefIdeal.main_arg0) = m ((c.tc : Thread Cert.ProjSIdeal.nD Cert.ProjSIdeal.τ).loc Cert.ProjSIdeal.main_arg0)
      ∧ m' ((c.tc : Thread Cert.ProjSRefIdeal.nD Cert.ProjSRefIdeal.τ).loc Cert.ProjSRefIdeal.main_arg1) = m ((c.tc : Thread Cert.ProjSIdeal.nD Cert.ProjSIdeal.τ).loc Cert.ProjSIdeal.main_arg1)
      ∧ m' ((c.tc : Thread Cert.ProjSRefIdeal.nD Cert.ProjSRefIdeal.τ).loc Cert.ProjSRefIdeal.main_arg2) = m ((c.tc : Thread Cert.ProjSIdeal.nD Cert.ProjSIdeal.τ).loc Cert.ProjSIdeal.main_arg2)) →
    ∃ (v0 : (c : Dev Cert.ProjSIdeal.nD) → Buf (Elt Ideal) ((c.tc : Thread Cert.ProjSIdeal.nD Cert.ProjSIdeal.τ).loc Cert.ProjSIdeal.main_v38_0)) (v1 : (c : Dev Cert.ProjSIdeal.nD) → Buf (Elt Ideal) ((c.tc : Thread Cert.ProjSIdeal.nD Cert.ProjSIdeal.τ).loc Cert.ProjSIdeal.main_v38_1)) (v2 : (c : Dev Cert.ProjSIdeal.nD) → Buf (Elt Ideal) ((c.tc : Thread Cert.ProjSIdeal.nD Cert.ProjSIdeal.τ).loc Cert.ProjSIdeal.main_v38_2)) (v3 : (c : Dev Cert.ProjSIdeal.nD) → Buf (Elt Ideal) ((c.tc : Thread Cert.ProjSIdeal.nD Cert.ProjSIdeal.τ).loc Cert.ProjSIdeal.main_v38_3)) (v4 : (c : Dev Cert.ProjSIdeal.nD) → Buf (Elt Ideal) ((c.tc : Thread Cert.ProjSIdeal.nD Cert.ProjSIdeal.τ).loc Cert.ProjSIdeal.main_v38_4)) (v5 : (c : Dev Cert.ProjSIdeal.nD) → Buf (Elt Ideal) ((c.tc : Thread Cert.ProjSIdeal.nD Cert.ProjSIdeal.τ).loc Cert.ProjSIdeal.main_v38_5)) (v6 : (c : Dev Cert.ProjSIdeal.nD) → Buf (Elt Ideal) ((c.tc : Thread Cert.ProjSIdeal.nD Cert.ProjSIdeal.τ).loc Cert.ProjSIdeal.main_v38_6)) (v7 : (c : Dev Cert.ProjSIdeal.nD) → Buf (Elt Ideal) ((c.tc : Thread Cert.ProjSIdeal.nD Cert.ProjSIdeal.τ).loc Cert.ProjSIdeal.main_v38_7)) (v8 : (c : Dev Cert.ProjSIdeal.nD) → Buf (Elt Ideal) ((c.tc : Thread Cert.ProjSIdeal.nD Cert.ProjSIdeal.τ).loc Cert.ProjSIdeal.main_v38_8)) (v9 : (c : Dev Cert.ProjSIdeal.nD) → Buf (Elt Ideal) ((c.tc : Thread Cert.ProjSIdeal.nD Cert.ProjSIdeal.τ).loc Cert.ProjSIdeal.main_v38_9)) (v10 : (c : Dev Cert.ProjSIdeal.nD) → Buf (Elt Ideal) ((c.tc : Thread Cert.ProjSIdeal.nD Cert.ProjSIdeal.τ).loc Cert.ProjSIdeal.main_v38_10)) (v11 : (c : Dev Cert.ProjSIdeal.nD) → Buf (Elt Ideal) ((c.tc : Thread Cert.ProjSIdeal.nD Cert.ProjSIdeal.τ).loc Cert.ProjSIdeal.main_v38_11)),
      θ_run (Cert.ProjSIdeal.defs (F := Ideal)) (onTc (τ := Cert.ProjSIdeal.τ) (Cert.ProjSIdeal.main (F := Ideal))) ⟨m, fun _ => 0, g⟩ (fun r => ∀ c : Dev Cert.ProjSIdeal.nD,
          r.2.mem ((c.tc : Thread Cert.ProjSIdeal.nD Cert.ProjSIdeal.τ).loc Cert.ProjSIdeal.main_v38_0) = v0 c
          ∧ r.2.mem ((c.tc : Thread Cert.ProjSIdeal.nD Cert.ProjSIdeal.τ).loc Cert.ProjSIdeal.main_v38_1) = v1 c
          ∧ r.2.mem ((c.tc : Thread Cert.ProjSIdeal.nD Cert.ProjSIdeal.τ).loc Cert.ProjSIdeal.main_v38_2) = v2 c
          ∧ r.2.mem ((c.tc : Thread Cert.ProjSIdeal.nD Cert.ProjSIdeal.τ).loc Cert.ProjSIdeal.main_v38_3) = v3 c
          ∧ r.2.mem ((c.tc : Thread Cert.ProjSIdeal.nD Cert.ProjSIdeal.τ).loc Cert.ProjSIdeal.main_v38_4) = v4 c
          ∧ r.2.mem ((c.tc : Thread Cert.ProjSIdeal.nD Cert.ProjSIdeal.τ).loc Cert.ProjSIdeal.main_v38_5) = v5 c
          ∧ r.2.mem ((c.tc : Thread Cert.ProjSIdeal.nD Cert.ProjSIdeal.τ).loc Cert.ProjSIdeal.main_v38_6) = v6 c
          ∧ r.2.mem ((c.tc : Thread Cert.ProjSIdeal.nD Cert.ProjSIdeal.τ).loc Cert.ProjSIdeal.main_v38_7) = v7 c
          ∧ r.2.mem ((c.tc : Thread Cert.ProjSIdeal.nD Cert.ProjSIdeal.τ).loc Cert.ProjSIdeal.main_v38_8) = v8 c
          ∧ r.2.mem ((c.tc : Thread Cert.ProjSIdeal.nD Cert.ProjSIdeal.τ).loc Cert.ProjSIdeal.main_v38_9) = v9 c
          ∧ r.2.mem ((c.tc : Thread Cert.ProjSIdeal.nD Cert.ProjSIdeal.τ).loc Cert.ProjSIdeal.main_v38_10) = v10 c
          ∧ r.2.mem ((c.tc : Thread Cert.ProjSIdeal.nD Cert.ProjSIdeal.τ).loc Cert.ProjSIdeal.main_v38_11) = v11 c
          ∧ r.2.mem ((c.tc : Thread Cert.ProjSIdeal.nD Cert.ProjSIdeal.τ).loc Cert.ProjSIdeal.main_arg0) = m ((c.tc : Thread Cert.ProjSIdeal.nD Cert.ProjSIdeal.τ).loc Cert.ProjSIdeal.main_arg0)
          ∧ r.2.mem ((c.tc : Thread Cert.ProjSIdeal.nD Cert.ProjSIdeal.τ).loc Cert.ProjSIdeal.main_arg1) = m ((c.tc : Thread Cert.ProjSIdeal.nD Cert.ProjSIdeal.τ).loc Cert.ProjSIdeal.main_arg1)
          ∧ r.2.mem ((c.tc : Thread Cert.ProjSIdeal.nD Cert.ProjSIdeal.τ).loc Cert.ProjSIdeal.main_arg2) = m ((c.tc : Thread Cert.ProjSIdeal.nD Cert.ProjSIdeal.τ).loc Cert.ProjSIdeal.main_arg2))
      ∧ θ_run (Cert.ProjSRefIdeal.defs (F := Ideal)) (onTc (τ := Cert.ProjSRefIdeal.τ) (Cert.ProjSRefIdeal.main (F := Ideal))) ⟨m', fun _ => 0, g'⟩ (fun r => ∀ c : Dev Cert.ProjSRefIdeal.nD,
          r.2.mem ((c.tc : Thread Cert.ProjSRefIdeal.nD Cert.ProjSRefIdeal.τ).loc Cert.ProjSRefIdeal.main_v132) = v0 c
          ∧ r.2.mem ((c.tc : Thread Cert.ProjSRefIdeal.nD Cert.ProjSRefIdeal.τ).loc Cert.ProjSRefIdeal.main_v134) = v1 c
          ∧ r.2.mem ((c.tc : Thread Cert.ProjSRefIdeal.nD Cert.ProjSRefIdeal.τ).loc Cert.ProjSRefIdeal.main_v129) = v2 c
          ∧ r.2.mem ((c.tc : Thread Cert.ProjSRefIdeal.nD Cert.ProjSRefIdeal.τ).loc Cert.ProjSRefIdeal.main_v135) = v3 c
          ∧ r.2.mem ((c.tc : Thread Cert.ProjSRefIdeal.nD Cert.ProjSRefIdeal.τ).loc Cert.ProjSRefIdeal.main_v130) = v4 c
          ∧ r.2.mem ((c.tc : Thread Cert.ProjSRefIdeal.nD Cert.ProjSRefIdeal.τ).loc Cert.ProjSRefIdeal.main_v136) = v5 c
          ∧ r.2.mem ((c.tc : Thread Cert.ProjSRefIdeal.nD Cert.ProjSRefIdeal.τ).loc Cert.ProjSRefIdeal.main_v138) = v6 c
          ∧ r.2.mem ((c.tc : Thread Cert.ProjSRefIdeal.nD Cert.ProjSRefIdeal.τ).loc Cert.ProjSRefIdeal.main_v131) = v7 c
          ∧ r.2.mem ((c.tc : Thread Cert.ProjSRefIdeal.nD Cert.ProjSRefIdeal.τ).loc Cert.ProjSRefIdeal.main_v139) = v8 c
          ∧ r.2.mem ((c.tc : Thread Cert.ProjSRefIdeal.nD Cert.ProjSRefIdeal.τ).loc Cert.ProjSRefIdeal.main_v140) = v9 c
          ∧ r.2.mem ((c.tc : Thread Cert.ProjSRefIdeal.nD Cert.ProjSRefIdeal.τ).loc Cert.ProjSRefIdeal.main_v147) = v10 c
          ∧ r.2.mem ((c.tc : Thread Cert.ProjSRefIdeal.nD Cert.ProjSRefIdeal.τ).loc Cert.ProjSRefIdeal.main_v154) = v11 c
          ∧ r.2.mem ((c.tc : Thread Cert.ProjSRefIdeal.nD Cert.ProjSRefIdeal.τ).loc Cert.ProjSRefIdeal.main_arg0) = m' ((c.tc : Thread Cert.ProjSRefIdeal.nD Cert.ProjSRefIdeal.τ).loc Cert.ProjSRefIdeal.main_arg0)
          ∧ r.2.mem ((c.tc : Thread Cert.ProjSRefIdeal.nD Cert.ProjSRefIdeal.τ).loc Cert.ProjSRefIdeal.main_arg1) = m' ((c.tc : Thread Cert.ProjSRefIdeal.nD Cert.ProjSRefIdeal.τ).loc Cert.ProjSRefIdeal.main_arg1)
          ∧ r.2.mem ((c.tc : Thread Cert.ProjSRefIdeal.nD Cert.ProjSRefIdeal.τ).loc Cert.ProjSRefIdeal.main_arg2) = m' ((c.tc : Thread Cert.ProjSRefIdeal.nD Cert.ProjSRefIdeal.τ).loc Cert.ProjSRefIdeal.main_arg2))

def preserves_ScanS_ScanSIdeal : Prop :=
  True

def algebraic_ScanSIdeal_ScanSRefIdeal [hScanSIdeal : Cert.ScanSIdeal.Facts] [hScanSRefIdeal : Cert.ScanSRefIdeal.Facts] : Prop :=
  ∀ (m : (ℓ : Loc Cert.ScanSIdeal.nD Cert.ScanSIdeal.τ Cert.ScanSIdeal.sig) → Buf (Elt Ideal) ℓ) (g : Dev Cert.ScanSIdeal.nD → PrngReg)
    (m' : (ℓ : Loc Cert.ScanSRefIdeal.nD Cert.ScanSRefIdeal.τ Cert.ScanSRefIdeal.sig) → Buf (Elt Ideal) ℓ) (g' : Dev Cert.ScanSRefIdeal.nD → PrngReg), Pre_ScanSIdeal m →
    (∀ c : Dev Cert.ScanSIdeal.nD,
      m' ((c.tc : Thread Cert.ScanSRefIdeal.nD Cert.ScanSRefIdeal.τ).loc Cert.ScanSRefIdeal.main_arg0) = m ((c.tc : Thread Cert.ScanSIdeal.nD Cert.ScanSIdeal.τ).loc Cert.ScanSIdeal.main_arg0)
      ∧ m' ((c.tc : Thread Cert.ScanSRefIdeal.nD Cert.ScanSRefIdeal.τ).loc Cert.ScanSRefIdeal.main_arg1) = m ((c.tc : Thread Cert.ScanSIdeal.nD Cert.ScanSIdeal.τ).loc Cert.ScanSIdeal.main_arg1)
      ∧ m' ((c.tc : Thread Cert.ScanSRefIdeal.nD Cert.ScanSRefIdeal.τ).loc Cert.ScanSRefIdeal.main_arg2) = m ((c.tc : Thread Cert.ScanSIdeal.nD Cert.ScanSIdeal.τ).loc Cert.ScanSIdeal.main_arg2)
      ∧ m' ((c.tc : Thread Cert.ScanSRefIdeal.nD Cert.ScanSRefIdeal.τ).loc Cert.ScanSRefIdeal.main_arg3) = m ((c.tc : Thread Cert.ScanSIdeal.nD Cert.ScanSIdeal.τ).loc Cert.ScanSIdeal.main_arg3)
      ∧ m' ((c.tc : Thread Cert.ScanSRefIdeal.nD Cert.ScanSRefIdeal.τ).loc Cert.ScanSRefIdeal.main_arg4) = m ((c.tc : Thread Cert.ScanSIdeal.nD Cert.ScanSIdeal.τ).loc Cert.ScanSIdeal.main_arg4)
      ∧ m' ((c.tc : Thread Cert.ScanSRefIdeal.nD Cert.ScanSRefIdeal.τ).loc Cert.ScanSRefIdeal.main_arg5) = m ((c.tc : Thread Cert.ScanSIdeal.nD Cert.ScanSIdeal.τ).loc Cert.ScanSIdeal.main_arg5)
      ∧ m' ((c.tc : Thread Cert.ScanSRefIdeal.nD Cert.ScanSRefIdeal.τ).loc Cert.ScanSRefIdeal.main_arg6) = m ((c.tc : Thread Cert.ScanSIdeal.nD Cert.ScanSIdeal.τ).loc Cert.ScanSIdeal.main_arg6)
      ∧ m' ((c.tc : Thread Cert.ScanSRefIdeal.nD Cert.ScanSRefIdeal.τ).loc Cert.ScanSRefIdeal.main_arg7) = m ((c.tc : Thread Cert.ScanSIdeal.nD Cert.ScanSIdeal.τ).loc Cert.ScanSIdeal.main_arg7)
      ∧ m' ((c.tc : Thread Cert.ScanSRefIdeal.nD Cert.ScanSRefIdeal.τ).loc Cert.ScanSRefIdeal.main_arg8) = m ((c.tc : Thread Cert.ScanSIdeal.nD Cert.ScanSIdeal.τ).loc Cert.ScanSIdeal.main_arg8)
      ∧ m' ((c.tc : Thread Cert.ScanSRefIdeal.nD Cert.ScanSRefIdeal.τ).loc Cert.ScanSRefIdeal.main_arg9) = m ((c.tc : Thread Cert.ScanSIdeal.nD Cert.ScanSIdeal.τ).loc Cert.ScanSIdeal.main_arg9)
      ∧ m' ((c.tc : Thread Cert.ScanSRefIdeal.nD Cert.ScanSRefIdeal.τ).loc Cert.ScanSRefIdeal.main_arg10) = m ((c.tc : Thread Cert.ScanSIdeal.nD Cert.ScanSIdeal.τ).loc Cert.ScanSIdeal.main_arg10)
      ∧ m' ((c.tc : Thread Cert.ScanSRefIdeal.nD Cert.ScanSRefIdeal.τ).loc Cert.ScanSRefIdeal.main_arg11) = m ((c.tc : Thread Cert.ScanSIdeal.nD Cert.ScanSIdeal.τ).loc Cert.ScanSIdeal.main_arg11)) →
    ∃ (v0 : (c : Dev Cert.ScanSIdeal.nD) → Buf (Elt Ideal) ((c.tc : Thread Cert.ScanSIdeal.nD Cert.ScanSIdeal.τ).loc Cert.ScanSIdeal.main_v125_0)) (v1 : (c : Dev Cert.ScanSIdeal.nD) → Buf (Elt Ideal) ((c.tc : Thread Cert.ScanSIdeal.nD Cert.ScanSIdeal.τ).loc Cert.ScanSIdeal.main_v125_1)) (v2 : (c : Dev Cert.ScanSIdeal.nD) → Buf (Elt Ideal) ((c.tc : Thread Cert.ScanSIdeal.nD Cert.ScanSIdeal.τ).loc Cert.ScanSIdeal.main_v125_2)),
      θ_run (Cert.ScanSIdeal.defs (F := Ideal)) (onTc (τ := Cert.ScanSIdeal.τ) (Cert.ScanSIdeal.main (F := Ideal))) ⟨m, fun _ => 0, g⟩ (fun r => ∀ c : Dev Cert.ScanSIdeal.nD,
          r.2.mem ((c.tc : Thread Cert.ScanSIdeal.nD Cert.ScanSIdeal.τ).loc Cert.ScanSIdeal.main_v125_0) = v0 c
          ∧ r.2.mem ((c.tc : Thread Cert.ScanSIdeal.nD Cert.ScanSIdeal.τ).loc Cert.ScanSIdeal.main_v125_1) = v1 c
          ∧ r.2.mem ((c.tc : Thread Cert.ScanSIdeal.nD Cert.ScanSIdeal.τ).loc Cert.ScanSIdeal.main_v125_2) = v2 c
          ∧ r.2.mem ((c.tc : Thread Cert.ScanSIdeal.nD Cert.ScanSIdeal.τ).loc Cert.ScanSIdeal.main_arg0) = m ((c.tc : Thread Cert.ScanSIdeal.nD Cert.ScanSIdeal.τ).loc Cert.ScanSIdeal.main_arg0)
          ∧ r.2.mem ((c.tc : Thread Cert.ScanSIdeal.nD Cert.ScanSIdeal.τ).loc Cert.ScanSIdeal.main_arg1) = m ((c.tc : Thread Cert.ScanSIdeal.nD Cert.ScanSIdeal.τ).loc Cert.ScanSIdeal.main_arg1)
          ∧ r.2.mem ((c.tc : Thread Cert.ScanSIdeal.nD Cert.ScanSIdeal.τ).loc Cert.ScanSIdeal.main_arg2) = m ((c.tc : Thread Cert.ScanSIdeal.nD Cert.ScanSIdeal.τ).loc Cert.ScanSIdeal.main_arg2)
          ∧ r.2.mem ((c.tc : Thread Cert.ScanSIdeal.nD Cert.ScanSIdeal.τ).loc Cert.ScanSIdeal.main_arg3) = m ((c.tc : Thread Cert.ScanSIdeal.nD Cert.ScanSIdeal.τ).loc Cert.ScanSIdeal.main_arg3)
          ∧ r.2.mem ((c.tc : Thread Cert.ScanSIdeal.nD Cert.ScanSIdeal.τ).loc Cert.ScanSIdeal.main_arg4) = m ((c.tc : Thread Cert.ScanSIdeal.nD Cert.ScanSIdeal.τ).loc Cert.ScanSIdeal.main_arg4)
          ∧ r.2.mem ((c.tc : Thread Cert.ScanSIdeal.nD Cert.ScanSIdeal.τ).loc Cert.ScanSIdeal.main_arg5) = m ((c.tc : Thread Cert.ScanSIdeal.nD Cert.ScanSIdeal.τ).loc Cert.ScanSIdeal.main_arg5)
          ∧ r.2.mem ((c.tc : Thread Cert.ScanSIdeal.nD Cert.ScanSIdeal.τ).loc Cert.ScanSIdeal.main_arg6) = m ((c.tc : Thread Cert.ScanSIdeal.nD Cert.ScanSIdeal.τ).loc Cert.ScanSIdeal.main_arg6)
          ∧ r.2.mem ((c.tc : Thread Cert.ScanSIdeal.nD Cert.ScanSIdeal.τ).loc Cert.ScanSIdeal.main_arg7) = m ((c.tc : Thread Cert.ScanSIdeal.nD Cert.ScanSIdeal.τ).loc Cert.ScanSIdeal.main_arg7)
          ∧ r.2.mem ((c.tc : Thread Cert.ScanSIdeal.nD Cert.ScanSIdeal.τ).loc Cert.ScanSIdeal.main_arg8) = m ((c.tc : Thread Cert.ScanSIdeal.nD Cert.ScanSIdeal.τ).loc Cert.ScanSIdeal.main_arg8)
          ∧ r.2.mem ((c.tc : Thread Cert.ScanSIdeal.nD Cert.ScanSIdeal.τ).loc Cert.ScanSIdeal.main_arg9) = m ((c.tc : Thread Cert.ScanSIdeal.nD Cert.ScanSIdeal.τ).loc Cert.ScanSIdeal.main_arg9)
          ∧ r.2.mem ((c.tc : Thread Cert.ScanSIdeal.nD Cert.ScanSIdeal.τ).loc Cert.ScanSIdeal.main_arg10) = m ((c.tc : Thread Cert.ScanSIdeal.nD Cert.ScanSIdeal.τ).loc Cert.ScanSIdeal.main_arg10)
          ∧ r.2.mem ((c.tc : Thread Cert.ScanSIdeal.nD Cert.ScanSIdeal.τ).loc Cert.ScanSIdeal.main_arg11) = m ((c.tc : Thread Cert.ScanSIdeal.nD Cert.ScanSIdeal.τ).loc Cert.ScanSIdeal.main_arg11))
      ∧ θ_run (Cert.ScanSRefIdeal.defs (F := Ideal)) (onTc (τ := Cert.ScanSRefIdeal.τ) (Cert.ScanSRefIdeal.main (F := Ideal))) ⟨m', fun _ => 0, g'⟩ (fun r => ∀ c : Dev Cert.ScanSRefIdeal.nD,
          r.2.mem ((c.tc : Thread Cert.ScanSRefIdeal.nD Cert.ScanSRefIdeal.τ).loc Cert.ScanSRefIdeal.main_v63) = v0 c
          ∧ r.2.mem ((c.tc : Thread Cert.ScanSRefIdeal.nD Cert.ScanSRefIdeal.τ).loc Cert.ScanSRefIdeal.main_v64) = v1 c
          ∧ r.2.mem ((c.tc : Thread Cert.ScanSRefIdeal.nD Cert.ScanSRefIdeal.τ).loc Cert.ScanSRefIdeal.main_v65) = v2 c
          ∧ r.2.mem ((c.tc : Thread Cert.ScanSRefIdeal.nD Cert.ScanSRefIdeal.τ).loc Cert.ScanSRefIdeal.main_arg0) = m' ((c.tc : Thread Cert.ScanSRefIdeal.nD Cert.ScanSRefIdeal.τ).loc Cert.ScanSRefIdeal.main_arg0)
          ∧ r.2.mem ((c.tc : Thread Cert.ScanSRefIdeal.nD Cert.ScanSRefIdeal.τ).loc Cert.ScanSRefIdeal.main_arg1) = m' ((c.tc : Thread Cert.ScanSRefIdeal.nD Cert.ScanSRefIdeal.τ).loc Cert.ScanSRefIdeal.main_arg1)
          ∧ r.2.mem ((c.tc : Thread Cert.ScanSRefIdeal.nD Cert.ScanSRefIdeal.τ).loc Cert.ScanSRefIdeal.main_arg2) = m' ((c.tc : Thread Cert.ScanSRefIdeal.nD Cert.ScanSRefIdeal.τ).loc Cert.ScanSRefIdeal.main_arg2)
          ∧ r.2.mem ((c.tc : Thread Cert.ScanSRefIdeal.nD Cert.ScanSRefIdeal.τ).loc Cert.ScanSRefIdeal.main_arg3) = m' ((c.tc : Thread Cert.ScanSRefIdeal.nD Cert.ScanSRefIdeal.τ).loc Cert.ScanSRefIdeal.main_arg3)
          ∧ r.2.mem ((c.tc : Thread Cert.ScanSRefIdeal.nD Cert.ScanSRefIdeal.τ).loc Cert.ScanSRefIdeal.main_arg4) = m' ((c.tc : Thread Cert.ScanSRefIdeal.nD Cert.ScanSRefIdeal.τ).loc Cert.ScanSRefIdeal.main_arg4)
          ∧ r.2.mem ((c.tc : Thread Cert.ScanSRefIdeal.nD Cert.ScanSRefIdeal.τ).loc Cert.ScanSRefIdeal.main_arg5) = m' ((c.tc : Thread Cert.ScanSRefIdeal.nD Cert.ScanSRefIdeal.τ).loc Cert.ScanSRefIdeal.main_arg5)
          ∧ r.2.mem ((c.tc : Thread Cert.ScanSRefIdeal.nD Cert.ScanSRefIdeal.τ).loc Cert.ScanSRefIdeal.main_arg6) = m' ((c.tc : Thread Cert.ScanSRefIdeal.nD Cert.ScanSRefIdeal.τ).loc Cert.ScanSRefIdeal.main_arg6)
          ∧ r.2.mem ((c.tc : Thread Cert.ScanSRefIdeal.nD Cert.ScanSRefIdeal.τ).loc Cert.ScanSRefIdeal.main_arg7) = m' ((c.tc : Thread Cert.ScanSRefIdeal.nD Cert.ScanSRefIdeal.τ).loc Cert.ScanSRefIdeal.main_arg7)
          ∧ r.2.mem ((c.tc : Thread Cert.ScanSRefIdeal.nD Cert.ScanSRefIdeal.τ).loc Cert.ScanSRefIdeal.main_arg8) = m' ((c.tc : Thread Cert.ScanSRefIdeal.nD Cert.ScanSRefIdeal.τ).loc Cert.ScanSRefIdeal.main_arg8)
          ∧ r.2.mem ((c.tc : Thread Cert.ScanSRefIdeal.nD Cert.ScanSRefIdeal.τ).loc Cert.ScanSRefIdeal.main_arg9) = m' ((c.tc : Thread Cert.ScanSRefIdeal.nD Cert.ScanSRefIdeal.τ).loc Cert.ScanSRefIdeal.main_arg9)
          ∧ r.2.mem ((c.tc : Thread Cert.ScanSRefIdeal.nD Cert.ScanSRefIdeal.τ).loc Cert.ScanSRefIdeal.main_arg10) = m' ((c.tc : Thread Cert.ScanSRefIdeal.nD Cert.ScanSRefIdeal.τ).loc Cert.ScanSRefIdeal.main_arg10)
          ∧ r.2.mem ((c.tc : Thread Cert.ScanSRefIdeal.nD Cert.ScanSRefIdeal.τ).loc Cert.ScanSRefIdeal.main_arg11) = m' ((c.tc : Thread Cert.ScanSRefIdeal.nD Cert.ScanSRefIdeal.τ).loc Cert.ScanSRefIdeal.main_arg11))

def preserves_TailS_TailSIdeal : Prop :=
  True

def algebraic_TailSIdeal_TailSRefIdeal [hTailSIdeal : Cert.TailSIdeal.Facts] [hTailSRefIdeal : Cert.TailSRefIdeal.Facts] : Prop :=
  ∀ (m : (ℓ : Loc Cert.TailSIdeal.nD Cert.TailSIdeal.τ Cert.TailSIdeal.sig) → Buf (Elt Ideal) ℓ) (g : Dev Cert.TailSIdeal.nD → PrngReg)
    (m' : (ℓ : Loc Cert.TailSRefIdeal.nD Cert.TailSRefIdeal.τ Cert.TailSRefIdeal.sig) → Buf (Elt Ideal) ℓ) (g' : Dev Cert.TailSRefIdeal.nD → PrngReg), Pre_TailSIdeal m →
    (∀ c : Dev Cert.TailSIdeal.nD,
      m' ((c.tc : Thread Cert.TailSRefIdeal.nD Cert.TailSRefIdeal.τ).loc Cert.TailSRefIdeal.main_arg0) = m ((c.tc : Thread Cert.TailSIdeal.nD Cert.TailSIdeal.τ).loc Cert.TailSIdeal.main_arg0)
      ∧ m' ((c.tc : Thread Cert.TailSRefIdeal.nD Cert.TailSRefIdeal.τ).loc Cert.TailSRefIdeal.main_arg1) = m ((c.tc : Thread Cert.TailSIdeal.nD Cert.TailSIdeal.τ).loc Cert.TailSIdeal.main_arg1)
      ∧ m' ((c.tc : Thread Cert.TailSRefIdeal.nD Cert.TailSRefIdeal.τ).loc Cert.TailSRefIdeal.main_arg2) = m ((c.tc : Thread Cert.TailSIdeal.nD Cert.TailSIdeal.τ).loc Cert.TailSIdeal.main_arg2)
      ∧ m' ((c.tc : Thread Cert.TailSRefIdeal.nD Cert.TailSRefIdeal.τ).loc Cert.TailSRefIdeal.main_arg3) = m ((c.tc : Thread Cert.TailSIdeal.nD Cert.TailSIdeal.τ).loc Cert.TailSIdeal.main_arg3)
      ∧ m' ((c.tc : Thread Cert.TailSRefIdeal.nD Cert.TailSRefIdeal.τ).loc Cert.TailSRefIdeal.main_arg4) = m ((c.tc : Thread Cert.TailSIdeal.nD Cert.TailSIdeal.τ).loc Cert.TailSIdeal.main_arg4)
      ∧ m' ((c.tc : Thread Cert.TailSRefIdeal.nD Cert.TailSRefIdeal.τ).loc Cert.TailSRefIdeal.main_arg5) = m ((c.tc : Thread Cert.TailSIdeal.nD Cert.TailSIdeal.τ).loc Cert.TailSIdeal.main_arg5)
      ∧ m' ((c.tc : Thread Cert.TailSRefIdeal.nD Cert.TailSRefIdeal.τ).loc Cert.TailSRefIdeal.main_arg6) = m ((c.tc : Thread Cert.TailSIdeal.nD Cert.TailSIdeal.τ).loc Cert.TailSIdeal.main_arg6)
      ∧ m' ((c.tc : Thread Cert.TailSRefIdeal.nD Cert.TailSRefIdeal.τ).loc Cert.TailSRefIdeal.main_arg7) = m ((c.tc : Thread Cert.TailSIdeal.nD Cert.TailSIdeal.τ).loc Cert.TailSIdeal.main_arg7)
      ∧ m' ((c.tc : Thread Cert.TailSRefIdeal.nD Cert.TailSRefIdeal.τ).loc Cert.TailSRefIdeal.main_arg8) = m ((c.tc : Thread Cert.TailSIdeal.nD Cert.TailSIdeal.τ).loc Cert.TailSIdeal.main_arg8)
      ∧ m' ((c.tc : Thread Cert.TailSRefIdeal.nD Cert.TailSRefIdeal.τ).loc Cert.TailSRefIdeal.main_arg9) = m ((c.tc : Thread Cert.TailSIdeal.nD Cert.TailSIdeal.τ).loc Cert.TailSIdeal.main_arg9)
      ∧ m' ((c.tc : Thread Cert.TailSRefIdeal.nD Cert.TailSRefIdeal.τ).loc Cert.TailSRefIdeal.main_arg10) = m ((c.tc : Thread Cert.TailSIdeal.nD Cert.TailSIdeal.τ).loc Cert.TailSIdeal.main_arg10)) →
    ∃ (v0 : (c : Dev Cert.TailSIdeal.nD) → Buf (Elt Ideal) ((c.tc : Thread Cert.TailSIdeal.nD Cert.TailSIdeal.τ).loc Cert.TailSIdeal.main_v6)),
      θ_run (Cert.TailSIdeal.defs (F := Ideal)) (onTc (τ := Cert.TailSIdeal.τ) (Cert.TailSIdeal.main (F := Ideal))) ⟨m, fun _ => 0, g⟩ (fun r => ∀ c : Dev Cert.TailSIdeal.nD,
          r.2.mem ((c.tc : Thread Cert.TailSIdeal.nD Cert.TailSIdeal.τ).loc Cert.TailSIdeal.main_v6) = v0 c
          ∧ r.2.mem ((c.tc : Thread Cert.TailSIdeal.nD Cert.TailSIdeal.τ).loc Cert.TailSIdeal.main_arg0) = m ((c.tc : Thread Cert.TailSIdeal.nD Cert.TailSIdeal.τ).loc Cert.TailSIdeal.main_arg0)
          ∧ r.2.mem ((c.tc : Thread Cert.TailSIdeal.nD Cert.TailSIdeal.τ).loc Cert.TailSIdeal.main_arg1) = m ((c.tc : Thread Cert.TailSIdeal.nD Cert.TailSIdeal.τ).loc Cert.TailSIdeal.main_arg1)
          ∧ r.2.mem ((c.tc : Thread Cert.TailSIdeal.nD Cert.TailSIdeal.τ).loc Cert.TailSIdeal.main_arg2) = m ((c.tc : Thread Cert.TailSIdeal.nD Cert.TailSIdeal.τ).loc Cert.TailSIdeal.main_arg2)
          ∧ r.2.mem ((c.tc : Thread Cert.TailSIdeal.nD Cert.TailSIdeal.τ).loc Cert.TailSIdeal.main_arg3) = m ((c.tc : Thread Cert.TailSIdeal.nD Cert.TailSIdeal.τ).loc Cert.TailSIdeal.main_arg3)
          ∧ r.2.mem ((c.tc : Thread Cert.TailSIdeal.nD Cert.TailSIdeal.τ).loc Cert.TailSIdeal.main_arg4) = m ((c.tc : Thread Cert.TailSIdeal.nD Cert.TailSIdeal.τ).loc Cert.TailSIdeal.main_arg4)
          ∧ r.2.mem ((c.tc : Thread Cert.TailSIdeal.nD Cert.TailSIdeal.τ).loc Cert.TailSIdeal.main_arg5) = m ((c.tc : Thread Cert.TailSIdeal.nD Cert.TailSIdeal.τ).loc Cert.TailSIdeal.main_arg5)
          ∧ r.2.mem ((c.tc : Thread Cert.TailSIdeal.nD Cert.TailSIdeal.τ).loc Cert.TailSIdeal.main_arg6) = m ((c.tc : Thread Cert.TailSIdeal.nD Cert.TailSIdeal.τ).loc Cert.TailSIdeal.main_arg6)
          ∧ r.2.mem ((c.tc : Thread Cert.TailSIdeal.nD Cert.TailSIdeal.τ).loc Cert.TailSIdeal.main_arg7) = m ((c.tc : Thread Cert.TailSIdeal.nD Cert.TailSIdeal.τ).loc Cert.TailSIdeal.main_arg7)
          ∧ r.2.mem ((c.tc : Thread Cert.TailSIdeal.nD Cert.TailSIdeal.τ).loc Cert.TailSIdeal.main_arg8) = m ((c.tc : Thread Cert.TailSIdeal.nD Cert.TailSIdeal.τ).loc Cert.TailSIdeal.main_arg8)
          ∧ r.2.mem ((c.tc : Thread Cert.TailSIdeal.nD Cert.TailSIdeal.τ).loc Cert.TailSIdeal.main_arg9) = m ((c.tc : Thread Cert.TailSIdeal.nD Cert.TailSIdeal.τ).loc Cert.TailSIdeal.main_arg9)
          ∧ r.2.mem ((c.tc : Thread Cert.TailSIdeal.nD Cert.TailSIdeal.τ).loc Cert.TailSIdeal.main_arg10) = m ((c.tc : Thread Cert.TailSIdeal.nD Cert.TailSIdeal.τ).loc Cert.TailSIdeal.main_arg10))
      ∧ θ_run (Cert.TailSRefIdeal.defs (F := Ideal)) (onTc (τ := Cert.TailSRefIdeal.τ) (Cert.TailSRefIdeal.main (F := Ideal))) ⟨m', fun _ => 0, g'⟩ (fun r => ∀ c : Dev Cert.TailSRefIdeal.nD,
          r.2.mem ((c.tc : Thread Cert.TailSRefIdeal.nD Cert.TailSRefIdeal.τ).loc Cert.TailSRefIdeal.main_v37) = v0 c
          ∧ r.2.mem ((c.tc : Thread Cert.TailSRefIdeal.nD Cert.TailSRefIdeal.τ).loc Cert.TailSRefIdeal.main_arg0) = m' ((c.tc : Thread Cert.TailSRefIdeal.nD Cert.TailSRefIdeal.τ).loc Cert.TailSRefIdeal.main_arg0)
          ∧ r.2.mem ((c.tc : Thread Cert.TailSRefIdeal.nD Cert.TailSRefIdeal.τ).loc Cert.TailSRefIdeal.main_arg1) = m' ((c.tc : Thread Cert.TailSRefIdeal.nD Cert.TailSRefIdeal.τ).loc Cert.TailSRefIdeal.main_arg1)
          ∧ r.2.mem ((c.tc : Thread Cert.TailSRefIdeal.nD Cert.TailSRefIdeal.τ).loc Cert.TailSRefIdeal.main_arg2) = m' ((c.tc : Thread Cert.TailSRefIdeal.nD Cert.TailSRefIdeal.τ).loc Cert.TailSRefIdeal.main_arg2)
          ∧ r.2.mem ((c.tc : Thread Cert.TailSRefIdeal.nD Cert.TailSRefIdeal.τ).loc Cert.TailSRefIdeal.main_arg3) = m' ((c.tc : Thread Cert.TailSRefIdeal.nD Cert.TailSRefIdeal.τ).loc Cert.TailSRefIdeal.main_arg3)
          ∧ r.2.mem ((c.tc : Thread Cert.TailSRefIdeal.nD Cert.TailSRefIdeal.τ).loc Cert.TailSRefIdeal.main_arg4) = m' ((c.tc : Thread Cert.TailSRefIdeal.nD Cert.TailSRefIdeal.τ).loc Cert.TailSRefIdeal.main_arg4)
          ∧ r.2.mem ((c.tc : Thread Cert.TailSRefIdeal.nD Cert.TailSRefIdeal.τ).loc Cert.TailSRefIdeal.main_arg5) = m' ((c.tc : Thread Cert.TailSRefIdeal.nD Cert.TailSRefIdeal.τ).loc Cert.TailSRefIdeal.main_arg5)
          ∧ r.2.mem ((c.tc : Thread Cert.TailSRefIdeal.nD Cert.TailSRefIdeal.τ).loc Cert.TailSRefIdeal.main_arg6) = m' ((c.tc : Thread Cert.TailSRefIdeal.nD Cert.TailSRefIdeal.τ).loc Cert.TailSRefIdeal.main_arg6)
          ∧ r.2.mem ((c.tc : Thread Cert.TailSRefIdeal.nD Cert.TailSRefIdeal.τ).loc Cert.TailSRefIdeal.main_arg7) = m' ((c.tc : Thread Cert.TailSRefIdeal.nD Cert.TailSRefIdeal.τ).loc Cert.TailSRefIdeal.main_arg7)
          ∧ r.2.mem ((c.tc : Thread Cert.TailSRefIdeal.nD Cert.TailSRefIdeal.τ).loc Cert.TailSRefIdeal.main_arg8) = m' ((c.tc : Thread Cert.TailSRefIdeal.nD Cert.TailSRefIdeal.τ).loc Cert.TailSRefIdeal.main_arg8)
          ∧ r.2.mem ((c.tc : Thread Cert.TailSRefIdeal.nD Cert.TailSRefIdeal.τ).loc Cert.TailSRefIdeal.main_arg9) = m' ((c.tc : Thread Cert.TailSRefIdeal.nD Cert.TailSRefIdeal.τ).loc Cert.TailSRefIdeal.main_arg9)
          ∧ r.2.mem ((c.tc : Thread Cert.TailSRefIdeal.nD Cert.TailSRefIdeal.τ).loc Cert.TailSRefIdeal.main_arg10) = m' ((c.tc : Thread Cert.TailSRefIdeal.nD Cert.TailSRefIdeal.τ).loc Cert.TailSRefIdeal.main_arg10))

def Claim : Prop :=
  ∃ (hTail : Cert.Tail.Facts) (hTailIdeal : Cert.TailIdeal.Facts) (hTailRefIdeal : Cert.TailRefIdeal.Facts) (hProj : Cert.Proj.Facts) (hProjIdeal : Cert.ProjIdeal.Facts) (hProjRefIdeal : Cert.ProjRefIdeal.Facts) (hScan : Cert.Scan.Facts) (hScanIdeal : Cert.ScanIdeal.Facts) (hScanRefIdeal : Cert.ScanRefIdeal.Facts) (hProjS : Cert.ProjS.Facts) (hProjSIdeal : Cert.ProjSIdeal.Facts) (hProjSRefIdeal : Cert.ProjSRefIdeal.Facts) (hScanS : Cert.ScanS.Facts) (hScanSIdeal : Cert.ScanSIdeal.Facts) (hScanSRefIdeal : Cert.ScanSRefIdeal.Facts) (hTailS : Cert.TailS.Facts) (hTailSIdeal : Cert.TailSIdeal.Facts) (hTailSRefIdeal : Cert.TailSRefIdeal.Facts) (hPre_scan_real : Cert.Pre_scan_real.Facts),
    quiescent_Tail (hTail := hTail)
    ∧ quiescent_TailIdeal (hTailIdeal := hTailIdeal)
    ∧ quiescent_TailRefIdeal (hTailRefIdeal := hTailRefIdeal)
    ∧ quiescent_Proj (hProj := hProj)
    ∧ quiescent_ProjIdeal (hProjIdeal := hProjIdeal)
    ∧ quiescent_ProjRefIdeal (hProjRefIdeal := hProjRefIdeal)
    ∧ quiescent_Scan (hScan := hScan)
    ∧ quiescent_ScanIdeal (hScanIdeal := hScanIdeal)
    ∧ quiescent_ScanIdeal_pre_scan_real (hScanIdeal := hScanIdeal) (hPre_scan_real := hPre_scan_real)
    ∧ quiescent_ScanRefIdeal (hScanRefIdeal := hScanRefIdeal)
    ∧ quiescent_ScanRefIdeal_pre_scan_real (hScanRefIdeal := hScanRefIdeal) (hPre_scan_real := hPre_scan_real)
    ∧ quiescent_ProjS (hProjS := hProjS)
    ∧ quiescent_ProjSIdeal (hProjSIdeal := hProjSIdeal)
    ∧ quiescent_ProjSRefIdeal (hProjSRefIdeal := hProjSRefIdeal)
    ∧ quiescent_ScanS (hScanS := hScanS)
    ∧ quiescent_ScanSIdeal (hScanSIdeal := hScanSIdeal)
    ∧ quiescent_ScanSRefIdeal (hScanSRefIdeal := hScanSRefIdeal)
    ∧ quiescent_TailS (hTailS := hTailS)
    ∧ quiescent_TailSIdeal (hTailSIdeal := hTailSIdeal)
    ∧ quiescent_TailSRefIdeal (hTailSRefIdeal := hTailSRefIdeal)
    ∧ preserves_Tail_TailIdeal
    ∧ algebraic_TailIdeal_TailRefIdeal (hTailIdeal := hTailIdeal) (hTailRefIdeal := hTailRefIdeal)
    ∧ preserves_Proj_ProjIdeal
    ∧ algebraic_ProjIdeal_ProjRefIdeal (hProjIdeal := hProjIdeal) (hProjRefIdeal := hProjRefIdeal)
    ∧ preserves_Scan_ScanIdeal
    ∧ algebraic_ScanIdeal_ScanRefIdeal_pre_scan_real (hScanIdeal := hScanIdeal) (hScanRefIdeal := hScanRefIdeal) (hPre_scan_real := hPre_scan_real)
    ∧ preserves_ProjS_ProjSIdeal
    ∧ algebraic_ProjSIdeal_ProjSRefIdeal (hProjSIdeal := hProjSIdeal) (hProjSRefIdeal := hProjSRefIdeal)
    ∧ preserves_ScanS_ScanSIdeal
    ∧ algebraic_ScanSIdeal_ScanSRefIdeal (hScanSIdeal := hScanSIdeal) (hScanSRefIdeal := hScanSRefIdeal)
    ∧ preserves_TailS_TailSIdeal
    ∧ algebraic_TailSIdeal_TailSRefIdeal (hTailSIdeal := hTailSIdeal) (hTailSRefIdeal := hTailSRefIdeal)
-- ==== Pre_scan_real.lean ====
abbrev S16x4096x512 : Shape := ⟨3, ![16, 4096, 512]⟩
abbrev S32x64 : Shape := ⟨2, ![32, 64]⟩
abbrev S32x64x16 : Shape := ⟨3, ![32, 64, 16]⟩
abbrev S32x16x64 : Shape := ⟨3, ![32, 16, 64]⟩
abbrev S512 : Shape := ⟨1, ![512]⟩
abbrev S512x2048 : Shape := ⟨2, ![512, 2048]⟩
abbrev S2048 : Shape := ⟨1, ![2048]⟩
abbrev S_ : Shape := ⟨0, ![]⟩

class Facts : Prop where
  bcast_S_S16x4096x512 : S_.BroadcastsInDim S16x4096x512 (![] : Fin 0 → Fin S16x4096x512.rank)
  bcast_S_S32x64 : S_.BroadcastsInDim S32x64 (![] : Fin 0 → Fin S32x64.rank)
  bcast_S_S32x64x16 : S_.BroadcastsInDim S32x64x16 (![] : Fin 0 → Fin S32x64x16.rank)
  bcast_S_S32x16x64 : S_.BroadcastsInDim S32x16x64 (![] : Fin 0 → Fin S32x16x64.rank)

variable [Facts]

def fn {F : FTy → Type} [FloatOps F] (main_arg0 : FVec F S16x4096x512 .f32) (main_arg1 : FVec F S32x64 .f32) (main_arg2 : FVec F S32x64 .f32) (main_arg3 : FVec F S32x64x16 .f32) (main_arg4 : FVec F S32x64x16 .f32) (main_arg5 : FVec F S32x16x64 .f32) (main_arg6 : FVec F S32x16x64 .f32) (main_arg7 : FVec F S512 .f32) (main_arg8 : FVec F S512x2048 .f32) (main_arg9 : FVec F S2048 .f32) : IVec S16x4096x512 1 × IVec S32x64 1 × IVec S32x64 1 × IVec S32x64x16 1 × IVec S32x64x16 1 × IVec S32x16x64 1 :=
  let main_v0 : FVec F S16x4096x512 .f32 := subf main_arg0 main_arg0
  let main_cst : FVec F S_ .f32 := constant S_ .f32 0x00000000#32
  let main_v1 : FVec F S16x4096x512 .f32 := broadcastInDim S16x4096x512 ![] bcast_S_S16x4096x512 main_cst
  let main_v2 : IVec S16x4096x512 1 := cmpf .oeq main_v0 main_v1
  let main_v3 : FVec F S32x64 .f32 := subf main_arg1 main_arg1
  let main_cst_0 : FVec F S_ .f32 := constant S_ .f32 0x00000000#32
  let main_v4 : FVec F S32x64 .f32 := broadcastInDim S32x64 ![] bcast_S_S32x64 main_cst_0
  let main_v5 : IVec S32x64 1 := cmpf .oeq main_v3 main_v4
  let main_v6 : FVec F S32x64 .f32 := subf main_arg2 main_arg2
  let main_cst_1 : FVec F S_ .f32 := constant S_ .f32 0x00000000#32
  let main_v7 : FVec F S32x64 .f32 := broadcastInDim S32x64 ![] bcast_S_S32x64 main_cst_1
  let main_v8 : IVec S32x64 1 := cmpf .oeq main_v6 main_v7
  let main_v9 : FVec F S32x64x16 .f32 := subf main_arg3 main_arg3
  let main_cst_2 : FVec F S_ .f32 := constant S_ .f32 0x00000000#32
  let main_v10 : FVec F S32x64x16 .f32 := broadcastInDim S32x64x16 ![] bcast_S_S32x64x16 main_cst_2
  let main_v11 : IVec S32x64x16 1 := cmpf .oeq main_v9 main_v10
  let main_v12 : FVec F S32x64x16 .f32 := subf main_arg4 main_arg4
  let main_cst_3 : FVec F S_ .f32 := constant S_ .f32 0x00000000#32
  let main_v13 : FVec F S32x64x16 .f32 := broadcastInDim S32x64x16 ![] bcast_S_S32x64x16 main_cst_3
  let main_v14 : IVec S32x64x16 1 := cmpf .oeq main_v12 main_v13
  let main_v15 : FVec F S32x16x64 .f32 := subf main_arg6 main_arg6
  let main_cst_4 : FVec F S_ .f32 := constant S_ .f32 0x00000000#32
  let main_v16 : FVec F S32x16x64 .f32 := broadcastInDim S32x16x64 ![] bcast_S_S32x16x64 main_cst_4
  let main_v17 : IVec S32x16x64 1 := cmpf .oeq main_v15 main_v16
  (main_v2, main_v5, main_v8, main_v11, main_v14, main_v17)
-- ==== Tail.lean ====
abbrev S65536x1024 : Shape := ⟨2, ![65536, 1024]⟩
abbrev S65536x512 : Shape := ⟨2, ![65536, 512]⟩
abbrev S512x1024 : Shape := ⟨2, ![512, 1024]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S1x1024 : Shape := ⟨2, ![1, 1024]⟩
abbrev S256x1024 : Shape := ⟨2, ![256, 1024]⟩
abbrev S256x512 : Shape := ⟨2, ![256, 512]⟩
abbrev S256 : Shape := ⟨1, ![256]⟩
abbrev S256x1 : Shape := ⟨2, ![256, 1]⟩
abbrev S256x4096 : Shape := ⟨2, ![256, 4096]⟩

abbrev nBuf : Space → Nat
  | .hbm => 18
  | .vmem => 18
  | .smem => 0
  | _ => 0

abbrev bufTy : (tb : Table) → Fin (tcTables nBuf tb) → BufTy
  | .hbm, ⟨0, _⟩ => ⟨S65536x1024, .f32⟩
  | .hbm, ⟨1, _⟩ => ⟨S65536x512, .bf16⟩
  | .hbm, ⟨2, _⟩ => ⟨S65536x1024, .f32⟩
  | .hbm, ⟨3, _⟩ => ⟨S65536x1024, .f32⟩
  | .hbm, ⟨4, _⟩ => ⟨S65536x1024, .f32⟩
  | .hbm, ⟨5, _⟩ => ⟨S512x1024, .f32⟩
  | .hbm, ⟨6, _⟩ => ⟨S1024x1024, .f32⟩
  | .hbm, ⟨7, _⟩ => ⟨S1024, .f32⟩
  | .hbm, ⟨8, _⟩ => ⟨S1024x4096, .f32⟩
  | .hbm, ⟨9, _⟩ => ⟨S4096x1024, .f32⟩
  | .hbm, ⟨10, _⟩ => ⟨S1024, .f32⟩
  | .hbm, ⟨11, _⟩ => ⟨S512x1024, .bf16⟩
  | .hbm, ⟨12, _⟩ => ⟨S1024x1024, .bf16⟩
  | .hbm, ⟨13, _⟩ => ⟨S1024x4096, .bf16⟩
  | .hbm, ⟨14, _⟩ => ⟨S4096x1024, .bf16⟩
  | .hbm, ⟨15, _⟩ => ⟨S1x1024, .f32⟩
  | .hbm, ⟨16, _⟩ => ⟨S1x1024, .f32⟩
  | .hbm, ⟨17, _⟩ => ⟨S65536x1024, .f32⟩
  | .local _ .vmem, ⟨0, _⟩ => ⟨S256x1024, .f32⟩
  | .local _ .vmem, ⟨1, _⟩ => ⟨S256x1024, .f32⟩
  | .local _ .vmem, ⟨2, _⟩ => ⟨S256x512, .bf16⟩
  | .local _ .vmem, ⟨3, _⟩ => ⟨S256x512, .bf16⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S512x1024, .bf16⟩
  | .local _ .vmem, ⟨11, _⟩ => ⟨S1024x1024, .bf16⟩
  | .local _ .vmem, ⟨12, _⟩ => ⟨S1x1024, .f32⟩
  | .local _ .vmem, ⟨13, _⟩ => ⟨S1024x4096, .bf16⟩
  | .local _ .vmem, ⟨14, _⟩ => ⟨S4096x1024, .bf16⟩
  | .local _ .vmem, ⟨15, _⟩ => ⟨S1x1024, .f32⟩
  | .local _ .vmem, ⟨16, _⟩ => ⟨S256x1024, .f32⟩
  | .local _ .vmem, ⟨17, _⟩ => ⟨S256x1024, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg11_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem11_1 : DmaSem sig := 17

abbrev nD : Nat := 1
abbrev τ : Topo := Topo.v7x

variable {F : FTy → Type} [FloatOps F]

abbrev grid0 : Pipeline.Grid := ⟨1, ![256], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x4096 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S4096x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== TailRefIdeal.lean ====
abbrev S65536x1024 : Shape := ⟨2, ![65536, 1024]⟩
abbrev S65536x512 : Shape := ⟨2, ![65536, 512]⟩
abbrev S512x1024 : Shape := ⟨2, ![512, 1024]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩
abbrev S65536 : Shape := ⟨1, ![65536]⟩
abbrev S65536x1 : Shape := ⟨2, ![65536, 1]⟩
abbrev S1x1024 : Shape := ⟨2, ![1, 1024]⟩
abbrev S65536x4096 : Shape := ⟨2, ![65536, 4096]⟩

abbrev nBuf : Space → Nat
  | .hbm => 57
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S65536x512, .bf16⟩
  | .hbm, ⟨2, _⟩ => ⟨S65536x1024, .f32⟩
  | .hbm, ⟨3, _⟩ => ⟨S65536x1024, .f32⟩
  | .hbm, ⟨4, _⟩ => ⟨S65536x1024, .f32⟩
  | .hbm, ⟨5, _⟩ => ⟨S512x1024, .f32⟩
  | .hbm, ⟨6, _⟩ => ⟨S1024x1024, .f32⟩
  | .hbm, ⟨7, _⟩ => ⟨S1024, .f32⟩
  | .hbm, ⟨8, _⟩ => ⟨S1024x4096, .f32⟩
  | .hbm, ⟨9, _⟩ => ⟨S4096x1024, .f32⟩
  | .hbm, ⟨10, _⟩ => ⟨S1024, .f32⟩
  | .hbm, ⟨11, _⟩ => ⟨S65536x512, .f32⟩
  | .hbm, ⟨12, _⟩ => ⟨S65536x1024, .f32⟩
  | .hbm, ⟨13, _⟩ => ⟨S65536x1024, .f32⟩
  | .hbm, ⟨14, _⟩ => ⟨S65536x1024, .f32⟩
  | .hbm, ⟨15, _⟩ => ⟨S65536x1024, .f32⟩
  | .hbm, ⟨16, _⟩ => ⟨S65536x1024, .f32⟩
  | .hbm, ⟨17, _⟩ => ⟨S65536x1024, .f32⟩
  | .hbm, ⟨18, _⟩ => ⟨S65536x1024, .f32⟩
  | .hbm, ⟨19, _⟩ => ⟨S_, .f32⟩
  | .hbm, ⟨20, _⟩ => ⟨S65536, .f32⟩
  | .hbm, ⟨21, _⟩ => ⟨S65536x1, .f32⟩
  | .hbm, ⟨22, _⟩ => ⟨S_, .f32⟩
  | .hbm, ⟨23, _⟩ => ⟨S65536x1, .f32⟩
  | .hbm, ⟨24, _⟩ => ⟨S65536x1, .f32⟩
  | .hbm, ⟨25, _⟩ => ⟨S_, .f32⟩
  | .hbm, ⟨26, _⟩ => ⟨S65536x1, .f32⟩
  | .hbm, ⟨27, _⟩ => ⟨S65536x1, .f32⟩
  | .hbm, ⟨28, _⟩ => ⟨S65536x1, .f32⟩
  | .hbm, ⟨29, _⟩ => ⟨S65536x1024, .f32⟩
  | .hbm, ⟨30, _⟩ => ⟨S65536x1024, .f32⟩
  | .hbm, ⟨31, _⟩ => ⟨S1x1024, .f32⟩
  | .hbm, ⟨32, _⟩ => ⟨S65536x1024, .f32⟩
  | .hbm, ⟨33, _⟩ => ⟨S65536x1024, .f32⟩
  | .hbm, ⟨34, _⟩ => ⟨S65536x4096, .f32⟩
  | .hbm, ⟨35, _⟩ => ⟨S_, .f32⟩
  | .hbm, ⟨36, _⟩ => ⟨S65536x4096, .f32⟩
  | .hbm, ⟨37, _⟩ => ⟨S65536x4096, .f32⟩
  | .hbm, ⟨38, _⟩ => ⟨S65536x4096, .f32⟩
  | .hbm, ⟨39, _⟩ => ⟨S65536x1024, .f32⟩
  | .hbm, ⟨40, _⟩ => ⟨S65536x1024, .f32⟩
  | .hbm, ⟨41, _⟩ => ⟨S65536x1024, .f32⟩
  | .hbm, ⟨42, _⟩ => ⟨S_, .f32⟩
  | .hbm, ⟨43, _⟩ => ⟨S65536, .f32⟩
  | .hbm, ⟨44, _⟩ => ⟨S65536x1, .f32⟩
  | .hbm, ⟨45, _⟩ => ⟨S_, .f32⟩
  | .hbm, ⟨46, _⟩ => ⟨S65536x1, .f32⟩
  | .hbm, ⟨47, _⟩ => ⟨S65536x1, .f32⟩
  | .hbm, ⟨48, _⟩ => ⟨S_, .f32⟩
  | .hbm, ⟨49, _⟩ => ⟨S65536x1, .f32⟩
  | .hbm, ⟨50, _⟩ => ⟨S65536x1, .f32⟩
  | .hbm, ⟨51, _⟩ => ⟨S65536x1, .f32⟩
  | .hbm, ⟨52, _⟩ => ⟨S65536x1024, .f32⟩
  | .hbm, ⟨53, _⟩ => ⟨S65536x1024, .f32⟩
  | .hbm, ⟨54, _⟩ => ⟨S1x1024, .f32⟩
  | .hbm, ⟨55, _⟩ => ⟨S65536x1024, .f32⟩
  | .hbm, ⟨56, _⟩ => ⟨S65536x1024, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst : Ref sig .tc := ⟨.hbm, 19, rfl⟩
abbrev main_v8 : Ref sig .tc := ⟨.hbm, 20, rfl⟩
abbrev main_v9 : Ref sig .tc := ⟨.hbm, 21, rfl⟩
abbrev main_cst_0 : Ref sig .tc := ⟨.hbm, 22, rfl⟩
abbrev main_v10 : Ref sig .tc := ⟨.hbm, 23, rfl⟩
abbrev main_v11 : Ref sig .tc := ⟨.hbm, 24, rfl⟩
abbrev main_cst_1 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_call0_cst : Ref sig .tc := ⟨.hbm, 35, rfl⟩
abbrev main_call0_v0 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_2 : Ref sig .tc := ⟨.hbm, 42, rfl⟩
abbrev main_v26 : Ref sig .tc := ⟨.hbm, 43, rfl⟩
abbrev main_v27 : Ref sig .tc := ⟨.hbm, 44, rfl⟩
abbrev main_cst_3 : Ref sig .tc := ⟨.hbm, 45, rfl⟩
abbrev main_v28 : Ref sig .tc := ⟨.hbm, 46, rfl⟩
abbrev main_v29 : Ref sig .tc := ⟨.hbm, 47, rfl⟩
abbrev main_cst_4 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩

abbrev nD : Nat := 1
abbrev τ : Topo := Topo.v7x

variable {F : FTy → Type} [FloatOps F]
-- ==== Proj.lean ====
abbrev S16x4096x1024 : Shape := ⟨3, ![16, 4096, 1024]⟩
abbrev S1024 : Shape := ⟨1, ![1024]⟩
abbrev S1024x3912 : Shape := ⟨2, ![1024, 3912]⟩
abbrev S65536x1024 : Shape := ⟨2, ![65536, 1024]⟩
abbrev S4096 : Shape := ⟨1, ![4096]⟩
abbrev S8 : Shape := ⟨1, ![8]⟩
abbrev S_ : Shape := ⟨0, ![]⟩
abbrev S4096x1 : Shape := ⟨2, ![4096, 1]⟩
abbrev S1x8 : Shape := ⟨2, ![1, 8]⟩
abbrev S4096x8 : Shape := ⟨2, ![4096, 8]⟩
abbrev S4096x48 : Shape := ⟨2, ![4096, 48]⟩
abbrev S4096x64 : Shape := ⟨2, ![4096, 64]⟩
abbrev S1x4096x1x64 : Shape := ⟨4, ![1, 4096, 1, 64]⟩
abbrev S1x4096x2x64 : Shape := ⟨4, ![1, 4096, 2, 64]⟩
abbrev S4096x128 : Shape := ⟨2, ![4096, 128]⟩
abbrev S1024x1864 : Shape := ⟨2, ![1024, 1864]⟩
abbrev S1024x56 : Shape := ⟨2, ![1024, 56]⟩
abbrev S1024x2048 : Shape := ⟨2, ![1024, 2048]⟩
abbrev S1024x3968 : Shape := ⟨2, ![1024, 3968]⟩
abbrev S1x1024 : Shape := ⟨2, ![1, 1024]⟩
abbrev S65536x512 : Shape := ⟨2, ![65536, 512]⟩
abbrev S65536x128 : Shape := ⟨2, ![65536, 128]⟩
abbrev S65536x64 : Shape := ⟨2, ![65536, 64]⟩
abbrev S65536x8 : Shape := ⟨2, ![65536, 8]⟩
abbrev S256x1024 : Shape := ⟨2, ![256, 1024]⟩
abbrev S256x128 : Shape := ⟨2, ![256, 128]⟩
abbrev S256x512 : Shape := ⟨2, ![256, 512]⟩
abbrev S256x64 : Shape := ⟨2, ![256, 64]⟩
abbrev S256x8 : Shape := ⟨2, ![256, 8]⟩
abbrev S256 : Shape := ⟨1, ![256]⟩
abbrev S256x1 : Shape := ⟨2, ![256, 1]⟩
abbrev S1024x512 : Shape := ⟨2, ![1024, 512]⟩
abbrev S1024x128 : Shape := ⟨2, ![1024, 128]⟩
abbrev S1024x1024 : Shape := ⟨2, ![1024, 1024]⟩

abbrev nBuf : Space → Nat
  | .hbm => 59
  | .vmem => 34
  | .smem => 0
  | _ => 0

abbrev bufTy : (tb : Table) → Fin (tcTables nBuf tb) → BufTy
  | .hbm, ⟨0, _⟩ => ⟨S16x4096x1024, .f32⟩
  | .hbm, ⟨1, _⟩ => ⟨S1024, .f32⟩
  | .hbm, ⟨2, _⟩ => ⟨S1024x3912, .f32⟩
  | .hbm, ⟨3, _⟩ => ⟨S65536x1024, .f32⟩
  | .hbm, ⟨4, _⟩ => ⟨S4096, .i32⟩
  | .hbm, ⟨5, _⟩ => ⟨S8, .f32⟩
  | .hbm, ⟨6, _⟩ => ⟨S8, .f32⟩
  | .hbm, ⟨7, _⟩ => ⟨S_, .f32⟩
  | .hbm, ⟨8, _⟩ => ⟨S8, .f32⟩
  | .hbm, ⟨9, _⟩ => ⟨S8, .f32⟩
  | .hbm, ⟨10, _⟩ => ⟨S_, .f32⟩
  | .hbm, ⟨11, _⟩ => ⟨S8, .f32⟩
  | .hbm, ⟨12, _⟩ => ⟨S8, .f32⟩
  | .hbm, ⟨13, _⟩ => ⟨S4096, .f32⟩
  | .hbm, ⟨14, _⟩ => ⟨S4096x1, .f32⟩
  | .hbm, ⟨15, _⟩ => ⟨S1x8, .f32⟩
  | .hbm, ⟨16, _⟩ => ⟨S4096x8, .f32⟩
  | .hbm, ⟨17, _⟩ => ⟨S4096x8, .f32⟩
  | .hbm, ⟨18, _⟩ => ⟨S4096x8, .f32⟩
  | .hbm, ⟨19, _⟩ => ⟨S4096x8, .f32⟩
  | .hbm, ⟨20, _⟩ => ⟨S4096x8, .f32⟩
  | .hbm, ⟨21, _⟩ => ⟨S_, .f32⟩
  | .hbm, ⟨22, _⟩ => ⟨S4096x48, .f32⟩
  | .hbm, ⟨23, _⟩ => ⟨S_, .f32⟩
  | .hbm, ⟨24, _⟩ => ⟨S4096x48, .f32⟩
  | .hbm, ⟨25, _⟩ => ⟨S_, .f32⟩
  | .hbm, ⟨26, _⟩ => ⟨S4096x8, .f32⟩
  | .hbm, ⟨27, _⟩ => ⟨S4096x64, .f32⟩
  | .hbm, ⟨28, _⟩ => ⟨S4096x8, .f32⟩
  | .hbm, ⟨29, _⟩ => ⟨S4096x64, .f32⟩
  | .hbm, ⟨30, _⟩ => ⟨S4096x64, .f32⟩
  | .hbm, ⟨31, _⟩ => ⟨S1x4096x1x64, .f32⟩
  | .hbm, ⟨32, _⟩ => ⟨S1x4096x2x64, .f32⟩
  | .hbm, ⟨33, _⟩ => ⟨S4096x128, .f32⟩
  | .hbm, ⟨34, _⟩ => ⟨S1x4096x1x64, .f32⟩
  | .hbm, ⟨35, _⟩ => ⟨S1x4096x2x64, .f32⟩
  | .hbm, ⟨36, _⟩ => ⟨S4096x128, .f32⟩
  | .hbm, ⟨37, _⟩ => ⟨S1x4096x1x64, .f32⟩
  | .hbm, ⟨38, _⟩ => ⟨S1x4096x2x64, .f32⟩
  | .hbm, ⟨39, _⟩ => ⟨S4096x128, .f32⟩
  | .hbm, ⟨40, _⟩ => ⟨S1024x1864, .f32⟩
  | .hbm, ⟨41, _⟩ => ⟨S_, .f32⟩
  | .hbm, ⟨42, _⟩ => ⟨S1024x56, .f32⟩
  | .hbm, ⟨43, _⟩ => ⟨S1024x2048, .f32⟩
  | .hbm, ⟨44, _⟩ => ⟨S1024x3968, .f32⟩
  | .hbm, ⟨45, _⟩ => ⟨S1024x3968, .bf16⟩
  | .hbm, ⟨46, _⟩ => ⟨S1x1024, .f32⟩
  | .hbm, ⟨47, _⟩ => ⟨S65536x512, .f32⟩
  | .hbm, ⟨48, _⟩ => ⟨S65536x512, .bf16⟩
  | .hbm, ⟨49, _⟩ => ⟨S65536x128, .f32⟩
  | .hbm, ⟨50, _⟩ => ⟨S65536x128, .bf16⟩
  | .hbm, ⟨51, _⟩ => ⟨S65536x128, .f32⟩
  | .hbm, ⟨52, _⟩ => ⟨S65536x128, .bf16⟩
  | .hbm, ⟨53, _⟩ => ⟨S65536x512, .bf16⟩
  | .hbm, ⟨54, _⟩ => ⟨S65536x64, .f32⟩
  | .hbm, ⟨55, _⟩ => ⟨S65536x64, .bf16⟩
  | .hbm, ⟨56, _⟩ => ⟨S65536x8, .f32⟩
  | .hbm, ⟨57, _⟩ => ⟨S65536x1024, .f32⟩
  | .hbm, ⟨58, _⟩ => ⟨S65536x1024, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x3968, .bf16⟩
  | .local _ .vmem, ⟨4, _⟩ => ⟨S256x128, .f32⟩
  | .local _ .vmem, ⟨5, _⟩ => ⟨S256x128, .f32⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S256x512, .f32⟩
  | .local _ .vmem, ⟨11, _⟩ => ⟨S256x512, .f32⟩
  | .local _ .vmem, ⟨12, _⟩ => ⟨S256x512, .bf16⟩
  | .local _ .vmem, ⟨13, _⟩ => ⟨S256x512, .bf16⟩
  | .local _ .vmem, ⟨14, _⟩ => ⟨S256x128, .f32⟩
  | .local _ .vmem, ⟨15, _⟩ => ⟨S256x128, .f32⟩
  | .local _ .vmem, ⟨16, _⟩ => ⟨S256x128, .bf16⟩
  | .local _ .vmem, ⟨17, _⟩ => ⟨S256x128, .bf16⟩
  | .local _ .vmem, ⟨18, _⟩ => ⟨S256x128, .f32⟩
  | .local _ .vmem, ⟨19, _⟩ => ⟨S256x128, .f32⟩
  | .local _ .vmem, ⟨20, _⟩ => ⟨S256x128, .bf16⟩
  | .local _ .vmem, ⟨21, _⟩ => ⟨S256x128, .bf16⟩
  | .local _ .vmem, ⟨22, _⟩ => ⟨S256x512, .bf16⟩
  | .local _ .vmem, ⟨23, _⟩ => ⟨S256x512, .bf16⟩
  | .local _ .vmem, ⟨24, _⟩ => ⟨S256x64, .f32⟩
  | .local _ .vmem, ⟨25, _⟩ => ⟨S256x64, .f32⟩
  | .local _ .vmem, ⟨26, _⟩ => ⟨S256x64, .bf16⟩
  | .local _ .vmem, ⟨27, _⟩ => ⟨S256x64, .bf16⟩
  | .local _ .vmem, ⟨28, _⟩ => ⟨S256x8, .f32⟩
  | .local _ .vmem, ⟨29, _⟩ => ⟨S256x8, .f32⟩
  | .local _ .vmem, ⟨30, _⟩ => ⟨S256x1024, .f32⟩
  | .local _ .vmem, ⟨31, _⟩ => ⟨S256x1024, .f32⟩
  | .local _ .vmem, ⟨32, _⟩ => ⟨S256x1024, .f32⟩
  | .local _ .vmem, ⟨33, _⟩ => ⟨S256x1024, .f32⟩
  | _, _ => ⟨S16x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_1 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_cst_4 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38_0 : Ref sig .tc := ⟨.hbm, 47, rfl⟩
abbrev main_v38_1 : Ref sig .tc := ⟨.hbm, 48, rfl⟩
abbrev main_v38_2 : Ref sig .tc := ⟨.hbm, 49, rfl⟩
abbrev main_v38_3 : Ref sig .tc := ⟨.hbm, 50, rfl⟩
abbrev main_v38_4 : Ref sig .tc := ⟨.hbm, 51, rfl⟩
abbrev main_v38_5 : Ref sig .tc := ⟨.hbm, 52, rfl⟩
abbrev main_v38_6 : Ref sig .tc := ⟨.hbm, 53, rfl⟩
abbrev main_v38_7 : Ref sig .tc := ⟨.hbm, 54, rfl⟩
abbrev main_v38_8 : Ref sig .tc := ⟨.hbm, 55, rfl⟩
abbrev main_v38_9 : Ref sig .tc := ⟨.hbm, 56, rfl⟩
abbrev main_v38_10 : Ref sig .tc := ⟨.hbm, 57, rfl⟩
abbrev main_v38_11 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_stg14_1 : Ref sig .tc := ⟨.vmem, 27, rfl⟩
abbrev cc0_stg15_0 : Ref sig .tc := ⟨.vmem, 28, rfl⟩
abbrev cc0_stg15_1 : Ref sig .tc := ⟨.vmem, 29, rfl⟩
abbrev cc0_stg16_0 : Ref sig .tc := ⟨.vmem, 30, rfl⟩
abbrev cc0_stg16_1 : Ref sig .tc := ⟨.vmem, 31, rfl⟩
abbrev cc0_stg17_0 : Ref sig .tc := ⟨.vmem, 32, rfl⟩
abbrev cc0_stg17_1 : Ref sig .tc := ⟨.vmem, 33, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25
abbrev cc0_sem14_0 : DmaSem sig := 26
abbrev cc0_sem14_1 : DmaSem sig := 27
abbrev cc0_sem15_0 : DmaSem sig := 28
abbrev cc0_sem15_1 : DmaSem sig := 29
abbrev cc0_sem16_0 : DmaSem sig := 30
abbrev cc0_sem16_1 : DmaSem sig := 31
abbrev cc0_sem17_0 : DmaSem sig := 32
abbrev cc0_sem17_1 : DmaSem sig := 33

abbrev nD : Nat := 1
abbrev τ : Topo := Topo.v7x

variable {F : FTy → Type} [FloatOps F]

abbrev grid0 : Pipeline.Grid := ⟨1, ![256], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3968 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x64 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x64 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x8 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]
-- ==== ProjRefIdeal.lean ====
abbrev S16x4096x1024 : Shape := ⟨3, ![16, 4096, 1024]⟩
abbrev S1024 : Shape := ⟨1, ![1024]⟩
abbrev S1024x3912 : Shape := ⟨2, ![1024, 3912]⟩
abbrev S4096 : Shape := ⟨1, ![4096]⟩
abbrev S_ : Shape := ⟨0, ![]⟩
abbrev S16x4096 : Shape := ⟨2, ![16, 4096]⟩
abbrev S16x4096x1 : Shape := ⟨3, ![16, 4096, 1]⟩
abbrev S1x1x1024 : Shape := ⟨3, ![1, 1, 1024]⟩
abbrev S16x4096x3912 : Shape := ⟨3, ![16, 4096, 3912]⟩
abbrev S16x4096x512 : Shape := ⟨3, ![16, 4096, 512]⟩
abbrev S16x4096x128 : Shape := ⟨3, ![16, 4096, 128]⟩
abbrev S16x4096x64 : Shape := ⟨3, ![16, 4096, 64]⟩
abbrev S16x4096x8 : Shape := ⟨3, ![16, 4096, 8]⟩
abbrev S8 : Shape := ⟨1, ![8]⟩
abbrev S4096x1 : Shape := ⟨2, ![4096, 1]⟩
abbrev S1x8 : Shape := ⟨2, ![1, 8]⟩
abbrev S4096x8 : Shape := ⟨2, ![4096, 8]⟩
abbrev S4096x1x8 : Shape := ⟨3, ![4096, 1, 8]⟩
abbrev S16x4096x8x64 : Shape := ⟨4, ![16, 4096, 8, 64]⟩
abbrev S16x4096x8x16 : Shape := ⟨4, ![16, 4096, 8, 16]⟩
abbrev S16x4096x8x8 : Shape := ⟨4, ![16, 4096, 8, 8]⟩
abbrev S1x4096x1x8 : Shape := ⟨4, ![1, 4096, 1, 8]⟩
abbrev S16x4096x8x48 : Shape := ⟨4, ![16, 4096, 8, 48]⟩
abbrev S16x4096x2x64 : Shape := ⟨4, ![16, 4096, 2, 64]⟩
abbrev S16x4096x2x16 : Shape := ⟨4, ![16, 4096, 2, 16]⟩
abbrev S16x4096x2x8 : Shape := ⟨4, ![16, 4096, 2, 8]⟩
abbrev S16x4096x2x48 : Shape := ⟨4, ![16, 4096, 2, 48]⟩
abbrev S16x4096x1x64 : Shape := ⟨4, ![16, 4096, 1, 64]⟩
abbrev S16x4096x1x16 : Shape := ⟨4, ![16, 4096, 1, 16]⟩
abbrev S16x4096x1x8 : Shape := ⟨4, ![16, 4096, 1, 8]⟩
abbrev S16x4096x1x48 : Shape := ⟨4, ![16, 4096, 1, 48]⟩
abbrev S65536x128 : Shape := ⟨2, ![65536, 128]⟩
abbrev S65536x64 : Shape := ⟨2, ![65536, 64]⟩
abbrev S65536x512 : Shape := ⟨2, ![65536, 512]⟩
abbrev S65536x8 : Shape := ⟨2, ![65536, 8]⟩
abbrev S65536x1024 : Shape := ⟨2, ![65536, 1024]⟩

abbrev nBuf : Space → Nat
  | .hbm => 168
  | .vmem => 0
  | .smem => 0
  | _ => 0

abbrev hbmTy0_0 (i : Nat) : BufTy := match i % 128 with
  | 0 => ⟨S16x4096x1024, .f32⟩
  | 1 => ⟨S1024, .f32⟩
  | 2 => ⟨S1024x3912, .f32⟩
  | 3 => ⟨S4096, .i32⟩
  | 4 => ⟨S16x4096x1024, .f32⟩
  | 5 => ⟨S_, .f32⟩
  | 6 => ⟨S16x4096, .f32⟩
  | 7 => ⟨S16x4096x1, .f32⟩
  | 8 => ⟨S_, .f32⟩
  | 9 => ⟨S16x4096x1, .f32⟩
  | 10 => ⟨S16x4096x1, .f32⟩
  | 11 => ⟨S_, .f32⟩
  | 12 => ⟨S16x4096x1, .f32⟩
  | 13 => ⟨S16x4096x1, .f32⟩
  | 14 => ⟨S16x4096x1, .f32⟩
  | 15 => ⟨S16x4096x1024, .f32⟩
  | 16 => ⟨S16x4096x1024, .f32⟩
  | 17 => ⟨S1x1x1024, .f32⟩
  | 18 => ⟨S16x4096x1024, .f32⟩
  | 19 => ⟨S16x4096x1024, .f32⟩
  | 20 => ⟨S16x4096x3912, .f32⟩
  | 21 => ⟨S16x4096x512, .f32⟩
  | 22 => ⟨S16x4096x512, .f32⟩
  | 23 => ⟨S16x4096x128, .f32⟩
  | 24 => ⟨S16x4096x128, .f32⟩
  | 25 => ⟨S16x4096x512, .f32⟩
  | 26 => ⟨S16x4096x64, .f32⟩
  | 27 => ⟨S16x4096x8, .f32⟩
  | 28 => ⟨S16x4096x1024, .f32⟩
  | 29 => ⟨S16x4096x1024, .f32⟩
  | 30 => ⟨S8, .f32⟩
  | 31 => ⟨S8, .f32⟩
  | 32 => ⟨S_, .f32⟩
  | 33 => ⟨S8, .f32⟩
  | 34 => ⟨S8, .f32⟩
  | 35 => ⟨S_, .f32⟩
  | 36 => ⟨S8, .f32⟩
  | 37 => ⟨S8, .f32⟩
  | 38 => ⟨S4096, .f32⟩
  | 39 => ⟨S4096x1, .f32⟩
  | 40 => ⟨S1x8, .f32⟩
  | 41 => ⟨S4096x8, .f32⟩
  | 42 => ⟨S4096x8, .f32⟩
  | 43 => ⟨S4096x8, .f32⟩
  | 44 => ⟨S4096x8, .f32⟩
  | 45 => ⟨S4096x1x8, .f32⟩
  | 46 => ⟨S4096x8, .f32⟩
  | 47 => ⟨S4096x1x8, .f32⟩
  | 48 => ⟨S16x4096x8x64, .f32⟩
  | 49 => ⟨S16x4096x8x16, .f32⟩
  | 50 => ⟨S16x4096x8x8, .f32⟩
  | 51 => ⟨S16x4096x8x8, .f32⟩
  | 52 => ⟨S1x4096x1x8, .f32⟩
  | 53 => ⟨S16x4096x8x8, .f32⟩
  | 54 => ⟨S16x4096x8x8, .f32⟩
  | 55 => ⟨S1x4096x1x8, .f32⟩
  | 56 => ⟨S16x4096x8x8, .f32⟩
  | 57 => ⟨S16x4096x8x8, .f32⟩
  | 58 => ⟨S16x4096x8x8, .f32⟩
  | 59 => ⟨S1x4096x1x8, .f32⟩
  | 60 => ⟨S16x4096x8x8, .f32⟩
  | 61 => ⟨S16x4096x8x8, .f32⟩
  | 62 => ⟨S1x4096x1x8, .f32⟩
  | 63 => ⟨S16x4096x8x8, .f32⟩
  | 64 => ⟨S16x4096x8x8, .f32⟩
  | 65 => ⟨S16x4096x8x8, .f32⟩
  | 66 => ⟨S16x4096x8x16, .f32⟩
  | 67 => ⟨S16x4096x8x48, .f32⟩
  | 68 => ⟨S16x4096x8x64, .f32⟩
  | 69 => ⟨S_, .f32⟩
  | 70 => ⟨S16x4096x8x64, .f32⟩
  | 71 => ⟨S16x4096x8x64, .f32⟩
  | 72 => ⟨S16x4096x2x64, .f32⟩
  | 73 => ⟨S16x4096x2x16, .f32⟩
  | 74 => ⟨S16x4096x2x8, .f32⟩
  | 75 => ⟨S16x4096x2x8, .f32⟩
  | 76 => ⟨S1x4096x1x8, .f32⟩
  | 77 => ⟨S16x4096x2x8, .f32⟩
  | 78 => ⟨S16x4096x2x8, .f32⟩
  | 79 => ⟨S1x4096x1x8, .f32⟩
  | 80 => ⟨S16x4096x2x8, .f32⟩
  | 81 => ⟨S16x4096x2x8, .f32⟩
  | 82 => ⟨S16x4096x2x8, .f32⟩
  | 83 => ⟨S1x4096x1x8, .f32⟩
  | 84 => ⟨S16x4096x2x8, .f32⟩
  | 85 => ⟨S16x4096x2x8, .f32⟩
  | 86 => ⟨S1x4096x1x8, .f32⟩
  | 87 => ⟨S16x4096x2x8, .f32⟩
  | 88 => ⟨S16x4096x2x8, .f32⟩
  | 89 => ⟨S16x4096x2x8, .f32⟩
  | 90 => ⟨S16x4096x2x16, .f32⟩
  | 91 => ⟨S16x4096x2x48, .f32⟩
  | 92 => ⟨S16x4096x2x64, .f32⟩
  | 93 => ⟨S16x4096x8x64, .f32⟩
  | 94 => ⟨S16x4096x8x16, .f32⟩
  | 95 => ⟨S16x4096x8x8, .f32⟩
  | 96 => ⟨S16x4096x8x8, .f32⟩
  | 97 => ⟨S1x4096x1x8, .f32⟩
  | 98 => ⟨S16x4096x8x8, .f32⟩
  | 99 => ⟨S16x4096x8x8, .f32⟩
  | 100 => ⟨S1x4096x1x8, .f32⟩
  | 101 => ⟨S16x4096x8x8, .f32⟩
  | 102 => ⟨S16x4096x8x8, .f32⟩
  | 103 => ⟨S16x4096x8x8, .f32⟩
  | 104 => ⟨S1x4096x1x8, .f32⟩
  | 105 => ⟨S16x4096x8x8, .f32⟩
  | 106 => ⟨S16x4096x8x8, .f32⟩
  | 107 => ⟨S1x4096x1x8, .f32⟩
  | 108 => ⟨S16x4096x8x8, .f32⟩
  | 109 => ⟨S16x4096x8x8, .f32⟩
  | 110 => ⟨S16x4096x8x8, .f32⟩
  | 111 => ⟨S16x4096x8x16, .f32⟩
  | 112 => ⟨S16x4096x8x48, .f32⟩
  | 113 => ⟨S16x4096x8x64, .f32⟩
  | 114 => ⟨S16x4096x1x64, .f32⟩
  | 115 => ⟨S16x4096x1x16, .f32⟩
  | 116 => ⟨S16x4096x1x8, .f32⟩
  | 117 => ⟨S16x4096x1x8, .f32⟩
  | 118 => ⟨S1x4096x1x8, .f32⟩
  | 119 => ⟨S16x4096x1x8, .f32⟩
  | 120 => ⟨S16x4096x1x8, .f32⟩
  | 121 => ⟨S1x4096x1x8, .f32⟩
  | 122 => ⟨S16x4096x1x8, .f32⟩
  | 123 => ⟨S16x4096x1x8, .f32⟩
  | 124 => ⟨S16x4096x1x8, .f32⟩
  | 125 => ⟨S1x4096x1x8, .f32⟩
  | 126 => ⟨S16x4096x1x8, .f32⟩
  | 127 => ⟨S16x4096x1x8, .f32⟩
  | _ => ⟨S16x4096x1024, .f32⟩

abbrev hbmTy0_1 (i : Nat) : BufTy := match i % 128 with
  | 0 => ⟨S1x4096x1x8, .f32⟩
  | 1 => ⟨S16x4096x1x8, .f32⟩
  | 2 => ⟨S16x4096x1x8, .f32⟩
  | 3 => ⟨S16x4096x1x8, .f32⟩
  | 4 => ⟨S16x4096x1x16, .f32⟩
  | 5 => ⟨S16x4096x1x48, .f32⟩
  | 6 => ⟨S16x4096x1x64, .f32⟩
  | 7 => ⟨S_, .f32⟩
  | 8 => ⟨S16x4096x8, .f32⟩
  | 9 => ⟨S16x4096x8, .f32⟩
  | 10 => ⟨S65536x128, .f32⟩
  | 11 => ⟨S65536x128, .f32⟩
  | 12 => ⟨S65536x64, .f32⟩
  | 13 => ⟨S65536x512, .f32⟩
  | 14 => ⟨S65536x512, .f32⟩
  | 15 => ⟨S65536x512, .bf16⟩
  | 16 => ⟨S65536x128, .bf16⟩
  | 17 => ⟨S65536x128, .bf16⟩
  | 18 => ⟨S65536x512, .f32⟩
  | 19 => ⟨S65536x512, .bf16⟩
  | 20 => ⟨S65536x64, .bf16⟩
  | 21 => ⟨S65536x8, .f32⟩
  | 22 => ⟨S16x4096x1024, .f32⟩
  | 23 => ⟨S16x4096x1024, .f32⟩
  | 24 => ⟨S_, .f32⟩
  | 25 => ⟨S16x4096x1024, .f32⟩
  | 26 => ⟨S16x4096x1024, .f32⟩
  | 27 => ⟨S_, .f32⟩
  | 28 => ⟨S16x4096x1024, .f32⟩
  | 29 => ⟨S16x4096x1024, .f32⟩
  | 30 => ⟨S65536x1024, .f32⟩
  | 31 => ⟨S16x4096x1024, .f32⟩
  | 32 => ⟨S16x4096x1024, .f32⟩
  | 33 => ⟨S_, .f32⟩
  | 34 => ⟨S16x4096x1024, .f32⟩
  | 35 => ⟨S16x4096x1024, .f32⟩
  | 36 => ⟨S_, .f32⟩
  | 37 => ⟨S16x4096x1024, .f32⟩
  | 38 => ⟨S16x4096x1024, .f32⟩
  | 39 => ⟨S65536x1024, .f32⟩
  | _ => ⟨S16x4096x1024, .f32⟩

abbrev hbmTy (i : Nat) : BufTy := match i / 128 with
  | 0 => hbmTy0_0 i
  | 1 => hbmTy0_1 i
  | _ => ⟨S16x4096x1024, .f32⟩

abbrev bufTy : (tb : Table) → Fin (tcTables nBuf tb) → BufTy
  | .hbm, ⟨i, _⟩ => hbmTy i
  | _, _ => ⟨S16x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_cst_2 : Ref sig .tc := ⟨.hbm, 32, rfl⟩
abbrev main_v26 : Ref sig .tc := ⟨.hbm, 33, rfl⟩
abbrev main_v27 : Ref sig .tc := ⟨.hbm, 34, rfl⟩
abbrev main_cst_3 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_cst_4 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_v65 : Ref sig .tc := ⟨.hbm, 74, rfl⟩
abbrev main_v66 : Ref sig .tc := ⟨.hbm, 75, rfl⟩
abbrev main_v67 : Ref sig .tc := ⟨.hbm, 76, rfl⟩
abbrev main_v68 : Ref sig .tc := ⟨.hbm, 77, rfl⟩
abbrev main_v69 : Ref sig .tc := ⟨.hbm, 78, rfl⟩
abbrev main_v70 : Ref sig .tc := ⟨.hbm, 79, rfl⟩
abbrev main_v71 : Ref sig .tc := ⟨.hbm, 80, rfl⟩
abbrev main_v72 : Ref sig .tc := ⟨.hbm, 81, rfl⟩
abbrev main_v73 : Ref sig .tc := ⟨.hbm, 82, rfl⟩
abbrev main_v74 : Ref sig .tc := ⟨.hbm, 83, rfl⟩
abbrev main_v75 : Ref sig .tc := ⟨.hbm, 84, rfl⟩
abbrev main_v76 : Ref sig .tc := ⟨.hbm, 85, rfl⟩
abbrev main_v77 : Ref sig .tc := ⟨.hbm, 86, rfl⟩
abbrev main_v78 : Ref sig .tc := ⟨.hbm, 87, rfl⟩
abbrev main_v79 : Ref sig .tc := ⟨.hbm, 88, rfl⟩
abbrev main_v80 : Ref sig .tc := ⟨.hbm, 89, rfl⟩
abbrev main_v81 : Ref sig .tc := ⟨.hbm, 90, rfl⟩
abbrev main_v82 : Ref sig .tc := ⟨.hbm, 91, rfl⟩
abbrev main_v83 : Ref sig .tc := ⟨.hbm, 92, rfl⟩
abbrev main_v84 : Ref sig .tc := ⟨.hbm, 93, rfl⟩
abbrev main_v85 : Ref sig .tc := ⟨.hbm, 94, rfl⟩
abbrev main_v86 : Ref sig .tc := ⟨.hbm, 95, rfl⟩
abbrev main_v87 : Ref sig .tc := ⟨.hbm, 96, rfl⟩
abbrev main_v88 : Ref sig .tc := ⟨.hbm, 97, rfl⟩
abbrev main_v89 : Ref sig .tc := ⟨.hbm, 98, rfl⟩
abbrev main_v90 : Ref sig .tc := ⟨.hbm, 99, rfl⟩
abbrev main_v91 : Ref sig .tc := ⟨.hbm, 100, rfl⟩
abbrev main_v92 : Ref sig .tc := ⟨.hbm, 101, rfl⟩
abbrev main_v93 : Ref sig .tc := ⟨.hbm, 102, rfl⟩
abbrev main_v94 : Ref sig .tc := ⟨.hbm, 103, rfl⟩
abbrev main_v95 : Ref sig .tc := ⟨.hbm, 104, rfl⟩
abbrev main_v96 : Ref sig .tc := ⟨.hbm, 105, rfl⟩
abbrev main_v97 : Ref sig .tc := ⟨.hbm, 106, rfl⟩
abbrev main_v98 : Ref sig .tc := ⟨.hbm, 107, rfl⟩
abbrev main_v99 : Ref sig .tc := ⟨.hbm, 108, rfl⟩
abbrev main_v100 : Ref sig .tc := ⟨.hbm, 109, rfl⟩
abbrev main_v101 : Ref sig .tc := ⟨.hbm, 110, rfl⟩
abbrev main_v102 : Ref sig .tc := ⟨.hbm, 111, rfl⟩
abbrev main_v103 : Ref sig .tc := ⟨.hbm, 112, rfl⟩
abbrev main_v104 : Ref sig .tc := ⟨.hbm, 113, rfl⟩
abbrev main_v105 : Ref sig .tc := ⟨.hbm, 114, rfl⟩
abbrev main_v106 : Ref sig .tc := ⟨.hbm, 115, rfl⟩
abbrev main_v107 : Ref sig .tc := ⟨.hbm, 116, rfl⟩
abbrev main_v108 : Ref sig .tc := ⟨.hbm, 117, rfl⟩
abbrev main_v109 : Ref sig .tc := ⟨.hbm, 118, rfl⟩
abbrev main_v110 : Ref sig .tc := ⟨.hbm, 119, rfl⟩
abbrev main_v111 : Ref sig .tc := ⟨.hbm, 120, rfl⟩
abbrev main_v112 : Ref sig .tc := ⟨.hbm, 121, rfl⟩
abbrev main_v113 : Ref sig .tc := ⟨.hbm, 122, rfl⟩
abbrev main_v114 : Ref sig .tc := ⟨.hbm, 123, rfl⟩
abbrev main_v115 : Ref sig .tc := ⟨.hbm, 124, rfl⟩
abbrev main_v116 : Ref sig .tc := ⟨.hbm, 125, rfl⟩
abbrev main_v117 : Ref sig .tc := ⟨.hbm, 126, rfl⟩
abbrev main_v118 : Ref sig .tc := ⟨.hbm, 127, rfl⟩
abbrev main_v119 : Ref sig .tc := ⟨.hbm, 128, rfl⟩
abbrev main_v120 : Ref sig .tc := ⟨.hbm, 129, rfl⟩
abbrev main_v121 : Ref sig .tc := ⟨.hbm, 130, rfl⟩
abbrev main_v122 : Ref sig .tc := ⟨.hbm, 131, rfl⟩
abbrev main_v123 : Ref sig .tc := ⟨.hbm, 132, rfl⟩
abbrev main_v124 : Ref sig .tc := ⟨.hbm, 133, rfl⟩
abbrev main_v125 : Ref sig .tc := ⟨.hbm, 134, rfl⟩
abbrev main_cst_5 : Ref sig .tc := ⟨.hbm, 135, rfl⟩
abbrev main_v126 : Ref sig .tc := ⟨.hbm, 136, rfl⟩
abbrev main_v127 : Ref sig .tc := ⟨.hbm, 137, rfl⟩
abbrev main_v128 : Ref sig .tc := ⟨.hbm, 138, rfl⟩
abbrev main_v129 : Ref sig .tc := ⟨.hbm, 139, rfl⟩
abbrev main_v130 : Ref sig .tc := ⟨.hbm, 140, rfl⟩
abbrev main_v131 : Ref sig .tc := ⟨.hbm, 141, rfl⟩
abbrev main_v132 : Ref sig .tc := ⟨.hbm, 142, rfl⟩
abbrev main_v133 : Ref sig .tc := ⟨.hbm, 143, rfl⟩
abbrev main_v134 : Ref sig .tc := ⟨.hbm, 144, rfl⟩
abbrev main_v135 : Ref sig .tc := ⟨.hbm, 145, rfl⟩
abbrev main_v136 : Ref sig .tc := ⟨.hbm, 146, rfl⟩
abbrev main_v137 : Ref sig .tc := ⟨.hbm, 147, rfl⟩
abbrev main_v138 : Ref sig .tc := ⟨.hbm, 148, rfl⟩
abbrev main_v139 : Ref sig .tc := ⟨.hbm, 149, rfl⟩
abbrev main_v140 : Ref sig .tc := ⟨.hbm, 150, rfl⟩
abbrev main_v141 : Ref sig .tc := ⟨.hbm, 151, rfl⟩
abbrev main_cst_6 : Ref sig .tc := ⟨.hbm, 152, rfl⟩
abbrev main_v142 : Ref sig .tc := ⟨.hbm, 153, rfl⟩
abbrev main_v143 : Ref sig .tc := ⟨.hbm, 154, rfl⟩
abbrev main_cst_7 : Ref sig .tc := ⟨.hbm, 155, rfl⟩
abbrev main_v144 : Ref sig .tc := ⟨.hbm, 156, rfl⟩
abbrev main_v145 : Ref sig .tc := ⟨.hbm, 157, rfl⟩
abbrev main_v146 : Ref sig .tc := ⟨.hbm, 158, rfl⟩
abbrev main_v147 : Ref sig .tc := ⟨.hbm, 159, rfl⟩
abbrev main_v148 : Ref sig .tc := ⟨.hbm, 160, rfl⟩
abbrev main_cst_8 : Ref sig .tc := ⟨.hbm, 161, rfl⟩
abbrev main_v149 : Ref sig .tc := ⟨.hbm, 162, rfl⟩
abbrev main_v150 : Ref sig .tc := ⟨.hbm, 163, rfl⟩
abbrev main_cst_9 : Ref sig .tc := ⟨.hbm, 164, rfl⟩
abbrev main_v151 : Ref sig .tc := ⟨.hbm, 165, rfl⟩
abbrev main_v152 : Ref sig .tc := ⟨.hbm, 166, rfl⟩
abbrev main_v153 : Ref sig .tc := ⟨.hbm, 167, rfl⟩

abbrev nD : Nat := 1
abbrev τ : Topo := Topo.v7x

variable {F : FTy → Type} [FloatOps F]
-- ==== Scan.lean ====
abbrev S16x4096x512 : Shape := ⟨3, ![16, 4096, 512]⟩
abbrev S32x64 : Shape := ⟨2, ![32, 64]⟩
abbrev S32x64x16 : Shape := ⟨3, ![32, 64, 16]⟩
abbrev S32x16x64 : Shape := ⟨3, ![32, 16, 64]⟩
abbrev S512 : Shape := ⟨1, ![512]⟩
abbrev S512x2048 : Shape := ⟨2, ![512, 2048]⟩
abbrev S2048 : Shape := ⟨1, ![2048]⟩
abbrev S32x32 : Shape := ⟨2, ![32, 32]⟩
abbrev S_ : Shape := ⟨0, ![]⟩
abbrev S32x16x1x64 : Shape := ⟨4, ![32, 16, 1, 64]⟩
abbrev S32x1x32x1 : Shape := ⟨4, ![32, 1, 32, 1]⟩
abbrev S32x16x32x64 : Shape := ⟨4, ![32, 16, 32, 64]⟩
abbrev S32x64x1x16 : Shape := ⟨4, ![32, 64, 1, 16]⟩
abbrev S32x64x32x16 : Shape := ⟨4, ![32, 64, 32, 16]⟩
abbrev S2048x512 : Shape := ⟨2, ![2048, 512]⟩
abbrev S1x2048 : Shape := ⟨2, ![1, 2048]⟩
abbrev S8 : Shape := ⟨1, ![8]⟩
abbrev S8x1 : Shape := ⟨2, ![8, 1]⟩
abbrev S8x2048 : Shape := ⟨2, ![8, 2048]⟩
abbrev S1x8x2048 : Shape := ⟨3, ![1, 8, 2048]⟩
abbrev S8x8x2048 : Shape := ⟨3, ![8, 8, 2048]⟩
abbrev S1x512 : Shape := ⟨2, ![1, 512]⟩
abbrev S16x4096x1024 : Shape := ⟨3, ![16, 4096, 1024]⟩
abbrev S16x1x2048 : Shape := ⟨3, ![16, 1, 2048]⟩
abbrev S1x256x512 : Shape := ⟨3, ![1, 256, 512]⟩
abbrev S1x256x1024 : Shape := ⟨3, ![1, 256, 1024]⟩
abbrev S1x1x2048 : Shape := ⟨3, ![1, 1, 2048]⟩
abbrev S256x2048 : Shape := ⟨2, ![256, 2048]⟩
abbrev S256x512 : Shape := ⟨2, ![256, 512]⟩
abbrev S256x1024 : Shape := ⟨2, ![256, 1024]⟩

abbrev nBuf : Space → Nat
  | .hbm => 167
  | .vmem => 20
  | .smem => 0
  | _ => 0

abbrev hbmTy0_0 (i : Nat) : BufTy := match i % 128 with
  | 0 => ⟨S16x4096x512, .f32⟩
  | 1 => ⟨S32x64, .f32⟩
  | 2 => ⟨S32x64, .f32⟩
  | 3 => ⟨S32x64x16, .f32⟩
  | 4 => ⟨S32x64x16, .f32⟩
  | 5 => ⟨S32x16x64, .f32⟩
  | 6 => ⟨S32x16x64, .f32⟩
  | 7 => ⟨S512, .f32⟩
  | 8 => ⟨S512x2048, .f32⟩
  | 9 => ⟨S2048, .f32⟩
  | 10 => ⟨S32x32, .i32⟩
  | 11 => ⟨S32x32, .i32⟩
  | 12 => ⟨S_, .i32⟩
  | 13 => ⟨S32x32, .i32⟩
  | 14 => ⟨S32x32, .i32⟩
  | 15 => ⟨S32x32, .i1⟩
  | 16 => ⟨S32x32, .f32⟩
  | 17 => ⟨S32x16x64, .f32⟩
  | 18 => ⟨S32x16x1x64, .f32⟩
  | 19 => ⟨S32x1x32x1, .f32⟩
  | 20 => ⟨S32x16x32x64, .f32⟩
  | 21 => ⟨S32x16x32x64, .f32⟩
  | 22 => ⟨S32x16x32x64, .f32⟩
  | 23 => ⟨S512x2048, .f32⟩
  | 24 => ⟨S512x2048, .bf16⟩
  | 25 => ⟨S32x16x64, .f32⟩
  | 26 => ⟨S32x16x1x64, .f32⟩
  | 27 => ⟨S32x1x32x1, .f32⟩
  | 28 => ⟨S32x16x32x64, .f32⟩
  | 29 => ⟨S32x16x32x64, .f32⟩
  | 30 => ⟨S32x16x32x64, .f32⟩
  | 31 => ⟨S512x2048, .f32⟩
  | 32 => ⟨S512x2048, .bf16⟩
  | 33 => ⟨S32x64x16, .f32⟩
  | 34 => ⟨S32x64x1x16, .f32⟩
  | 35 => ⟨S32x1x32x1, .f32⟩
  | 36 => ⟨S32x64x32x16, .f32⟩
  | 37 => ⟨S32x64x32x16, .f32⟩
  | 38 => ⟨S32x64x32x16, .f32⟩
  | 39 => ⟨S2048x512, .f32⟩
  | 40 => ⟨S2048x512, .bf16⟩
  | 41 => ⟨S32x16x64, .f32⟩
  | 42 => ⟨S32x64x16, .f32⟩
  | 43 => ⟨S32x64x1x16, .f32⟩
  | 44 => ⟨S32x1x32x1, .f32⟩
  | 45 => ⟨S32x64x32x16, .f32⟩
  | 46 => ⟨S32x64x32x16, .f32⟩
  | 47 => ⟨S32x64x32x16, .f32⟩
  | 48 => ⟨S2048x512, .f32⟩
  | 49 => ⟨S2048x512, .bf16⟩
  | 50 => ⟨S1x2048, .f32⟩
  | 51 => ⟨S1x2048, .f32⟩
  | 52 => ⟨S1x2048, .f32⟩
  | 53 => ⟨S1x2048, .f32⟩
  | 54 => ⟨S1x2048, .f32⟩
  | 55 => ⟨S1x2048, .f32⟩
  | 56 => ⟨S1x2048, .f32⟩
  | 57 => ⟨S1x2048, .f32⟩
  | 58 => ⟨S1x2048, .f32⟩
  | 59 => ⟨S1x2048, .f32⟩
  | 60 => ⟨S1x2048, .f32⟩
  | 61 => ⟨S1x2048, .f32⟩
  | 62 => ⟨S1x2048, .f32⟩
  | 63 => ⟨S1x2048, .f32⟩
  | 64 => ⟨S1x2048, .f32⟩
  | 65 => ⟨S1x2048, .f32⟩
  | 66 => ⟨S1x2048, .f32⟩
  | 67 => ⟨S1x2048, .f32⟩
  | 68 => ⟨S1x2048, .f32⟩
  | 69 => ⟨S1x2048, .f32⟩
  | 70 => ⟨S1x2048, .f32⟩
  | 71 => ⟨S1x2048, .f32⟩
  | 72 => ⟨S1x2048, .f32⟩
  | 73 => ⟨S1x2048, .f32⟩
  | 74 => ⟨S1x2048, .f32⟩
  | 75 => ⟨S1x2048, .f32⟩
  | 76 => ⟨S1x2048, .f32⟩
  | 77 => ⟨S1x2048, .f32⟩
  | 78 => ⟨S1x2048, .f32⟩
  | 79 => ⟨S1x2048, .f32⟩
  | 80 => ⟨S1x2048, .f32⟩
  | 81 => ⟨S1x2048, .f32⟩
  | 82 => ⟨S1x2048, .f32⟩
  | 83 => ⟨S1x2048, .f32⟩
  | 84 => ⟨S1x2048, .f32⟩
  | 85 => ⟨S1x2048, .f32⟩
  | 86 => ⟨S1x2048, .f32⟩
  | 87 => ⟨S1x2048, .f32⟩
  | 88 => ⟨S1x2048, .f32⟩
  | 89 => ⟨S1x2048, .f32⟩
  | 90 => ⟨S1x2048, .f32⟩
  | 91 => ⟨S1x2048, .f32⟩
  | 92 => ⟨S1x2048, .f32⟩
  | 93 => ⟨S1x2048, .f32⟩
  | 94 => ⟨S8, .i32⟩
  | 95 => ⟨S8x1, .i32⟩
  | 96 => ⟨S_, .i32⟩
  | 97 => ⟨S8x1, .i32⟩
  | 98 => ⟨S8x1, .i1⟩
  | 99 => ⟨S8x2048, .f32⟩
  | 100 => ⟨S_, .f32⟩
  | 101 => ⟨S_, .f32⟩
  | 102 => ⟨S8x2048, .i1⟩
  | 103 => ⟨S8x2048, .f32⟩
  | 104 => ⟨S8x2048, .f32⟩
  | 105 => ⟨S_, .i32⟩
  | 106 => ⟨S8x1, .i32⟩
  | 107 => ⟨S8x1, .i1⟩
  | 108 => ⟨S8x2048, .f32⟩
  | 109 => ⟨S_, .f32⟩
  | 110 => ⟨S_, .f32⟩
  | 111 => ⟨S8x2048, .i1⟩
  | 112 => ⟨S8x2048, .f32⟩
  | 113 => ⟨S8x2048, .f32⟩
  | 114 => ⟨S_, .i32⟩
  | 115 => ⟨S8x1, .i32⟩
  | 116 => ⟨S8x1, .i1⟩
  | 117 => ⟨S8x2048, .f32⟩
  | 118 => ⟨S_, .f32⟩
  | 119 => ⟨S_, .f32⟩
  | 120 => ⟨S8x2048, .i1⟩
  | 121 => ⟨S8x2048, .f32⟩
  | 122 => ⟨S8x2048, .f32⟩
  | 123 => ⟨S_, .i32⟩
  | 124 => ⟨S8x1, .i32⟩
  | 125 => ⟨S8x1, .i1⟩
  | 126 => ⟨S8x2048, .f32⟩
  | 127 => ⟨S_, .f32⟩
  | _ => ⟨S16x4096x512, .f32⟩

abbrev hbmTy0_1 (i : Nat) : BufTy := match i % 128 with
  | 0 => ⟨S_, .f32⟩
  | 1 => ⟨S8x2048, .i1⟩
  | 2 => ⟨S8x2048, .f32⟩
  | 3 => ⟨S8x2048, .f32⟩
  | 4 => ⟨S_, .i32⟩
  | 5 => ⟨S8x1, .i32⟩
  | 6 => ⟨S8x1, .i1⟩
  | 7 => ⟨S8x2048, .f32⟩
  | 8 => ⟨S_, .f32⟩
  | 9 => ⟨S_, .f32⟩
  | 10 => ⟨S8x2048, .i1⟩
  | 11 => ⟨S8x2048, .f32⟩
  | 12 => ⟨S8x2048, .f32⟩
  | 13 => ⟨S_, .i32⟩
  | 14 => ⟨S8x1, .i32⟩
  | 15 => ⟨S8x1, .i1⟩
  | 16 => ⟨S8x2048, .f32⟩
  | 17 => ⟨S_, .f32⟩
  | 18 => ⟨S_, .f32⟩
  | 19 => ⟨S8x2048, .i1⟩
  | 20 => ⟨S8x2048, .f32⟩
  | 21 => ⟨S8x2048, .f32⟩
  | 22 => ⟨S8x2048, .f32⟩
  | 23 => ⟨S8x2048, .f32⟩
  | 24 => ⟨S1x8x2048, .f32⟩
  | 25 => ⟨S1x8x2048, .f32⟩
  | 26 => ⟨S1x8x2048, .f32⟩
  | 27 => ⟨S1x8x2048, .f32⟩
  | 28 => ⟨S1x8x2048, .f32⟩
  | 29 => ⟨S1x8x2048, .f32⟩
  | 30 => ⟨S1x8x2048, .f32⟩
  | 31 => ⟨S1x8x2048, .f32⟩
  | 32 => ⟨S8x8x2048, .f32⟩
  | 33 => ⟨S512x2048, .bf16⟩
  | 34 => ⟨S1x512, .f32⟩
  | 35 => ⟨S1x2048, .f32⟩
  | 36 => ⟨S16x4096x1024, .f32⟩
  | 37 => ⟨S16x1x2048, .f32⟩
  | 38 => ⟨S16x1x2048, .f32⟩
  | _ => ⟨S16x4096x512, .f32⟩

abbrev hbmTy (i : Nat) : BufTy := match i / 128 with
  | 0 => hbmTy0_0 i
  | 1 => hbmTy0_1 i
  | _ => ⟨S16x4096x512, .f32⟩

abbrev bufTy : (tb : Table) → Fin (tcTables nBuf tb) → BufTy
  | .hbm, ⟨i, _⟩ => hbmTy i
  | .local _ .vmem, ⟨0, _⟩ => ⟨S1x256x512, .f32⟩
  | .local _ .vmem, ⟨1, _⟩ => ⟨S1x256x512, .f32⟩
  | .local _ .vmem, ⟨2, _⟩ => ⟨S512x2048, .bf16⟩
  | .local _ .vmem, ⟨3, _⟩ => ⟨S512x2048, .bf16⟩
  | .local _ .vmem, ⟨4, _⟩ => ⟨S8x8x2048, .f32⟩
  | .local _ .vmem, ⟨5, _⟩ => ⟨S2048x512, .bf16⟩
  | .local _ .vmem, ⟨6, _⟩ => ⟨S2048x512, .bf16⟩
  | .local _ .vmem, ⟨7, _⟩ => ⟨S1x512, .f32⟩
  | .local _ .vmem, ⟨8, _⟩ => ⟨S512x2048, .bf16⟩
  | .local _ .vmem, ⟨9, _⟩ => ⟨S1x2048, .f32⟩
  | .local _ .vmem, ⟨10, _⟩ => ⟨S1x256x1024, .f32⟩
  | .local _ .vmem, ⟨11, _⟩ => ⟨S1x256x1024, .f32⟩
  | .local _ .vmem, ⟨12, _⟩ => ⟨S1x1x2048, .f32⟩
  | .local _ .vmem, ⟨13, _⟩ => ⟨S1x1x2048, .f32⟩
  | .local _ .vmem, ⟨14, _⟩ => ⟨S1x1x2048, .f32⟩
  | .local _ .vmem, ⟨15, _⟩ => ⟨S1x1x2048, .f32⟩
  | .local _ .vmem, ⟨16, _⟩ => ⟨S256x2048, .f32⟩
  | .local _ .vmem, ⟨17, _⟩ => ⟨S256x2048, .f32⟩
  | .local _ .vmem, ⟨18, _⟩ => ⟨S1x2048, .f32⟩
  | .local _ .vmem, ⟨19, _⟩ => ⟨S1x2048, .f32⟩
  | _, _ => ⟨S16x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_c : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_v74 : Ref sig .tc := ⟨.hbm, 85, rfl⟩
abbrev main_v75 : Ref sig .tc := ⟨.hbm, 86, rfl⟩
abbrev main_v76 : Ref sig .tc := ⟨.hbm, 87, rfl⟩
abbrev main_v77 : Ref sig .tc := ⟨.hbm, 88, rfl⟩
abbrev main_v78 : Ref sig .tc := ⟨.hbm, 89, rfl⟩
abbrev main_v79 : Ref sig .tc := ⟨.hbm, 90, rfl⟩
abbrev main_v80 : Ref sig .tc := ⟨.hbm, 91, rfl⟩
abbrev main_v81 : Ref sig .tc := ⟨.hbm, 92, rfl⟩
abbrev main_v82 : Ref sig .tc := ⟨.hbm, 93, rfl⟩
abbrev main_v83 : Ref sig .tc := ⟨.hbm, 94, rfl⟩
abbrev main_v84 : Ref sig .tc := ⟨.hbm, 95, rfl⟩
abbrev main_c_0 : Ref sig .tc := ⟨.hbm, 96, rfl⟩
abbrev main_v85 : Ref sig .tc := ⟨.hbm, 97, rfl⟩
abbrev main_v86 : Ref sig .tc := ⟨.hbm, 98, rfl⟩
abbrev main_v87 : Ref sig .tc := ⟨.hbm, 99, rfl⟩
abbrev main_cst : Ref sig .tc := ⟨.hbm, 100, rfl⟩
abbrev main_call0_v0 : Ref sig .tc := ⟨.hbm, 101, rfl⟩
abbrev main_call0_v1 : Ref sig .tc := ⟨.hbm, 102, rfl⟩
abbrev main_call0_v2 : Ref sig .tc := ⟨.hbm, 103, rfl⟩
abbrev main_v88 : Ref sig .tc := ⟨.hbm, 104, rfl⟩
abbrev main_c_1 : Ref sig .tc := ⟨.hbm, 105, rfl⟩
abbrev main_v89 : Ref sig .tc := ⟨.hbm, 106, rfl⟩
abbrev main_v90 : Ref sig .tc := ⟨.hbm, 107, rfl⟩
abbrev main_v91 : Ref sig .tc := ⟨.hbm, 108, rfl⟩
abbrev main_cst_2 : Ref sig .tc := ⟨.hbm, 109, rfl⟩
abbrev main_call1_v0 : Ref sig .tc := ⟨.hbm, 110, rfl⟩
abbrev main_call1_v1 : Ref sig .tc := ⟨.hbm, 111, rfl⟩
abbrev main_call1_v2 : Ref sig .tc := ⟨.hbm, 112, rfl⟩
abbrev main_v92 : Ref sig .tc := ⟨.hbm, 113, rfl⟩
abbrev main_c_3 : Ref sig .tc := ⟨.hbm, 114, rfl⟩
abbrev main_v93 : Ref sig .tc := ⟨.hbm, 115, rfl⟩
abbrev main_v94 : Ref sig .tc := ⟨.hbm, 116, rfl⟩
abbrev main_v95 : Ref sig .tc := ⟨.hbm, 117, rfl⟩
abbrev main_cst_4 : Ref sig .tc := ⟨.hbm, 118, rfl⟩
abbrev main_call2_v0 : Ref sig .tc := ⟨.hbm, 119, rfl⟩
abbrev main_call2_v1 : Ref sig .tc := ⟨.hbm, 120, rfl⟩
abbrev main_call2_v2 : Ref sig .tc := ⟨.hbm, 121, rfl⟩
abbrev main_v96 : Ref sig .tc := ⟨.hbm, 122, rfl⟩
abbrev main_c_5 : Ref sig .tc := ⟨.hbm, 123, rfl⟩
abbrev main_v97 : Ref sig .tc := ⟨.hbm, 124, rfl⟩
abbrev main_v98 : Ref sig .tc := ⟨.hbm, 125, rfl⟩
abbrev main_v99 : Ref sig .tc := ⟨.hbm, 126, rfl⟩
abbrev main_cst_6 : Ref sig .tc := ⟨.hbm, 127, rfl⟩
abbrev main_call3_v0 : Ref sig .tc := ⟨.hbm, 128, rfl⟩
abbrev main_call3_v1 : Ref sig .tc := ⟨.hbm, 129, rfl⟩
abbrev main_call3_v2 : Ref sig .tc := ⟨.hbm, 130, rfl⟩
abbrev main_v100 : Ref sig .tc := ⟨.hbm, 131, rfl⟩
abbrev main_c_7 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_cst_8 : Ref sig .tc := ⟨.hbm, 136, rfl⟩
abbrev main_call4_v0 : Ref sig .tc := ⟨.hbm, 137, rfl⟩
abbrev main_call4_v1 : Ref sig .tc := ⟨.hbm, 138, rfl⟩
abbrev main_call4_v2 : Ref sig .tc := ⟨.hbm, 139, rfl⟩
abbrev main_v104 : Ref sig .tc := ⟨.hbm, 140, rfl⟩
abbrev main_c_9 : Ref sig .tc := ⟨.hbm, 141, rfl⟩
abbrev main_v105 : Ref sig .tc := ⟨.hbm, 142, rfl⟩
abbrev main_v106 : Ref sig .tc := ⟨.hbm, 143, rfl⟩
abbrev main_v107 : Ref sig .tc := ⟨.hbm, 144, rfl⟩
abbrev main_cst_10 : Ref sig .tc := ⟨.hbm, 145, rfl⟩
abbrev main_call5_v0 : Ref sig .tc := ⟨.hbm, 146, rfl⟩
abbrev main_call5_v1 : Ref sig .tc := ⟨.hbm, 147, rfl⟩
abbrev main_call5_v2 : Ref sig .tc := ⟨.hbm, 148, rfl⟩
abbrev main_v108 : Ref sig .tc := ⟨.hbm, 149, rfl⟩
abbrev main_v109 : Ref sig .tc := ⟨.hbm, 150, rfl⟩
abbrev main_v110 : Ref sig .tc := ⟨.hbm, 151, rfl⟩
abbrev main_v111 : Ref sig .tc := ⟨.hbm, 152, rfl⟩
abbrev main_v112 : Ref sig .tc := ⟨.hbm, 153, rfl⟩
abbrev main_v113 : Ref sig .tc := ⟨.hbm, 154, rfl⟩
abbrev main_v114 : Ref sig .tc := ⟨.hbm, 155, rfl⟩
abbrev main_v115 : Ref sig .tc := ⟨.hbm, 156, rfl⟩
abbrev main_v116 : Ref sig .tc := ⟨.hbm, 157, rfl⟩
abbrev main_v117 : Ref sig .tc := ⟨.hbm, 158, rfl⟩
abbrev main_v118 : Ref sig .tc := ⟨.hbm, 159, rfl⟩
abbrev main_v119 : Ref sig .tc := ⟨.hbm, 160, rfl⟩
abbrev main_v120 : Ref sig .tc := ⟨.hbm, 161, rfl⟩
abbrev main_v121 : Ref sig .tc := ⟨.hbm, 162, rfl⟩
abbrev main_v122 : Ref sig .tc := ⟨.hbm, 163, rfl⟩
abbrev main_v123_0 : Ref sig .tc := ⟨.hbm, 164, rfl⟩
abbrev main_v123_1 : Ref sig .tc := ⟨.hbm, 165, rfl⟩
abbrev main_v123_2 : Ref sig .tc := ⟨.hbm, 166, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11
abbrev cc0_sem10_0 : DmaSem sig := 12
abbrev cc0_sem10_1 : DmaSem sig := 13
abbrev cc0_sem11_0 : DmaSem sig := 14
abbrev cc0_sem11_1 : DmaSem sig := 15

abbrev nD : Nat := 1
abbrev τ : Topo := Topo.v7x

variable {F : FTy → Type} [FloatOps F]

abbrev grid0 : Pipeline.Grid := ⟨2, ![16, 16], ![false, false]⟩

@[reducible] def k0_t1_loop : Scf.Loop 32 :=
  let c0_i32_12 : BitVec 32 := 0#32
  let c32_i32 : BitVec 32 := 32#32
  let v18 : BitVec 32 := Scalar.addi c0_i32_12 c32_i32
  let c1_i32 : BitVec 32 := 1#32
  ⟨c0_i32_12, v18, c1_i32⟩
def k0_mult1 (k0_t1 : Fin k0_t1_loop.trips) : BitVec 32 :=
  let c0_i32_12 : BitVec 32 := 0#32
  let c1_i32 : BitVec 32 := 1#32
  let arg18 : BitVec 32 := Scf.iv c0_i32_12 c1_i32 k0_t1
  let c8_i32 : BitVec 32 := 8#32
  let v79 : BitVec 32 := Scalar.muli arg18 c8_i32
  v79
def k0_off1 (k0_t1 : Fin k0_t1_loop.trips) : Fin 2 → Nat :=
  let c0_i32_12 : BitVec 32 := 0#32
  let c1_i32 : BitVec 32 := 1#32
  let arg18 : BitVec 32 := Scf.iv c0_i32_12 c1_i32 k0_t1
  let c8_i32 : BitVec 32 := 8#32
  let v79 : BitVec 32 := Scalar.muli arg18 c8_i32
  let v80 : BitVec 32 := v79
  let v81 : Index := Scalar.indexCast v80
  let c0_55 : Index := 0#32
  ![v81.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S512x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S512x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S8x8x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S2048x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S2048x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S512x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x1x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x1x2048 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]
-- ==== ScanRefIdeal.lean ====
abbrev S16x4096x512 : Shape := ⟨3, ![16, 4096, 512]⟩
abbrev S32x64 : Shape := ⟨2, ![32, 64]⟩
abbrev S32x64x16 : Shape := ⟨3, ![32, 64, 16]⟩
abbrev S32x16x64 : Shape := ⟨3, ![32, 16, 64]⟩
abbrev S512 : Shape := ⟨1, ![512]⟩
abbrev S512x2048 : Shape := ⟨2, ![512, 2048]⟩
abbrev S2048 : Shape := ⟨1, ![2048]⟩
abbrev S16x4096x32x16 : Shape := ⟨4, ![16, 4096, 32, 16]⟩
abbrev S32x16x4096x64 : Shape := ⟨4, ![32, 16, 4096, 64]⟩
abbrev S4096x16x32x64 : Shape := ⟨4, ![4096, 16, 32, 64]⟩
abbrev S_ : Shape := ⟨0, ![]⟩
abbrev S16x32x64 : Shape := ⟨3, ![16, 32, 64]⟩
abbrev S1x16x32x64 : Shape := ⟨4, ![1, 16, 32, 64]⟩
abbrev S1x32x64 : Shape := ⟨3, ![1, 32, 64]⟩
abbrev S32x4096x16x16 : Shape := ⟨4, ![32, 4096, 16, 16]⟩
abbrev S1x1x512 : Shape := ⟨3, ![1, 1, 512]⟩
abbrev S16x4096x2048 : Shape := ⟨3, ![16, 4096, 2048]⟩
abbrev S1x1x2048 : Shape := ⟨3, ![1, 1, 2048]⟩
abbrev S16x4096x1024 : Shape := ⟨3, ![16, 4096, 1024]⟩
abbrev S16x1x2048 : Shape := ⟨3, ![16, 1, 2048]⟩

abbrev nBuf : Space → Nat
  | .hbm => 115
  | .vmem => 0
  | .smem => 0
  | _ => 0

abbrev bufTy : (tb : Table) → Fin (tcTables nBuf tb) → BufTy
  | .hbm, ⟨0, _⟩ => ⟨S16x4096x512, .f32⟩
  | .hbm, ⟨1, _⟩ => ⟨S32x64, .f32⟩
  | .hbm, ⟨2, _⟩ => ⟨S32x64, .f32⟩
  | .hbm, ⟨3, _⟩ => ⟨S32x64x16, .f32⟩
  | .hbm, ⟨4, _⟩ => ⟨S32x64x16, .f32⟩
  | .hbm, ⟨5, _⟩ => ⟨S32x16x64, .f32⟩
  | .hbm, ⟨6, _⟩ => ⟨S32x16x64, .f32⟩
  | .hbm, ⟨7, _⟩ => ⟨S512, .f32⟩
  | .hbm, ⟨8, _⟩ => ⟨S512x2048, .f32⟩
  | .hbm, ⟨9, _⟩ => ⟨S2048, .f32⟩
  | .hbm, ⟨10, _⟩ => ⟨S16x4096x32x16, .f32⟩
  | .hbm, ⟨11, _⟩ => ⟨S32x16x4096x64, .f32⟩
  | .hbm, ⟨12, _⟩ => ⟨S4096x16x32x64, .f32⟩
  | .hbm, ⟨13, _⟩ => ⟨S32x16x4096x64, .f32⟩
  | .hbm, ⟨14, _⟩ => ⟨S4096x16x32x64, .f32⟩
  | .hbm, ⟨15, _⟩ => ⟨S_, .f32⟩
  | .hbm, ⟨16, _⟩ => ⟨S16x32x64, .f32⟩
  | .hbm, ⟨17, _⟩ => ⟨S_, .f32⟩
  | .hbm, ⟨18, _⟩ => ⟨S4096x16x32x64, .f32⟩
  | .hbm, ⟨19, _⟩ => ⟨S_, .f32⟩
  | .hbm, ⟨20, _⟩ => ⟨S4096x16x32x64, .f32⟩
  | .hbm, ⟨21, _⟩ => ⟨S_, .i32⟩
  | .hbm, ⟨22, _⟩ => ⟨S4096x16x32x64, .f32⟩
  | .hbm, ⟨23, _⟩ => ⟨S4096x16x32x64, .f32⟩
  | .hbm, ⟨24, _⟩ => ⟨S32x64, .f32⟩
  | .hbm, ⟨25, _⟩ => ⟨S32x64, .f32⟩
  | .hbm, ⟨26, _⟩ => ⟨S_, .i32⟩
  | .hbm, ⟨27, _⟩ => ⟨S16x32x64, .f32⟩
  | .hbm, ⟨28, _⟩ => ⟨S16x32x64, .f32⟩
  | .hbm, ⟨29, _⟩ => ⟨S4096x16x32x64, .f32⟩
  | .hbm, ⟨30, _⟩ => ⟨S4096x16x32x64, .f32⟩
  | .hbm, ⟨31, _⟩ => ⟨S_, .i32⟩
  | .hbm, ⟨32, _⟩ => ⟨S_, .i1⟩
  | .hbm, ⟨33, _⟩ => ⟨S_, .i32⟩
  | .hbm, ⟨34, _⟩ => ⟨S_, .i32⟩
  | .hbm, ⟨35, _⟩ => ⟨S_, .i32⟩
  | .hbm, ⟨36, _⟩ => ⟨S1x16x32x64, .f32⟩
  | .hbm, ⟨37, _⟩ => ⟨S16x32x64, .f32⟩
  | .hbm, ⟨38, _⟩ => ⟨S_, .i32⟩
  | .hbm, ⟨39, _⟩ => ⟨S_, .i32⟩
  | .hbm, ⟨40, _⟩ => ⟨S_, .i32⟩
  | .hbm, ⟨41, _⟩ => ⟨S1x16x32x64, .f32⟩
  | .hbm, ⟨42, _⟩ => ⟨S16x32x64, .f32⟩
  | .hbm, ⟨43, _⟩ => ⟨S1x32x64, .f32⟩
  | .hbm, ⟨44, _⟩ => ⟨S16x32x64, .f32⟩
  | .hbm, ⟨45, _⟩ => ⟨S16x32x64, .f32⟩
  | .hbm, ⟨46, _⟩ => ⟨S1x32x64, .f32⟩
  | .hbm, ⟨47, _⟩ => ⟨S16x32x64, .f32⟩
  | .hbm, ⟨48, _⟩ => ⟨S16x32x64, .f32⟩
  | .hbm, ⟨49, _⟩ => ⟨S16x32x64, .f32⟩
  | .hbm, ⟨50, _⟩ => ⟨S16x32x64, .f32⟩
  | .hbm, ⟨51, _⟩ => ⟨S1x32x64, .f32⟩
  | .hbm, ⟨52, _⟩ => ⟨S16x32x64, .f32⟩
  | .hbm, ⟨53, _⟩ => ⟨S16x32x64, .f32⟩
  | .hbm, ⟨54, _⟩ => ⟨S1x32x64, .f32⟩
  | .hbm, ⟨55, _⟩ => ⟨S16x32x64, .f32⟩
  | .hbm, ⟨56, _⟩ => ⟨S16x32x64, .f32⟩
  | .hbm, ⟨57, _⟩ => ⟨S16x32x64, .f32⟩
  | .hbm, ⟨58, _⟩ => ⟨S16x32x64, .f32⟩
  | .hbm, ⟨59, _⟩ => ⟨S1x16x32x64, .f32⟩
  | .hbm, ⟨60, _⟩ => ⟨S_, .i32⟩
  | .hbm, ⟨61, _⟩ => ⟨S_, .i32⟩
  | .hbm, ⟨62, _⟩ => ⟨S_, .i32⟩
  | .hbm, ⟨63, _⟩ => ⟨S4096x16x32x64, .f32⟩
  | .hbm, ⟨64, _⟩ => ⟨S1x16x32x64, .f32⟩
  | .hbm, ⟨65, _⟩ => ⟨S_, .i32⟩
  | .hbm, ⟨66, _⟩ => ⟨S_, .i32⟩
  | .hbm, ⟨67, _⟩ => ⟨S_, .i32⟩
  | .hbm, ⟨68, _⟩ => ⟨S4096x16x32x64, .f32⟩
  | .hbm, ⟨69, _⟩ => ⟨S_, .i32⟩
  | .hbm, ⟨70, _⟩ => ⟨S_, .i32⟩
  | .hbm, ⟨71, _⟩ => ⟨S32x4096x16x16, .f32⟩
  | .hbm, ⟨72, _⟩ => ⟨S16x4096x32x16, .f32⟩
  | .hbm, ⟨73, _⟩ => ⟨S32x4096x16x16, .f32⟩
  | .hbm, ⟨74, _⟩ => ⟨S16x4096x32x16, .f32⟩
  | .hbm, ⟨75, _⟩ => ⟨S16x4096x32x16, .f32⟩
  | .hbm, ⟨76, _⟩ => ⟨S16x4096x512, .f32⟩
  | .hbm, ⟨77, _⟩ => ⟨S1x1x512, .f32⟩
  | .hbm, ⟨78, _⟩ => ⟨S16x4096x512, .f32⟩
  | .hbm, ⟨79, _⟩ => ⟨S16x4096x512, .f32⟩
  | .hbm, ⟨80, _⟩ => ⟨S16x4096x512, .f32⟩
  | .hbm, ⟨81, _⟩ => ⟨S16x4096x512, .f32⟩
  | .hbm, ⟨82, _⟩ => ⟨S16x4096x512, .f32⟩
  | .hbm, ⟨83, _⟩ => ⟨S_, .f32⟩
  | .hbm, ⟨84, _⟩ => ⟨S16x4096x512, .f32⟩
  | .hbm, ⟨85, _⟩ => ⟨S16x4096x512, .f32⟩
  | .hbm, ⟨86, _⟩ => ⟨S16x4096x512, .f32⟩
  | .hbm, ⟨87, _⟩ => ⟨S_, .f32⟩
  | .hbm, ⟨88, _⟩ => ⟨S16x4096x512, .f32⟩
  | .hbm, ⟨89, _⟩ => ⟨S16x4096x512, .f32⟩
  | .hbm, ⟨90, _⟩ => ⟨S16x4096x512, .f32⟩
  | .hbm, ⟨91, _⟩ => ⟨S_, .f32⟩
  | .hbm, ⟨92, _⟩ => ⟨S16x4096x512, .f32⟩
  | .hbm, ⟨93, _⟩ => ⟨S16x4096x512, .f32⟩
  | .hbm, ⟨94, _⟩ => ⟨S_, .f32⟩
  | .hbm, ⟨95, _⟩ => ⟨S16x4096x512, .f32⟩
  | .hbm, ⟨96, _⟩ => ⟨S16x4096x512, .f32⟩
  | .hbm, ⟨97, _⟩ => ⟨S16x4096x512, .f32⟩
  | .hbm, ⟨98, _⟩ => ⟨S16x4096x2048, .f32⟩
  | .hbm, ⟨99, _⟩ => ⟨S1x1x2048, .f32⟩
  | .hbm, ⟨100, _⟩ => ⟨S16x4096x2048, .f32⟩
  | .hbm, ⟨101, _⟩ => ⟨S16x4096x2048, .f32⟩
  | .hbm, ⟨102, _⟩ => ⟨S16x4096x1024, .f32⟩
  | .hbm, ⟨103, _⟩ => ⟨S16x4096x1024, .f32⟩
  | .hbm, ⟨104, _⟩ => ⟨S16x4096x1024, .f32⟩
  | .hbm, ⟨105, _⟩ => ⟨S16x4096x1024, .f32⟩
  | .hbm, ⟨106, _⟩ => ⟨S_, .f32⟩
  | .hbm, ⟨107, _⟩ => ⟨S16x4096x1024, .f32⟩
  | .hbm, ⟨108, _⟩ => ⟨S16x4096x1024, .f32⟩
  | .hbm, ⟨109, _⟩ => ⟨S_, .f32⟩
  | .hbm, ⟨110, _⟩ => ⟨S16x4096x1024, .f32⟩
  | .hbm, ⟨111, _⟩ => ⟨S16x4096x1024, .f32⟩
  | .hbm, ⟨112, _⟩ => ⟨S16x4096x1024, .f32⟩
  | .hbm, ⟨113, _⟩ => ⟨S16x1x2048, .f32⟩
  | .hbm, ⟨114, _⟩ => ⟨S16x1x2048, .f32⟩
  | _, _ => ⟨S16x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst : Ref sig .tc := ⟨.hbm, 15, rfl⟩
abbrev main_v5 : Ref sig .tc := ⟨.hbm, 16, rfl⟩
abbrev main_cst_0 : Ref sig .tc := ⟨.hbm, 17, rfl⟩
abbrev main_v6 : Ref sig .tc := ⟨.hbm, 18, rfl⟩
abbrev main_cst_1 : Ref sig .tc := ⟨.hbm, 19, rfl⟩
abbrev main_v7 : Ref sig .tc := ⟨.hbm, 20, rfl⟩
abbrev main_c : Ref sig .tc := ⟨.hbm, 21, rfl⟩
abbrev main_v8_0 : Ref sig .tc := ⟨.hbm, 22, rfl⟩
abbrev main_v8_1 : Ref sig .tc := ⟨.hbm, 23, rfl⟩
abbrev main_v8_2 : Ref sig .tc := ⟨.hbm, 24, rfl⟩
abbrev main_v8_3 : Ref sig .tc := ⟨.hbm, 25, rfl⟩
abbrev main_v8_4 : Ref sig .tc := ⟨.hbm, 26, rfl⟩
abbrev main_v8_5 : Ref sig .tc := ⟨.hbm, 27, rfl⟩
abbrev main_v8_6 : Ref sig .tc := ⟨.hbm, 28, rfl⟩
abbrev main_v8_7 : Ref sig .tc := ⟨.hbm, 29, rfl⟩
abbrev main_v8_8 : Ref sig .tc := ⟨.hbm, 30, rfl⟩
abbrev main_while0c_c_16 : Ref sig .tc := ⟨.hbm, 31, rfl⟩
abbrev main_while0c_v47 : Ref sig .tc := ⟨.hbm, 32, rfl⟩
abbrev main_while0b_call0_c : Ref sig .tc := ⟨.hbm, 33, rfl⟩
abbrev main_while0b_call0_c_0 : Ref sig .tc := ⟨.hbm, 34, rfl⟩
abbrev main_while0b_call0_c_1 : Ref sig .tc := ⟨.hbm, 35, rfl⟩
abbrev main_while0b_call0_v0 : Ref sig .tc := ⟨.hbm, 36, rfl⟩
abbrev main_while0b_v47 : Ref sig .tc := ⟨.hbm, 37, rfl⟩
abbrev main_while0b_call1_c : Ref sig .tc := ⟨.hbm, 38, rfl⟩
abbrev main_while0b_call1_c_0 : Ref sig .tc := ⟨.hbm, 39, rfl⟩
abbrev main_while0b_call1_c_1 : Ref sig .tc := ⟨.hbm, 40, rfl⟩
abbrev main_while0b_call1_v0 : Ref sig .tc := ⟨.hbm, 41, rfl⟩
abbrev main_while0b_v48 : Ref sig .tc := ⟨.hbm, 42, rfl⟩
abbrev main_while0b_v49 : Ref sig .tc := ⟨.hbm, 43, rfl⟩
abbrev main_while0b_v50 : Ref sig .tc := ⟨.hbm, 44, rfl⟩
abbrev main_while0b_v51 : Ref sig .tc := ⟨.hbm, 45, rfl⟩
abbrev main_while0b_v52 : Ref sig .tc := ⟨.hbm, 46, rfl⟩
abbrev main_while0b_v53 : Ref sig .tc := ⟨.hbm, 47, rfl⟩
abbrev main_while0b_v54 : Ref sig .tc := ⟨.hbm, 48, rfl⟩
abbrev main_while0b_v55 : Ref sig .tc := ⟨.hbm, 49, rfl⟩
abbrev main_while0b_v56 : Ref sig .tc := ⟨.hbm, 50, rfl⟩
abbrev main_while0b_v57 : Ref sig .tc := ⟨.hbm, 51, rfl⟩
abbrev main_while0b_v58 : Ref sig .tc := ⟨.hbm, 52, rfl⟩
abbrev main_while0b_v59 : Ref sig .tc := ⟨.hbm, 53, rfl⟩
abbrev main_while0b_v60 : Ref sig .tc := ⟨.hbm, 54, rfl⟩
abbrev main_while0b_v61 : Ref sig .tc := ⟨.hbm, 55, rfl⟩
abbrev main_while0b_v62 : Ref sig .tc := ⟨.hbm, 56, rfl⟩
abbrev main_while0b_v63 : Ref sig .tc := ⟨.hbm, 57, rfl⟩
abbrev main_while0b_v64 : Ref sig .tc := ⟨.hbm, 58, rfl⟩
abbrev main_while0b_call2_v0 : Ref sig .tc := ⟨.hbm, 59, rfl⟩
abbrev main_while0b_call2_c : Ref sig .tc := ⟨.hbm, 60, rfl⟩
abbrev main_while0b_call2_c_0 : Ref sig .tc := ⟨.hbm, 61, rfl⟩
abbrev main_while0b_call2_c_1 : Ref sig .tc := ⟨.hbm, 62, rfl⟩
abbrev main_while0b_v65 : Ref sig .tc := ⟨.hbm, 63, rfl⟩
abbrev main_while0b_call3_v0 : Ref sig .tc := ⟨.hbm, 64, rfl⟩
abbrev main_while0b_call3_c : Ref sig .tc := ⟨.hbm, 65, rfl⟩
abbrev main_while0b_call3_c_0 : Ref sig .tc := ⟨.hbm, 66, rfl⟩
abbrev main_while0b_call3_c_1 : Ref sig .tc := ⟨.hbm, 67, rfl⟩
abbrev main_while0b_v66 : Ref sig .tc := ⟨.hbm, 68, rfl⟩
abbrev main_while0b_c_16 : Ref sig .tc := ⟨.hbm, 69, rfl⟩
abbrev main_while0b_v67 : Ref sig .tc := ⟨.hbm, 70, rfl⟩
abbrev main_v9 : Ref sig .tc := ⟨.hbm, 71, rfl⟩
abbrev main_v10 : Ref sig .tc := ⟨.hbm, 72, rfl⟩
abbrev main_v11 : Ref sig .tc := ⟨.hbm, 73, rfl⟩
abbrev main_v12 : Ref sig .tc := ⟨.hbm, 74, rfl⟩
abbrev main_v13 : Ref sig .tc := ⟨.hbm, 75, rfl⟩
abbrev main_v14 : Ref sig .tc := ⟨.hbm, 76, rfl⟩
abbrev main_v15 : Ref sig .tc := ⟨.hbm, 77, rfl⟩
abbrev main_v16 : Ref sig .tc := ⟨.hbm, 78, rfl⟩
abbrev main_v17 : Ref sig .tc := ⟨.hbm, 79, rfl⟩
abbrev main_v18 : Ref sig .tc := ⟨.hbm, 80, rfl⟩
abbrev main_v19 : Ref sig .tc := ⟨.hbm, 81, rfl⟩
abbrev main_v20 : Ref sig .tc := ⟨.hbm, 82, rfl⟩
abbrev main_cst_2 : Ref sig .tc := ⟨.hbm, 83, rfl⟩
abbrev main_v21 : Ref sig .tc := ⟨.hbm, 84, rfl⟩
abbrev main_v22 : Ref sig .tc := ⟨.hbm, 85, rfl⟩
abbrev main_v23 : Ref sig .tc := ⟨.hbm, 86, rfl⟩
abbrev main_cst_3 : Ref sig .tc := ⟨.hbm, 87, rfl⟩
abbrev main_v24 : Ref sig .tc := ⟨.hbm, 88, rfl⟩
abbrev main_v25 : Ref sig .tc := ⟨.hbm, 89, rfl⟩
abbrev main_v26 : Ref sig .tc := ⟨.hbm, 90, rfl⟩
abbrev main_cst_4 : Ref sig .tc := ⟨.hbm, 91, rfl⟩
abbrev main_v27 : Ref sig .tc := ⟨.hbm, 92, rfl⟩
abbrev main_v28 : Ref sig .tc := ⟨.hbm, 93, rfl⟩
abbrev main_cst_5 : Ref sig .tc := ⟨.hbm, 94, rfl⟩
abbrev main_v29 : Ref sig .tc := ⟨.hbm, 95, rfl⟩
abbrev main_v30 : Ref sig .tc := ⟨.hbm, 96, rfl⟩
abbrev main_v31 : Ref sig .tc := ⟨.hbm, 97, rfl⟩
abbrev main_v32 : Ref sig .tc := ⟨.hbm, 98, rfl⟩
abbrev main_v33 : Ref sig .tc := ⟨.hbm, 99, rfl⟩
abbrev main_v34 : Ref sig .tc := ⟨.hbm, 100, rfl⟩
abbrev main_v35 : Ref sig .tc := ⟨.hbm, 101, rfl⟩
abbrev main_v36 : Ref sig .tc := ⟨.hbm, 102, rfl⟩
abbrev main_v37 : Ref sig .tc := ⟨.hbm, 103, rfl⟩
abbrev main_v38 : Ref sig .tc := ⟨.hbm, 104, rfl⟩
abbrev main_v39 : Ref sig .tc := ⟨.hbm, 105, rfl⟩
abbrev main_cst_6 : Ref sig .tc := ⟨.hbm, 106, rfl⟩
abbrev main_v40 : Ref sig .tc := ⟨.hbm, 107, rfl⟩
abbrev main_v41 : Ref sig .tc := ⟨.hbm, 108, rfl⟩
abbrev main_cst_7 : Ref sig .tc := ⟨.hbm, 109, rfl⟩
abbrev main_v42 : Ref sig .tc := ⟨.hbm, 110, rfl⟩
abbrev main_v43 : Ref sig .tc := ⟨.hbm, 111, rfl⟩
abbrev main_v44 : Ref sig .tc := ⟨.hbm, 112, rfl⟩
abbrev main_v45 : Ref sig .tc := ⟨.hbm, 113, rfl⟩
abbrev main_v46 : Ref sig .tc := ⟨.hbm, 114, rfl⟩

abbrev nD : Nat := 1
abbrev τ : Topo := Topo.v7x

variable {F : FTy → Type} [FloatOps F]

abbrev main_while0_count : Scf.Loop 32 := ⟨0#32, 4096#32, 1#32⟩
-- ==== ProjS.lean ====
abbrev S128x1x1024 : Shape := ⟨3, ![128, 1, 1024]⟩
abbrev S1024 : Shape := ⟨1, ![1024]⟩
abbrev S1024x3912 : Shape := ⟨2, ![1024, 3912]⟩
abbrev S128x1024 : Shape := ⟨2, ![128, 1024]⟩
abbrev S_ : Shape := ⟨0, ![]⟩
abbrev S128 : Shape := ⟨1, ![128]⟩
abbrev S8 : Shape := ⟨1, ![8]⟩
abbrev S128x1 : Shape := ⟨2, ![128, 1]⟩
abbrev S1x8 : Shape := ⟨2, ![1, 8]⟩
abbrev S128x8 : Shape := ⟨2, ![128, 8]⟩
abbrev S128x48 : Shape := ⟨2, ![128, 48]⟩
abbrev S128x64 : Shape := ⟨2, ![128, 64]⟩
abbrev S1x128x1x64 : Shape := ⟨4, ![1, 128, 1, 64]⟩
abbrev S1x128x2x64 : Shape := ⟨4, ![1, 128, 2, 64]⟩
abbrev S128x128 : Shape := ⟨2, ![128, 128]⟩
abbrev S1024x1864 : Shape := ⟨2, ![1024, 1864]⟩
abbrev S1024x56 : Shape := ⟨2, ![1024, 56]⟩
abbrev S1024x2048 : Shape := ⟨2, ![1024, 2048]⟩
abbrev S1024x3968 : Shape := ⟨2, ![1024, 3968]⟩
abbrev S1x1024 : Shape := ⟨2, ![1, 1024]⟩
abbrev S128x512 : Shape := ⟨2, ![128, 512]⟩
abbrev S1024x512 : Shape := ⟨2, ![1024, 512]⟩
abbrev S1024x128 : Shape := ⟨2, ![1024, 128]⟩
abbrev S1024x1024 : Shape := ⟨2, ![1024, 1024]⟩

abbrev nBuf : Space → Nat
  | .hbm => 60
  | .vmem => 18
  | .smem => 0
  | _ => 0

abbrev bufTy : (tb : Table) → Fin (tcTables nBuf tb) → BufTy
  | .hbm, ⟨0, _⟩ => ⟨S128x1x1024, .f32⟩
  | .hbm, ⟨1, _⟩ => ⟨S1024, .f32⟩
  | .hbm, ⟨2, _⟩ => ⟨S1024x3912, .f32⟩
  | .hbm, ⟨3, _⟩ => ⟨S128x1024, .f32⟩
  | .hbm, ⟨4, _⟩ => ⟨S_, .i32⟩
  | .hbm, ⟨5, _⟩ => ⟨S128, .i32⟩
  | .hbm, ⟨6, _⟩ => ⟨S8, .f32⟩
  | .hbm, ⟨7, _⟩ => ⟨S8, .f32⟩
  | .hbm, ⟨8, _⟩ => ⟨S_, .f32⟩
  | .hbm, ⟨9, _⟩ => ⟨S8, .f32⟩
  | .hbm, ⟨10, _⟩ => ⟨S8, .f32⟩
  | .hbm, ⟨11, _⟩ => ⟨S_, .f32⟩
  | .hbm, ⟨12, _⟩ => ⟨S8, .f32⟩
  | .hbm, ⟨13, _⟩ => ⟨S8, .f32⟩
  | .hbm, ⟨14, _⟩ => ⟨S128, .f32⟩
  | .hbm, ⟨15, _⟩ => ⟨S128x1, .f32⟩
  | .hbm, ⟨16, _⟩ => ⟨S1x8, .f32⟩
  | .hbm, ⟨17, _⟩ => ⟨S128x8, .f32⟩
  | .hbm, ⟨18, _⟩ => ⟨S128x8, .f32⟩
  | .hbm, ⟨19, _⟩ => ⟨S128x8, .f32⟩
  | .hbm, ⟨20, _⟩ => ⟨S128x8, .f32⟩
  | .hbm, ⟨21, _⟩ => ⟨S128x8, .f32⟩
  | .hbm, ⟨22, _⟩ => ⟨S_, .f32⟩
  | .hbm, ⟨23, _⟩ => ⟨S128x48, .f32⟩
  | .hbm, ⟨24, _⟩ => ⟨S_, .f32⟩
  | .hbm, ⟨25, _⟩ => ⟨S128x48, .f32⟩
  | .hbm, ⟨26, _⟩ => ⟨S_, .f32⟩
  | .hbm, ⟨27, _⟩ => ⟨S128x8, .f32⟩
  | .hbm, ⟨28, _⟩ => ⟨S128x64, .f32⟩
  | .hbm, ⟨29, _⟩ => ⟨S128x8, .f32⟩
  | .hbm, ⟨30, _⟩ => ⟨S128x64, .f32⟩
  | .hbm, ⟨31, _⟩ => ⟨S128x64, .f32⟩
  | .hbm, ⟨32, _⟩ => ⟨S1x128x1x64, .f32⟩
  | .hbm, ⟨33, _⟩ => ⟨S1x128x2x64, .f32⟩
  | .hbm, ⟨34, _⟩ => ⟨S128x128, .f32⟩
  | .hbm, ⟨35, _⟩ => ⟨S1x128x1x64, .f32⟩
  | .hbm, ⟨36, _⟩ => ⟨S1x128x2x64, .f32⟩
  | .hbm, ⟨37, _⟩ => ⟨S128x128, .f32⟩
  | .hbm, ⟨38, _⟩ => ⟨S1x128x1x64, .f32⟩
  | .hbm, ⟨39, _⟩ => ⟨S1x128x2x64, .f32⟩
  | .hbm, ⟨40, _⟩ => ⟨S128x128, .f32⟩
  | .hbm, ⟨41, _⟩ => ⟨S1024x1864, .f32⟩
  | .hbm, ⟨42, _⟩ => ⟨S_, .f32⟩
  | .hbm, ⟨43, _⟩ => ⟨S1024x56, .f32⟩
  | .hbm, ⟨44, _⟩ => ⟨S1024x2048, .f32⟩
  | .hbm, ⟨45, _⟩ => ⟨S1024x3968, .f32⟩
  | .hbm, ⟨46, _⟩ => ⟨S1024x3968, .bf16⟩
  | .hbm, ⟨47, _⟩ => ⟨S1x1024, .f32⟩
  | .hbm, ⟨48, _⟩ => ⟨S128x512, .f32⟩
  | .hbm, ⟨49, _⟩ => ⟨S128x512, .bf16⟩
  | .hbm, ⟨50, _⟩ => ⟨S128x128, .f32⟩
  | .hbm, ⟨51, _⟩ => ⟨S128x128, .bf16⟩
  | .hbm, ⟨52, _⟩ => ⟨S128x128, .f32⟩
  | .hbm, ⟨53, _⟩ => ⟨S128x128, .bf16⟩
  | .hbm, ⟨54, _⟩ => ⟨S128x512, .bf16⟩
  | .hbm, ⟨55, _⟩ => ⟨S128x64, .f32⟩
  | .hbm, ⟨56, _⟩ => ⟨S128x64, .bf16⟩
  | .hbm, ⟨57, _⟩ => ⟨S128x8, .f32⟩
  | .hbm, ⟨58, _⟩ => ⟨S128x1024, .f32⟩
  | .hbm, ⟨59, _⟩ => ⟨S128x1024, .f32⟩
  | .local _ .vmem, ⟨0, _⟩ => ⟨S128x1024, .f32⟩
  | .local _ .vmem, ⟨1, _⟩ => ⟨S1x1024, .f32⟩
  | .local _ .vmem, ⟨2, _⟩ => ⟨S1024x3968, .bf16⟩
  | .local _ .vmem, ⟨3, _⟩ => ⟨S128x128, .f32⟩
  | .local _ .vmem, ⟨4, _⟩ => ⟨S128x128, .f32⟩
  | .local _ .vmem, ⟨5, _⟩ => ⟨S128x128, .f32⟩
  | .local _ .vmem, ⟨6, _⟩ => ⟨S128x512, .f32⟩
  | .local _ .vmem, ⟨7, _⟩ => ⟨S128x512, .bf16⟩
  | .local _ .vmem, ⟨8, _⟩ => ⟨S128x128, .f32⟩
  | .local _ .vmem, ⟨9, _⟩ => ⟨S128x128, .bf16⟩
  | .local _ .vmem, ⟨10, _⟩ => ⟨S128x128, .f32⟩
  | .local _ .vmem, ⟨11, _⟩ => ⟨S128x128, .bf16⟩
  | .local _ .vmem, ⟨12, _⟩ => ⟨S128x512, .bf16⟩
  | .local _ .vmem, ⟨13, _⟩ => ⟨S128x64, .f32⟩
  | .local _ .vmem, ⟨14, _⟩ => ⟨S128x64, .bf16⟩
  | .local _ .vmem, ⟨15, _⟩ => ⟨S128x8, .f32⟩
  | .local _ .vmem, ⟨16, _⟩ => ⟨S128x1024, .f32⟩
  | .local _ .vmem, ⟨17, _⟩ => ⟨S128x1024, .f32⟩
  | _, _ => ⟨S128x1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_1 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_cst_4 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38_0 : Ref sig .tc := ⟨.hbm, 48, rfl⟩
abbrev main_v38_1 : Ref sig .tc := ⟨.hbm, 49, rfl⟩
abbrev main_v38_2 : Ref sig .tc := ⟨.hbm, 50, rfl⟩
abbrev main_v38_3 : Ref sig .tc := ⟨.hbm, 51, rfl⟩
abbrev main_v38_4 : Ref sig .tc := ⟨.hbm, 52, rfl⟩
abbrev main_v38_5 : Ref sig .tc := ⟨.hbm, 53, rfl⟩
abbrev main_v38_6 : Ref sig .tc := ⟨.hbm, 54, rfl⟩
abbrev main_v38_7 : Ref sig .tc := ⟨.hbm, 55, rfl⟩
abbrev main_v38_8 : Ref sig .tc := ⟨.hbm, 56, rfl⟩
abbrev main_v38_9 : Ref sig .tc := ⟨.hbm, 57, rfl⟩
abbrev main_v38_10 : Ref sig .tc := ⟨.hbm, 58, rfl⟩
abbrev main_v38_11 : Ref sig .tc := ⟨.hbm, 59, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3968 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S128x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]

abbrev stage0_9 : Fin 1 → Memref sig .tc .vmem S128x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]

abbrev stage0_10 : Fin 1 → Memref sig .tc .vmem S128x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true]

abbrev stage0_11 : Fin 1 → Memref sig .tc .vmem S128x128 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true]

abbrev stage0_12 : Fin 1 → Memref sig .tc .vmem S128x512 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![true]

abbrev stage0_13 : Fin 1 → Memref sig .tc .vmem S128x64 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![true]

abbrev stage0_14 : Fin 1 → Memref sig .tc .vmem S128x64 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![true]

abbrev stage0_15 : Fin 1 → Memref sig .tc .vmem S128x8 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![true]

abbrev stage0_16 : Fin 1 → Memref sig .tc .vmem S128x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![true]

abbrev stage0_17 : Fin 1 → Memref sig .tc .vmem S128x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![true]
-- ==== ProjSRefIdeal.lean ====
abbrev S128x1x1024 : Shape := ⟨3, ![128, 1, 1024]⟩
abbrev S1024 : Shape := ⟨1, ![1024]⟩
abbrev S1024x3912 : Shape := ⟨2, ![1024, 3912]⟩
abbrev S1 : Shape := ⟨1, ![1]⟩
abbrev S_ : Shape := ⟨0, ![]⟩
abbrev S128x1 : Shape := ⟨2, ![128, 1]⟩
abbrev S128x1x1 : Shape := ⟨3, ![128, 1, 1]⟩
abbrev S1x1x1024 : Shape := ⟨3, ![1, 1, 1024]⟩
abbrev S128x1x3912 : Shape := ⟨3, ![128, 1, 3912]⟩
abbrev S128x1x512 : Shape := ⟨3, ![128, 1, 512]⟩
abbrev S128x1x128 : Shape := ⟨3, ![128, 1, 128]⟩
abbrev S128x1x64 : Shape := ⟨3, ![128, 1, 64]⟩
abbrev S128x1x8 : Shape := ⟨3, ![128, 1, 8]⟩
abbrev S8 : Shape := ⟨1, ![8]⟩
abbrev S1x1 : Shape := ⟨2, ![1, 1]⟩
abbrev S1x8 : Shape := ⟨2, ![1, 8]⟩
abbrev S1x1x8 : Shape := ⟨3, ![1, 1, 8]⟩
abbrev S128x1x8x64 : Shape := ⟨4, ![128, 1, 8, 64]⟩
abbrev S128x1x8x16 : Shape := ⟨4, ![128, 1, 8, 16]⟩
abbrev S128x1x8x8 : Shape := ⟨4, ![128, 1, 8, 8]⟩
abbrev S1x1x1x8 : Shape := ⟨4, ![1, 1, 1, 8]⟩
abbrev S128x1x8x48 : Shape := ⟨4, ![128, 1, 8, 48]⟩
abbrev S128x1x2x64 : Shape := ⟨4, ![128, 1, 2, 64]⟩
abbrev S128x1x2x16 : Shape := ⟨4, ![128, 1, 2, 16]⟩
abbrev S128x1x2x8 : Shape := ⟨4, ![128, 1, 2, 8]⟩
abbrev S128x1x2x48 : Shape := ⟨4, ![128, 1, 2, 48]⟩
abbrev S128x1x1x64 : Shape := ⟨4, ![128, 1, 1, 64]⟩
abbrev S128x1x1x16 : Shape := ⟨4, ![128, 1, 1, 16]⟩
abbrev S128x1x1x8 : Shape := ⟨4, ![128, 1, 1, 8]⟩
abbrev S128x1x1x48 : Shape := ⟨4, ![128, 1, 1, 48]⟩
abbrev S128x128 : Shape := ⟨2, ![128, 128]⟩
abbrev S128x64 : Shape := ⟨2, ![128, 64]⟩
abbrev S128x512 : Shape := ⟨2, ![128, 512]⟩
abbrev S128x8 : Shape := ⟨2, ![128, 8]⟩
abbrev S128x1024 : Shape := ⟨2, ![128, 1024]⟩

abbrev nBuf : Space → Nat
  | .hbm => 170
  | .vmem => 0
  | .smem => 0
  | _ => 0

abbrev hbmTy0_0 (i : Nat) : BufTy := match i % 128 with
  | 0 => ⟨S128x1x1024, .f32⟩
  | 1 => ⟨S1024, .f32⟩
  | 2 => ⟨S1024x3912, .f32⟩
  | 3 => ⟨S1, .i32⟩
  | 4 => ⟨S_, .i32⟩
  | 5 => ⟨S1, .i32⟩
  | 6 => ⟨S1, .i32⟩
  | 7 => ⟨S128x1x1024, .f32⟩
  | 8 => ⟨S_, .f32⟩
  | 9 => ⟨S128x1, .f32⟩
  | 10 => ⟨S128x1x1, .f32⟩
  | 11 => ⟨S_, .f32⟩
  | 12 => ⟨S128x1x1, .f32⟩
  | 13 => ⟨S128x1x1, .f32⟩
  | 14 => ⟨S_, .f32⟩
  | 15 => ⟨S128x1x1, .f32⟩
  | 16 => ⟨S128x1x1, .f32⟩
  | 17 => ⟨S128x1x1, .f32⟩
  | 18 => ⟨S128x1x1024, .f32⟩
  | 19 => ⟨S128x1x1024, .f32⟩
  | 20 => ⟨S1x1x1024, .f32⟩
  | 21 => ⟨S128x1x1024, .f32⟩
  | 22 => ⟨S128x1x1024, .f32⟩
  | 23 => ⟨S128x1x3912, .f32⟩
  | 24 => ⟨S128x1x512, .f32⟩
  | 25 => ⟨S128x1x512, .f32⟩
  | 26 => ⟨S128x1x128, .f32⟩
  | 27 => ⟨S128x1x128, .f32⟩
  | 28 => ⟨S128x1x512, .f32⟩
  | 29 => ⟨S128x1x64, .f32⟩
  | 30 => ⟨S128x1x8, .f32⟩
  | 31 => ⟨S128x1x1024, .f32⟩
  | 32 => ⟨S128x1x1024, .f32⟩
  | 33 => ⟨S8, .f32⟩
  | 34 => ⟨S8, .f32⟩
  | 35 => ⟨S_, .f32⟩
  | 36 => ⟨S8, .f32⟩
  | 37 => ⟨S8, .f32⟩
  | 38 => ⟨S_, .f32⟩
  | 39 => ⟨S8, .f32⟩
  | 40 => ⟨S8, .f32⟩
  | 41 => ⟨S1, .f32⟩
  | 42 => ⟨S1x1, .f32⟩
  | 43 => ⟨S1x8, .f32⟩
  | 44 => ⟨S1x8, .f32⟩
  | 45 => ⟨S1x8, .f32⟩
  | 46 => ⟨S1x8, .f32⟩
  | 47 => ⟨S1x1x8, .f32⟩
  | 48 => ⟨S1x8, .f32⟩
  | 49 => ⟨S1x1x8, .f32⟩
  | 50 => ⟨S128x1x8x64, .f32⟩
  | 51 => ⟨S128x1x8x16, .f32⟩
  | 52 => ⟨S128x1x8x8, .f32⟩
  | 53 => ⟨S128x1x8x8, .f32⟩
  | 54 => ⟨S1x1x1x8, .f32⟩
  | 55 => ⟨S128x1x8x8, .f32⟩
  | 56 => ⟨S128x1x8x8, .f32⟩
  | 57 => ⟨S1x1x1x8, .f32⟩
  | 58 => ⟨S128x1x8x8, .f32⟩
  | 59 => ⟨S128x1x8x8, .f32⟩
  | 60 => ⟨S128x1x8x8, .f32⟩
  | 61 => ⟨S1x1x1x8, .f32⟩
  | 62 => ⟨S128x1x8x8, .f32⟩
  | 63 => ⟨S128x1x8x8, .f32⟩
  | 64 => ⟨S1x1x1x8, .f32⟩
  | 65 => ⟨S128x1x8x8, .f32⟩
  | 66 => ⟨S128x1x8x8, .f32⟩
  | 67 => ⟨S128x1x8x8, .f32⟩
  | 68 => ⟨S128x1x8x16, .f32⟩
  | 69 => ⟨S128x1x8x48, .f32⟩
  | 70 => ⟨S128x1x8x64, .f32⟩
  | 71 => ⟨S_, .f32⟩
  | 72 => ⟨S128x1x8x64, .f32⟩
  | 73 => ⟨S128x1x8x64, .f32⟩
  | 74 => ⟨S128x1x2x64, .f32⟩
  | 75 => ⟨S128x1x2x16, .f32⟩
  | 76 => ⟨S128x1x2x8, .f32⟩
  | 77 => ⟨S128x1x2x8, .f32⟩
  | 78 => ⟨S1x1x1x8, .f32⟩
  | 79 => ⟨S128x1x2x8, .f32⟩
  | 80 => ⟨S128x1x2x8, .f32⟩
  | 81 => ⟨S1x1x1x8, .f32⟩
  | 82 => ⟨S128x1x2x8, .f32⟩
  | 83 => ⟨S128x1x2x8, .f32⟩
  | 84 => ⟨S128x1x2x8, .f32⟩
  | 85 => ⟨S1x1x1x8, .f32⟩
  | 86 => ⟨S128x1x2x8, .f32⟩
  | 87 => ⟨S128x1x2x8, .f32⟩
  | 88 => ⟨S1x1x1x8, .f32⟩
  | 89 => ⟨S128x1x2x8, .f32⟩
  | 90 => ⟨S128x1x2x8, .f32⟩
  | 91 => ⟨S128x1x2x8, .f32⟩
  | 92 => ⟨S128x1x2x16, .f32⟩
  | 93 => ⟨S128x1x2x48, .f32⟩
  | 94 => ⟨S128x1x2x64, .f32⟩
  | 95 => ⟨S128x1x8x64, .f32⟩
  | 96 => ⟨S128x1x8x16, .f32⟩
  | 97 => ⟨S128x1x8x8, .f32⟩
  | 98 => ⟨S128x1x8x8, .f32⟩
  | 99 => ⟨S1x1x1x8, .f32⟩
  | 100 => ⟨S128x1x8x8, .f32⟩
  | 101 => ⟨S128x1x8x8, .f32⟩
  | 102 => ⟨S1x1x1x8, .f32⟩
  | 103 => ⟨S128x1x8x8, .f32⟩
  | 104 => ⟨S128x1x8x8, .f32⟩
  | 105 => ⟨S128x1x8x8, .f32⟩
  | 106 => ⟨S1x1x1x8, .f32⟩
  | 107 => ⟨S128x1x8x8, .f32⟩
  | 108 => ⟨S128x1x8x8, .f32⟩
  | 109 => ⟨S1x1x1x8, .f32⟩
  | 110 => ⟨S128x1x8x8, .f32⟩
  | 111 => ⟨S128x1x8x8, .f32⟩
  | 112 => ⟨S128x1x8x8, .f32⟩
  | 113 => ⟨S128x1x8x16, .f32⟩
  | 114 => ⟨S128x1x8x48, .f32⟩
  | 115 => ⟨S128x1x8x64, .f32⟩
  | 116 => ⟨S128x1x1x64, .f32⟩
  | 117 => ⟨S128x1x1x16, .f32⟩
  | 118 => ⟨S128x1x1x8, .f32⟩
  | 119 => ⟨S128x1x1x8, .f32⟩
  | 120 => ⟨S1x1x1x8, .f32⟩
  | 121 => ⟨S128x1x1x8, .f32⟩
  | 122 => ⟨S128x1x1x8, .f32⟩
  | 123 => ⟨S1x1x1x8, .f32⟩
  | 124 => ⟨S128x1x1x8, .f32⟩
  | 125 => ⟨S128x1x1x8, .f32⟩
  | 126 => ⟨S128x1x1x8, .f32⟩
  | 127 => ⟨S1x1x1x8, .f32⟩
  | _ => ⟨S128x1x1024, .f32⟩

abbrev hbmTy0_1 (i : Nat) : BufTy := match i % 128 with
  | 0 => ⟨S128x1x1x8, .f32⟩
  | 1 => ⟨S128x1x1x8, .f32⟩
  | 2 => ⟨S1x1x1x8, .f32⟩
  | 3 => ⟨S128x1x1x8, .f32⟩
  | 4 => ⟨S128x1x1x8, .f32⟩
  | 5 => ⟨S128x1x1x8, .f32⟩
  | 6 => ⟨S128x1x1x16, .f32⟩
  | 7 => ⟨S128x1x1x48, .f32⟩
  | 8 => ⟨S128x1x1x64, .f32⟩
  | 9 => ⟨S_, .f32⟩
  | 10 => ⟨S128x1x8, .f32⟩
  | 11 => ⟨S128x1x8, .f32⟩
  | 12 => ⟨S128x128, .f32⟩
  | 13 => ⟨S128x128, .f32⟩
  | 14 => ⟨S128x64, .f32⟩
  | 15 => ⟨S128x512, .f32⟩
  | 16 => ⟨S128x512, .f32⟩
  | 17 => ⟨S128x512, .bf16⟩
  | 18 => ⟨S128x128, .bf16⟩
  | 19 => ⟨S128x128, .bf16⟩
  | 20 => ⟨S128x512, .f32⟩
  | 21 => ⟨S128x512, .bf16⟩
  | 22 => ⟨S128x64, .bf16⟩
  | 23 => ⟨S128x8, .f32⟩
  | 24 => ⟨S128x1x1024, .f32⟩
  | 25 => ⟨S128x1x1024, .f32⟩
  | 26 => ⟨S_, .f32⟩
  | 27 => ⟨S128x1x1024, .f32⟩
  | 28 => ⟨S128x1x1024, .f32⟩
  | 29 => ⟨S_, .f32⟩
  | 30 => ⟨S128x1x1024, .f32⟩
  | 31 => ⟨S128x1x1024, .f32⟩
  | 32 => ⟨S128x1024, .f32⟩
  | 33 => ⟨S128x1x1024, .f32⟩
  | 34 => ⟨S128x1x1024, .f32⟩
  | 35 => ⟨S_, .f32⟩
  | 36 => ⟨S128x1x1024, .f32⟩
  | 37 => ⟨S128x1x1024, .f32⟩
  | 38 => ⟨S_, .f32⟩
  | 39 => ⟨S128x1x1024, .f32⟩
  | 40 => ⟨S128x1x1024, .f32⟩
  | 41 => ⟨S128x1024, .f32⟩
  | _ => ⟨S128x1x1024, .f32⟩

abbrev hbmTy (i : Nat) : BufTy := match i / 128 with
  | 0 => hbmTy0_0 i
  | 1 => hbmTy0_1 i
  | _ => ⟨S128x1x1024, .f32⟩

abbrev bufTy : (tb : Table) → Fin (tcTables nBuf tb) → BufTy
  | .hbm, ⟨i, _⟩ => hbmTy i
  | _, _ => ⟨S128x1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_cst_2 : Ref sig .tc := ⟨.hbm, 35, rfl⟩
abbrev main_v28 : Ref sig .tc := ⟨.hbm, 36, rfl⟩
abbrev main_v29 : Ref sig .tc := ⟨.hbm, 37, rfl⟩
abbrev main_cst_3 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_cst_4 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_v80 : Ref sig .tc := ⟨.hbm, 90, rfl⟩
abbrev main_v81 : Ref sig .tc := ⟨.hbm, 91, rfl⟩
abbrev main_v82 : Ref sig .tc := ⟨.hbm, 92, rfl⟩
abbrev main_v83 : Ref sig .tc := ⟨.hbm, 93, rfl⟩
abbrev main_v84 : Ref sig .tc := ⟨.hbm, 94, rfl⟩
abbrev main_v85 : Ref sig .tc := ⟨.hbm, 95, rfl⟩
abbrev main_v86 : Ref sig .tc := ⟨.hbm, 96, rfl⟩
abbrev main_v87 : Ref sig .tc := ⟨.hbm, 97, rfl⟩
abbrev main_v88 : Ref sig .tc := ⟨.hbm, 98, rfl⟩
abbrev main_v89 : Ref sig .tc := ⟨.hbm, 99, rfl⟩
abbrev main_v90 : Ref sig .tc := ⟨.hbm, 100, rfl⟩
abbrev main_v91 : Ref sig .tc := ⟨.hbm, 101, rfl⟩
abbrev main_v92 : Ref sig .tc := ⟨.hbm, 102, rfl⟩
abbrev main_v93 : Ref sig .tc := ⟨.hbm, 103, rfl⟩
abbrev main_v94 : Ref sig .tc := ⟨.hbm, 104, rfl⟩
abbrev main_v95 : Ref sig .tc := ⟨.hbm, 105, rfl⟩
abbrev main_v96 : Ref sig .tc := ⟨.hbm, 106, rfl⟩
abbrev main_v97 : Ref sig .tc := ⟨.hbm, 107, rfl⟩
abbrev main_v98 : Ref sig .tc := ⟨.hbm, 108, rfl⟩
abbrev main_v99 : Ref sig .tc := ⟨.hbm, 109, rfl⟩
abbrev main_v100 : Ref sig .tc := ⟨.hbm, 110, rfl⟩
abbrev main_v101 : Ref sig .tc := ⟨.hbm, 111, rfl⟩
abbrev main_v102 : Ref sig .tc := ⟨.hbm, 112, rfl⟩
abbrev main_v103 : Ref sig .tc := ⟨.hbm, 113, rfl⟩
abbrev main_v104 : Ref sig .tc := ⟨.hbm, 114, rfl⟩
abbrev main_v105 : Ref sig .tc := ⟨.hbm, 115, rfl⟩
abbrev main_v106 : Ref sig .tc := ⟨.hbm, 116, rfl⟩
abbrev main_v107 : Ref sig .tc := ⟨.hbm, 117, rfl⟩
abbrev main_v108 : Ref sig .tc := ⟨.hbm, 118, rfl⟩
abbrev main_v109 : Ref sig .tc := ⟨.hbm, 119, rfl⟩
abbrev main_v110 : Ref sig .tc := ⟨.hbm, 120, rfl⟩
abbrev main_v111 : Ref sig .tc := ⟨.hbm, 121, rfl⟩
abbrev main_v112 : Ref sig .tc := ⟨.hbm, 122, rfl⟩
abbrev main_v113 : Ref sig .tc := ⟨.hbm, 123, rfl⟩
abbrev main_v114 : Ref sig .tc := ⟨.hbm, 124, rfl⟩
abbrev main_v115 : Ref sig .tc := ⟨.hbm, 125, rfl⟩
abbrev main_v116 : Ref sig .tc := ⟨.hbm, 126, rfl⟩
abbrev main_v117 : Ref sig .tc := ⟨.hbm, 127, rfl⟩
abbrev main_v118 : Ref sig .tc := ⟨.hbm, 128, rfl⟩
abbrev main_v119 : Ref sig .tc := ⟨.hbm, 129, rfl⟩
abbrev main_v120 : Ref sig .tc := ⟨.hbm, 130, rfl⟩
abbrev main_v121 : Ref sig .tc := ⟨.hbm, 131, rfl⟩
abbrev main_v122 : Ref sig .tc := ⟨.hbm, 132, rfl⟩
abbrev main_v123 : Ref sig .tc := ⟨.hbm, 133, rfl⟩
abbrev main_v124 : Ref sig .tc := ⟨.hbm, 134, rfl⟩
abbrev main_v125 : Ref sig .tc := ⟨.hbm, 135, rfl⟩
abbrev main_v126 : Ref sig .tc := ⟨.hbm, 136, rfl⟩
abbrev main_cst_5 : Ref sig .tc := ⟨.hbm, 137, rfl⟩
abbrev main_v127 : Ref sig .tc := ⟨.hbm, 138, rfl⟩
abbrev main_v128 : Ref sig .tc := ⟨.hbm, 139, rfl⟩
abbrev main_v129 : Ref sig .tc := ⟨.hbm, 140, rfl⟩
abbrev main_v130 : Ref sig .tc := ⟨.hbm, 141, rfl⟩
abbrev main_v131 : Ref sig .tc := ⟨.hbm, 142, rfl⟩
abbrev main_v132 : Ref sig .tc := ⟨.hbm, 143, rfl⟩
abbrev main_v133 : Ref sig .tc := ⟨.hbm, 144, rfl⟩
abbrev main_v134 : Ref sig .tc := ⟨.hbm, 145, rfl⟩
abbrev main_v135 : Ref sig .tc := ⟨.hbm, 146, rfl⟩
abbrev main_v136 : Ref sig .tc := ⟨.hbm, 147, rfl⟩
abbrev main_v137 : Ref sig .tc := ⟨.hbm, 148, rfl⟩
abbrev main_v138 : Ref sig .tc := ⟨.hbm, 149, rfl⟩
abbrev main_v139 : Ref sig .tc := ⟨.hbm, 150, rfl⟩
abbrev main_v140 : Ref sig .tc := ⟨.hbm, 151, rfl⟩
abbrev main_v141 : Ref sig .tc := ⟨.hbm, 152, rfl⟩
abbrev main_v142 : Ref sig .tc := ⟨.hbm, 153, rfl⟩
abbrev main_cst_6 : Ref sig .tc := ⟨.hbm, 154, rfl⟩
abbrev main_v143 : Ref sig .tc := ⟨.hbm, 155, rfl⟩
abbrev main_v144 : Ref sig .tc := ⟨.hbm, 156, rfl⟩
abbrev main_cst_7 : Ref sig .tc := ⟨.hbm, 157, rfl⟩
abbrev main_v145 : Ref sig .tc := ⟨.hbm, 158, rfl⟩
abbrev main_v146 : Ref sig .tc := ⟨.hbm, 159, rfl⟩
abbrev main_v147 : Ref sig .tc := ⟨.hbm, 160, rfl⟩
abbrev main_v148 : Ref sig .tc := ⟨.hbm, 161, rfl⟩
abbrev main_v149 : Ref sig .tc := ⟨.hbm, 162, rfl⟩
abbrev main_cst_8 : Ref sig .tc := ⟨.hbm, 163, rfl⟩
abbrev main_v150 : Ref sig .tc := ⟨.hbm, 164, rfl⟩
abbrev main_v151 : Ref sig .tc := ⟨.hbm, 165, rfl⟩
abbrev main_cst_9 : Ref sig .tc := ⟨.hbm, 166, rfl⟩
abbrev main_v152 : Ref sig .tc := ⟨.hbm, 167, rfl⟩
abbrev main_v153 : Ref sig .tc := ⟨.hbm, 168, rfl⟩
abbrev main_v154 : Ref sig .tc := ⟨.hbm, 169, rfl⟩

abbrev nD : Nat := 1
abbrev τ : Topo := Topo.v7x

variable {F : FTy → Type} [FloatOps F]
-- ==== ScanS.lean ====
abbrev S128x512 : Shape := ⟨2, ![128, 512]⟩
abbrev S128x32x64 : Shape := ⟨3, ![128, 32, 64]⟩
abbrev S32x64 : Shape := ⟨2, ![32, 64]⟩
abbrev S32x64x16 : Shape := ⟨3, ![32, 64, 16]⟩
abbrev S32x16x64 : Shape := ⟨3, ![32, 16, 64]⟩
abbrev S512 : Shape := ⟨1, ![512]⟩
abbrev S512x2048 : Shape := ⟨2, ![512, 2048]⟩
abbrev S2048 : Shape := ⟨1, ![2048]⟩
abbrev S32x32 : Shape := ⟨2, ![32, 32]⟩
abbrev S_ : Shape := ⟨0, ![]⟩
abbrev S32x16x1x64 : Shape := ⟨4, ![32, 16, 1, 64]⟩
abbrev S32x1x32x1 : Shape := ⟨4, ![32, 1, 32, 1]⟩
abbrev S32x16x32x64 : Shape := ⟨4, ![32, 16, 32, 64]⟩
abbrev S32x64x1x16 : Shape := ⟨4, ![32, 64, 1, 16]⟩
abbrev S32x64x32x16 : Shape := ⟨4, ![32, 64, 32, 16]⟩
abbrev S2048x512 : Shape := ⟨2, ![2048, 512]⟩
abbrev S1x2048 : Shape := ⟨2, ![1, 2048]⟩
abbrev S8 : Shape := ⟨1, ![8]⟩
abbrev S8x1 : Shape := ⟨2, ![8, 1]⟩
abbrev S8x2048 : Shape := ⟨2, ![8, 2048]⟩
abbrev S1x8x2048 : Shape := ⟨3, ![1, 8, 2048]⟩
abbrev S8x8x2048 : Shape := ⟨3, ![8, 8, 2048]⟩
abbrev S128x2048 : Shape := ⟨2, ![128, 2048]⟩
abbrev S1x512 : Shape := ⟨2, ![1, 512]⟩
abbrev S128x1024 : Shape := ⟨2, ![128, 1024]⟩

abbrev nBuf : Space → Nat
  | .hbm => 171
  | .vmem => 15
  | .smem => 0
  | _ => 0

abbrev hbmTy0_0 (i : Nat) : BufTy := match i % 128 with
  | 0 => ⟨S128x512, .f32⟩
  | 1 => ⟨S128x32x64, .f32⟩
  | 2 => ⟨S128x32x64, .f32⟩
  | 3 => ⟨S32x64, .f32⟩
  | 4 => ⟨S32x64, .f32⟩
  | 5 => ⟨S32x64x16, .f32⟩
  | 6 => ⟨S32x64x16, .f32⟩
  | 7 => ⟨S32x16x64, .f32⟩
  | 8 => ⟨S32x16x64, .f32⟩
  | 9 => ⟨S512, .f32⟩
  | 10 => ⟨S512x2048, .f32⟩
  | 11 => ⟨S2048, .f32⟩
  | 12 => ⟨S32x32, .i32⟩
  | 13 => ⟨S32x32, .i32⟩
  | 14 => ⟨S_, .i32⟩
  | 15 => ⟨S32x32, .i32⟩
  | 16 => ⟨S32x32, .i32⟩
  | 17 => ⟨S32x32, .i1⟩
  | 18 => ⟨S32x32, .f32⟩
  | 19 => ⟨S32x16x64, .f32⟩
  | 20 => ⟨S32x16x1x64, .f32⟩
  | 21 => ⟨S32x1x32x1, .f32⟩
  | 22 => ⟨S32x16x32x64, .f32⟩
  | 23 => ⟨S32x16x32x64, .f32⟩
  | 24 => ⟨S32x16x32x64, .f32⟩
  | 25 => ⟨S512x2048, .f32⟩
  | 26 => ⟨S512x2048, .bf16⟩
  | 27 => ⟨S32x16x64, .f32⟩
  | 28 => ⟨S32x16x1x64, .f32⟩
  | 29 => ⟨S32x1x32x1, .f32⟩
  | 30 => ⟨S32x16x32x64, .f32⟩
  | 31 => ⟨S32x16x32x64, .f32⟩
  | 32 => ⟨S32x16x32x64, .f32⟩
  | 33 => ⟨S512x2048, .f32⟩
  | 34 => ⟨S512x2048, .bf16⟩
  | 35 => ⟨S32x64x16, .f32⟩
  | 36 => ⟨S32x64x1x16, .f32⟩
  | 37 => ⟨S32x1x32x1, .f32⟩
  | 38 => ⟨S32x64x32x16, .f32⟩
  | 39 => ⟨S32x64x32x16, .f32⟩
  | 40 => ⟨S32x64x32x16, .f32⟩
  | 41 => ⟨S2048x512, .f32⟩
  | 42 => ⟨S2048x512, .bf16⟩
  | 43 => ⟨S32x16x64, .f32⟩
  | 44 => ⟨S32x64x16, .f32⟩
  | 45 => ⟨S32x64x1x16, .f32⟩
  | 46 => ⟨S32x1x32x1, .f32⟩
  | 47 => ⟨S32x64x32x16, .f32⟩
  | 48 => ⟨S32x64x32x16, .f32⟩
  | 49 => ⟨S32x64x32x16, .f32⟩
  | 50 => ⟨S2048x512, .f32⟩
  | 51 => ⟨S2048x512, .bf16⟩
  | 52 => ⟨S1x2048, .f32⟩
  | 53 => ⟨S1x2048, .f32⟩
  | 54 => ⟨S1x2048, .f32⟩
  | 55 => ⟨S1x2048, .f32⟩
  | 56 => ⟨S1x2048, .f32⟩
  | 57 => ⟨S1x2048, .f32⟩
  | 58 => ⟨S1x2048, .f32⟩
  | 59 => ⟨S1x2048, .f32⟩
  | 60 => ⟨S1x2048, .f32⟩
  | 61 => ⟨S1x2048, .f32⟩
  | 62 => ⟨S1x2048, .f32⟩
  | 63 => ⟨S1x2048, .f32⟩
  | 64 => ⟨S1x2048, .f32⟩
  | 65 => ⟨S1x2048, .f32⟩
  | 66 => ⟨S1x2048, .f32⟩
  | 67 => ⟨S1x2048, .f32⟩
  | 68 => ⟨S1x2048, .f32⟩
  | 69 => ⟨S1x2048, .f32⟩
  | 70 => ⟨S1x2048, .f32⟩
  | 71 => ⟨S1x2048, .f32⟩
  | 72 => ⟨S1x2048, .f32⟩
  | 73 => ⟨S1x2048, .f32⟩
  | 74 => ⟨S1x2048, .f32⟩
  | 75 => ⟨S1x2048, .f32⟩
  | 76 => ⟨S1x2048, .f32⟩
  | 77 => ⟨S1x2048, .f32⟩
  | 78 => ⟨S1x2048, .f32⟩
  | 79 => ⟨S1x2048, .f32⟩
  | 80 => ⟨S1x2048, .f32⟩
  | 81 => ⟨S1x2048, .f32⟩
  | 82 => ⟨S1x2048, .f32⟩
  | 83 => ⟨S1x2048, .f32⟩
  | 84 => ⟨S1x2048, .f32⟩
  | 85 => ⟨S1x2048, .f32⟩
  | 86 => ⟨S1x2048, .f32⟩
  | 87 => ⟨S1x2048, .f32⟩
  | 88 => ⟨S1x2048, .f32⟩
  | 89 => ⟨S1x2048, .f32⟩
  | 90 => ⟨S1x2048, .f32⟩
  | 91 => ⟨S1x2048, .f32⟩
  | 92 => ⟨S1x2048, .f32⟩
  | 93 => ⟨S1x2048, .f32⟩
  | 94 => ⟨S1x2048, .f32⟩
  | 95 => ⟨S1x2048, .f32⟩
  | 96 => ⟨S8, .i32⟩
  | 97 => ⟨S8x1, .i32⟩
  | 98 => ⟨S_, .i32⟩
  | 99 => ⟨S8x1, .i32⟩
  | 100 => ⟨S8x1, .i1⟩
  | 101 => ⟨S8x2048, .f32⟩
  | 102 => ⟨S_, .f32⟩
  | 103 => ⟨S_, .f32⟩
  | 104 => ⟨S8x2048, .i1⟩
  | 105 => ⟨S8x2048, .f32⟩
  | 106 => ⟨S8x2048, .f32⟩
  | 107 => ⟨S_, .i32⟩
  | 108 => ⟨S8x1, .i32⟩
  | 109 => ⟨S8x1, .i1⟩
  | 110 => ⟨S8x2048, .f32⟩
  | 111 => ⟨S_, .f32⟩
  | 112 => ⟨S_, .f32⟩
  | 113 => ⟨S8x2048, .i1⟩
  | 114 => ⟨S8x2048, .f32⟩
  | 115 => ⟨S8x2048, .f32⟩
  | 116 => ⟨S_, .i32⟩
  | 117 => ⟨S8x1, .i32⟩
  | 118 => ⟨S8x1, .i1⟩
  | 119 => ⟨S8x2048, .f32⟩
  | 120 => ⟨S_, .f32⟩
  | 121 => ⟨S_, .f32⟩
  | 122 => ⟨S8x2048, .i1⟩
  | 123 => ⟨S8x2048, .f32⟩
  | 124 => ⟨S8x2048, .f32⟩
  | 125 => ⟨S_, .i32⟩
  | 126 => ⟨S8x1, .i32⟩
  | 127 => ⟨S8x1, .i1⟩
  | _ => ⟨S128x512, .f32⟩

abbrev hbmTy0_1 (i : Nat) : BufTy := match i % 128 with
  | 0 => ⟨S8x2048, .f32⟩
  | 1 => ⟨S_, .f32⟩
  | 2 => ⟨S_, .f32⟩
  | 3 => ⟨S8x2048, .i1⟩
  | 4 => ⟨S8x2048, .f32⟩
  | 5 => ⟨S8x2048, .f32⟩
  | 6 => ⟨S_, .i32⟩
  | 7 => ⟨S8x1, .i32⟩
  | 8 => ⟨S8x1, .i1⟩
  | 9 => ⟨S8x2048, .f32⟩
  | 10 => ⟨S_, .f32⟩
  | 11 => ⟨S_, .f32⟩
  | 12 => ⟨S8x2048, .i1⟩
  | 13 => ⟨S8x2048, .f32⟩
  | 14 => ⟨S8x2048, .f32⟩
  | 15 => ⟨S_, .i32⟩
  | 16 => ⟨S8x1, .i32⟩
  | 17 => ⟨S8x1, .i1⟩
  | 18 => ⟨S8x2048, .f32⟩
  | 19 => ⟨S_, .f32⟩
  | 20 => ⟨S_, .f32⟩
  | 21 => ⟨S8x2048, .i1⟩
  | 22 => ⟨S8x2048, .f32⟩
  | 23 => ⟨S8x2048, .f32⟩
  | 24 => ⟨S8x2048, .f32⟩
  | 25 => ⟨S8x2048, .f32⟩
  | 26 => ⟨S1x8x2048, .f32⟩
  | 27 => ⟨S1x8x2048, .f32⟩
  | 28 => ⟨S1x8x2048, .f32⟩
  | 29 => ⟨S1x8x2048, .f32⟩
  | 30 => ⟨S1x8x2048, .f32⟩
  | 31 => ⟨S1x8x2048, .f32⟩
  | 32 => ⟨S1x8x2048, .f32⟩
  | 33 => ⟨S1x8x2048, .f32⟩
  | 34 => ⟨S8x8x2048, .f32⟩
  | 35 => ⟨S128x2048, .f32⟩
  | 36 => ⟨S128x2048, .f32⟩
  | 37 => ⟨S512x2048, .bf16⟩
  | 38 => ⟨S1x512, .f32⟩
  | 39 => ⟨S1x2048, .f32⟩
  | 40 => ⟨S128x1024, .f32⟩
  | 41 => ⟨S128x2048, .f32⟩
  | 42 => ⟨S128x2048, .f32⟩
  | _ => ⟨S128x512, .f32⟩

abbrev hbmTy (i : Nat) : BufTy := match i / 128 with
  | 0 => hbmTy0_0 i
  | 1 => hbmTy0_1 i
  | _ => ⟨S128x512, .f32⟩

abbrev bufTy : (tb : Table) → Fin (tcTables nBuf tb) → BufTy
  | .hbm, ⟨i, _⟩ => hbmTy i
  | .local _ .vmem, ⟨0, _⟩ => ⟨S128x512, .f32⟩
  | .local _ .vmem, ⟨1, _⟩ => ⟨S128x2048, .f32⟩
  | .local _ .vmem, ⟨2, _⟩ => ⟨S128x2048, .f32⟩
  | .local _ .vmem, ⟨3, _⟩ => ⟨S1x2048, .f32⟩
  | .local _ .vmem, ⟨4, _⟩ => ⟨S1x2048, .f32⟩
  | .local _ .vmem, ⟨5, _⟩ => ⟨S512x2048, .bf16⟩
  | .local _ .vmem, ⟨6, _⟩ => ⟨S512x2048, .bf16⟩
  | .local _ .vmem, ⟨7, _⟩ => ⟨S2048x512, .bf16⟩
  | .local _ .vmem, ⟨8, _⟩ => ⟨S2048x512, .bf16⟩
  | .local _ .vmem, ⟨9, _⟩ => ⟨S1x512, .f32⟩
  | .local _ .vmem, ⟨10, _⟩ => ⟨S512x2048, .bf16⟩
  | .local _ .vmem, ⟨11, _⟩ => ⟨S1x2048, .f32⟩
  | .local _ .vmem, ⟨12, _⟩ => ⟨S128x1024, .f32⟩
  | .local _ .vmem, ⟨13, _⟩ => ⟨S128x2048, .f32⟩
  | .local _ .vmem, ⟨14, _⟩ => ⟨S128x2048, .f32⟩
  | _, _ => ⟨S128x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_c : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩
abbrev main_v79 : Ref sig .tc := ⟨.hbm, 92, rfl⟩
abbrev main_v80 : Ref sig .tc := ⟨.hbm, 93, rfl⟩
abbrev main_v81 : Ref sig .tc := ⟨.hbm, 94, rfl⟩
abbrev main_v82 : Ref sig .tc := ⟨.hbm, 95, rfl⟩
abbrev main_v83 : Ref sig .tc := ⟨.hbm, 96, rfl⟩
abbrev main_v84 : Ref sig .tc := ⟨.hbm, 97, rfl⟩
abbrev main_c_0 : Ref sig .tc := ⟨.hbm, 98, rfl⟩
abbrev main_v85 : Ref sig .tc := ⟨.hbm, 99, rfl⟩
abbrev main_v86 : Ref sig .tc := ⟨.hbm, 100, rfl⟩
abbrev main_v87 : Ref sig .tc := ⟨.hbm, 101, rfl⟩
abbrev main_cst : Ref sig .tc := ⟨.hbm, 102, rfl⟩
abbrev main_call0_v0 : Ref sig .tc := ⟨.hbm, 103, rfl⟩
abbrev main_call0_v1 : Ref sig .tc := ⟨.hbm, 104, rfl⟩
abbrev main_call0_v2 : Ref sig .tc := ⟨.hbm, 105, rfl⟩
abbrev main_v88 : Ref sig .tc := ⟨.hbm, 106, rfl⟩
abbrev main_c_1 : Ref sig .tc := ⟨.hbm, 107, rfl⟩
abbrev main_v89 : Ref sig .tc := ⟨.hbm, 108, rfl⟩
abbrev main_v90 : Ref sig .tc := ⟨.hbm, 109, rfl⟩
abbrev main_v91 : Ref sig .tc := ⟨.hbm, 110, rfl⟩
abbrev main_cst_2 : Ref sig .tc := ⟨.hbm, 111, rfl⟩
abbrev main_call1_v0 : Ref sig .tc := ⟨.hbm, 112, rfl⟩
abbrev main_call1_v1 : Ref sig .tc := ⟨.hbm, 113, rfl⟩
abbrev main_call1_v2 : Ref sig .tc := ⟨.hbm, 114, rfl⟩
abbrev main_v92 : Ref sig .tc := ⟨.hbm, 115, rfl⟩
abbrev main_c_3 : Ref sig .tc := ⟨.hbm, 116, rfl⟩
abbrev main_v93 : Ref sig .tc := ⟨.hbm, 117, rfl⟩
abbrev main_v94 : Ref sig .tc := ⟨.hbm, 118, rfl⟩
abbrev main_v95 : Ref sig .tc := ⟨.hbm, 119, rfl⟩
abbrev main_cst_4 : Ref sig .tc := ⟨.hbm, 120, rfl⟩
abbrev main_call2_v0 : Ref sig .tc := ⟨.hbm, 121, rfl⟩
abbrev main_call2_v1 : Ref sig .tc := ⟨.hbm, 122, rfl⟩
abbrev main_call2_v2 : Ref sig .tc := ⟨.hbm, 123, rfl⟩
abbrev main_v96 : Ref sig .tc := ⟨.hbm, 124, rfl⟩
abbrev main_c_5 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_cst_6 : Ref sig .tc := ⟨.hbm, 129, rfl⟩
abbrev main_call3_v0 : Ref sig .tc := ⟨.hbm, 130, rfl⟩
abbrev main_call3_v1 : Ref sig .tc := ⟨.hbm, 131, rfl⟩
abbrev main_call3_v2 : Ref sig .tc := ⟨.hbm, 132, rfl⟩
abbrev main_v100 : Ref sig .tc := ⟨.hbm, 133, rfl⟩
abbrev main_c_7 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_cst_8 : Ref sig .tc := ⟨.hbm, 138, rfl⟩
abbrev main_call4_v0 : Ref sig .tc := ⟨.hbm, 139, rfl⟩
abbrev main_call4_v1 : Ref sig .tc := ⟨.hbm, 140, rfl⟩
abbrev main_call4_v2 : Ref sig .tc := ⟨.hbm, 141, rfl⟩
abbrev main_v104 : Ref sig .tc := ⟨.hbm, 142, rfl⟩
abbrev main_c_9 : Ref sig .tc := ⟨.hbm, 143, rfl⟩
abbrev main_v105 : Ref sig .tc := ⟨.hbm, 144, rfl⟩
abbrev main_v106 : Ref sig .tc := ⟨.hbm, 145, rfl⟩
abbrev main_v107 : Ref sig .tc := ⟨.hbm, 146, rfl⟩
abbrev main_cst_10 : Ref sig .tc := ⟨.hbm, 147, rfl⟩
abbrev main_call5_v0 : Ref sig .tc := ⟨.hbm, 148, rfl⟩
abbrev main_call5_v1 : Ref sig .tc := ⟨.hbm, 149, rfl⟩
abbrev main_call5_v2 : Ref sig .tc := ⟨.hbm, 150, rfl⟩
abbrev main_v108 : Ref sig .tc := ⟨.hbm, 151, rfl⟩
abbrev main_v109 : Ref sig .tc := ⟨.hbm, 152, rfl⟩
abbrev main_v110 : Ref sig .tc := ⟨.hbm, 153, rfl⟩
abbrev main_v111 : Ref sig .tc := ⟨.hbm, 154, rfl⟩
abbrev main_v112 : Ref sig .tc := ⟨.hbm, 155, rfl⟩
abbrev main_v113 : Ref sig .tc := ⟨.hbm, 156, rfl⟩
abbrev main_v114 : Ref sig .tc := ⟨.hbm, 157, rfl⟩
abbrev main_v115 : Ref sig .tc := ⟨.hbm, 158, rfl⟩
abbrev main_v116 : Ref sig .tc := ⟨.hbm, 159, rfl⟩
abbrev main_v117 : Ref sig .tc := ⟨.hbm, 160, rfl⟩
abbrev main_v118 : Ref sig .tc := ⟨.hbm, 161, rfl⟩
abbrev main_v119 : Ref sig .tc := ⟨.hbm, 162, rfl⟩
abbrev main_v120 : Ref sig .tc := ⟨.hbm, 163, rfl⟩
abbrev main_v121 : Ref sig .tc := ⟨.hbm, 164, rfl⟩
abbrev main_v122 : Ref sig .tc := ⟨.hbm, 165, rfl⟩
abbrev main_v123 : Ref sig .tc := ⟨.hbm, 166, rfl⟩
abbrev main_v124 : Ref sig .tc := ⟨.hbm, 167, rfl⟩
abbrev main_v125_0 : Ref sig .tc := ⟨.hbm, 168, rfl⟩
abbrev main_v125_1 : Ref sig .tc := ⟨.hbm, 169, rfl⟩
abbrev main_v125_2 : Ref sig .tc := ⟨.hbm, 170, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14

abbrev nD : Nat := 1
abbrev τ : Topo := Topo.v7x

variable {F : FTy → Type} [FloatOps F]

abbrev grid0 : Pipeline.Grid := .none

abbrev stage0_0 : Fin 1 → Memref sig .tc .vmem S128x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S128x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S512x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S512x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2048x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S2048x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S512x2048 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S128x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S128x2048 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S128x2048 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
-- ==== ScanSRefIdeal.lean ====
abbrev S128x512 : Shape := ⟨2, ![128, 512]⟩
abbrev S128x32x64 : Shape := ⟨3, ![128, 32, 64]⟩
abbrev S32x64 : Shape := ⟨2, ![32, 64]⟩
abbrev S32x64x16 : Shape := ⟨3, ![32, 64, 16]⟩
abbrev S32x16x64 : Shape := ⟨3, ![32, 16, 64]⟩
abbrev S512 : Shape := ⟨1, ![512]⟩
abbrev S512x2048 : Shape := ⟨2, ![512, 2048]⟩
abbrev S2048 : Shape := ⟨1, ![2048]⟩
abbrev S128x32x16 : Shape := ⟨3, ![128, 32, 16]⟩
abbrev S32x128x64 : Shape := ⟨3, ![32, 128, 64]⟩
abbrev S1x32x64 : Shape := ⟨3, ![1, 32, 64]⟩
abbrev S1x32x16x64 : Shape := ⟨4, ![1, 32, 16, 64]⟩
abbrev S128x32x1x64 : Shape := ⟨4, ![128, 32, 1, 64]⟩
abbrev S128x32x16x64 : Shape := ⟨4, ![128, 32, 16, 64]⟩
abbrev S_ : Shape := ⟨0, ![]⟩
abbrev S1x512 : Shape := ⟨2, ![1, 512]⟩
abbrev S128x2048 : Shape := ⟨2, ![128, 2048]⟩
abbrev S1x2048 : Shape := ⟨2, ![1, 2048]⟩
abbrev S128x1024 : Shape := ⟨2, ![128, 1024]⟩

abbrev nBuf : Space → Nat
  | .hbm => 85
  | .vmem => 0
  | .smem => 0
  | _ => 0

abbrev bufTy : (tb : Table) → Fin (tcTables nBuf tb) → BufTy
  | .hbm, ⟨0, _⟩ => ⟨S128x512, .f32⟩
  | .hbm, ⟨1, _⟩ => ⟨S128x32x64, .f32⟩
  | .hbm, ⟨2, _⟩ => ⟨S128x32x64, .f32⟩
  | .hbm, ⟨3, _⟩ => ⟨S32x64, .f32⟩
  | .hbm, ⟨4, _⟩ => ⟨S32x64, .f32⟩
  | .hbm, ⟨5, _⟩ => ⟨S32x64x16, .f32⟩
  | .hbm, ⟨6, _⟩ => ⟨S32x64x16, .f32⟩
  | .hbm, ⟨7, _⟩ => ⟨S32x16x64, .f32⟩
  | .hbm, ⟨8, _⟩ => ⟨S32x16x64, .f32⟩
  | .hbm, ⟨9, _⟩ => ⟨S512, .f32⟩
  | .hbm, ⟨10, _⟩ => ⟨S512x2048, .f32⟩
  | .hbm, ⟨11, _⟩ => ⟨S2048, .f32⟩
  | .hbm, ⟨12, _⟩ => ⟨S128x32x16, .f32⟩
  | .hbm, ⟨13, _⟩ => ⟨S32x128x64, .f32⟩
  | .hbm, ⟨14, _⟩ => ⟨S128x32x64, .f32⟩
  | .hbm, ⟨15, _⟩ => ⟨S1x32x64, .f32⟩
  | .hbm, ⟨16, _⟩ => ⟨S128x32x64, .f32⟩
  | .hbm, ⟨17, _⟩ => ⟨S128x32x64, .f32⟩
  | .hbm, ⟨18, _⟩ => ⟨S1x32x64, .f32⟩
  | .hbm, ⟨19, _⟩ => ⟨S128x32x64, .f32⟩
  | .hbm, ⟨20, _⟩ => ⟨S128x32x64, .f32⟩
  | .hbm, ⟨21, _⟩ => ⟨S128x32x64, .f32⟩
  | .hbm, ⟨22, _⟩ => ⟨S128x32x64, .f32⟩
  | .hbm, ⟨23, _⟩ => ⟨S32x128x64, .f32⟩
  | .hbm, ⟨24, _⟩ => ⟨S128x32x64, .f32⟩
  | .hbm, ⟨25, _⟩ => ⟨S1x32x64, .f32⟩
  | .hbm, ⟨26, _⟩ => ⟨S128x32x64, .f32⟩
  | .hbm, ⟨27, _⟩ => ⟨S128x32x64, .f32⟩
  | .hbm, ⟨28, _⟩ => ⟨S1x32x64, .f32⟩
  | .hbm, ⟨29, _⟩ => ⟨S128x32x64, .f32⟩
  | .hbm, ⟨30, _⟩ => ⟨S128x32x64, .f32⟩
  | .hbm, ⟨31, _⟩ => ⟨S128x32x64, .f32⟩
  | .hbm, ⟨32, _⟩ => ⟨S128x32x64, .f32⟩
  | .hbm, ⟨33, _⟩ => ⟨S1x32x16x64, .f32⟩
  | .hbm, ⟨34, _⟩ => ⟨S128x32x1x64, .f32⟩
  | .hbm, ⟨35, _⟩ => ⟨S128x32x16x64, .f32⟩
  | .hbm, ⟨36, _⟩ => ⟨S128x32x16x64, .f32⟩
  | .hbm, ⟨37, _⟩ => ⟨S128x32x16x64, .f32⟩
  | .hbm, ⟨38, _⟩ => ⟨S1x32x16x64, .f32⟩
  | .hbm, ⟨39, _⟩ => ⟨S128x32x1x64, .f32⟩
  | .hbm, ⟨40, _⟩ => ⟨S128x32x16x64, .f32⟩
  | .hbm, ⟨41, _⟩ => ⟨S128x32x16x64, .f32⟩
  | .hbm, ⟨42, _⟩ => ⟨S128x32x16x64, .f32⟩
  | .hbm, ⟨43, _⟩ => ⟨S128x32x16x64, .f32⟩
  | .hbm, ⟨44, _⟩ => ⟨S_, .f32⟩
  | .hbm, ⟨45, _⟩ => ⟨S128x32x16, .f32⟩
  | .hbm, ⟨46, _⟩ => ⟨S128x512, .f32⟩
  | .hbm, ⟨47, _⟩ => ⟨S1x512, .f32⟩
  | .hbm, ⟨48, _⟩ => ⟨S128x512, .f32⟩
  | .hbm, ⟨49, _⟩ => ⟨S128x512, .f32⟩
  | .hbm, ⟨50, _⟩ => ⟨S128x512, .f32⟩
  | .hbm, ⟨51, _⟩ => ⟨S128x512, .f32⟩
  | .hbm, ⟨52, _⟩ => ⟨S128x512, .f32⟩
  | .hbm, ⟨53, _⟩ => ⟨S_, .f32⟩
  | .hbm, ⟨54, _⟩ => ⟨S128x512, .f32⟩
  | .hbm, ⟨55, _⟩ => ⟨S128x512, .f32⟩
  | .hbm, ⟨56, _⟩ => ⟨S128x512, .f32⟩
  | .hbm, ⟨57, _⟩ => ⟨S_, .f32⟩
  | .hbm, ⟨58, _⟩ => ⟨S128x512, .f32⟩
  | .hbm, ⟨59, _⟩ => ⟨S128x512, .f32⟩
  | .hbm, ⟨60, _⟩ => ⟨S128x512, .f32⟩
  | .hbm, ⟨61, _⟩ => ⟨S_, .f32⟩
  | .hbm, ⟨62, _⟩ => ⟨S128x512, .f32⟩
  | .hbm, ⟨63, _⟩ => ⟨S128x512, .f32⟩
  | .hbm, ⟨64, _⟩ => ⟨S_, .f32⟩
  | .hbm, ⟨65, _⟩ => ⟨S128x512, .f32⟩
  | .hbm, ⟨66, _⟩ => ⟨S128x512, .f32⟩
  | .hbm, ⟨67, _⟩ => ⟨S128x512, .f32⟩
  | .hbm, ⟨68, _⟩ => ⟨S128x2048, .f32⟩
  | .hbm, ⟨69, _⟩ => ⟨S1x2048, .f32⟩
  | .hbm, ⟨70, _⟩ => ⟨S128x2048, .f32⟩
  | .hbm, ⟨71, _⟩ => ⟨S128x2048, .f32⟩
  | .hbm, ⟨72, _⟩ => ⟨S128x1024, .f32⟩
  | .hbm, ⟨73, _⟩ => ⟨S128x1024, .f32⟩
  | .hbm, ⟨74, _⟩ => ⟨S128x1024, .f32⟩
  | .hbm, ⟨75, _⟩ => ⟨S128x1024, .f32⟩
  | .hbm, ⟨76, _⟩ => ⟨S_, .f32⟩
  | .hbm, ⟨77, _⟩ => ⟨S128x1024, .f32⟩
  | .hbm, ⟨78, _⟩ => ⟨S128x1024, .f32⟩
  | .hbm, ⟨79, _⟩ => ⟨S_, .f32⟩
  | .hbm, ⟨80, _⟩ => ⟨S128x1024, .f32⟩
  | .hbm, ⟨81, _⟩ => ⟨S128x1024, .f32⟩
  | .hbm, ⟨82, _⟩ => ⟨S128x1024, .f32⟩
  | .hbm, ⟨83, _⟩ => ⟨S128x2048, .f32⟩
  | .hbm, ⟨84, _⟩ => ⟨S128x2048, .f32⟩
  | _, _ => ⟨S128x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_cst_0 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_cst_1 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_cst_2 : Ref sig .tc := ⟨.hbm, 61, rfl⟩
abbrev main_v46 : Ref sig .tc := ⟨.hbm, 62, rfl⟩
abbrev main_v47 : Ref sig .tc := ⟨.hbm, 63, rfl⟩
abbrev main_cst_3 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_cst_4 : Ref sig .tc := ⟨.hbm, 76, rfl⟩
abbrev main_v59 : Ref sig .tc := ⟨.hbm, 77, rfl⟩
abbrev main_v60 : Ref sig .tc := ⟨.hbm, 78, rfl⟩
abbrev main_cst_5 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩

abbrev nD : Nat := 1
abbrev τ : Topo := Topo.v7x

variable {F : FTy → Type} [FloatOps F]
-- ==== TailS.lean ====
abbrev S128x1024 : Shape := ⟨2, ![128, 1024]⟩
abbrev S128x512 : Shape := ⟨2, ![128, 512]⟩
abbrev S512x1024 : Shape := ⟨2, ![512, 1024]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S1x1024 : Shape := ⟨2, ![1, 1024]⟩
abbrev S128 : Shape := ⟨1, ![128]⟩
abbrev S128x1 : Shape := ⟨2, ![128, 1]⟩
abbrev S128x4096 : Shape := ⟨2, ![128, 4096]⟩

abbrev nBuf : Space → Nat
  | .hbm => 18
  | .vmem => 12
  | .smem => 0
  | _ => 0

abbrev bufTy : (tb : Table) → Fin (tcTables nBuf tb) → BufTy
  | .hbm, ⟨0, _⟩ => ⟨S128x1024, .f32⟩
  | .hbm, ⟨1, _⟩ => ⟨S128x512, .bf16⟩
  | .hbm, ⟨2, _⟩ => ⟨S128x1024, .f32⟩
  | .hbm, ⟨3, _⟩ => ⟨S128x1024, .f32⟩
  | .hbm, ⟨4, _⟩ => ⟨S128x1024, .f32⟩
  | .hbm, ⟨5, _⟩ => ⟨S512x1024, .f32⟩
  | .hbm, ⟨6, _⟩ => ⟨S1024x1024, .f32⟩
  | .hbm, ⟨7, _⟩ => ⟨S1024, .f32⟩
  | .hbm, ⟨8, _⟩ => ⟨S1024x4096, .f32⟩
  | .hbm, ⟨9, _⟩ => ⟨S4096x1024, .f32⟩
  | .hbm, ⟨10, _⟩ => ⟨S1024, .f32⟩
  | .hbm, ⟨11, _⟩ => ⟨S512x1024, .bf16⟩
  | .hbm, ⟨12, _⟩ => ⟨S1024x1024, .bf16⟩
  | .hbm, ⟨13, _⟩ => ⟨S1024x4096, .bf16⟩
  | .hbm, ⟨14, _⟩ => ⟨S4096x1024, .bf16⟩
  | .hbm, ⟨15, _⟩ => ⟨S1x1024, .f32⟩
  | .hbm, ⟨16, _⟩ => ⟨S1x1024, .f32⟩
  | .hbm, ⟨17, _⟩ => ⟨S128x1024, .f32⟩
  | .local _ .vmem, ⟨0, _⟩ => ⟨S128x1024, .f32⟩
  | .local _ .vmem, ⟨1, _⟩ => ⟨S128x512, .bf16⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S512x1024, .bf16⟩
  | .local _ .vmem, ⟨6, _⟩ => ⟨S1024x1024, .bf16⟩
  | .local _ .vmem, ⟨7, _⟩ => ⟨S1x1024, .f32⟩
  | .local _ .vmem, ⟨8, _⟩ => ⟨S1024x4096, .bf16⟩
  | .local _ .vmem, ⟨9, _⟩ => ⟨S4096x1024, .bf16⟩
  | .local _ .vmem, ⟨10, _⟩ => ⟨S1x1024, .f32⟩
  | .local _ .vmem, ⟨11, _⟩ => ⟨S128x1024, .f32⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x4096 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S4096x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true]
-- ==== TailSRefIdeal.lean ====
abbrev S128x1024 : Shape := ⟨2, ![128, 1024]⟩
abbrev S128x512 : Shape := ⟨2, ![128, 512]⟩
abbrev S512x1024 : Shape := ⟨2, ![512, 1024]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩
abbrev S128 : Shape := ⟨1, ![128]⟩
abbrev S128x1 : Shape := ⟨2, ![128, 1]⟩
abbrev S1x1024 : Shape := ⟨2, ![1, 1024]⟩
abbrev S128x4096 : Shape := ⟨2, ![128, 4096]⟩

abbrev nBuf : Space → Nat
  | .hbm => 57
  | .vmem => 0
  | .smem => 0
  | _ => 0

abbrev bufTy : (tb : Table) → Fin (tcTables nBuf tb) → BufTy
  | .hbm, ⟨0, _⟩ => ⟨S128x1024, .f32⟩
  | .hbm, ⟨1, _⟩ => ⟨S128x512, .bf16⟩
  | .hbm, ⟨2, _⟩ => ⟨S128x1024, .f32⟩
  | .hbm, ⟨3, _⟩ => ⟨S128x1024, .f32⟩
  | .hbm, ⟨4, _⟩ => ⟨S128x1024, .f32⟩
  | .hbm, ⟨5, _⟩ => ⟨S512x1024, .f32⟩
  | .hbm, ⟨6, _⟩ => ⟨S1024x1024, .f32⟩
  | .hbm, ⟨7, _⟩ => ⟨S1024, .f32⟩
  | .hbm, ⟨8, _⟩ => ⟨S1024x4096, .f32⟩
  | .hbm, ⟨9, _⟩ => ⟨S4096x1024, .f32⟩
  | .hbm, ⟨10, _⟩ => ⟨S1024, .f32⟩
  | .hbm, ⟨11, _⟩ => ⟨S128x512, .f32⟩
  | .hbm, ⟨12, _⟩ => ⟨S128x1024, .f32⟩
  | .hbm, ⟨13, _⟩ => ⟨S128x1024, .f32⟩
  | .hbm, ⟨14, _⟩ => ⟨S128x1024, .f32⟩
  | .hbm, ⟨15, _⟩ => ⟨S128x1024, .f32⟩
  | .hbm, ⟨16, _⟩ => ⟨S128x1024, .f32⟩
  | .hbm, ⟨17, _⟩ => ⟨S128x1024, .f32⟩
  | .hbm, ⟨18, _⟩ => ⟨S128x1024, .f32⟩
  | .hbm, ⟨19, _⟩ => ⟨S_, .f32⟩
  | .hbm, ⟨20, _⟩ => ⟨S128, .f32⟩
  | .hbm, ⟨21, _⟩ => ⟨S128x1, .f32⟩
  | .hbm, ⟨22, _⟩ => ⟨S_, .f32⟩
  | .hbm, ⟨23, _⟩ => ⟨S128x1, .f32⟩
  | .hbm, ⟨24, _⟩ => ⟨S128x1, .f32⟩
  | .hbm, ⟨25, _⟩ => ⟨S_, .f32⟩
  | .hbm, ⟨26, _⟩ => ⟨S128x1, .f32⟩
  | .hbm, ⟨27, _⟩ => ⟨S128x1, .f32⟩
  | .hbm, ⟨28, _⟩ => ⟨S128x1, .f32⟩
  | .hbm, ⟨29, _⟩ => ⟨S128x1024, .f32⟩
  | .hbm, ⟨30, _⟩ => ⟨S128x1024, .f32⟩
  | .hbm, ⟨31, _⟩ => ⟨S1x1024, .f32⟩
  | .hbm, ⟨32, _⟩ => ⟨S128x1024, .f32⟩
  | .hbm, ⟨33, _⟩ => ⟨S128x1024, .f32⟩
  | .hbm, ⟨34, _⟩ => ⟨S128x4096, .f32⟩
  | .hbm, ⟨35, _⟩ => ⟨S_, .f32⟩
  | .hbm, ⟨36, _⟩ => ⟨S128x4096, .f32⟩
  | .hbm, ⟨37, _⟩ => ⟨S128x4096, .f32⟩
  | .hbm, ⟨38, _⟩ => ⟨S128x4096, .f32⟩
  | .hbm, ⟨39, _⟩ => ⟨S128x1024, .f32⟩
  | .hbm, ⟨40, _⟩ => ⟨S128x1024, .f32⟩
  | .hbm, ⟨41, _⟩ => ⟨S128x1024, .f32⟩
  | .hbm, ⟨42, _⟩ => ⟨S_, .f32⟩
  | .hbm, ⟨43, _⟩ => ⟨S128, .f32⟩
  | .hbm, ⟨44, _⟩ => ⟨S128x1, .f32⟩
  | .hbm, ⟨45, _⟩ => ⟨S_, .f32⟩
  | .hbm, ⟨46, _⟩ => ⟨S128x1, .f32⟩
  | .hbm, ⟨47, _⟩ => ⟨S128x1, .f32⟩
  | .hbm, ⟨48, _⟩ => ⟨S_, .f32⟩
  | .hbm, ⟨49, _⟩ => ⟨S128x1, .f32⟩
  | .hbm, ⟨50, _⟩ => ⟨S128x1, .f32⟩
  | .hbm, ⟨51, _⟩ => ⟨S128x1, .f32⟩
  | .hbm, ⟨52, _⟩ => ⟨S128x1024, .f32⟩
  | .hbm, ⟨53, _⟩ => ⟨S128x1024, .f32⟩
  | .hbm, ⟨54, _⟩ => ⟨S1x1024, .f32⟩
  | .hbm, ⟨55, _⟩ => ⟨S128x1024, .f32⟩
  | .hbm, ⟨56, _⟩ => ⟨S128x1024, .f32⟩
  | _, _ => ⟨S128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst : Ref sig .tc := ⟨.hbm, 19, rfl⟩
abbrev main_v8 : Ref sig .tc := ⟨.hbm, 20, rfl⟩
abbrev main_v9 : Ref sig .tc := ⟨.hbm, 21, rfl⟩
abbrev main_cst_0 : Ref sig .tc := ⟨.hbm, 22, rfl⟩
abbrev main_v10 : Ref sig .tc := ⟨.hbm, 23, rfl⟩
abbrev main_v11 : Ref sig .tc := ⟨.hbm, 24, rfl⟩
abbrev main_cst_1 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_call0_cst : Ref sig .tc := ⟨.hbm, 35, rfl⟩
abbrev main_call0_v0 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_2 : Ref sig .tc := ⟨.hbm, 42, rfl⟩
abbrev main_v26 : Ref sig .tc := ⟨.hbm, 43, rfl⟩
abbrev main_v27 : Ref sig .tc := ⟨.hbm, 44, rfl⟩
abbrev main_cst_3 : Ref sig .tc := ⟨.hbm, 45, rfl⟩
abbrev main_v28 : Ref sig .tc := ⟨.hbm, 46, rfl⟩
abbrev main_v29 : Ref sig .tc := ⟨.hbm, 47, rfl⟩
abbrev main_cst_4 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩

abbrev nD : Nat := 1
abbrev τ : Topo := Topo.v7x

variable {F : FTy → Type} [FloatOps F]
-- ==== Proof.Tail.Row.lean ====
/- What the end of the layer does to one row, over the extended reals: the two branches are mixed and projected onto
   the residual, the sum is normed, goes through the squared-relu network, and is normed once more. The kernel's
   block and the reference are both read down to these functions. -/
module

public import Idealize.ShloMosaic.PureOps.Ideal.Laws

@[expose] public section

noncomputable section

namespace Cert.LayerRow

open Idealize.ShloMosaic

/-- The root-mean-square norm of a row of 1024 entries, times its gain: `y / sqrt(mean(y²) + eps) · g`. The two
    constants are the float words of 1024 and of `eps`. -/
def rms (y g : Fin 1024 → EReal) (l : Fin 1024) : EReal :=
  y l * Ideal.rsqrt (Ideal.div (∑ k, y k * y k) (Ideal.ofBits FTy.f32 0x44800000#32) + Ideal.ofBits FTy.f32 0x358637BD#32)
    * g l

/-- The residual after the mix: `x + (sgs · ssm + sga · (attn @ wao)) @ wo`. -/
def mixed (x ssm sgs sga : Fin 1024 → EReal) (attn : Fin 512 → EReal) (wao : Fin 512 → Fin 1024 → EReal)
    (wo : Fin 1024 → Fin 1024 → EReal) (l : Fin 1024) : EReal :=
  x l + ∑ k, (sgs k * ssm k + sga k * ∑ q, attn q * wao q k) * wo k l

/-- The hidden layer before its activation: the normed row times `wup`. -/
def hidden (x1 g2 : Fin 1024 → EReal) (wup : Fin 1024 → Fin 4096 → EReal) (l : Fin 4096) : EReal :=
  ∑ k, rms x1 g2 k * wup k l

/-- The residual after the network: `x1 + relu(h)² @ wdn`. -/
def fed (x1 : Fin 1024 → EReal) (h : Fin 4096 → EReal) (wdn : Fin 4096 → Fin 1024 → EReal) (l : Fin 1024) : EReal :=
  x1 l + ∑ k, max (h k) 0 * max (h k) 0 * wdn k l

/-- The whole end of the layer on one row. -/
def tail (x ssm sgs sga : Fin 1024 → EReal) (attn : Fin 512 → EReal) (wao : Fin 512 → Fin 1024 → EReal)
    (wo : Fin 1024 → Fin 1024 → EReal) (g2 : Fin 1024 → EReal) (wup : Fin 1024 → Fin 4096 → EReal)
    (wdn : Fin 4096 → Fin 1024 → EReal) (gf : Fin 1024 → EReal) : Fin 1024 → EReal :=
  rms (fed (mixed x ssm sgs sga attn wao wo) (hidden (mixed x ssm sgs sga attn wao wo) g2 wup) wdn) gf

end Cert.LayerRow

end
-- ==== Proof.Tail.Block.lean ====
/- What one grid point of the tail kernel computes: every row of its block is `LayerRow.tail` of the same row of the
   blocks it reads. -/
module

public import proofs.«01_k».proof.Proof.Tail.Row
public import proofs.«01_k».proof.Proof.Gen.TailIdeal.Frame
public import Idealize.ShloMosaic.Lib.Pointwise
public import Idealize.ShloMosaic.Lib.Pipeline.ValueKit

@[expose] public section

set_option maxRecDepth 16384

noncomputable section

namespace Cert.TailIdeal.Block

open Cert.TailIdeal Cert.TailIdeal.Gen Idealize.ShloMosaic Cert.LayerRow

/-- The first payload, the residual after the mix, at an element. -/
theorem pay2_apply (v0 : Vec Ideal S256x512 .bf16) (v1 : Vec Ideal S512x1024 .bf16)
    (v4 v5 v7 v10 : Vec Ideal S256x1024 .f32) (v12 : Vec Ideal S1024x1024 .bf16) (r : Fin 256) (l : Fin 1024) :
    k0_pay2 v0 v1 v4 v5 v7 v10 v12 (ix2 r l)
      = mixed (fun j => v10 (ix2 r j)) (fun j => v5 (ix2 r j)) (fun j => v4 (ix2 r j)) (fun j => v7 (ix2 r j))
          (fun j => v0 (ix2 r j)) (fun a b => v1 (ix2 a b)) (fun a b => v12 (ix2 a b)) l := by
  pointwise [k0_pay2]
  rfl

/-- The second payload, the hidden layer, at an element, over the first one. -/
theorem pay3_apply (v0 : Vec Ideal S256x512 .bf16) (v1 : Vec Ideal S512x1024 .bf16)
    (v4 v5 v7 v10 : Vec Ideal S256x1024 .f32) (v12 : Vec Ideal S1024x1024 .bf16)
    (v16 : Vec Ideal S1x1024 .f32) (v31 : Vec Ideal S1024x4096 .bf16) (r : Fin 256) (l : Fin 4096) :
    k0_pay3 v0 v1 v4 v5 v7 v10 v12 v16 v31 (ix2 r l)
      = hidden (fun j => k0_pay2 v0 v1 v4 v5 v7 v10 v12 (ix2 r j)) (fun j => v16 (ix2 0 j)) (fun a b => v31 (ix2 a b)) l := by
  pointwise [k0_pay3]
  rfl

/-- The stored payload at an element, over the residual `v15` and the hidden layer `v33`. -/
theorem pay1_apply (v15 : FVec Ideal S256x1024 .f32) (v33 : FVec Ideal S256x4096 .f32) (cst : Ideal .f32) (hc : cst = (0 : EReal))
    (v38 : Vec Ideal S4096x1024 .bf16) (v42 : Vec Ideal S1x1024 .f32) (r : Fin 256) (l : Fin 1024) :
    k0_pay1 v15 v33 cst v38 v42 (ix2 r l)
      = rms (fed (fun j => v15 (ix2 r j)) (fun j => v33 (ix2 r j)) (fun a b => v38 (ix2 a b))) (fun j => v42 (ix2 0 j)) l := by
  subst hc
  pointwise [k0_pay1]
  rfl

/-- The block a point leaves, at an element: `LayerRow.tail` of the same row of the blocks read. -/
theorem out_apply (x0 : Vec Ideal S256x1024 .f32) (x1 : Vec Ideal S256x512 .bf16) (x2 x3 x4 : Vec Ideal S256x1024 .f32)
    (x5 : Vec Ideal S512x1024 .bf16) (x6 : Vec Ideal S1024x1024 .bf16) (x7 : Vec Ideal S1x1024 .f32)
    (x8 : Vec Ideal S1024x4096 .bf16) (x9 : Vec Ideal S4096x1024 .bf16) (x10 : Vec Ideal S1x1024 .f32)
    (r : Fin 256) (l : Fin 1024) :
    out0_11 x0 x1 x2 x3 x4 x5 x6 x7 x8 x9 x10 (ix2 r l)
      = tail (fun j => x0 (ix2 r j)) (fun j => x2 (ix2 r j)) (fun j => x3 (ix2 r j)) (fun j => x4 (ix2 r j))
          (fun j => x1 (ix2 r j)) (fun a b => x5 (ix2 a b)) (fun a b => x6 (ix2 a b)) (fun j => x7 (ix2 0 j))
          (fun a b => x8 (ix2 a b)) (fun a b => x9 (ix2 a b)) (fun j => x10 (ix2 0 j)) l := by
  frame_out
  rw [pay1_apply _ _ (FloatOps.ofBits (F := Ideal) .f32 0x00000000#32) Ideal.ofBits_zero_f32]
  simp only [pay3_apply, pay2_apply]
  rfl

end Cert.TailIdeal.Block

end
-- ==== Proof.Tail.Value.lean ====
/- The tail kernel's result array after its run: row `i` of it is `LayerRow.tail` of row `i` of the arguments. -/
module

public import proofs.«01_k».proof.Proof.Tail.Block
public import proofs.«01_k».proof.Proof.Gen.TailIdeal.Value

@[expose] public section

set_option maxRecDepth 16384

noncomputable section

namespace Cert.TailIdeal.Block

open Cert.TailIdeal Cert.TailIdeal.Gen Idealize.ShloMosaic Idealize.ShloMosaic.TcCoe Idealize.SL.Sem Cert.LayerRow

variable (m : (ℓ : Loc nD τ sig) → Buf (Elt Ideal) ℓ)

/-- The result array: `LayerRow.tail` of each row of the arguments. -/
def G (c : Dev nD) : Vec Ideal S65536x1024 .f32 := fun i =>
  tail (fun j => m ((c : Thread nD τ).loc main_arg0) (ix2 (i 0) j)) (fun j => m ((c : Thread nD τ).loc main_arg2) (ix2 (i 0) j))
    (fun j => m ((c : Thread nD τ).loc main_arg3) (ix2 (i 0) j)) (fun j => m ((c : Thread nD τ).loc main_arg4) (ix2 (i 0) j))
    (fun j => m ((c : Thread nD τ).loc main_arg1) (ix2 (i 0) j)) (fun a b => m ((c : Thread nD τ).loc main_arg5) (ix2 a b))
    (fun a b => m ((c : Thread nD τ).loc main_arg6) (ix2 a b)) (fun j => m ((c : Thread nD τ).loc main_arg7) (ix1 j))
    (fun a b => m ((c : Thread nD τ).loc main_arg8) (ix2 a b)) (fun a b => m ((c : Thread nD τ).loc main_arg9) (ix2 a b))
    (fun j => m ((c : Thread nD τ).loc main_arg10) (ix1 j)) (i 1)

/-- Where the blocks of the row windows lie: point `t` reads and writes the rows from `256 t` on. -/
theorem idx_rows : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_11.index t = ![t.val, 0] :=
  (by decide +kernel : ∀ t : Fin grid0.N, _)

/-- The weights' windows are their whole arrays at every point. -/
theorem idx_whole : ∀ t : Fin cfg0.N, win0_5.index t = ![0, 0] ∧ win0_6.index t = ![0, 0] ∧ win0_7.index t = ![0, 0]
    ∧ win0_8.index t = ![0, 0] ∧ win0_9.index t = ![0, 0] ∧ win0_10.index t = ![0, 0] :=
  (by decide +kernel : ∀ t : Fin grid0.N, _)

/-- The result array after the run. -/
theorem final (c : Dev nD) : (dats m 0 c).arrAt 11 cfg0.N = G m c := by
  refine (dats m 0 c).arrAt_eq_of_covers 11 _ (by decide +kernel) fun t hf y => ?_
  blk_simp
  rw [after0_11]
  idx_vars y
  rw [out_apply]
  unfold G
  obtain ⟨e0, e1, e2, e3, e4, e11⟩ := idx_rows t
  obtain ⟨e5, e6, e7, e8, e9, e10⟩ := idx_whole t
  congr 1
  · funext j; blk_point [iblk, V, e0, e11]
  · funext j; blk_point [iblk, V, e2, e11]
  · funext j; blk_point [iblk, V, e3, e11]
  · funext j; blk_point [iblk, V, e4, e11]
  · funext j; blk_point [iblk, V, e1, e11]
  · funext a b; blk_point [iblk, V, e5]
  · funext a b; blk_point [iblk, V, e6]
  · funext j; blk_point [iblk, V, e7]
  · funext a b; blk_point [iblk, V, e8]
  · funext a b; blk_point [iblk, V, e9]
  · funext j; blk_point [iblk, V, e10]
  · refine Fin.ext ?_
    blk_simp [e11]

end Cert.TailIdeal.Block

end
-- ==== Proof.Tail.Ref.lean ====
/- What the reference computes: every row of its result is `LayerRow.tail` of the same row of its arguments. -/
module

public import proofs.«01_k».proof.Proof.Tail.Row
public import proofs.«01_k».proof.Proof.Gen.TailRefIdeal.Read
public import Idealize.ShloMosaic.Lib.Pointwise

@[expose] public section

set_option maxRecDepth 16384

noncomputable section

namespace Cert.TailRefIdeal.Rows

open Cert.TailRefIdeal Cert.TailRefIdeal.Read Idealize.ShloMosaic Cert.LayerRow

variable (x0 : Vec Ideal S65536x1024 .f32) (x1 : Vec Ideal S65536x512 .bf16) (x2 x3 x4 : Vec Ideal S65536x1024 .f32)
  (x5 : Vec Ideal S512x1024 .f32) (x6 : Vec Ideal S1024x1024 .f32) (x7 : Vec Ideal S1024 .f32)
  (x8 : Vec Ideal S1024x4096 .f32) (x9 : Vec Ideal S4096x1024 .f32) (x10 : Vec Ideal S1024 .f32)

/-- The residual after the mix, at an element. -/
theorem mixed_apply (r : Fin 65536) (l : Fin 1024) :
    val_main_v6 (F := Ideal) x0 x1 x2 x3 x4 x5 x6 (ix2 r l)
      = mixed (fun j => x0 (ix2 r j)) (fun j => x2 (ix2 r j)) (fun j => x3 (ix2 r j)) (fun j => x4 (ix2 r j))
          (fun j => x1 (ix2 r j)) (fun a b => x5 (ix2 a b)) (fun a b => x6 (ix2 a b)) l := by
  pointwise [val_main_v6, val_main_v5, val_main_v4, val_main_v3, val_main_v2, val_main_v1, val_main_v0]
  rfl

/-- The hidden layer at an element, over the residual. -/
theorem hidden_apply (r : Fin 65536) (l : Fin 4096) :
    val_main_v20 (F := Ideal) x0 x1 x2 x3 x4 x5 x6 x7 x8 (ix2 r l)
      = hidden (fun j => val_main_v6 (F := Ideal) x0 x1 x2 x3 x4 x5 x6 (ix2 r j)) (fun j => x7 (ix1 j)) (fun a b => x8 (ix2 a b)) l := by
  pointwise [val_main_v20, val_main_v19, val_main_v18, val_main_v17, val_main_v16, val_main_v15, val_main_v14, val_main_v13,
    val_main_v12, val_main_v11, val_main_v10, val_main_v9, val_main_v8, val_main_v7, val_main_cst, val_main_cst_0, val_main_cst_1]
  rfl

/-- The residual after the network, at an element. -/
theorem fed_apply (r : Fin 65536) (l : Fin 1024) :
    val_main_v24 (F := Ideal) x0 x1 x2 x3 x4 x5 x6 x7 x8 x9 (ix2 r l)
      = fed (fun j => val_main_v6 (F := Ideal) x0 x1 x2 x3 x4 x5 x6 (ix2 r j))
          (fun j => val_main_v20 (F := Ideal) x0 x1 x2 x3 x4 x5 x6 x7 x8 (ix2 r j)) (fun a b => x9 (ix2 a b)) l := by
  pointwise [val_main_v24, val_main_v23, val_main_v22, val_main_v21, val_main_call0_v0, val_main_call0_cst]
  rfl

/-- The result at an element. -/
theorem result_apply (r : Fin 65536) (l : Fin 1024) :
    val_main_v37 (F := Ideal) x0 x1 x2 x3 x4 x5 x6 x7 x8 x9 x10 (ix2 r l)
      = tail (fun j => x0 (ix2 r j)) (fun j => x2 (ix2 r j)) (fun j => x3 (ix2 r j)) (fun j => x4 (ix2 r j))
          (fun j => x1 (ix2 r j)) (fun a b => x5 (ix2 a b)) (fun a b => x6 (ix2 a b)) (fun j => x7 (ix1 j))
          (fun a b => x8 (ix2 a b)) (fun a b => x9 (ix2 a b)) (fun j => x10 (ix1 j)) l := by
  pointwise [val_main_v37, val_main_v36, val_main_v35, val_main_v34, val_main_v33, val_main_v32, val_main_v31, val_main_v30,
    val_main_v29, val_main_v28, val_main_v27, val_main_v26, val_main_v25, val_main_cst_2, val_main_cst_3, val_main_cst_4]
  simp only [fed_apply, hidden_apply, mixed_apply]
  rfl

end Cert.TailRefIdeal.Rows

end
-- ==== Proof.Tail.Equation.lean ====
/- The tail kernel and the reference end with the same array: both hold `LayerRow.tail` of every row. -/
module

public import proofs.«01_k».proof.Proof.Tail.Value
public import proofs.«01_k».proof.Proof.Tail.Ref
public import proofs.«01_k».proof.Defs
public import Idealize.ShloMosaic.Lib.Quiescent

@[expose] public section

set_option maxRecDepth 16384

noncomputable section

namespace Cert.TailValue

open Idealize.ShloMosaic Idealize.ShloMosaic.TcCoe Idealize.SL.Sem

/-- The reference's result on arguments that agree with the kernel's is the kernel's array. -/
theorem ref_eq (m : (ℓ : Loc Cert.TailIdeal.nD Cert.TailIdeal.τ Cert.TailIdeal.sig) → Buf (Elt Ideal) ℓ) (c : Dev Cert.TailIdeal.nD) :
    Cert.TailRefIdeal.Read.val_main_v37 (F := Ideal) (m ((c : Thread Cert.TailIdeal.nD Cert.TailIdeal.τ).loc Cert.TailIdeal.main_arg0)) (m ((c : Thread Cert.TailIdeal.nD Cert.TailIdeal.τ).loc Cert.TailIdeal.main_arg1))
      (m ((c : Thread Cert.TailIdeal.nD Cert.TailIdeal.τ).loc Cert.TailIdeal.main_arg2)) (m ((c : Thread Cert.TailIdeal.nD Cert.TailIdeal.τ).loc Cert.TailIdeal.main_arg3)) (m ((c : Thread Cert.TailIdeal.nD Cert.TailIdeal.τ).loc Cert.TailIdeal.main_arg4))
      (m ((c : Thread Cert.TailIdeal.nD Cert.TailIdeal.τ).loc Cert.TailIdeal.main_arg5)) (m ((c : Thread Cert.TailIdeal.nD Cert.TailIdeal.τ).loc Cert.TailIdeal.main_arg6)) (m ((c : Thread Cert.TailIdeal.nD Cert.TailIdeal.τ).loc Cert.TailIdeal.main_arg7))
      (m ((c : Thread Cert.TailIdeal.nD Cert.TailIdeal.τ).loc Cert.TailIdeal.main_arg8)) (m ((c : Thread Cert.TailIdeal.nD Cert.TailIdeal.τ).loc Cert.TailIdeal.main_arg9)) (m ((c : Thread Cert.TailIdeal.nD Cert.TailIdeal.τ).loc Cert.TailIdeal.main_arg10))
      = Cert.TailIdeal.Block.G m c := by
  funext i
  rw [eq_ix2 i]
  exact Cert.TailRefIdeal.Rows.result_apply _ _ _ _ _ _ _ _ _ _ _ (i 0) (i 1)

/-- The value claim: from memories that agree on the arguments the kernel and the reference end with equal results. -/
theorem algebraic : Cert.algebraic_TailIdeal_TailRefIdeal (hTailIdeal := Cert.TailIdeal.Gen.facts)
    (hTailRefIdeal := Cert.TailRefIdeal.Gen.facts) := by
  intro m g m' g' _ hagree
  refine ⟨fun c => Cert.TailIdeal.Block.G m c, ?_, ?_⟩
  · refine (θ_run _ _ _).mono (fun r h c => ?_) (Cert.TailIdeal.Value.run_blocks (F := Ideal) m g)
    exact ⟨(h c).1.trans (Cert.TailIdeal.Block.final m c), (h c).2⟩
  · refine (θ_run _ _ _).mono (fun r h c => ?_) (Cert.TailRefIdeal.Value.run (F := Ideal) m' g')
    refine ⟨(h c).1.trans ?_, (h c).2⟩
    rw [Cert.TailRefIdeal.Read.val_main_v37_eq]
    obtain ⟨h0, h1, h2, h3, h4, h5, h6, h7, h8, h9, h10⟩ := hagree c
    rw [h0, h1, h2, h3, h4, h5, h6, h7, h8, h9, h10]
    exact ref_eq m c

/-- The reference runs, leaves its arguments alone and ends with every counter at zero. -/
theorem frame_ref : Cert.quiescent_TailRefIdeal (hTailRefIdeal := Cert.TailRefIdeal.Gen.facts) := fun m ρ _ =>
  (θ_run Cert.TailRefIdeal.defs _ _).mono (fun r h => ⟨fun c => (h c).2, sem_eq_zero_of_no_sems (by decide) r.2⟩)
    (Cert.TailRefIdeal.Value.run (F := Ideal) m ρ)

end Cert.TailValue

end
-- ==== Proof.Scan.Recurrence.lean ====
/- The recurrence of the state-space branch on one lane, `h ↦ a · h + x`, over the complex numbers, and the eight-row
   scan that runs it in three doubling steps. Complex numbers stand here as pairs of real parts, each a real among the
   extended reals. -/
module

public import Idealize.ShloMosaic.PureOps.Ideal.Laws
public import Mathlib.Data.Complex.Basic

@[expose] public section

noncomputable section

namespace Cert.ScanRow

open Idealize.ShloMosaic

/-- The state after `n` steps of `h ↦ a · h + x i` from `s`. -/
def run (a : ℂ) (x : ℕ → ℂ) (s : ℂ) : ℕ → ℂ
  | 0 => s
  | n + 1 => a * run a x s n + x n

/-- Running `m + n` steps is running `n` steps more from the state after `m`. -/
theorem run_add (a : ℂ) (x : ℕ → ℂ) (s : ℂ) (m n : ℕ) :
    run a x s (m + n) = run a (fun i => x (m + i)) (run a x s m) n := by
  induction n with
  | zero => rfl
  | succ n ih => rw [← Nat.add_assoc]; simp only [run, ih]

/-- Only the first `n` inputs matter to the state after `n` steps. -/
theorem run_congr (a : ℂ) (x y : ℕ → ℂ) (s : ℂ) (n : ℕ) (h : ∀ i < n, x i = y i) : run a x s n = run a y s n := by
  induction n with
  | zero => rfl
  | succ n ih => simp only [run, ih fun i hi => h i (by omega), h n (by omega)]

/-- The row `j` rows above row `s` of eight, wrapping round. -/
abbrev back (j : ℕ) (s : Fin 8) : Fin 8 := ⟨(s.val + 8 - j) % 8, Nat.mod_lt _ (by decide)⟩

/-- A factor that a row only takes when there are `j` rows above it. -/
def gate (j : ℕ) (p : ℂ) (s : Fin 8) : ℂ := if j ≤ s.val then p else 0

/-- One doubling step of the scan: each row takes in the row `j` above it, times its factor. -/
def lag (j : ℕ) (p : ℂ) (z : Fin 8 → ℂ) (s : Fin 8) : ℂ := z s + gate j p s * z (back j s)

/-- Three doubling steps and the carried state, at row `s`: the state after `s + 1` steps. -/
theorem group (a : ℂ) (z : Fin 8 → ℂ) (x : ℕ → ℂ) (hx : ∀ s : Fin 8, x s.val = z s) (c : ℂ) (s : Fin 8) :
    lag 4 (a ^ 4) (lag 2 (a ^ 2) (lag 1 a z)) s + a ^ (s.val + 1) * c = run a x c (s.val + 1) := by
  have h0 := hx 0; have h1 := hx 1; have h2 := hx 2; have h3 := hx 3
  have h4 := hx 4; have h5 := hx 5; have h6 := hx 6; have h7 := hx 7
  simp only [Fin.isValue, Fin.val_zero, Fin.val_one] at h0 h1
  change x 2 = _ at h2; change x 3 = _ at h3; change x 4 = _ at h4; change x 5 = _ at h5
  change x 6 = _ at h6; change x 7 = _ at h7
  fin_cases s <;> simp [lag, gate, back, run, h0, h1, h2, h3, h4, h5, h6, h7] <;> ring

/-- The real part of `x + t · s`, from the parts. -/
theorem re_step (x t s : ℂ) :
    (x.re : EReal) + ((t.re : EReal) * (s.re : EReal) - (t.im : EReal) * (s.im : EReal)) = ((x + t * s).re : ℝ) := by
  simp only [Complex.add_re, Complex.mul_re, EReal.coe_add, EReal.coe_sub, EReal.coe_mul]

/-- The imaginary part of `x + t · s`, from the parts. -/
theorem im_step (x t s : ℂ) :
    (x.im : EReal) + ((t.re : EReal) * (s.im : EReal) + (t.im : EReal) * (s.re : EReal)) = ((x + t * s).im : ℝ) := by
  simp only [Complex.add_im, Complex.mul_im, EReal.coe_add, EReal.coe_mul]

/-- The real part of a product, from the parts. -/
theorem re_mul (t s : ℂ) :
    (t.re : EReal) * (s.re : EReal) - (t.im : EReal) * (s.im : EReal) = ((t * s).re : ℝ) := by
  simp only [Complex.mul_re, EReal.coe_sub, EReal.coe_mul]

/-- The imaginary part of a product, from the parts. -/
theorem im_mul (t s : ℂ) :
    (t.re : EReal) * (s.im : EReal) + (t.im : EReal) * (s.re : EReal) = ((t * s).im : ℝ) := by
  simp only [Complex.mul_im, EReal.coe_add, EReal.coe_mul]

/-- A sum over `n` blocks of `m` whose summand is zero off block `g` is the sum over that block. -/
theorem sum_block {n m : ℕ} (f : Fin (n * m) → EReal) (g : Fin n)
    (h : ∀ k : Fin (n * m), k.val / m ≠ g.val → f k = 0) :
    ∑ k, f k = ∑ p : Fin m, f (finProdFinEquiv (g, p)) := by
  rw [← finProdFinEquiv.sum_comp, Fintype.sum_prod_type]
  rw [Finset.sum_eq_single g]
  · intro b _ hb
    refine Finset.sum_eq_zero fun p _ => h _ ?_
    intro e
    apply hb
    apply Fin.ext
    rw [← e]
    simp only [finProdFinEquiv_apply_val]
    have hm : 0 < m := by have := p.isLt; omega
    rw [Nat.add_mul_div_left _ _ hm, Nat.div_eq_of_lt p.isLt, Nat.zero_add]
  · exact fun hg => absurd (Finset.mem_univ g) hg

end Cert.ScanRow

end
-- ==== Proof.Scan.Row.lean ====
/- The state-space branch as plain functions of its arguments: the transition of one state, the inputs it takes in, its
   states over time, what is read out of them and the gated output. The transition, the inputs and the states are complex
   numbers; the arguments are pairs of extended reals. -/
module

public import proofs.«01_k».proof.Proof.Scan.Recurrence

@[expose] public section

noncomputable section

namespace Cert.ScanRow

open Idealize.ShloMosaic

/-- The arguments: the input, the transition, the input map and the output map (real and imaginary parts), the direct
    term, the weights and the bias of the gated output. -/
structure Params where
  u : Fin 16 → Fin 4096 → Fin 512 → EReal
  ar : Fin 32 → Fin 64 → EReal
  ai : Fin 32 → Fin 64 → EReal
  br : Fin 32 → Fin 64 → Fin 16 → EReal
  bi : Fin 32 → Fin 64 → Fin 16 → EReal
  cr : Fin 32 → Fin 16 → Fin 64 → EReal
  ci : Fin 32 → Fin 16 → Fin 64 → EReal
  d : Fin 512 → EReal
  w : Fin 512 → Fin 2048 → EReal
  bg : Fin 2048 → EReal

/-- The arguments the recurrence uses, and the imaginary part of the output map, are real numbers. -/
structure Params.IsReal (P : Params) : Prop where
  u : ∀ b i q, ((P.u b i q).toReal : EReal) = P.u b i q
  ar : ∀ g p, ((P.ar g p).toReal : EReal) = P.ar g p
  ai : ∀ g p, ((P.ai g p).toReal : EReal) = P.ai g p
  br : ∀ g p k, ((P.br g p k).toReal : EReal) = P.br g p k
  bi : ∀ g p k, ((P.bi g p k).toReal : EReal) = P.bi g p k
  ci : ∀ g k p, ((P.ci g k p).toReal : EReal) = P.ci g k p

/-- The channel `16 g + k`. -/
abbrev chan (g : Fin 32) (k : Fin 16) : Fin 512 := ⟨g.val * 16 + k.val, by omega⟩

variable (P : Params)

/-- The transition of state `p` of group `g`. -/
def Params.a (g : Fin 32) (p : Fin 64) : ℂ := ⟨(P.ar g p).toReal, (P.ai g p).toReal⟩

/-- What state `p` of group `g` takes in at time `i` of batch `b`. -/
def Params.x (b : Fin 16) (i : ℕ) (g : Fin 32) (p : Fin 64) : ℂ :=
  if h : i < 4096 then
    ⟨∑ k : Fin 16, (P.u b ⟨i, h⟩ (chan g k)).toReal * (P.br g p k).toReal,
     ∑ k : Fin 16, (P.u b ⟨i, h⟩ (chan g k)).toReal * (P.bi g p k).toReal⟩
  else 0

/-- The state after `n` steps. -/
def Params.h (b : Fin 16) (n : ℕ) (g : Fin 32) (p : Fin 64) : ℂ := run (P.a g p) (fun i => P.x b i g p) 0 n

/-- The readout at time `i` on channel `q`, with the direct term. -/
def Params.y (b : Fin 16) (i : Fin 4096) (q : Fin 512) : EReal :=
  ∑ n : Fin 64, ((P.h b (i.val + 1) ⟨q.val / 16, by omega⟩ n).re : EReal) * P.cr ⟨q.val / 16, by omega⟩ ⟨q.val % 16, by omega⟩ n
    - ∑ n : Fin 64, ((P.h b (i.val + 1) ⟨q.val / 16, by omega⟩ n).im : EReal) * P.ci ⟨q.val / 16, by omega⟩ ⟨q.val % 16, by omega⟩ n
    + P.d q * P.u b i q

/-- The smooth rectifier, by its hyperbolic tangent. -/
def gelu (y : EReal) : EReal :=
  y * (Ideal.ofBits .f32 1056964608#32 * (1 + Ideal.tanh (Ideal.ofBits .f32 1061962282#32 *
    (y + Ideal.ofBits .f32 1027024659#32 * (y * y * y)))))

/-- One column of the product before the gate. -/
def mixed (y : Fin 512 → EReal) (w : Fin 512 → Fin 2048 → EReal) (bg : Fin 2048 → EReal) (j : Fin 2048) : EReal :=
  ∑ q, gelu (y q) * w q j + bg j

/-- The gated output: the first half of the columns times the logistic function of the second. -/
def glu (y : Fin 512 → EReal) (w : Fin 512 → Fin 2048 → EReal) (bg : Fin 2048 → EReal) (j : Fin 1024) : EReal :=
  mixed y w bg ⟨j.val, by omega⟩ * Ideal.div 1 (1 + Ideal.exp (-(mixed y w bg ⟨1024 + j.val, by omega⟩)))

/-- The branch's output. -/
def Params.out (b : Fin 16) (i : Fin 4096) (j : Fin 1024) : EReal := glu (P.y b i) P.w P.bg j

/-- A sum of reals is a real among the extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

variable {P}

/-- The real part of an input, as a sum over the group's channels. -/
theorem Params.IsReal.x_re (hP : P.IsReal) (b : Fin 16) (i : Fin 4096) (g : Fin 32) (p : Fin 64) :
    ((P.x b i.val g p).re : EReal) = ∑ k : Fin 16, P.u b i (chan g k) * P.br g p k := by
  rw [Params.x, dif_pos i.isLt]
  show ((∑ k : Fin 16, (P.u b i (chan g k)).toReal * (P.br g p k).toReal : ℝ) : EReal) = _
  rw [coe_sum]
  exact Finset.sum_congr rfl fun k _ => by rw [EReal.coe_mul, hP.u, hP.br]

/-- The imaginary part of an input, as a sum over the group's channels. -/
theorem Params.IsReal.x_im (hP : P.IsReal) (b : Fin 16) (i : Fin 4096) (g : Fin 32) (p : Fin 64) :
    ((P.x b i.val g p).im : EReal) = ∑ k : Fin 16, P.u b i (chan g k) * P.bi g p k := by
  rw [Params.x, dif_pos i.isLt]
  show ((∑ k : Fin 16, (P.u b i (chan g k)).toReal * (P.bi g p k).toReal : ℝ) : EReal) = _
  rw [coe_sum]
  exact Finset.sum_congr rfl fun k _ => by rw [EReal.coe_mul, hP.u, hP.bi]

theorem Params.IsReal.a_re (hP : P.IsReal) (g : Fin 32) (p : Fin 64) : ((P.a g p).re : EReal) = P.ar g p := hP.ar g p

theorem Params.IsReal.a_im (hP : P.IsReal) (g : Fin 32) (p : Fin 64) : ((P.a g p).im : EReal) = P.ai g p := hP.ai g p

/-- A sum of real products with one factor negated is the sum negated. -/
theorem sum_neg_real {n : ℕ} (f g : Fin n → EReal) (r s : Fin n → ℝ) (hf : ∀ i, f i = (r i : EReal)) (hg : ∀ i, g i = (s i : EReal)) :
    ∑ i, f i * -g i = -∑ i, f i * g i := by
  have e1 : ∀ i, f i * -g i = ((r i * -s i : ℝ) : EReal) := fun i => by rw [hf, hg, EReal.coe_mul, EReal.coe_neg]
  have e2 : ∀ i, f i * g i = ((r i * s i : ℝ) : EReal) := fun i => by rw [hf, hg, EReal.coe_mul]
  rw [Finset.sum_congr rfl fun i _ => e1 i, Finset.sum_congr rfl fun i _ => e2 i, ← coe_sum, ← coe_sum, ← EReal.coe_neg]
  congr 1
  rw [← Finset.sum_neg_distrib]
  exact Finset.sum_congr rfl fun i _ => by ring

/-- A sum over blocks of which only block `g`'s mask is one is the sum over that block. -/
theorem sum_masked {n m : ℕ} {f : Fin (n * m) → EReal} (g : Fin n) (f' : Fin m → EReal)
    (h0 : ∀ k : Fin (n * m), k.val / m ≠ g.val → f k = 0)
    (h1 : ∀ p : Fin m, ∀ h : g.val * m + p.val < n * m, f ⟨g.val * m + p.val, h⟩ = f' p) : ∑ k, f k = ∑ p, f' p := by
  rw [sum_block f g h0]
  refine Finset.sum_congr rfl fun p _ => ?_
  have e : (finProdFinEquiv (g, p) : Fin (n * m)).val = g.val * m + p.val := by
    simp only [finProdFinEquiv_apply_val]; rw [Nat.add_comm, Nat.mul_comm]
  have hlt : g.val * m + p.val < n * m := e ▸ (finProdFinEquiv (g, p)).isLt
  rw [← h1 p hlt]
  exact congrArg f (Fin.ext e)

end Cert.ScanRow

end
-- ==== Proof.Scan.Loop.lean ====
/- The loop of the state-space call over the 256 rows of its block, eight rows a trip: after the loop the two scratch
   blocks hold the states after every row and the two carried rows the state after the last. -/
module

public import proofs.«01_k».proof.Proof.Gen.ScanIdeal.Loops
public import proofs.«01_k».proof.Proof.Scan.Recurrence
public import Idealize.ShloMosaic.Lib.Pointwise
public import Idealize.ShloMosaic.Lib.Writes
public import Idealize.ShloMosaic.Lib.Pipeline.FrameBody

@[expose] public section

set_option maxRecDepth 16384

noncomputable section

namespace Cert.ScanIdeal.Blk

open Idealize.ShloMosaic Idealize.ShloMosaic.TcCoe Cert.ScanIdeal.Gen Cert.ScanRow

/-- The table of powers, plane by plane: the factors of the three doubling steps, then the powers `a¹ … a⁸`. -/
structure IsTab (T : Vec Ideal S8x8x2048 .f32) (a : Fin 2048 → ℂ) : Prop where
  re1 : ∀ s l, T (ix3 0 s l) = ((gate 1 (a l) s).re : ℝ)
  im1 : ∀ s l, T (ix3 1 s l) = ((gate 1 (a l) s).im : ℝ)
  re2 : ∀ s l, T (ix3 2 s l) = ((gate 2 (a l ^ 2) s).re : ℝ)
  im2 : ∀ s l, T (ix3 3 s l) = ((gate 2 (a l ^ 2) s).im : ℝ)
  re4 : ∀ s l, T (ix3 4 s l) = ((gate 4 (a l ^ 4) s).re : ℝ)
  im4 : ∀ s l, T (ix3 5 s l) = ((gate 4 (a l ^ 4) s).im : ℝ)
  rep : ∀ (s : Fin 8) l, T (ix3 6 s l) = ((a l ^ (s.val + 1)).re : ℝ)
  imp : ∀ (s : Fin 8) l, T (ix3 7 s l) = ((a l ^ (s.val + 1)).im : ℝ)

section Payload

variable (v77 v78 : Vec Ideal S1x2048 .f32) (v82 v84 : Vec Ideal S8x2048 .f32)
  (v85 v87 v99 v101 v113 v115 v127 v129 : Vec Ideal S1x8x2048 .f32)

/-- The first doubling step on eight rows. -/
theorem step1 (l : Fin 2048) (z : Fin 8 → ℂ) (p : ℂ)
    (h82 : ∀ s, v82 (ix2 s l) = ((z s).re : ℝ)) (h84 : ∀ s, v84 (ix2 s l) = ((z s).im : ℝ))
    (h85 : ∀ s, v85 (ix3 0 s l) = ((gate 1 p s).re : ℝ)) (h87 : ∀ s, v87 (ix3 0 s l) = ((gate 1 p s).im : ℝ)) (s : Fin 8) :
    k0_pay6 (F := Ideal) v82 v84 v85 v87 (ix2 s l) = ((lag 1 p z s).re : ℝ)
      ∧ k0_pay7 (F := Ideal) v82 v84 v85 v87 (ix2 s l) = ((lag 1 p z s).im : ℝ) := by
  constructor
  · pointwise [k0_pay6, k0_pay2, k0_pay3, k0_pay4, k0_pay5]
    rw [h82, h82, h84, h85, h87]
    exact re_step _ _ _
  · pointwise [k0_pay7, k0_pay2, k0_pay3, k0_pay4, k0_pay5]
    rw [h82, h84, h84, h85, h87]
    exact im_step _ _ _

/-- The second doubling step. -/
theorem step2 (l : Fin 2048) (z : Fin 8 → ℂ) (p : ℂ)
    (h6 : ∀ s, k0_pay6 (F := Ideal) v82 v84 v85 v87 (ix2 s l) = ((z s).re : ℝ))
    (h7 : ∀ s, k0_pay7 (F := Ideal) v82 v84 v85 v87 (ix2 s l) = ((z s).im : ℝ))
    (h99 : ∀ s, v99 (ix3 0 s l) = ((gate 2 p s).re : ℝ)) (h101 : ∀ s, v101 (ix3 0 s l) = ((gate 2 p s).im : ℝ)) (s : Fin 8) :
    k0_pay12 (F := Ideal) v82 v84 v85 v87 v99 v101 (ix2 s l) = ((lag 2 p z s).re : ℝ)
      ∧ k0_pay13 (F := Ideal) v82 v84 v85 v87 v99 v101 (ix2 s l) = ((lag 2 p z s).im : ℝ) := by
  constructor
  · pointwise [k0_pay12, k0_pay8, k0_pay9, k0_pay10, k0_pay11]
    rw [h6, h6, h7, h99, h101]
    exact re_step _ _ _
  · pointwise [k0_pay13, k0_pay8, k0_pay9, k0_pay10, k0_pay11]
    rw [h6, h7, h7, h99, h101]
    exact im_step _ _ _

variable (v108 v112 : FVec Ideal S8x2048 .f32)

/-- The third doubling step and the carried state times the powers. -/
theorem step3 (l : Fin 2048) (z : Fin 8 → ℂ) (p c : ℂ) (q : Fin 8 → ℂ)
    (h108 : ∀ s, v108 (ix2 s l) = ((z s).re : ℝ)) (h112 : ∀ s, v112 (ix2 s l) = ((z s).im : ℝ))
    (h113 : ∀ s, v113 (ix3 0 s l) = ((gate 4 p s).re : ℝ)) (h115 : ∀ s, v115 (ix3 0 s l) = ((gate 4 p s).im : ℝ))
    (h127 : ∀ s, v127 (ix3 0 s l) = ((q s).re : ℝ)) (h129 : ∀ s, v129 (ix3 0 s l) = ((q s).im : ℝ))
    (h77 : v77 (ix2 0 l) = (c.re : ℝ)) (h78 : v78 (ix2 0 l) = (c.im : ℝ)) (s : Fin 8) :
    k0_pay20 (F := Ideal) v77 v78 v108 v112 v113 v115 v127 v129 (ix2 s l) = ((lag 4 p z s + q s * c).re : ℝ)
      ∧ k0_pay21 (F := Ideal) v77 v78 v108 v112 v113 v115 v127 v129 (ix2 s l) = ((lag 4 p z s + q s * c).im : ℝ) := by
  constructor
  · pointwise [k0_pay20, k0_pay14, k0_pay15, k0_pay16, k0_pay17, k0_pay18, k0_pay19]
    rw [h108, h108, h112, h113, h115, h127, h129, h77, h78, re_step, re_step]
    rfl
  · pointwise [k0_pay21, k0_pay14, k0_pay15, k0_pay16, k0_pay17, k0_pay18, k0_pay19]
    rw [h108, h112, h112, h113, h115, h127, h129, h77, h78, im_step, im_step]
    rfl

/-- One trip on one lane: from the state `C` carried in and the inputs `X` of its eight rows, row `s` ends holding the
    state after `s + 1` steps. -/
theorem rows8 {T : Vec Ideal S8x8x2048 .f32} {a : Fin 2048 → ℂ} (hT : IsTab T a) {v77 v78 : Vec Ideal S1x2048 .f32}
    {v82 v84 : Vec Ideal S8x2048 .f32} {P0 P1 P2 P3 P4 P5 P6 P7 : Vec Ideal S1x8x2048 .f32}
    (hP0 : ∀ s l, P0 (ix3 0 s l) = T (ix3 0 s l)) (hP1 : ∀ s l, P1 (ix3 0 s l) = T (ix3 1 s l))
    (hP2 : ∀ s l, P2 (ix3 0 s l) = T (ix3 2 s l)) (hP3 : ∀ s l, P3 (ix3 0 s l) = T (ix3 3 s l))
    (hP4 : ∀ s l, P4 (ix3 0 s l) = T (ix3 4 s l)) (hP5 : ∀ s l, P5 (ix3 0 s l) = T (ix3 5 s l))
    (hP6 : ∀ s l, P6 (ix3 0 s l) = T (ix3 6 s l)) (hP7 : ∀ s l, P7 (ix3 0 s l) = T (ix3 7 s l))
    (l : Fin 2048) (X : ℕ → ℂ) (C : ℂ)
    (h82 : ∀ s : Fin 8, v82 (ix2 s l) = ((X s.val).re : ℝ)) (h84 : ∀ s : Fin 8, v84 (ix2 s l) = ((X s.val).im : ℝ))
    (h77 : v77 (ix2 0 l) = (C.re : ℝ)) (h78 : v78 (ix2 0 l) = (C.im : ℝ)) (s : Fin 8) :
    k0_pay20 (F := Ideal) v77 v78 (k0_pay12 v82 v84 P0 P1 P2 P3) (k0_pay13 v82 v84 P0 P1 P2 P3) P4 P5 P6 P7 (ix2 s l)
        = ((run (a l) X C (s.val + 1)).re : ℝ)
      ∧ k0_pay21 (F := Ideal) v77 v78 (k0_pay12 v82 v84 P0 P1 P2 P3) (k0_pay13 v82 v84 P0 P1 P2 P3) P4 P5 P6 P7 (ix2 s l)
        = ((run (a l) X C (s.val + 1)).im : ℝ) := by
  have e1 := step1 v82 v84 P0 P1 l (fun s => X s.val) (a l) h82 h84
    (fun s => (hP0 s l).trans (hT.re1 s l)) (fun s => (hP1 s l).trans (hT.im1 s l))
  have e2 := step2 v82 v84 P0 P1 P2 P3 l _ (a l ^ 2) (fun s => (e1 s).1) (fun s => (e1 s).2)
    (fun s => (hP2 s l).trans (hT.re2 s l)) (fun s => (hP3 s l).trans (hT.im2 s l))
  have e3 := step3 v77 v78 P4 P5 P6 P7 _ _ l _ (a l ^ 4) C (fun s => a l ^ (s.val + 1)) (fun s => (e2 s).1)
    (fun s => (e2 s).2) (fun s => (hP4 s l).trans (hT.re4 s l)) (fun s => (hP5 s l).trans (hT.im4 s l))
    (fun s => (hP6 s l).trans (hT.rep s l)) (fun s => (hP7 s l).trans (hT.imp s l)) h77 h78 s
  rw [group (a l) (fun s => X s.val) X (fun _ => rfl) C s] at e3
  exact e3

end Payload

section Loop

variable (𝒱 : Variants)
  (c : Dev nD)
  (bd : Option 𝒱.V)
  (i : grid0.Coords)
  (arg2 : Memref sig .tc .vmem S1x256x512 .f32)
  (harg2 : arg2.IsWhole)
  (arg3 : Memref sig .tc .vmem S512x2048 .bf16)
  (harg3 : arg3.IsWhole)
  (arg4 : Memref sig .tc .vmem S512x2048 .bf16)
  (harg4 : arg4.IsWhole)
  (arg5 : Memref sig .tc .vmem S8x8x2048 .f32)
  (harg5 : arg5.IsWhole)
  (arg6 : Memref sig .tc .vmem S2048x512 .bf16)
  (harg6 : arg6.IsWhole)
  (arg7 : Memref sig .tc .vmem S2048x512 .bf16)
  (harg7 : arg7.IsWhole)
  (arg8 : Memref sig .tc .vmem S1x512 .f32)
  (harg8 : arg8.IsWhole)
  (arg9 : Memref sig .tc .vmem S512x2048 .bf16)
  (harg9 : arg9.IsWhole)
  (arg10 : Memref sig .tc .vmem S1x2048 .f32)
  (harg10 : arg10.IsWhole)
  (arg11 : Memref sig .tc .vmem S1x256x1024 .f32)
  (harg11 : arg11.IsWhole)
  (arg12 : Memref sig .tc .vmem S1x1x2048 .f32)
  (harg12 : arg12.IsWhole)
  (arg13 : Memref sig .tc .vmem S1x1x2048 .f32)
  (harg13 : arg13.IsWhole)
  (arg14 : Memref sig .tc .vmem S256x2048 .f32)
  (harg14 : arg14.IsWhole)
  (arg15 : Memref sig .tc .vmem S256x2048 .f32)
  (harg15 : arg15.IsWhole)
  (arg16 : Memref sig .tc .vmem S1x2048 .f32)
  (harg16 : arg16.IsWhole)
  (arg17 : Memref sig .tc .vmem S1x2048 .f32)
  (harg17 : arg17.IsWhole)
  (X_arg5 : BufTy.Contents (Elt Ideal) arg5.view.ty)

/-- A load of a unit rectangle at an index is the view's contents at the index shifted by the rectangle's offsets. -/
theorem readAt_ix {sp : Space} {s : Shape} {e : EltTy} (v : View sig .tc sp s e) (f : v.ty.Contents (Elt Ideal))
    {off size : Fin s.rank → ℕ} (inb : ∀ a, off a + size a ≤ s.size a) (x : (Rect.unit off size inb).shape.Idx) (y : s.Idx)
    (h : ∀ a, (y a).val = off a + (x a).val) :
    v.readAt (Elt Ideal) (Rect.unit off size inb).toLoadRect f x = v.read (Elt Ideal) f y := by
  rw [View.readAt_eq_ld]
  exact congrArg (v.read (Elt Ideal) f) (funext fun a => Fin.ext (by
    rw [h a]; show off a + 1 * (x a).val = _; rw [Nat.one_mul]))

/-- A load of plane `q` of the table reads that plane. -/
theorem plane (v : View sig .tc .vmem S8x8x2048 .f32) (f : v.ty.Contents (Elt Ideal)) (off : Fin 3 → ℕ)
    (inb : ∀ a, off a + S1x8x2048.size a ≤ S8x8x2048.size a) (q : Fin 8) (h : off = ![q.val, 0, 0]) (s : Fin 8) (l : Fin 2048) :
    v.readAt (Elt Ideal) (Rect.unit (s := S8x8x2048) off S1x8x2048.size inb).toLoadRect f (ix3 0 s l)
      = v.read (Elt Ideal) f (ix3 q s l) := by
  subst h
  refine readAt_ix v f inb _ _ fun a => ?_
  fin_cases a
  · exact (Nat.add_zero _).symm
  · exact (Nat.zero_add _).symm
  · exact (Nat.zero_add _).symm

/-- A load of a carried row reads it. -/
theorem row0 (v : View sig .tc .vmem S1x2048 .f32) (f : v.ty.Contents (Elt Ideal))
    (inb : ∀ a, (![0, 0] : Fin 2 → ℕ) a + S1x2048.size a ≤ S1x2048.size a) (l : Fin 2048) :
    v.readAt (Elt Ideal) (Rect.unit (s := S1x2048) ![0, 0] S1x2048.size inb).toLoadRect f (ix2 0 l)
      = v.read (Elt Ideal) f (ix2 0 l) := by
  refine readAt_ix v f inb _ _ fun a => ?_
  fin_cases a
  · rfl
  · exact (Nat.zero_add _).symm

/-- What one trip of the loop, on rows `8k … 8k+7`, stores: the scratch blocks' rows and the carried rows, from what
    it finds there. -/
theorem trip_rows (k : Fin k0_t1_loop.trips) (f14 : BufTy.Contents (Elt Ideal) arg14.view.ty)
    (f15 : BufTy.Contents (Elt Ideal) arg15.view.ty) (f16 : BufTy.Contents (Elt Ideal) arg16.view.ty)
    (f17 : BufTy.Contents (Elt Ideal) arg17.view.ty) (a : Fin 2048 → ℂ)
    (hT : IsTab (arg5.view.read (Elt Ideal) X_arg5) a) (X : ℕ → Fin 2048 → ℂ) (C : Fin 2048 → ℂ)
    (h14 : ∀ (s : Fin 8) l, arg14.view.readAt (Elt Ideal) (Rect.unit (s := S256x2048) (k0_off1 k) S8x2048.size (k0_off1_inb k)).toLoadRect f14 (ix2 s l) = ((X s.val l).re : ℝ))
    (h15 : ∀ (s : Fin 8) l, arg15.view.readAt (Elt Ideal) (Rect.unit (s := S256x2048) (k0_off1 k) S8x2048.size (k0_off1_inb k)).toLoadRect f15 (ix2 s l) = ((X s.val l).im : ℝ))
    (h16 : ∀ l, arg16.view.read (Elt Ideal) f16 (ix2 0 l) = ((C l).re : ℝ))
    (h17 : ∀ l, arg17.view.read (Elt Ideal) f17 (ix2 0 l) = ((C l).im : ℝ)) :
    ∃ w14 w15 w16 w17,
      tripL_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X_arg5 k f14 f15 f16 f17
        = ([⟨Rect.unit (s := S256x2048) (k0_off1 k) S8x2048.size (k0_off1_inb k), w14⟩],
           [⟨Rect.unit (s := S256x2048) (k0_off1 k) S8x2048.size (k0_off1_inb k), w15⟩],
           [⟨Rect.unit (s := S1x2048) ![0, 0] S1x2048.size inb_S1x2048_S1x2048_0_0, w16⟩],
           [⟨Rect.unit (s := S1x2048) ![0, 0] S1x2048.size inb_S1x2048_S1x2048_0_0, w17⟩])
      ∧ (∀ (s : Fin 8) l, w14 (ix2 s l) = ((run (a l) (fun i => X i l) (C l) (s.val + 1)).re : ℝ))
      ∧ (∀ (s : Fin 8) l, w15 (ix2 s l) = ((run (a l) (fun i => X i l) (C l) (s.val + 1)).im : ℝ))
      ∧ (∀ l, w16 (ix2 0 l) = ((run (a l) (fun i => X i l) (C l) 8).re : ℝ))
      ∧ (∀ l, w17 (ix2 0 l) = ((run (a l) (fun i => X i l) (C l) 8).im : ℝ)) := by
  have key := fun (l : Fin 2048) (s : Fin 8) =>
    rows8 hT (v77 := trip_k0_t1.sl.r arg16 f16) (v78 := trip_k0_t1.sl.r_1 arg17 f17)
      (v82 := View.readAt (Elt Ideal) arg14.view (Rect.unit (s := S256x2048) (k0_off1 k) S8x2048.size (k0_off1_inb k)).toLoadRect f14)
      (v84 := View.readAt (Elt Ideal) arg15.view (Rect.unit (s := S256x2048) (k0_off1 k) S8x2048.size (k0_off1_inb k)).toLoadRect f15)
      (P0 := View.readAt (Elt Ideal) arg5.view (Rect.unit (s := S8x8x2048) ![0, 0, 0] S1x8x2048.size inb_S8x8x2048_S1x8x2048_0_0_0).toLoadRect X_arg5)
      (P1 := View.readAt (Elt Ideal) arg5.view (Rect.unit (s := S8x8x2048) ![1, 0, 0] S1x8x2048.size inb_S8x8x2048_S1x8x2048_1_0_0).toLoadRect X_arg5)
      (P2 := View.readAt (Elt Ideal) arg5.view (Rect.unit (s := S8x8x2048) ![2, 0, 0] S1x8x2048.size inb_S8x8x2048_S1x8x2048_2_0_0).toLoadRect X_arg5)
      (P3 := View.readAt (Elt Ideal) arg5.view (Rect.unit (s := S8x8x2048) ![3, 0, 0] S1x8x2048.size inb_S8x8x2048_S1x8x2048_3_0_0).toLoadRect X_arg5)
      (P4 := View.readAt (Elt Ideal) arg5.view (Rect.unit (s := S8x8x2048) ![4, 0, 0] S1x8x2048.size inb_S8x8x2048_S1x8x2048_4_0_0).toLoadRect X_arg5)
      (P5 := View.readAt (Elt Ideal) arg5.view (Rect.unit (s := S8x8x2048) ![5, 0, 0] S1x8x2048.size inb_S8x8x2048_S1x8x2048_5_0_0).toLoadRect X_arg5)
      (P6 := View.readAt (Elt Ideal) arg5.view (Rect.unit (s := S8x8x2048) ![6, 0, 0] S1x8x2048.size inb_S8x8x2048_S1x8x2048_6_0_0).toLoadRect X_arg5)
      (P7 := View.readAt (Elt Ideal) arg5.view (Rect.unit (s := S8x8x2048) ![7, 0, 0] S1x8x2048.size inb_S8x8x2048_S1x8x2048_7_0_0).toLoadRect X_arg5)
      (fun s l => plane _ _ _ _ 0 rfl s l) (fun s l => plane _ _ _ _ 1 rfl s l) (fun s l => plane _ _ _ _ 2 rfl s l)
      (fun s l => plane _ _ _ _ 3 rfl s l) (fun s l => plane _ _ _ _ 4 rfl s l) (fun s l => plane _ _ _ _ 5 rfl s l)
      (fun s l => plane _ _ _ _ 6 rfl s l) (fun s l => plane _ _ _ _ 7 rfl s l)
      l (fun i => X i l) (C l) (fun s => h14 s l) (fun s => h15 s l)
      ((row0 _ _ _ l).trans (h16 l)) ((row0 _ _ _ l).trans (h17 l)) s
  refine ⟨_, _, _, _, by unfold tripL_k0_t1 trip_k0_t1; exact rfl, ?_, ?_, ?_, ?_⟩
  · intro s l
    pointwise [k0_pay22]
    exact (key l s).1
  · intro s l
    pointwise [k0_pay23]
    exact (key l s).2
  · intro l
    pointwise [k0_pay31, trip_k0_t1.sl.r_5, k0_pay24]
    exact (key l 7).1
  · intro l
    pointwise [k0_pay32]
    exact (key l 7).2

/-- The rows' values before trip `k`: the rows above `8k` hold states, the others their inputs still. -/
def held (a : Fin 2048 → ℂ) (X : ℕ → Fin 2048 → ℂ) (C : Fin 2048 → ℂ) (k r : ℕ) (l : Fin 2048) : ℂ :=
  if r < 8 * k then run (a l) (fun i => X i l) (C l) (r + 1) else X r l

variable (G14 : BufTy.Contents (Elt Ideal) arg14.view.ty) (G15 : BufTy.Contents (Elt Ideal) arg15.view.ty)
  (G16 : BufTy.Contents (Elt Ideal) arg16.view.ty) (G17 : BufTy.Contents (Elt Ideal) arg17.view.ty)

/-- What the loop has stored before trip `k`. -/
theorem loop_rows (a : Fin 2048 → ℂ) (hT : IsTab (arg5.view.read (Elt Ideal) X_arg5) a) (X : ℕ → Fin 2048 → ℂ)
    (C : Fin 2048 → ℂ)
    (h14 : ∀ (r : Fin 256) l, arg14.view.read (Elt Ideal) G14 (ix2 r l) = ((X r.val l).re : ℝ))
    (h15 : ∀ (r : Fin 256) l, arg15.view.read (Elt Ideal) G15 (ix2 r l) = ((X r.val l).im : ℝ))
    (h16 : ∀ l, arg16.view.read (Elt Ideal) G16 (ix2 0 l) = ((C l).re : ℝ))
    (h17 : ∀ l, arg17.view.read (Elt Ideal) G17 (ix2 0 l) = ((C l).im : ℝ)) (k : ℕ) (hk : k ≤ 32) :
    (∀ (r : Fin 256) l, arg14.view.read (Elt Ideal) (arg14.view.writes (Elt Ideal) G14 (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X_arg5 G14 G15 G16 G17 k).1) (ix2 r l)
        = ((held a X C k r.val l).re : ℝ))
      ∧ (∀ (r : Fin 256) l, arg15.view.read (Elt Ideal) (arg15.view.writes (Elt Ideal) G15 (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X_arg5 G14 G15 G16 G17 k).2.1) (ix2 r l)
        = ((held a X C k r.val l).im : ℝ))
      ∧ (∀ l, arg16.view.read (Elt Ideal) (arg16.view.writes (Elt Ideal) G16 (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X_arg5 G14 G15 G16 G17 k).2.2.1) (ix2 0 l)
        = ((run (a l) (fun i => X i l) (C l) (8 * k)).re : ℝ))
      ∧ (∀ l, arg17.view.read (Elt Ideal) (arg17.view.writes (Elt Ideal) G17 (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X_arg5 G14 G15 G16 G17 k).2.2.2) (ix2 0 l)
        = ((run (a l) (fun i => X i l) (C l) (8 * k)).im : ℝ)) := by
  induction k with
  | zero => exact ⟨h14, h15, h16, h17⟩
  | succ k ih =>
    obtain ⟨i14, i15, i16, i17⟩ := ih (by omega)
    have hk' : k < k0_t1_loop.trips := by
      have e : k0_t1_loop.trips = 32 := by decide +kernel
      omega
    have eoff := k0_off1_eq ⟨k, hk'⟩
    have hin : ∀ (s : Fin 8), 8 * k + s.val < 256 := fun s => by have := s.isLt; omega
    have off0 : ∀ a : Fin 2, k0_off1 ⟨k, hk'⟩ a = (![8 * k, 0] : Fin 2 → ℕ) a := fun a => congrFun eoff a
    have coord : ∀ (s : Fin 8) (l : Fin 2048) (a : Fin 2),
        ((ix2 (⟨8 * k + s.val, hin s⟩ : Fin 256) l : S256x2048.Idx) a).val
          = k0_off1 ⟨k, hk'⟩ a + ((ix2 s l : S8x2048.Idx) a).val := by
      intro s l a
      rw [off0 a]
      fin_cases a
      · rfl
      · exact (Nat.zero_add _).symm
    obtain ⟨w14, w15, w16, w17, e, e14, e15, e16, e17⟩ := trip_rows 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X_arg5 ⟨k, hk'⟩ _ _ _ _ a hT
      (fun i l => X (8 * k + i) l) (fun l => run (a l) (fun i => X i l) (C l) (8 * k))
      (fun s l => (readAt_ix _ _ _ _ (ix2 (⟨8 * k + s.val, hin s⟩ : Fin 256) l) (coord s l)).trans
        ((i14 ⟨8 * k + s.val, hin s⟩ l).trans (by rw [held, if_neg (by simp)])))
      (fun s l => (readAt_ix _ _ _ _ (ix2 (⟨8 * k + s.val, hin s⟩ : Fin 256) l) (coord s l)).trans
        ((i15 ⟨8 * k + s.val, hin s⟩ l).trans (by rw [held, if_neg (by simp)])))
      i16 i17
    have hs := pb_k0_t1_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X_arg5 G14 G15 G16 G17 ⟨k, hk'⟩
    rw [e] at hs
    have e' : ∀ (r : Fin 256) (l : Fin 2048), (∃ s : Fin 8, r.val = 8 * k + s.val) ∨ (r.val < 8 * k ∨ 8 * k + 8 ≤ r.val) := by
      intro r _
      by_cases h : r.val < 8 * k
      · exact .inr (.inl h)
      · by_cases h' : 8 * k + 8 ≤ r.val
        · exact .inr (.inr h')
        · exact .inl ⟨⟨r.val - 8 * k, by omega⟩, by show r.val = 8 * k + (r.val - 8 * k); omega⟩
    have inrow : ∀ (s : Fin 8) (l : Fin 2048), held a X C (k + 1) (8 * k + s.val) l
        = run (a l) (fun i => X (8 * k + i) l) (run (a l) (fun i => X i l) (C l) (8 * k)) (s.val + 1) := by
      intro s l
      rw [held, if_pos (by have := s.isLt; omega), Nat.add_assoc, run_add]
    have outrow : ∀ (r : ℕ) (l : Fin 2048), (r < 8 * k ∨ 8 * k + 8 ≤ r) → held a X C (k + 1) r l = held a X C k r l := by
      intro r l h
      rw [held, held]
      by_cases h' : r < 8 * k
      · rw [if_pos h', if_pos (by omega)]
      · rw [if_neg h', if_neg (by omega)]
    refine ⟨fun r l => ?_, fun r l => ?_, fun l => ?_, fun l => ?_⟩
    · rw [congrArg Prod.fst hs]
      rcases e' r l with ⟨s, hr⟩ | h
      · obtain rfl : r = ⟨8 * k + s.val, hin s⟩ := Fin.ext hr
        rw [inrow, ← e14]
        exact View.read_writes_cons_hit_of_coords _ _ (Rect.unit (s := S256x2048) (k0_off1 ⟨k, hk'⟩) S8x2048.size (k0_off1_inb ⟨k, hk'⟩)) _ _ (ix2 s l) _ (fun a => (coord s l a).trans (congrArg (k0_off1 ⟨k, hk'⟩ a + ·) (Nat.one_mul _).symm))
      · rw [outrow _ _ h, ← i14]
        exact View.read_writes_cons_miss_of_axis _ _ _ _ _ 0 (8 * k) 8 (off0 0) rfl rfl h
    · rw [congrArg (fun x => x.2.1) hs]
      rcases e' r l with ⟨s, hr⟩ | h
      · obtain rfl : r = ⟨8 * k + s.val, hin s⟩ := Fin.ext hr
        rw [inrow, ← e15]
        exact View.read_writes_cons_hit_of_coords _ _ (Rect.unit (s := S256x2048) (k0_off1 ⟨k, hk'⟩) S8x2048.size (k0_off1_inb ⟨k, hk'⟩)) _ _ (ix2 s l) _ (fun a => (coord s l a).trans (congrArg (k0_off1 ⟨k, hk'⟩ a + ·) (Nat.one_mul _).symm))
      · rw [outrow _ _ h, ← i15]
        exact View.read_writes_cons_miss_of_axis _ _ _ _ _ 0 (8 * k) 8 (off0 0) rfl rfl h
    · rw [congrArg (fun x => x.2.2.1) hs, Nat.mul_succ, run_add, ← e16]
      refine View.read_writes_cons_hit_of_coords _ _ (Rect.unit (s := S1x2048) ![0, 0] S1x2048.size inb_S1x2048_S1x2048_0_0) w16 _
        (ix2 0 l) _ fun a => ?_
      fin_cases a
      · rfl
      · exact (show l.val = 0 + 1 * l.val by omega)
    · rw [congrArg (fun x => x.2.2.2) hs, Nat.mul_succ, run_add, ← e17]
      refine View.read_writes_cons_hit_of_coords _ _ (Rect.unit (s := S1x2048) ![0, 0] S1x2048.size inb_S1x2048_S1x2048_0_0) w17 _
        (ix2 0 l) _ fun a => ?_
      fin_cases a
      · rfl
      · exact (show l.val = 0 + 1 * l.val by omega)

/-- Every trip stores both carried rows whole. -/
theorem trip_cons (k : Fin k0_t1_loop.trips) (f14 : BufTy.Contents (Elt Ideal) arg14.view.ty)
    (f15 : BufTy.Contents (Elt Ideal) arg15.view.ty) (f16 : BufTy.Contents (Elt Ideal) arg16.view.ty)
    (f17 : BufTy.Contents (Elt Ideal) arg17.view.ty) :
    ∃ L14 L15 w16 w17, tripL_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X_arg5 k f14 f15 f16 f17
        = (L14, L15, [⟨Rect.unit (s := S1x2048) ![0, 0] S1x2048.size inb_S1x2048_S1x2048_0_0, w16⟩],
           [⟨Rect.unit (s := S1x2048) ![0, 0] S1x2048.size inb_S1x2048_S1x2048_0_0, w17⟩]) :=
  ⟨_, _, _, _, by unfold tripL_k0_t1 trip_k0_t1; exact rfl⟩

/-- So the latest store to a carried row, after some trip, is the whole row. -/
theorem carried_cons (k : ℕ) (hk : k < k0_t1_loop.trips) :
    (∃ w L, (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X_arg5 G14 G15 G16 G17 (k + 1)).2.2.1
        = ⟨Rect.unit (s := S1x2048) ![0, 0] S1x2048.size inb_S1x2048_S1x2048_0_0, w⟩ :: L)
      ∧ (∃ w L, (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X_arg5 G14 G15 G16 G17 (k + 1)).2.2.2
        = ⟨Rect.unit (s := S1x2048) ![0, 0] S1x2048.size inb_S1x2048_S1x2048_0_0, w⟩ :: L) := by
  have hs := pb_k0_t1_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X_arg5 G14 G15 G16 G17 ⟨k, hk⟩
  obtain ⟨L14, L15, w16, w17, e⟩ := trip_cons 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X_arg5 ⟨k, hk⟩ _ _ _ _
  rw [e] at hs
  exact ⟨⟨_, _, congrArg (fun x => x.2.2.1) hs⟩, ⟨_, _, congrArg (fun x => x.2.2.2) hs⟩⟩

end Loop

end Cert.ScanIdeal.Blk

end
-- ==== Proof.Scan.Host.lean ====
/- What the host code hands the state-space call: the input and output maps spread over block diagonals, the table of the
   transition's powers, and the arguments reshaped. -/
module

public import proofs.«01_k».proof.Proof.Gen.ScanIdeal.Value
public import proofs.«01_k».proof.Proof.Scan.Row
public import proofs.«01_k».proof.Proof.Scan.Loop
public import Idealize.ShloMosaic.Lib.StableHlo.ReadAt

@[expose] public section

set_option maxRecDepth 16384

noncomputable section

namespace Cert.ScanIdeal.Blk

open Idealize.ShloMosaic Idealize.ShloMosaic.TcCoe Idealize.SL.Sem Cert.ScanIdeal.Gen Cert.ScanRow

variable (m : (ℓ : Loc nD τ sig) → Buf (Elt Ideal) ℓ) (c : Dev nD)

/-- The arguments on one device. -/
def params : Params where
  u b i q := m (c, Proc.tc.devRef main_arg0) (ix3 b i q)
  ar g p := m (c, Proc.tc.devRef main_arg1) (ix2 g p)
  ai g p := m (c, Proc.tc.devRef main_arg2) (ix2 g p)
  br g p k := m (c, Proc.tc.devRef main_arg3) (ix3 g p k)
  bi g p k := m (c, Proc.tc.devRef main_arg4) (ix3 g p k)
  cr g k p := m (c, Proc.tc.devRef main_arg5) (ix3 g k p)
  ci g k p := m (c, Proc.tc.devRef main_arg6) (ix3 g k p)
  d q := m (c, Proc.tc.devRef main_arg7) (ix1 q)
  w q j := m (c, Proc.tc.devRef main_arg8) (ix2 q j)
  bg j := m (c, Proc.tc.devRef main_arg9) (ix1 j)

/-- The group of a state's lane, and the state within it. -/
abbrev grp (l : Fin 2048) : Fin 32 := ⟨l.val / 64, by omega⟩
abbrev pos (l : Fin 2048) : Fin 64 := ⟨l.val % 64, by omega⟩
/-- The group of a channel, and the channel within it. -/
abbrev cgrp (q : Fin 512) : Fin 32 := ⟨q.val / 16, by omega⟩
abbrev cpos (q : Fin 512) : Fin 16 := ⟨q.val % 16, by omega⟩

/-- The mask of the block diagonal. -/
theorem mask_eq (i j : ℕ) (hi : i < 32) (hj : j < 32) :
    FloatOps.uitofp (F := Ideal) FTy.f32 (IntOp.cmpi CmpIPredicate.eq (IntOp.addi (BitVec.ofNat 32 i) 0#32) (BitVec.ofNat 32 j))
      = if i = j then (1 : EReal) else 0 := by
  have e : IntOp.cmpi CmpIPredicate.eq (IntOp.addi (BitVec.ofNat 32 i) 0#32) (BitVec.ofNat 32 j) = if i = j then 1#1 else 0#1 := by
    have := (by decide +kernel : ∀ i j : Fin 32, IntOp.cmpi CmpIPredicate.eq (IntOp.addi (BitVec.ofNat 32 i.val) 0#32) (BitVec.ofNat 32 j.val) = if i.val = j.val then 1#1 else 0#1)
    exact this ⟨i, hi⟩ ⟨j, hj⟩
  rw [e]
  split <;> simp [FloatOps.uitofp]

/-- The input map's real part, spread out. -/
theorem V13 (a : Fin 512) (b : Fin 2048) : V m c main_v13 (ix2 a b)
    = (params m c).br (cgrp a) (pos b) (cpos a) * if a.val / 16 = b.val / 64 then (1 : EReal) else 0 := by
  rw [← mask_eq _ _ (by omega) (by omega)]
  unfold V; after_reads_at; rfl

theorem V21 (a : Fin 512) (b : Fin 2048) : V m c main_v21 (ix2 a b)
    = (params m c).bi (cgrp a) (pos b) (cpos a) * if a.val / 16 = b.val / 64 then (1 : EReal) else 0 := by
  rw [← mask_eq _ _ (by omega) (by omega)]
  unfold V; after_reads_at; rfl

/-- The output map's real part, spread out. -/
theorem V29 (a : Fin 2048) (b : Fin 512) : V m c main_v29 (ix2 a b)
    = (params m c).cr (grp a) (cpos b) (pos a) * if a.val / 64 = b.val / 16 then (1 : EReal) else 0 := by
  rw [← mask_eq _ _ (by omega) (by omega)]
  unfold V; after_reads_at; rfl

/-- The output map's imaginary part, negated and spread out. -/
theorem V38 (a : Fin 2048) (b : Fin 512) : V m c main_v38 (ix2 a b)
    = -(params m c).ci (grp a) (cpos b) (pos a) * if a.val / 64 = b.val / 16 then (1 : EReal) else 0 := by
  rw [← mask_eq _ _ (by omega) (by omega)]
  unfold V; after_reads_at; rfl

theorem V120 (a : Fin 512) (b : Fin 2048) : V m c main_v120 (ix2 a b) = (params m c).w a b := by
  unfold V; after_reads_at; rfl

theorem V121 (b : Fin 512) : V m c main_v121 (ix2 0 b) = (params m c).d b := by
  unfold V; after_reads_at; rfl

theorem V122 (b : Fin 2048) : V m c main_v122 (ix2 0 b) = (params m c).bg b := by
  unfold V; after_reads_at; rfl

end Cert.ScanIdeal.Blk

end
-- ==== Proof.Scan.Table.lean ====
/- The table of powers the host code hands the state-space call. -/
module

public import proofs.«01_k».proof.Proof.Scan.Host

@[expose] public section

set_option maxRecDepth 16384

noncomputable section

namespace Cert.ScanIdeal.Blk

open Idealize.ShloMosaic Idealize.ShloMosaic.TcCoe Idealize.SL.Sem Cert.ScanIdeal.Gen Cert.ScanRow

variable (m : (ℓ : Loc nD τ sig) → Buf (Elt Ideal) ℓ) (c : Dev nD)

/-- A choice between a part of `p` and zero by the row's number is that part of the gated `p`. -/
theorem gate_re (j : ℕ) (p : ℂ) (s : Fin 8) (b : BitVec 1) (x z : EReal) (hb : b = if j ≤ s.val then 1#1 else 0#1)
    (hx : x = (p.re : ℝ)) (hz : z = 0) : Scalar.select b x z = ((gate j p s).re : ℝ) := by
  subst hb hx hz
  unfold gate
  split <;> simp [Scalar.select]

theorem gate_im (j : ℕ) (p : ℂ) (s : Fin 8) (b : BitVec 1) (x z : EReal) (hb : b = if j ≤ s.val then 1#1 else 0#1)
    (hx : x = (p.im : ℝ)) (hz : z = 0) : Scalar.select b x z = ((gate j p s).im : ℝ) := by
  subst hb hx hz
  unfold gate
  split <;> simp [Scalar.select]

theorem sge1 : ∀ s : Fin 8, IntOp.cmpi CmpIPredicate.sge (BitVec.ofNat 32 s.val) 1#32 = if 1 ≤ s.val then 1#1 else 0#1 := by decide +kernel
theorem sge2 : ∀ s : Fin 8, IntOp.cmpi CmpIPredicate.sge (BitVec.ofNat 32 s.val) 2#32 = if 2 ≤ s.val then 1#1 else 0#1 := by decide +kernel
theorem sge4 : ∀ s : Fin 8, IntOp.cmpi CmpIPredicate.sge (BitVec.ofNat 32 s.val) 4#32 = if 4 ≤ s.val then 1#1 else 0#1 := by decide +kernel

/-- The real and imaginary part of a product, by the parts of its factors, as the host code forms them. -/
theorem mul_re (t s : ℂ) (a b c d : EReal) (ha : a = (t.re : ℝ)) (hb : b = (t.im : ℝ)) (hc : c = (s.re : ℝ)) (hd : d = (s.im : ℝ)) :
    a * c - b * d = ((t * s).re : ℝ) := by subst ha hb hc hd; exact re_mul t s
theorem mul_im (t s : ℂ) (a b c d : EReal) (ha : a = (t.re : ℝ)) (hb : b = (t.im : ℝ)) (hc : c = (s.re : ℝ)) (hd : d = (s.im : ℝ)) :
    a * d + b * c = ((t * s).im : ℝ) := by subst ha hb hc hd; exact im_mul t s

variable (hP : (params m c).IsReal)

include hP in
theorem arg1 (l : Fin 2048) : m (c, Proc.tc.devRef main_arg1) (ix2 (grp l) (pos l)) = ((((params m c).a (grp l) (pos l)).re : ℝ) : EReal) := (hP.a_re _ _).symm
include hP in
theorem arg2 (l : Fin 2048) : m (c, Proc.tc.devRef main_arg2) (ix2 (grp l) (pos l)) = ((((params m c).a (grp l) (pos l)).im : ℝ) : EReal) := (hP.a_im _ _).symm

/-- Equal complex numbers have equal parts. -/
theorem re_eq {x y : ℂ} (h : x = y) : ((x.re : ℝ) : EReal) = (y.re : ℝ) := by rw [h]
theorem im_eq {x y : ℂ} (h : x = y) : ((x.im : ℝ) : EReal) = ((y.im : ℝ) : EReal) := by rw [h]

/-! Planes 0 to 5: the factors of the three doubling steps. -/

include hP in
theorem plane0 (s : Fin 8) (l : Fin 2048) :
    V m c main_v119 (ix3 0 s l) = (((gate 1 ((params m c).a (grp l) (pos l)) s).re : ℝ) : EReal) := by
  unfold V; after_reads_at
  rw [StableHlo.unary_result']
  after_reads_at
  exact gate_re _ _ _ _ _ _ (sge1 s) (arg1 m c hP l) (by simp [constant])

include hP in
theorem plane1 (s : Fin 8) (l : Fin 2048) :
    V m c main_v119 (ix3 1 s l) = (((gate 1 ((params m c).a (grp l) (pos l)) s).im : ℝ) : EReal) := by
  unfold V; after_reads_at
  rw [StableHlo.unary_result']
  after_reads_at
  exact gate_im _ _ _ _ _ _ (sge1 s) (arg2 m c hP l) (by simp [constant])

include hP in
theorem plane2 (s : Fin 8) (l : Fin 2048) :
    V m c main_v119 (ix3 2 s l) = (((gate 2 ((params m c).a (grp l) (pos l) ^ 2) s).re : ℝ) : EReal) := by
  unfold V; after_reads_at
  rw [StableHlo.unary_result']
  after_reads_at
  refine gate_re _ _ _ _ _ _ (sge2 s) ?_ (by simp [constant])
  rw [arg1 m c hP l, arg2 m c hP l]
  simp only [re_mul, im_mul]
  exact re_eq (by ring)

include hP in
theorem plane3 (s : Fin 8) (l : Fin 2048) :
    V m c main_v119 (ix3 3 s l) = (((gate 2 ((params m c).a (grp l) (pos l) ^ 2) s).im : ℝ) : EReal) := by
  unfold V; after_reads_at
  rw [StableHlo.unary_result']
  after_reads_at
  refine gate_im _ _ _ _ _ _ (sge2 s) ?_ (by simp [constant])
  rw [arg1 m c hP l, arg2 m c hP l]
  simp only [re_mul, im_mul]
  exact im_eq (by ring)

include hP in
theorem plane4 (s : Fin 8) (l : Fin 2048) :
    V m c main_v119 (ix3 4 s l) = (((gate 4 ((params m c).a (grp l) (pos l) ^ 4) s).re : ℝ) : EReal) := by
  unfold V; after_reads_at
  rw [StableHlo.unary_result']
  after_reads_at
  refine gate_re _ _ _ _ _ _ (sge4 s) ?_ (by simp [constant])
  rw [arg1 m c hP l, arg2 m c hP l]
  simp only [re_mul, im_mul]
  exact re_eq (by ring)

include hP in
theorem plane5 (s : Fin 8) (l : Fin 2048) :
    V m c main_v119 (ix3 5 s l) = (((gate 4 ((params m c).a (grp l) (pos l) ^ 4) s).im : ℝ) : EReal) := by
  unfold V; after_reads_at
  rw [StableHlo.unary_result']
  after_reads_at
  refine gate_im _ _ _ _ _ _ (sge4 s) ?_ (by simp [constant])
  rw [arg1 m c hP l, arg2 m c hP l]
  simp only [re_mul, im_mul]
  exact im_eq (by ring)

/-! Planes 6 and 7: the powers, row by row. -/

include hP in
theorem plane6_0 (l : Fin 2048) :
    V m c main_v119 (ix3 6 0 l) = ((((params m c).a (grp l) (pos l) ^ 1).re : ℝ) : EReal) := by
  unfold V; after_reads_at
  rw [StableHlo.unary_result']
  after_reads_at
  after_reads_at
  exact (arg1 m c hP l).trans (re_eq (by ring))

include hP in
theorem plane6_1 (l : Fin 2048) :
    V m c main_v119 (ix3 6 1 l) = ((((params m c).a (grp l) (pos l) ^ 2).re : ℝ) : EReal) := by
  unfold V; after_reads_at
  rw [StableHlo.unary_result']
  after_reads_at
  after_reads_at
  rw [arg1 m c hP l, arg2 m c hP l]
  simp only [re_mul, im_mul]
  exact re_eq (by ring)

include hP in
theorem plane6_2 (l : Fin 2048) :
    V m c main_v119 (ix3 6 2 l) = ((((params m c).a (grp l) (pos l) ^ 3).re : ℝ) : EReal) := by
  unfold V; after_reads_at
  rw [StableHlo.unary_result']
  after_reads_at
  after_reads_at
  rw [arg1 m c hP l, arg2 m c hP l]
  simp only [re_mul, im_mul]
  exact re_eq (by ring)

include hP in
theorem plane6_3 (l : Fin 2048) :
    V m c main_v119 (ix3 6 3 l) = ((((params m c).a (grp l) (pos l) ^ 4).re : ℝ) : EReal) := by
  unfold V; after_reads_at
  rw [StableHlo.unary_result']
  after_reads_at
  after_reads_at
  rw [arg1 m c hP l, arg2 m c hP l]
  simp only [re_mul, im_mul]
  exact re_eq (by ring)

include hP in
theorem plane6_4 (l : Fin 2048) :
    V m c main_v119 (ix3 6 4 l) = ((((params m c).a (grp l) (pos l) ^ 5).re : ℝ) : EReal) := by
  unfold V; after_reads_at
  rw [StableHlo.unary_result']
  after_reads_at
  after_reads_at
  rw [arg1 m c hP l, arg2 m c hP l]
  simp only [re_mul, im_mul]
  exact re_eq (by ring)

include hP in
theorem plane6_5 (l : Fin 2048) :
    V m c main_v119 (ix3 6 5 l) = ((((params m c).a (grp l) (pos l) ^ 6).re : ℝ) : EReal) := by
  unfold V; after_reads_at
  rw [StableHlo.unary_result']
  after_reads_at
  after_reads_at
  rw [arg1 m c hP l, arg2 m c hP l]
  simp only [re_mul, im_mul]
  exact re_eq (by ring)

include hP in
theorem plane6_6 (l : Fin 2048) :
    V m c main_v119 (ix3 6 6 l) = ((((params m c).a (grp l) (pos l) ^ 7).re : ℝ) : EReal) := by
  unfold V; after_reads_at
  rw [StableHlo.unary_result']
  after_reads_at
  after_reads_at
  rw [arg1 m c hP l, arg2 m c hP l]
  simp only [re_mul, im_mul]
  exact re_eq (by ring)

include hP in
theorem plane6_7 (l : Fin 2048) :
    V m c main_v119 (ix3 6 7 l) = ((((params m c).a (grp l) (pos l) ^ 8).re : ℝ) : EReal) := by
  unfold V; after_reads_at
  rw [StableHlo.unary_result']
  after_reads_at
  after_reads_at
  rw [arg1 m c hP l, arg2 m c hP l]
  simp only [re_mul, im_mul]
  exact re_eq (by ring)

include hP in
theorem plane7_0 (l : Fin 2048) :
    V m c main_v119 (ix3 7 0 l) = ((((params m c).a (grp l) (pos l) ^ 1).im : ℝ) : EReal) := by
  unfold V; after_reads_at
  rw [StableHlo.unary_result']
  after_reads_at
  after_reads_at
  exact (arg2 m c hP l).trans (im_eq (by ring))

include hP in
theorem plane7_1 (l : Fin 2048) :
    V m c main_v119 (ix3 7 1 l) = ((((params m c).a (grp l) (pos l) ^ 2).im : ℝ) : EReal) := by
  unfold V; after_reads_at
  rw [StableHlo.unary_result']
  after_reads_at
  after_reads_at
  rw [arg1 m c hP l, arg2 m c hP l]
  simp only [re_mul, im_mul]
  exact im_eq (by ring)

include hP in
theorem plane7_2 (l : Fin 2048) :
    V m c main_v119 (ix3 7 2 l) = ((((params m c).a (grp l) (pos l) ^ 3).im : ℝ) : EReal) := by
  unfold V; after_reads_at
  rw [StableHlo.unary_result']
  after_reads_at
  after_reads_at
  rw [arg1 m c hP l, arg2 m c hP l]
  simp only [re_mul, im_mul]
  exact im_eq (by ring)

include hP in
theorem plane7_3 (l : Fin 2048) :
    V m c main_v119 (ix3 7 3 l) = ((((params m c).a (grp l) (pos l) ^ 4).im : ℝ) : EReal) := by
  unfold V; after_reads_at
  rw [StableHlo.unary_result']
  after_reads_at
  after_reads_at
  rw [arg1 m c hP l, arg2 m c hP l]
  simp only [re_mul, im_mul]
  exact im_eq (by ring)

include hP in
theorem plane7_4 (l : Fin 2048) :
    V m c main_v119 (ix3 7 4 l) = ((((params m c).a (grp l) (pos l) ^ 5).im : ℝ) : EReal) := by
  unfold V; after_reads_at
  rw [StableHlo.unary_result']
  after_reads_at
  after_reads_at
  rw [arg1 m c hP l, arg2 m c hP l]
  simp only [re_mul, im_mul]
  exact im_eq (by ring)

include hP in
theorem plane7_5 (l : Fin 2048) :
    V m c main_v119 (ix3 7 5 l) = ((((params m c).a (grp l) (pos l) ^ 6).im : ℝ) : EReal) := by
  unfold V; after_reads_at
  rw [StableHlo.unary_result']
  after_reads_at
  after_reads_at
  rw [arg1 m c hP l, arg2 m c hP l]
  simp only [re_mul, im_mul]
  exact im_eq (by ring)

include hP in
theorem plane7_6 (l : Fin 2048) :
    V m c main_v119 (ix3 7 6 l) = ((((params m c).a (grp l) (pos l) ^ 7).im : ℝ) : EReal) := by
  unfold V; after_reads_at
  rw [StableHlo.unary_result']
  after_reads_at
  after_reads_at
  rw [arg1 m c hP l, arg2 m c hP l]
  simp only [re_mul, im_mul]
  exact im_eq (by ring)

include hP in
theorem plane7_7 (l : Fin 2048) :
    V m c main_v119 (ix3 7 7 l) = ((((params m c).a (grp l) (pos l) ^ 8).im : ℝ) : EReal) := by
  unfold V; after_reads_at
  rw [StableHlo.unary_result']
  after_reads_at
  after_reads_at
  rw [arg1 m c hP l, arg2 m c hP l]
  simp only [re_mul, im_mul]
  exact im_eq (by ring)

include hP in
/-- The table holds the powers of the transition. -/
theorem tab_V : IsTab (fun i => V m c main_v119 i) (fun l => (params m c).a (grp l) (pos l)) where
  re1 := plane0 m c hP
  im1 := plane1 m c hP
  re2 := plane2 m c hP
  im2 := plane3 m c hP
  re4 := plane4 m c hP
  im4 := plane5 m c hP
  rep := fun s l => by
    match s with
    | 0 => exact plane6_0 m c hP l
    | 1 => exact plane6_1 m c hP l
    | 2 => exact plane6_2 m c hP l
    | 3 => exact plane6_3 m c hP l
    | 4 => exact plane6_4 m c hP l
    | 5 => exact plane6_5 m c hP l
    | 6 => exact plane6_6 m c hP l
    | 7 => exact plane6_7 m c hP l
  imp := fun s l => by
    match s with
    | 0 => exact plane7_0 m c hP l
    | 1 => exact plane7_1 m c hP l
    | 2 => exact plane7_2 m c hP l
    | 3 => exact plane7_3 m c hP l
    | 4 => exact plane7_4 m c hP l
    | 5 => exact plane7_5 m c hP l
    | 6 => exact plane7_6 m c hP l
    | 7 => exact plane7_7 m c hP l

end Cert.ScanIdeal.Blk

end
-- ==== Proof.Scan.Block.lean ====
/- What one grid point of the state-space call leaves: the carried rows, the two state outputs, and the output block from
   the states of its 256 rows. -/
module

public import proofs.«01_k».proof.Proof.Gen.ScanIdeal.Value
public import proofs.«01_k».proof.Proof.Scan.Loop
public import Idealize.ShloMosaic.Lib.Pipeline.ValueKit
public import Idealize.ShloMosaic.Lib.Pipeline.ReadBack

@[expose] public section

set_option maxRecDepth 16384

noncomputable section

namespace Cert.ScanIdeal.Blk

open Idealize.ShloMosaic Idealize.ShloMosaic.TcCoe Cert.ScanIdeal.Gen Cert.ScanRow

variable (m : (ℓ : Loc nD τ sig) → Buf (Elt Ideal) ℓ) (c : Dev nD) (t : Fin cfg0.N)

/-- The loop's stores at grid point `t`, from the contents of the four scratch buffers at its start. -/
abbrev PB (G14 : BufTy.Contents (Elt Ideal) scM0_0.view.ty) (G15 : BufTy.Contents (Elt Ideal) scM0_1.view.ty)
    (G16 : BufTy.Contents (Elt Ideal) scM0_2.view.ty) (G17 : BufTy.Contents (Elt Ideal) scM0_3.view.ty) (k : ℕ) :=
  pb_k0_t1 (F := Ideal) Variants.none c none (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) ((hs0_3 t).unread (iblk m c 3 t)) G14 G15 G16 G17 k

/-- A buffer just filled whole reads as what filled it. -/
theorem read_fill2 {sp : Space} {n k : ℕ} {e : EltTy} (v : View sig .tc sp (⟨2, ![n, k]⟩ : Shape) e)
    (f : v.ty.Contents (Elt Ideal)) (inb : ∀ a, (![0, 0] : Fin 2 → ℕ) a + (![n, k] : Fin 2 → ℕ) a ≤ (⟨2, ![n, k]⟩ : Shape).size a)
    (w : Vec Ideal (⟨2, ![n, k]⟩ : Shape) e) (x : Fin n) (y : Fin k) :
    v.read (Elt Ideal) (v.writes (Elt Ideal) f [⟨Rect.unit (s := (⟨2, ![n, k]⟩ : Shape)) ![0, 0] ![n, k] inb, w⟩]) (ix2 x y) = w (ix2 x y) := by
  refine View.read_writes_cons_hit_of_coords _ _ (Rect.unit (s := (⟨2, ![n, k]⟩ : Shape)) ![0, 0] ![n, k] inb) w _
        (ix2 x y) _ fun a => ?_
  fin_cases a
  · exact (show x.val = 0 + 1 * x.val by omega)
  · exact (show y.val = 0 + 1 * y.val by omega)

/-- The loop at grid point `t`: the states left in the row blocks and in the carried rows. -/
theorem loop_at {a : Fin 2048 → ℂ} (hT : IsTab (iblk m c 3 t) a) (X : ℕ → Fin 2048 → ℂ) (C : Fin 2048 → ℂ)
    {G14 : BufTy.Contents (Elt Ideal) scM0_0.view.ty} {G15 : BufTy.Contents (Elt Ideal) scM0_1.view.ty}
    {G16 : BufTy.Contents (Elt Ideal) scM0_2.view.ty} {G17 : BufTy.Contents (Elt Ideal) scM0_3.view.ty}
    (h14 : ∀ (r : Fin 256) l, scM0_0.view.read (Elt Ideal) G14 (ix2 r l) = ((X r.val l).re : ℝ))
    (h15 : ∀ (r : Fin 256) l, scM0_1.view.read (Elt Ideal) G15 (ix2 r l) = ((X r.val l).im : ℝ))
    (h16 : ∀ l, scM0_2.view.read (Elt Ideal) G16 (ix2 0 l) = ((C l).re : ℝ))
    (h17 : ∀ l, scM0_3.view.read (Elt Ideal) G17 (ix2 0 l) = ((C l).im : ℝ)) :
    (∀ (r : Fin 256) l, scM0_0.view.read (Elt Ideal) (scM0_0.view.writes (Elt Ideal) G14 (PB m c t G14 G15 G16 G17 32).1) (ix2 r l)
        = ((run (a l) (fun i => X i l) (C l) (r.val + 1)).re : ℝ))
      ∧ (∀ (r : Fin 256) l, scM0_1.view.read (Elt Ideal) (scM0_1.view.writes (Elt Ideal) G15 (PB m c t G14 G15 G16 G17 32).2.1) (ix2 r l)
        = ((run (a l) (fun i => X i l) (C l) (r.val + 1)).im : ℝ))
      ∧ (∀ l, scM0_2.view.read (Elt Ideal) (scM0_2.view.writes (Elt Ideal) G16 (PB m c t G14 G15 G16 G17 32).2.2.1) (ix2 0 l)
        = ((run (a l) (fun i => X i l) (C l) 256).re : ℝ))
      ∧ (∀ l, scM0_3.view.read (Elt Ideal) (scM0_3.view.writes (Elt Ideal) G17 (PB m c t G14 G15 G16 G17 32).2.2.2) (ix2 0 l)
        = ((run (a l) (fun i => X i l) (C l) 256).im : ℝ)) := by
  obtain ⟨i14, i15, i16, i17⟩ := loop_rows (G14 := G14) (G15 := G15) (G16 := G16) (G17 := G17) Variants.none c none (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) ((hs0_3 t).unread (iblk m c 3 t)) a
    (by rw [Memref.IsWhole.read_unread]; exact hT) X C h14 h15 h16 h17 32 le_rfl
  refine ⟨fun r l => ?_, fun r l => ?_, i16, i17⟩
  · rw [i14 r l, held, if_pos (by have := r.isLt; omega)]
  · rw [i15 r l, held, if_pos (by have := r.isLt; omega)]

/-- The loop makes 32 trips. -/
theorem trips_eq : Scf.trips (0#32 : BitVec 32) (Scalar.addi 0#32 32#32) 1#32 = 32 := by decide +kernel

/-- What grid point `t` leaves when its scratch carries the state `C` in: the states after 256 rows in the carried rows and
    in the state outputs, and the output block made from the states of its rows. -/
structure IsOut (a : Fin 2048 → ℂ) (X : ℕ → Fin 2048 → ℂ) (C : Fin 2048 → ℂ)
    (o : Vec Ideal S1x256x1024 .f32 × Vec Ideal S1x1x2048 .f32 × Vec Ideal S1x1x2048 .f32 × Vec Ideal S1x2048 .f32 × Vec Ideal S1x2048 .f32) : Prop where
  cre : ∀ l, o.2.2.2.1 (ix2 0 l) = ((run (a l) (fun i => X i l) (C l) 256).re : ℝ)
  cim : ∀ l, o.2.2.2.2 (ix2 0 l) = ((run (a l) (fun i => X i l) (C l) 256).im : ℝ)
  sre : ∀ l, o.2.1 (ix3 0 0 l) = ((run (a l) (fun i => X i l) (C l) 256).re : ℝ)
  sim : ∀ l, o.2.2.1 (ix3 0 0 l) = ((run (a l) (fun i => X i l) (C l) 256).im : ℝ)
  out : ∃ Hre Him : Vec Ideal S256x2048 .f32,
    (∀ r l, Hre (ix2 r l) = ((run (a l) (fun i => X i l) (C l) (r.val + 1)).re : ℝ))
      ∧ (∀ r l, Him (ix2 r l) = ((run (a l) (fun i => X i l) (C l) (r.val + 1)).im : ℝ))
      ∧ o.1 = k0_pay1 (k0_pay35 (k0_pay27 (iblk m c 0 t)) Hre (iblk m c 4 t) Him (iblk m c 5 t) (iblk m c 6 t) (iblk m c 7 t)) (k0_pay36 (iblk m c 8 t))

/-- The first grid point of a batch: the state starts at zero. -/
theorem out_A (h : t.val % 16 = 0) {a : Fin 2048 → ℂ} (hT : IsTab (iblk m c 3 t) a) (X : ℕ → Fin 2048 → ℂ)
    (hX : ∀ (r : Fin 256) l, k0_pay29 (iblk m c 0 t) (iblk m c 1 t) (ix2 r l) = ((X r.val l).re : ℝ))
    (hY : ∀ (r : Fin 256) l, k0_pay30 (iblk m c 0 t) (iblk m c 2 t) (ix2 r l) = ((X r.val l).im : ℝ)) :
    IsOut m c t a X (fun _ => 0) (outsAt0 m c t.val t.isLt) := by
  have key := fun {f14 f15 f16 f17} => loop_at m c t hT X (fun _ => 0)
    (G14 := (View.whole cc0_scratch0).writes (Elt Ideal) f14 [⟨Rect.unit (s := S256x2048) ![0,0] ![256,2048] inb_S256x2048_S256x2048_0_0, k0_pay29 (iblk m c 0 t) (iblk m c 1 t)⟩])
    (G15 := (View.whole cc0_scratch1).writes (Elt Ideal) f15 [⟨Rect.unit (s := S256x2048) ![0,0] ![256,2048] inb_S256x2048_S256x2048_0_0, k0_pay30 (iblk m c 0 t) (iblk m c 2 t)⟩])
    (G16 := (View.whole cc0_scratch2).writes (Elt Ideal) f16 [⟨Rect.unit (s := S1x2048) ![0,0] ![1,2048] inb_S1x2048_S1x2048_0_0, k0_pay25 (F := Ideal)⟩])
    (G17 := (View.whole cc0_scratch3).writes (Elt Ideal) f17 [⟨Rect.unit (s := S1x2048) ![0,0] ![1,2048] inb_S1x2048_S1x2048_0_0, k0_pay26 (F := Ideal)⟩])
    (fun r l => (read_fill2 _ _ _ _ r l).trans (hX r l)) (fun r l => (read_fill2 _ _ _ _ r l).trans (hY r l))
    (fun l => (read_fill2 _ _ _ _ 0 l).trans (by pointwise [k0_pay25]; simp))
    (fun l => (read_fill2 _ _ _ _ 0 l).trans (by pointwise [k0_pay26]; simp))
  rw [Gen.outsAt0_A m c t h]
  constructor
  · intro l
    frame_out
    rw [trips_eq, ← View.read_writes_junk_eq_canon, View.writes_append]
    exact key.2.2.1 l
  · intro l
    frame_out
    rw [trips_eq, ← View.read_writes_junk_eq_canon, View.writes_append]
    exact key.2.2.2 l
  · intro l
    frame_out
    rw [trips_eq]
    pointwise [k0_pay33]
    rw [View.readCov, View.writes_append]
    exact (row0 _ _ _ l).trans (key.2.2.1 l)
  · intro l
    frame_out
    rw [trips_eq]
    pointwise [k0_pay34]
    rw [View.readCov, View.writes_append]
    exact (row0 _ _ _ l).trans (key.2.2.2 l)
  · frame_out
    rw [trips_eq]
    refine ⟨_, _, fun r l => ?_, fun r l => ?_, rfl⟩
    · rw [View.readCov, View.writes_append]
      exact (readAt_ix _ _ _ _ (ix2 r l) (fun a => by fin_cases a <;> exact (Nat.zero_add _).symm)).trans (key.1 r l)
    · rw [View.readCov, View.writes_append]
      exact (readAt_ix _ _ _ _ (ix2 r l) (fun a => by fin_cases a <;> exact (Nat.zero_add _).symm)).trans (key.2.1 r l)

/-- A whole row on top of the stores decides what is there, whatever the buffer held before. -/
theorem canon_row {L L' : List (View.Piece (Elt Ideal) S1x2048 .f32)} {w}
    (h : L = ⟨Rect.unit (s := S1x2048) ![0, 0] S1x2048.size inb_S1x2048_S1x2048_0_0, w⟩ :: L')
    (v : View sig .tc .vmem S1x2048 .f32) (f : v.ty.Contents (Elt Ideal)) (l : Fin 2048) :
    View.canon L (ix2 0 l) = v.read (Elt Ideal) (v.writes (Elt Ideal) f L) (ix2 0 l) := by
  refine (View.read_writes_apply_eq_canon v f (ix2 0 l) L ⟨_, by rw [h]; exact List.mem_cons_self, ?_⟩).symm
  refine (Rect.mem_set_unit (s := S1x2048) (size := S1x2048.size) (inb := inb_S1x2048_S1x2048_0_0) (i := ix2 0 l)).mpr fun a => ?_
  fin_cases a
  · exact ⟨Nat.zero_le _, Nat.zero_lt_one⟩
  · exact ⟨Nat.zero_le _, by show l.val < 0 + 2048; omega⟩

/-- A later grid point of a batch: the state goes on from what the point before left. -/
theorem out_B (h : ¬ t.val % 16 = 0) {a : Fin 2048 → ℂ} (hT : IsTab (iblk m c 3 t) a) (X : ℕ → Fin 2048 → ℂ) (C : Fin 2048 → ℂ)
    (hX : ∀ (r : Fin 256) l, k0_pay29 (iblk m c 0 t) (iblk m c 1 t) (ix2 r l) = ((X r.val l).re : ℝ))
    (hY : ∀ (r : Fin 256) l, k0_pay30 (iblk m c 0 t) (iblk m c 2 t) (ix2 r l) = ((X r.val l).im : ℝ))
    (hC : ∀ l, (outsAt0 m c (t.val - 1) (Nat.lt_of_le_of_lt (Nat.sub_le _ _) t.isLt)).2.2.2.1 (ix2 0 l) = ((C l).re : ℝ))
    (hD : ∀ l, (outsAt0 m c (t.val - 1) (Nat.lt_of_le_of_lt (Nat.sub_le _ _) t.isLt)).2.2.2.2 (ix2 0 l) = ((C l).im : ℝ)) :
    IsOut m c t a X C (outsAt0 m c t.val t.isLt) := by
  have key := fun {f14 f15} => loop_at m c t hT X C
    (G14 := (View.whole cc0_scratch0).writes (Elt Ideal) f14 [⟨Rect.unit (s := S256x2048) ![0,0] ![256,2048] inb_S256x2048_S256x2048_0_0, k0_pay29 (iblk m c 0 t) (iblk m c 1 t)⟩])
    (G15 := (View.whole cc0_scratch1).writes (Elt Ideal) f15 [⟨Rect.unit (s := S256x2048) ![0,0] ![256,2048] inb_S256x2048_S256x2048_0_0, k0_pay30 (iblk m c 0 t) (iblk m c 2 t)⟩])
    (G16 := (Memref.isWhole_whole cc0_scratch2).unread (outsAt0 m c (t.val - 1) (Nat.lt_of_le_of_lt (Nat.sub_le _ _) t.isLt)).2.2.2.1)
    (G17 := (Memref.isWhole_whole cc0_scratch3).unread (outsAt0 m c (t.val - 1) (Nat.lt_of_le_of_lt (Nat.sub_le _ _) t.isLt)).2.2.2.2)
    (fun r l => (read_fill2 _ _ _ _ r l).trans (hX r l)) (fun r l => (read_fill2 _ _ _ _ r l).trans (hY r l))
    (fun l => by rw [Memref.IsWhole.read_unread]; exact hC l)
    (fun l => by rw [Memref.IsWhole.read_unread]; exact hD l)
  rw [Gen.outsAt0_B m c t h]
  constructor
  · intro l
    frame_out
    rw [trips_eq]
    obtain ⟨w, L, e⟩ := (carried_cons Variants.none c none (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) ((hs0_3 t).unread (iblk m c 3 t)) _ _ _ _ 31 (by decide +kernel)).1
    exact (canon_row e scM0_2.view _ l).trans (key.2.2.1 l)
  · intro l
    frame_out
    rw [trips_eq]
    obtain ⟨w, L, e⟩ := (carried_cons Variants.none c none (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) ((hs0_3 t).unread (iblk m c 3 t)) _ _ _ _ 31 (by decide +kernel)).2
    exact (canon_row e scM0_3.view _ l).trans (key.2.2.2 l)
  · intro l
    frame_out
    rw [trips_eq]
    pointwise [k0_pay33]
    exact key.2.2.1 l
  · intro l
    frame_out
    rw [trips_eq]
    pointwise [k0_pay34]
    exact key.2.2.2 l
  · frame_out
    rw [trips_eq]
    refine ⟨_, _, fun r l => ?_, fun r l => ?_, rfl⟩
    · rw [View.readCov, View.writes_append]
      exact (readAt_ix _ _ _ _ (ix2 r l) (fun a => by fin_cases a <;> exact (Nat.zero_add _).symm)).trans (key.1 r l)
    · rw [View.readCov, View.writes_append]
      exact (readAt_ix _ _ _ _ (ix2 r l) (fun a => by fin_cases a <;> exact (Nat.zero_add _).symm)).trans (key.2.1 r l)

end Cert.ScanIdeal.Blk
-- ==== Proof.Scan.Read.lean ====
/- The blocks the state-space call reads at a grid point, from the arguments: point `16 b + c` reads the rows from `256 c`
   on of batch `b`. -/
module

public import proofs.«01_k».proof.Proof.Scan.Table
public import proofs.«01_k».proof.Proof.Scan.Block
public import Idealize.ShloMosaic.Lib.Pipeline.ValueKit
public import Idealize.ShloMosaic.Lib.Pipeline.ReadBack

@[expose] public section

set_option maxRecDepth 16384

noncomputable section

namespace Cert.ScanIdeal.Blk

open Idealize.ShloMosaic Idealize.ShloMosaic.TcCoe Idealize.SL.Sem Cert.ScanIdeal.Gen Cert.ScanRow

variable (m : (ℓ : Loc nD τ sig) → Buf (Elt Ideal) ℓ) (c : Dev nD) (t : Fin cfg0.N)

/-- The batch of a grid point, and the time of a row of its block. -/
theorem N_eq : cfg0.N = 256 := by decide +kernel
abbrev batch : Fin 16 := ⟨t.val / 16, by have := t.isLt; have := N_eq; omega⟩
abbrev time (r : Fin 256) : Fin 4096 := ⟨256 * (t.val % 16) + r.val, by omega⟩

theorem idx_in : ∀ t : Fin cfg0.N, win0_0.index t = ![t.val / 16, t.val % 16, 0] ∧ win0_1.index t = ![0, 0] ∧ win0_2.index t = ![0, 0]
    ∧ win0_3.index t = ![0, 0, 0] ∧ win0_4.index t = ![0, 0] ∧ win0_5.index t = ![0, 0] ∧ win0_6.index t = ![0, 0]
    ∧ win0_7.index t = ![0, 0] ∧ win0_8.index t = ![0, 0] :=
  (by decide +kernel : ∀ t : Fin grid0.N, _)

theorem read0 (r : Fin 256) (q : Fin 512) : iblk m c 0 t (ix3 0 r q) = (params m c).u (batch t) (time t r) q := by
  obtain ⟨e0, e1, e2, e3, e4, e5, e6, e7, e8⟩ := idx_in t
  blk_point [iblk, V, e0]

theorem read1 (a : Fin 512) (b : Fin 2048) : iblk m c 1 t (ix2 a b) = V m c main_v13 (ix2 a b) := by
  obtain ⟨e0, e1, e2, e3, e4, e5, e6, e7, e8⟩ := idx_in t
  blk_point [iblk, e1]

theorem read2 (a : Fin 512) (b : Fin 2048) : iblk m c 2 t (ix2 a b) = V m c main_v21 (ix2 a b) := by
  obtain ⟨e0, e1, e2, e3, e4, e5, e6, e7, e8⟩ := idx_in t
  blk_point [iblk, e2]

theorem read3 (k : Fin 8) (s : Fin 8) (l : Fin 2048) : iblk m c 3 t (ix3 k s l) = V m c main_v119 (ix3 k s l) := by
  obtain ⟨e0, e1, e2, e3, e4, e5, e6, e7, e8⟩ := idx_in t
  blk_point [iblk, e3]

theorem read4 (a : Fin 2048) (b : Fin 512) : iblk m c 4 t (ix2 a b) = V m c main_v29 (ix2 a b) := by
  obtain ⟨e0, e1, e2, e3, e4, e5, e6, e7, e8⟩ := idx_in t
  blk_point [iblk, e4]

theorem read5 (a : Fin 2048) (b : Fin 512) : iblk m c 5 t (ix2 a b) = V m c main_v38 (ix2 a b) := by
  obtain ⟨e0, e1, e2, e3, e4, e5, e6, e7, e8⟩ := idx_in t
  blk_point [iblk, e5]

theorem read6 (b : Fin 512) : iblk m c 6 t (ix2 0 b) = V m c main_v121 (ix2 0 b) := by
  obtain ⟨e0, e1, e2, e3, e4, e5, e6, e7, e8⟩ := idx_in t
  blk_point [iblk, e6]

theorem read7 (a : Fin 512) (b : Fin 2048) : iblk m c 7 t (ix2 a b) = V m c main_v120 (ix2 a b) := by
  obtain ⟨e0, e1, e2, e3, e4, e5, e6, e7, e8⟩ := idx_in t
  blk_point [iblk, e7]

theorem read8 (b : Fin 2048) : iblk m c 8 t (ix2 0 b) = V m c main_v122 (ix2 0 b) := by
  obtain ⟨e0, e1, e2, e3, e4, e5, e6, e7, e8⟩ := idx_in t
  blk_point [iblk, e8]

end Cert.ScanIdeal.Blk

end
-- ==== Proof.Scan.States.lean ====
/- The states the call carries from grid point to grid point: after point `16 b + c` the scratch rows hold the states of
   batch `b` after `256 (c + 1)` steps. -/
module

public import proofs.«01_k».proof.Proof.Scan.Read

@[expose] public section

set_option maxRecDepth 16384

noncomputable section

namespace Cert.ScanIdeal.Blk

open Idealize.ShloMosaic Idealize.ShloMosaic.TcCoe Idealize.SL.Sem Cert.ScanIdeal.Gen Cert.ScanRow

variable (m : (ℓ : Loc nD τ sig) → Buf (Elt Ideal) ℓ) (c : Dev nD) (t : Fin cfg0.N)

/-- A product of the input's row with the input map spread out is the product within one group. -/
theorem spread_in (u : Fin 512 → EReal) (B : Fin 512 → EReal) (b : Fin 16 → EReal) (g : Fin 32)
    (hB : ∀ q : Fin 512, B q = (if h : q.val / 16 = g.val then b (cpos q) else 0) ) :
    ∑ q, u q * B q = ∑ k : Fin 16, u (chan g k) * b k := by
  refine sum_masked (n := 32) (m := 16) (f := fun q => u q * B q) g _ (fun q hq => ?_) (fun k hk => ?_)
  · show u q * B q = 0
    rw [hB, dif_neg hq, mul_zero]
  · show u _ * B _ = _
    rw [hB, dif_pos (show (g.val * 16 + k.val) / 16 = g.val by omega)]
    exact congrArg (fun z => u (chan g k) * b z) (Fin.ext (show (g.val * 16 + k.val) % 16 = k.val by omega))

/-- One time's states among those of its block. -/
def X (i : ℕ) (l : Fin 2048) : ℂ := (params m c).x (batch t) (256 * (t.val % 16) + i) (grp l) (pos l)

variable (hP : (params m c).IsReal)

include hP in
/-- The real parts of the block's inputs. -/
theorem bu_re (r : Fin 256) (l : Fin 2048) : k0_pay29 (iblk m c 0 t) (iblk m c 1 t) (ix2 r l) = ((X m c t r.val l).re : ℝ) := by
  pointwise [k0_pay29, k0_pay27, k0_pay28]
  refine (Finset.sum_congr rfl fun q _ => congrArg₂ (fun a b : EReal => a * b) (read0 m c t r q) ((read1 m c t q l).trans (V13 m c q l))).trans ?_
  refine (spread_in _ _ (fun k => (params m c).br (grp l) (pos l) k) (grp l) fun q => ?_).trans (hP.x_re (batch t) (time t r) (grp l) (pos l)).symm
  split
  · next e => rw [mul_one]; exact congrArg (fun g => (params m c).br g (pos l) (cpos q)) (Fin.ext e)
  · next e => rw [mul_zero]

include hP in
/-- The imaginary parts of the block's inputs. -/
theorem bu_im (r : Fin 256) (l : Fin 2048) : k0_pay30 (iblk m c 0 t) (iblk m c 2 t) (ix2 r l) = ((X m c t r.val l).im : ℝ) := by
  pointwise [k0_pay30, k0_pay27, k0_pay28]
  refine (Finset.sum_congr rfl fun q _ => congrArg₂ (fun a b : EReal => a * b) (read0 m c t r q) ((read2 m c t q l).trans (V21 m c q l))).trans ?_
  refine (spread_in _ _ (fun k => (params m c).bi (grp l) (pos l) k) (grp l) fun q => ?_).trans (hP.x_im (batch t) (time t r) (grp l) (pos l)).symm
  split
  · next e => rw [mul_one]; exact congrArg (fun g => (params m c).bi g (pos l) (cpos q)) (Fin.ext e)
  · next e => rw [mul_zero]

include hP in
/-- The table of powers as the block reads it. -/
theorem tab : IsTab (iblk m c 3 t) (fun l => (params m c).a (grp l) (pos l)) where
  re1 s l := (read3 m c t 0 s l).trans ((tab_V m c hP).re1 s l)
  im1 s l := (read3 m c t 1 s l).trans ((tab_V m c hP).im1 s l)
  re2 s l := (read3 m c t 2 s l).trans ((tab_V m c hP).re2 s l)
  im2 s l := (read3 m c t 3 s l).trans ((tab_V m c hP).im2 s l)
  re4 s l := (read3 m c t 4 s l).trans ((tab_V m c hP).re4 s l)
  im4 s l := (read3 m c t 5 s l).trans ((tab_V m c hP).im4 s l)
  rep s l := (read3 m c t 6 s l).trans ((tab_V m c hP).rep s l)
  imp s l := (read3 m c t 7 s l).trans ((tab_V m c hP).imp s l)

/-- `n` steps from the state after the earlier blocks. -/
theorem run_from (l : Fin 2048) (n : ℕ) :
    run ((params m c).a (grp l) (pos l)) (fun i => X m c t i l) ((params m c).h (batch t) (256 * (t.val % 16)) (grp l) (pos l)) n
      = (params m c).h (batch t) (256 * (t.val % 16) + n) (grp l) (pos l) := by
  unfold Params.h X
  rw [run_add]

/-- The state the block starts from. -/
abbrev C0 (l : Fin 2048) : ℂ := (params m c).h (batch t) (256 * (t.val % 16)) (grp l) (pos l)

include hP in
/-- What every grid point leaves. -/
theorem outs (n : ℕ) (hn : n < cfg0.N) :
    IsOut m c ⟨n, hn⟩ (fun l => (params m c).a (grp l) (pos l)) (X m c ⟨n, hn⟩) (C0 m c ⟨n, hn⟩) (outsAt0 m c n hn) := by
  induction n with
  | zero =>
    have e : C0 m c ⟨0, hn⟩ = fun _ => 0 := by funext l; rfl
    rw [e]
    exact out_A m c ⟨0, hn⟩ rfl (tab m c _ hP) _ (bu_re m c _ hP) (bu_im m c _ hP)
  | succ n ih =>
    by_cases h : (n + 1) % 16 = 0
    · have e : C0 m c ⟨n + 1, hn⟩ = fun _ => 0 := by
        funext l
        show (params m c).h _ (256 * ((n + 1) % 16)) _ _ = 0
        rw [h]; rfl
      rw [e]
      exact out_A m c ⟨n + 1, hn⟩ h (tab m c _ hP) _ (bu_re m c _ hP) (bu_im m c _ hP)
    · have ih' := ih (by omega)
      have hb : batch ⟨n, by omega⟩ = batch ⟨n + 1, hn⟩ := Fin.ext (show n / 16 = (n + 1) / 16 by omega)
      have e : ∀ l, run ((params m c).a (grp l) (pos l)) (fun i => X m c ⟨n, by omega⟩ i l) (C0 m c ⟨n, by omega⟩ l) 256 = C0 m c ⟨n + 1, hn⟩ l := by
        intro l
        rw [run_from, hb]
        show (params m c).h _ (256 * (n % 16) + 256) _ _ = (params m c).h _ (256 * ((n + 1) % 16)) _ _
        rw [show 256 * (n % 16) + 256 = 256 * ((n + 1) % 16) by omega]
      exact out_B m c ⟨n + 1, hn⟩ h (tab m c _ hP) _ _ (bu_re m c _ hP) (bu_im m c _ hP)
        (fun l => by rw [← e l]; exact ih'.cre l) (fun l => by rw [← e l]; exact ih'.cim l)

end Cert.ScanIdeal.Blk

end
-- ==== Proof.Scan.Gate.lean ====
/- What the call makes of the states of one block: the output's rows. -/
module

public import proofs.«01_k».proof.Proof.Scan.States

@[expose] public section

set_option maxRecDepth 16384

noncomputable section

namespace Cert.ScanIdeal.Blk

open Idealize.ShloMosaic Idealize.ShloMosaic.TcCoe Idealize.SL.Sem Cert.ScanIdeal.Gen Cert.ScanRow

/-- The readout of one channel of one row, from the blocks the call holds. -/
def readout (v0 : FVec Ideal S1x256x512 .f32) (H I : FVec Ideal S256x2048 .f32) (v4 v5 : FVec Ideal S2048x512 .f32) (v6 : FVec Ideal S1x512 .f32)
    (r : Fin 256) (q : Fin 512) : EReal :=
  ∑ n : Fin 2048, H (ix2 r n) * v4 (ix2 n q) + ∑ n : Fin 2048, I (ix2 r n) * v5 (ix2 n q) + v6 (ix2 0 q) * v0 (ix3 0 r q)

/-- The block's output is the gated product of the readouts. -/
theorem gated (v0 : FVec Ideal S1x256x512 .f32) (H I : FVec Ideal S256x2048 .f32) (v4 v5 : FVec Ideal S2048x512 .f32) (v6 : FVec Ideal S1x512 .f32)
    (v7 : FVec Ideal S512x2048 .f32) (v8 : FVec Ideal S1x2048 .f32) (r : Fin 256) (l : Fin 1024) :
    k0_pay1 (F := Ideal) (k0_pay35 (k0_pay27 v0) H v4 I v5 v6 v7) (k0_pay36 v8) (ix3 0 r l)
      = glu (readout v0 H I v4 v5 v6 r) (fun q j => v7 (ix2 q j)) (fun j => v8 (ix2 0 j)) l := by
  pointwise [k0_pay1, k0_pay35, k0_pay27, k0_pay36]
  simp only [zero_sub]
  unfold glu mixed gelu readout
  rfl

/-- A product of the states with the output map spread out is the product within one group. -/
theorem spread_out (h : Fin 2048 → EReal) (C : Fin 2048 → EReal) (g : Fin 32) (h' b : Fin 64 → EReal)
    (hh : ∀ l : Fin 2048, l.val / 64 = g.val → h l = h' (pos l))
    (hC : ∀ l : Fin 2048, C l = (if l.val / 64 = g.val then b (pos l) else 0)) :
    ∑ l, h l * C l = ∑ p : Fin 64, h' p * b p := by
  refine sum_masked (n := 32) (m := 64) (f := fun l => h l * C l) g _ (fun l hl => ?_) (fun p hp => ?_)
  · show h l * C l = 0
    rw [hC, if_neg hl, mul_zero]
  · have e : (g.val * 64 + p.val) / 64 = g.val := by omega
    show h _ * C _ = _
    rw [hC, if_pos e, hh _ e]
    have e' : pos ⟨g.val * 64 + p.val, hp⟩ = p := Fin.ext (show (g.val * 64 + p.val) % 64 = p.val by omega)
    rw [e']

variable (m : (ℓ : Loc nD τ sig) → Buf (Elt Ideal) ℓ) (c : Dev nD) (t : Fin cfg0.N)
variable (hP : (params m c).IsReal)

include hP in
/-- The readout of a block is the branch's at the block's batch and times. -/
theorem readout_eq (H I : FVec Ideal S256x2048 .f32)
    (hH : ∀ r l, H (ix2 r l) = (((params m c).h (batch t) (256 * (t.val % 16) + (r.val + 1)) (grp l) (pos l)).re : ℝ))
    (hI : ∀ r l, I (ix2 r l) = (((params m c).h (batch t) (256 * (t.val % 16) + (r.val + 1)) (grp l) (pos l)).im : ℝ))
    (r : Fin 256) (q : Fin 512) :
    readout (iblk m c 0 t) H I (iblk m c 4 t) (iblk m c 5 t) (iblk m c 6 t) r q = (params m c).y (batch t) (time t r) q := by
  unfold readout Params.y
  rw [sub_eq_add_neg]
  refine congrArg₂ (fun x y : EReal => x + y) (congrArg₂ (fun x y : EReal => x + y) ?_ ?_)
    (congrArg₂ (fun x y : EReal => x * y) ((read6 m c t q).trans (V121 m c q)) (read0 m c t r q))
  · refine spread_out _ _ (cgrp q) (fun p => (((params m c).h (batch t) (256 * (t.val % 16) + r.val + 1) (cgrp q) p).re : ℝ))
      (fun p => (params m c).cr (cgrp q) (cpos q) p) (fun l hl => (hH r l).trans ?_) fun l => ((read4 m c t l q).trans (V29 m c l q)).trans ?_
    · rw [show grp l = cgrp q from Fin.ext hl, Nat.add_assoc]
    · split
      · next e => rw [mul_one, show grp l = cgrp q from Fin.ext e]
      · rw [mul_zero]
  · rw [← sum_neg_real _ _ _ _ (fun _ => rfl) (fun p => (hP.ci (cgrp q) (cpos q) p).symm)]
    refine spread_out _ _ (cgrp q) (fun p => (((params m c).h (batch t) (256 * (t.val % 16) + r.val + 1) (cgrp q) p).im : ℝ))
      (fun p => -(params m c).ci (cgrp q) (cpos q) p) (fun l hl => (hI r l).trans ?_) fun l => ((read5 m c t l q).trans (V38 m c l q)).trans ?_
    · rw [show grp l = cgrp q from Fin.ext hl, Nat.add_assoc]
    · split
      · next e => rw [mul_one, show grp l = cgrp q from Fin.ext e]
      · rw [mul_zero]

include hP in
/-- The output block of a grid point. -/
theorem row9 (r : Fin 256) (j : Fin 1024) : (outsAt0 m c t.val t.isLt).1 (ix3 0 r j) = (params m c).out (batch t) (time t r) j := by
  obtain ⟨H, I, hH, hI, e⟩ := (outs m c hP t.val t.isLt).out
  have hH' : ∀ r l, H (ix2 r l) = (((params m c).h (batch t) (256 * (t.val % 16) + (r.val + 1)) (grp l) (pos l)).re : ℝ) :=
    fun r l => (hH r l).trans (congrArg (fun z : ℂ => (z.re : EReal)) (run_from m c t l (r.val + 1)))
  have hI' : ∀ r l, I (ix2 r l) = (((params m c).h (batch t) (256 * (t.val % 16) + (r.val + 1)) (grp l) (pos l)).im : ℝ) :=
    fun r l => (hI r l).trans (congrArg (fun z : ℂ => (z.im : EReal)) (run_from m c t l (r.val + 1)))
  refine (congrFun e (ix3 0 r j)).trans ((gated _ _ _ _ _ _ _ _ r j).trans ?_)
  unfold Params.out
  have e1 : readout (iblk m c 0 t) H I (iblk m c 4 t) (iblk m c 5 t) (iblk m c 6 t) r = (params m c).y (batch t) (time t r) :=
    funext fun q => readout_eq m c t hP H I hH' hI' r q
  have e2 : (fun q j => (iblk m c 7 t (ix2 q j) : EReal)) = (params m c).w := funext fun q => funext fun j => (read7 m c t q j).trans (V120 m c q j)
  have e3 : (fun j => (iblk m c 8 t (ix2 0 j) : EReal)) = (params m c).bg := funext fun j => (read8 m c t j).trans (V122 m c j)
  exact congr (congr (congr (congrArg glu e1) e2) e3) rfl

include hP in
/-- The states a grid point leaves. -/
theorem row10 (l : Fin 2048) : (outsAt0 m c t.val t.isLt).2.1 (ix3 0 0 l)
    = (((params m c).h (batch t) (256 * (t.val % 16) + 256) (grp l) (pos l)).re : ℝ) :=
  ((outs m c hP t.val t.isLt).sre l).trans (congrArg (fun z : ℂ => (z.re : EReal)) (run_from m c t l 256))

include hP in
theorem row11 (l : Fin 2048) : (outsAt0 m c t.val t.isLt).2.2.1 (ix3 0 0 l)
    = (((params m c).h (batch t) (256 * (t.val % 16) + 256) (grp l) (pos l)).im : ℝ) :=
  ((outs m c hP t.val t.isLt).sim l).trans (congrArg (fun z : ℂ => (z.im : EReal)) (run_from m c t l 256))

end Cert.ScanIdeal.Blk

end
-- ==== Proof.Scan.Arrays.lean ====
/- The state-space kernel's result arrays after its run. -/
module

public import proofs.«01_k».proof.Proof.Scan.Gate
public import proofs.«01_k».proof.Proof.Gen.ScanIdeal.Value

@[expose] public section

set_option maxRecDepth 16384

noncomputable section

namespace Cert.ScanIdeal.Blk

open Idealize.ShloMosaic Idealize.ShloMosaic.TcCoe Idealize.SL.Sem Cert.ScanIdeal.Gen Cert.ScanRow

variable (m : (ℓ : Loc nD τ sig) → Buf (Elt Ideal) ℓ) (c : Dev nD)

/-- Where the blocks of the results lie, and which points write the states: the last of each batch. -/
theorem idx_out : ∀ t : Fin cfg0.N, win0_9.index t = ![t.val / 16, t.val % 16, 0] ∧ win0_10.index t = ![t.val / 16, 0, 0]
    ∧ win0_11.index t = ![t.val / 16, 0, 0] :=
  (by decide +kernel : ∀ t : Fin grid0.N, _)

/-- The output, as an array. -/
def OutArr : Vec Ideal S16x4096x1024 .f32 := fun i => (params m c).out (i 0) (i 1) (i 2)

/-- The real parts of the last states, as an array. -/
def ReArr : Vec Ideal S16x1x2048 .f32 := fun i => (((params m c).h (i 0) 4096 (grp (i 2)) (pos (i 2))).re : ℝ)

/-- The imaginary parts of the last states, as an array. -/
def ImArr : Vec Ideal S16x1x2048 .f32 := fun i => (((params m c).h (i 0) 4096 (grp (i 2)) (pos (i 2))).im : ℝ)

variable (hP : (params m c).IsReal)

include hP in
theorem arr9 : (dats m 0 c).arrAt 9 cfg0.N = OutArr m c := by
  refine (dats m 0 c).arrAt_eq_of_covers 9 _ (by decide +kernel) fun t hf y => ?_
  blk_simp
  rw [after0_9]
  idx_vars y
  obtain ⟨e9, e10, e11⟩ := idx_out t
  obtain rfl : y0 = 0 := Fin.ext (by omega)
  rw [row9 m c t hP]
  exact congr (congr (congrArg (params m c).out (Fin.ext (by blk_simp [e9]; rfl)))
    (Fin.ext (by blk_simp [e9]; show 256 * (t.val % 16) + y1.val = t.val % 16 * 256 + y1.val; omega))) (Fin.ext (by blk_simp [e9]))

include hP in
theorem arr10 : (dats m 0 c).arrAt 10 cfg0.N = ReArr m c := by
  refine (dats m 0 c).arrAt_eq_of_covers 10 _ (by decide +kernel) fun t hf y => ?_
  blk_simp
  rw [after0_10]
  idx_vars y
  obtain ⟨e9, e10, e11⟩ := idx_out t
  obtain rfl : y0 = 0 := Fin.ext (by omega)
  obtain rfl : y1 = 0 := Fin.ext (by omega)
  have ht : t.val % 16 = 15 := (flush0_10 t).mp hf
  rw [row10 m c t hP, ht]
  exact congrArg₂ (fun b l => ((((params m c).h b 4096 (grp l) (pos l)).re : ℝ) : EReal)) (x := batch t) (y := y2)
    (Fin.ext (by blk_simp [e10]; rfl)) (Fin.ext (by blk_simp [e10]))

include hP in
theorem arr11 : (dats m 0 c).arrAt 11 cfg0.N = ImArr m c := by
  refine (dats m 0 c).arrAt_eq_of_covers 11 _ (by decide +kernel) fun t hf y => ?_
  blk_simp
  rw [after0_11]
  idx_vars y
  obtain ⟨e9, e10, e11⟩ := idx_out t
  obtain rfl : y0 = 0 := Fin.ext (by omega)
  obtain rfl : y1 = 0 := Fin.ext (by omega)
  have ht : t.val % 16 = 15 := (flush0_11 t).mp hf
  rw [row11 m c t hP, ht]
  exact congrArg₂ (fun b l => ((((params m c).h b 4096 (grp l) (pos l)).im : ℝ) : EReal)) (x := batch t) (y := y2)
    (Fin.ext (by blk_simp [e11]; rfl)) (Fin.ext (by blk_simp [e11]))

end Cert.ScanIdeal.Blk

end
-- ==== Proof.Scan.RefSteps.lean ====
/- The reference's loop over time: after `j` trips its carried state is the state after `j` steps, and the first `j` rows of
   its two stacks are the states after every step. -/
module

public import proofs.«01_k».proof.Proof.Gen.ScanRefIdeal.Run
public import proofs.«01_k».proof.Proof.Scan.Row
public import Idealize.ShloMosaic.Lib.Pointwise
public import Idealize.ShloMosaic.Lib.WordCmp
public import Idealize.ShloMosaic.Lib.DynamicIndex

@[expose] public section

set_option maxRecDepth 16384

noncomputable section

namespace Cert.ScanRefIdeal.Rows

open Idealize.ShloMosaic Idealize.ShloMosaic.TcCoe Idealize.SL.Sem Idealize.ShloMosaic.StableHlo
open Cert.ScanRefIdeal Cert.ScanRefIdeal.Gen Cert.ScanRefIdeal.Value Cert.ScanRow

/-- What the loop holds after `j` trips, for arguments `P`. -/
structure Holds (P : Params) (V0 : Valuation τ sig (Elt Ideal)) (j : ℕ) : Prop where
  xre : ∀ (i : Fin 4096) (b : Fin 16) (g : Fin 32) (p : Fin 64), V0 (Proc.devRef .tc main_v8_0) (ix4 i b g p) = (((P.x b i.val g p).re : ℝ) : EReal)
  xim : ∀ (i : Fin 4096) (b : Fin 16) (g : Fin 32) (p : Fin 64), V0 (Proc.devRef .tc main_v8_1) (ix4 i b g p) = (((P.x b i.val g p).im : ℝ) : EReal)
  are : ∀ (g : Fin 32) (p : Fin 64), V0 (Proc.devRef .tc main_v8_2) (ix2 g p) = (((P.a g p).re : ℝ) : EReal)
  aim : ∀ (g : Fin 32) (p : Fin 64), V0 (Proc.devRef .tc main_v8_3) (ix2 g p) = (((P.a g p).im : ℝ) : EReal)
  ctr : V0 (Proc.devRef .tc main_v8_4) = constantI S_ 32 (BitVec.ofNat 32 j)
  hre : ∀ (b : Fin 16) (g : Fin 32) (p : Fin 64), V0 (Proc.devRef .tc main_v8_5) (ix3 b g p) = (((P.h b j g p).re : ℝ) : EReal)
  him : ∀ (b : Fin 16) (g : Fin 32) (p : Fin 64), V0 (Proc.devRef .tc main_v8_6) (ix3 b g p) = (((P.h b j g p).im : ℝ) : EReal)
  sre : ∀ (i : Fin 4096) (b : Fin 16) (g : Fin 32) (p : Fin 64), i.val < j → V0 (Proc.devRef .tc main_v8_7) (ix4 i b g p) = (((P.h b (i.val + 1) g p).re : ℝ) : EReal)
  sim : ∀ (i : Fin 4096) (b : Fin 16) (g : Fin 32) (p : Fin 64), i.val < j → V0 (Proc.devRef .tc main_v8_8) (ix4 i b g p) = (((P.h b (i.val + 1) g p).im : ℝ) : EReal)

variable {P : Params} {V0 : Valuation τ sig (Elt Ideal)} {j : ℕ}

/-- The four start indices of a trip's slices. -/
theorem start_eq (hj : j < 4096) (k : Fin 4) :
    (((![constantI S_ 32 (BitVec.ofNat 32 j), constantI S_ 32 0#32, constantI S_ 32 0#32, constantI S_ 32 0#32] : Fin 4 → IVec S_ 32)) k (Shape.Idx.first h_S_)).toInt
      = ((![j, 0, 0, 0] : Fin 4 → ℕ) k : Int) := by
  match k with
  | 0 => exact WordCmp.toInt_ofNat_of_lt (by omega)
  | 1 => rfl
  | 2 => rfl
  | 3 => rfl

theorem slices_row (hj : j < 4096) : S4096x16x32x64.Slices ![j, 0, 0, 0] S1x16x32x64 :=
  ⟨rfl, fun a => by
    match a with
    | 0 => show j + 1 ≤ 4096; omega
    | 1 => show 0 + 16 ≤ 16; omega
    | 2 => show 0 + 32 ≤ 32; omega
    | 3 => show 0 + 64 ≤ 64; omega⟩

/-- One row taken out of an array over time. -/
theorem row_slice (hj : j < 4096) (x : Vec Ideal S4096x16x32x64 .f32) (start : Fin 4 → Int) (hs : ∀ k, start k = ((![j, 0, 0, 0] : Fin 4 → ℕ) k : Int))
    (b : Fin 16) (g : Fin 32) (p : Fin 64) :
    shapeCast S16x32x64 (Host.dynamicSlice S1x16x32x64 x start sliceFits_S4096x16x32x64_S1x16x32x64) shapeCasts_S1x16x32x64_S16x32x64 (ix3 b g p)
      = x (ix4 ⟨j, hj⟩ b g p) := by
  rw [WordCmp.dynamicSlice_eq_extract _ _ _ _ _ (slices_row hj) hs]
  pointwise

/-- The same array with one row written. -/
theorem row_update (hj : j < 4096) (x : Vec Ideal S4096x16x32x64 .f32) (u : Vec Ideal S16x32x64 .f32) (start : Fin 4 → Int)
    (hs : ∀ k, start k = ((![j, 0, 0, 0] : Fin 4 → ℕ) k : Int)) (i : Fin 4096) (b : Fin 16) (g : Fin 32) (p : Fin 64) :
    Host.dynamicUpdateSlice x (broadcastInDim S1x16x32x64 ![1, 2, 3] bcast_S16x32x64_S1x16x32x64_1_2_3 u) start updateFits_S4096x16x32x64_S1x16x32x64 (ix4 i b g p)
      = if i.val = j then u (ix3 b g p) else x (ix4 i b g p) := by
  rw [WordCmp.dynamicUpdateSlice_eq_update _ _ _ _ _ (slices_row hj) hs]
  pointwise
  by_cases e : i.val = j
  · rw [if_pos e, dif_pos ⟨by omega, by omega⟩]
  · rw [if_neg e, dif_neg (by omega)]

/-- The real part of one step, from the parts of the transition, of the state and of the input. -/
theorem re_row (A B : FVec Ideal S32x64 .f32) (C D y : FVec Ideal S16x32x64 .f32) (b : Fin 16) (g : Fin 32) (p : Fin 64)
    (a s x : ℂ) (hA : A (ix2 g p) = (a.re : ℝ)) (hB : B (ix2 g p) = (a.im : ℝ)) (hC : C (ix3 b g p) = (s.re : ℝ))
    (hD : D (ix3 b g p) = (s.im : ℝ)) (hy : y (ix3 b g p) = (x.re : ℝ)) :
    (addf (subf (mulf (broadcastInDim S16x32x64 ![0, 1, 2] bcast_S1x32x64_S16x32x64_0_1_2 (broadcastInDim S1x32x64 ![1, 2] bcast_S32x64_S1x32x64_1_2 A)) C) (mulf (broadcastInDim S16x32x64 ![0, 1, 2] bcast_S1x32x64_S16x32x64_0_1_2 (broadcastInDim S1x32x64 ![1, 2] bcast_S32x64_S1x32x64_1_2 B)) D)) y : FVec Ideal S16x32x64 .f32) (ix3 b g p)
      = ((a * s + x).re : ℝ) := by
  pointwise
  rw [hA, hB, hC, hD, hy, re_mul, ← EReal.coe_add]
  rfl

/-- The imaginary part of one step. -/
theorem im_row (A B : FVec Ideal S32x64 .f32) (C D y : FVec Ideal S16x32x64 .f32) (b : Fin 16) (g : Fin 32) (p : Fin 64)
    (a s x : ℂ) (hA : A (ix2 g p) = (a.re : ℝ)) (hB : B (ix2 g p) = (a.im : ℝ)) (hC : C (ix3 b g p) = (s.re : ℝ))
    (hD : D (ix3 b g p) = (s.im : ℝ)) (hy : y (ix3 b g p) = (x.im : ℝ)) :
    (addf (addf (mulf (broadcastInDim S16x32x64 ![0, 1, 2] bcast_S1x32x64_S16x32x64_0_1_2 (broadcastInDim S1x32x64 ![1, 2] bcast_S32x64_S1x32x64_1_2 A)) D) (mulf (broadcastInDim S16x32x64 ![0, 1, 2] bcast_S1x32x64_S16x32x64_0_1_2 (broadcastInDim S1x32x64 ![1, 2] bcast_S32x64_S1x32x64_1_2 B)) C)) y : FVec Ideal S16x32x64 .f32) (ix3 b g p)
      = ((a * s + x).im : ℝ) := by
  pointwise
  rw [hA, hB, hC, hD, hy, im_mul, ← EReal.coe_add]
  rfl

/-- The counter's four start indices. -/
theorem start_at (h : Holds P V0 j) (hj : j < 4096) (k : Fin 4) :
    (((![V0 (Proc.devRef .tc main_v8_4), constantI S_ 32 0#32, constantI S_ 32 0#32, constantI S_ 32 0#32] : Fin 4 → (⟨S_, .i32⟩ : BufTy).Contents (Elt Ideal))) k (Shape.Idx.first h_S_)).toInt
      = ((![j, 0, 0, 0] : Fin 4 → ℕ) k : Int) := by
  rw [h.ctr]
  exact start_eq hj k

/-- The real part of one step. -/
theorem v56 (h : Holds P V0 j) (hj : j < 4096) (b : Fin 16) (g : Fin 32) (p : Fin 64) :
    res_main_while0b_v56 V0 (ix3 b g p) = (((P.h b (j + 1) g p).re : ℝ) : EReal) := by
  unfold res_main_while0b_v56
  exact re_row _ _ _ _ _ b g p (P.a g p) (P.h b j g p) (P.x b j g p) (h.are g p) (h.aim g p) (h.hre b g p) (h.him b g p) ((row_slice hj _ _ (start_at h hj) b g p).trans (h.xre ⟨j, hj⟩ b g p))

/-- The imaginary part of one step. -/
theorem v64 (h : Holds P V0 j) (hj : j < 4096) (b : Fin 16) (g : Fin 32) (p : Fin 64) :
    res_main_while0b_v64 V0 (ix3 b g p) = (((P.h b (j + 1) g p).im : ℝ) : EReal) := by
  unfold res_main_while0b_v64
  exact im_row _ _ _ _ _ b g p (P.a g p) (P.h b j g p) (P.x b j g p) (h.are g p) (h.aim g p) (h.hre b g p) (h.him b g p) ((row_slice hj _ _ (start_at h hj) b g p).trans (h.xim ⟨j, hj⟩ b g p))

/-- One trip. -/
theorem Holds.succ (h : Holds P V0 j) (hj : j < 4096) : Holds P (STEP V0) (j + 1) where
  xre i b g p := by rw [STEP_main_v8_0]; exact h.xre i b g p
  xim i b g p := by rw [STEP_main_v8_1]; exact h.xim i b g p
  are g p := by rw [STEP_main_v8_2]; exact h.are g p
  aim g p := by rw [STEP_main_v8_3]; exact h.aim g p
  ctr := by
    rw [STEP_main_v8_4]
    unfold step_main_v8_4
    rw [h.ctr]
    funext i
    exact (BitVec.ofNat_add j 1).symm
  hre b g p := by rw [STEP_main_v8_5]; exact v56 h hj b g p
  him b g p := by rw [STEP_main_v8_6]; exact v64 h hj b g p
  sre i b g p hi := by
    rw [STEP_main_v8_7]
    refine (row_update hj _ _ _ (start_at h hj) i b g p).trans ?_
    split
    · next e => rw [v56 h hj, e]
    · next e => exact h.sre i b g p (by omega)
  sim i b g p hi := by
    rw [STEP_main_v8_8]
    refine (row_update hj _ _ _ (start_at h hj) i b g p).trans ?_
    split
    · next e => rw [v64 h hj, e]
    · next e => exact h.sim i b g p (by omega)

/-- The whole loop. -/
theorem Holds.iterate (h : Holds P V0 0) : ∀ n, n ≤ 4096 → Holds P (STEP^[n] V0) n
  | 0, _ => h
  | n + 1, hn => by
    rw [Function.iterate_succ_apply']
    exact (Holds.iterate h n (by omega)).succ (by omega)

end Cert.ScanRefIdeal.Rows

end
-- ==== Proof.Scan.RefOut.lean ====
/- What the reference of the state-space branch makes of the states it has stacked. -/
module

public import proofs.«01_k».proof.Proof.Scan.RefSteps
public import proofs.«01_k».proof.Proof.Gen.ScanRefIdeal.Step

@[expose] public section

set_option maxRecDepth 16384

noncomputable section

namespace Cert.ScanRefIdeal.Rows

open Idealize.ShloMosaic Idealize.ShloMosaic.TcCoe Idealize.SL.Sem Idealize.ShloMosaic.StableHlo
open Cert.ScanRefIdeal Cert.ScanRow

/-- The readout of one channel of one row. -/
def readout (s : Step.State Ideal) (a0 : FVec Ideal S16x4096x512 .f32) (a5 a6 : FVec Ideal S32x16x64 .f32) (a7 : FVec Ideal S512 .f32)
    (b : Fin 16) (i : Fin 4096) (q : Fin 512) : EReal :=
  ∑ n : Fin 64, (show EReal from s.main_v8_7 (ix4 i b ⟨q.val / 16, by omega⟩ n)) * a5 (ix3 ⟨q.val / 16, by omega⟩ ⟨q.val % 16, by omega⟩ n)
    - ∑ n : Fin 64, (show EReal from s.main_v8_8 (ix4 i b ⟨q.val / 16, by omega⟩ n)) * a6 (ix3 ⟨q.val / 16, by omega⟩ ⟨q.val % 16, by omega⟩ n)
    + a7 (ix1 q) * a0 (ix3 b i q)

/-- The output is the gated product of the readouts. -/
theorem gated (s : Step.State Ideal) (a0 : FVec Ideal S16x4096x512 .f32) (a5 a6 : FVec Ideal S32x16x64 .f32) (a7 : FVec Ideal S512 .f32)
    (a8 : FVec Ideal S512x2048 .f32) (a9 : FVec Ideal S2048 .f32) (b : Fin 16) (i : Fin 4096) (l : Fin 1024) :
    Step.R_main_v44 s a0 a5 a6 a7 a8 a9 (ix3 b i l) = glu (readout s a0 a5 a6 a7 b i) (fun q j => a8 (ix2 q j)) (fun j => a9 (ix1 j)) l := by
  unfold Step.R_main_v44
  pointwise
  unfold glu mixed gelu readout
  rfl

end Cert.ScanRefIdeal.Rows

end
-- ==== Proof.Scan.Ref.lean ====
/- The reference of the state-space branch: what its loop starts from and what its results hold. -/
module

public import proofs.«01_k».proof.Proof.Scan.RefOut

@[expose] public section

set_option maxRecDepth 16384

noncomputable section

namespace Cert.ScanRefIdeal.Rows

open Idealize.ShloMosaic Idealize.ShloMosaic.TcCoe Idealize.SL.Sem Idealize.ShloMosaic.StableHlo
open Cert.ScanRefIdeal Cert.ScanRefIdeal.Gen Cert.ScanRefIdeal.Value Cert.ScanRow

variable (m : (ℓ : Loc nD τ sig) → Buf (Elt Ideal) ℓ) (c : Dev nD)

/-- The arguments on one device. -/
def params : Params where
  u b i q := m (c, Proc.tc.devRef main_arg0) (ix3 b i q)
  ar g p := m (c, Proc.tc.devRef main_arg1) (ix2 g p)
  ai g p := m (c, Proc.tc.devRef main_arg2) (ix2 g p)
  br g p k := m (c, Proc.tc.devRef main_arg3) (ix3 g p k)
  bi g p k := m (c, Proc.tc.devRef main_arg4) (ix3 g p k)
  cr g k p := m (c, Proc.tc.devRef main_arg5) (ix3 g k p)
  ci g k p := m (c, Proc.tc.devRef main_arg6) (ix3 g k p)
  d q := m (c, Proc.tc.devRef main_arg7) (ix1 q)
  w q j := m (c, Proc.tc.devRef main_arg8) (ix2 q j)
  bg j := m (c, Proc.tc.devRef main_arg9) (ix1 j)

/-- The loop's contents as a record. -/
def stateOf (W : Valuation τ sig (Elt Ideal)) : Step.State Ideal :=
  ⟨W (Proc.devRef .tc main_v8_5), W (Proc.devRef .tc main_v8_6), W (Proc.devRef .tc main_v8_7), W (Proc.devRef .tc main_v8_8),
   W (Proc.devRef .tc main_v8_0), W (Proc.devRef .tc main_v8_1), W (Proc.devRef .tc main_v8_2), W (Proc.devRef .tc main_v8_3)⟩

variable {m c}

/-- What the loop starts from. -/
theorem entry (hP : (params m c).IsReal) : Holds (params m c) (entryContents preI m c) 0 where
  xre i b g p := by
    rw [hP.x_re]
    simp only [entryContents, afterL_cons, afterL_nil]
    after_reads_simp
    simp only [id_eq]
    pointwise
    rfl
  xim i b g p := by
    rw [hP.x_im]
    simp only [entryContents, afterL_cons, afterL_nil]
    after_reads_simp
    simp only [id_eq]
    pointwise
    rfl
  are g p := by
    rw [hP.a_re]
    simp only [entryContents, afterL_cons, afterL_nil]
    after_reads_simp
    rfl
  aim g p := by
    rw [hP.a_im]
    simp only [entryContents, afterL_cons, afterL_nil]
    after_reads_simp
    rfl
  ctr := by rw [ctr_entry]; rfl
  hre b g p := by
    simp only [entryContents, afterL_cons, afterL_nil]
    after_reads_simp
    simp only [id_eq]
    pointwise
    rfl
  him b g p := by
    simp only [entryContents, afterL_cons, afterL_nil]
    after_reads_simp
    simp only [id_eq]
    pointwise
    rfl
  sre i b g p h := absurd h (by omega)
  sim i b g p h := absurd h (by omega)

/-- The loop's last contents. -/
theorem last (hP : (params m c).IsReal) : Holds (params m c) (STEP^[4096] (entryContents preI m c)) 4096 :=
  (entry hP).iterate 4096 (le_refl _)

/-- The states after the last step. -/
theorem out45 (hP : (params m c).IsReal) (b : Fin 16) (l : Fin 2048) :
    out_main_v45 (STEP^[4096] (entryContents preI m c)) (ix3 b 0 l)
      = ((((params m c).h b 4096 ⟨l.val / 64, by omega⟩ ⟨l.val % 64, by omega⟩).re : ℝ) : EReal) := by
  have h := (last hP).hre b ⟨l.val / 64, by omega⟩ ⟨l.val % 64, by omega⟩
  generalize STEP^[4096] (entryContents preI m c) = W at h ⊢
  unfold out_main_v45
  pointwise
  exact h

theorem out46 (hP : (params m c).IsReal) (b : Fin 16) (l : Fin 2048) :
    out_main_v46 (STEP^[4096] (entryContents preI m c)) (ix3 b 0 l)
      = ((((params m c).h b 4096 ⟨l.val / 64, by omega⟩ ⟨l.val % 64, by omega⟩).im : ℝ) : EReal) := by
  have h := (last hP).him b ⟨l.val / 64, by omega⟩ ⟨l.val % 64, by omega⟩
  generalize STEP^[4096] (entryContents preI m c) = W at h ⊢
  unfold out_main_v46
  pointwise
  exact h

/-- The output. -/
theorem out44 (hP : (params m c).IsReal) (b : Fin 16) (i : Fin 4096) (l : Fin 1024) :
    out_main_v44 (STEP^[4096] (entryContents preI m c)) (ix3 b i l) = (params m c).out b i l := by
  have h := last hP
  have e0 := iter_main_arg0 m c 4096
  have e5 := iter_main_arg5 m c 4096
  have e6 := iter_main_arg6 m c 4096
  have e7 := iter_main_arg7 m c 4096
  have e8 := iter_main_arg8 m c 4096
  have e9 := iter_main_arg9 m c 4096
  generalize STEP^[4096] (entryContents preI m c) = W at h e0 e5 e6 e7 e8 e9 ⊢
  have e : out_main_v44 W = Step.R_main_v44 (stateOf W) (m (c, Proc.tc.devRef main_arg0)) (m (c, Proc.tc.devRef main_arg5))
      (m (c, Proc.tc.devRef main_arg6)) (m (c, Proc.tc.devRef main_arg7)) (m (c, Proc.tc.devRef main_arg8)) (m (c, Proc.tc.devRef main_arg9)) := by
    unfold out_main_v44 Step.R_main_v44 stateOf
    rw [e0, e5, e6, e7, e8, e9]
  rw [e, gated]
  unfold Params.out
  refine congrArg (fun y => glu y (params m c).w (params m c).bg l) (funext fun q => ?_)
  unfold readout Params.y
  refine congrArg₂ (fun x y : EReal => x + y) (congrArg₂ (fun x y : EReal => x - y) ?_ ?_) rfl
  · exact Finset.sum_congr rfl fun n _ => congrArg (fun x : EReal => x * (params m c).cr ⟨q.val / 16, by omega⟩ ⟨q.val % 16, by omega⟩ n) (h.sre i b _ n i.isLt)
  · exact Finset.sum_congr rfl fun n _ => congrArg (fun x : EReal => x * (params m c).ci ⟨q.val / 16, by omega⟩ ⟨q.val % 16, by omega⟩ n) (h.sim i b _ n i.isLt)

end Cert.ScanRefIdeal.Rows

end
-- ==== Proof.Scan.Real.lean ====
/- The precondition of the state-space branch: an entry whose difference with itself is zero is a real number. -/
module

public import proofs.«01_k».proof.Defs
public import proofs.«01_k».proof.Proof.Gen.Pre_scan_real
public import proofs.«01_k».proof.Proof.Scan.Host

@[expose] public section

set_option maxRecDepth 16384

noncomputable section

namespace Cert.ScanValue

open Idealize.ShloMosaic Idealize.ShloMosaic.TcCoe Idealize.SL.Sem

/-- An extended real whose difference with itself is zero is a real number. -/
theorem real_of_sub (x : EReal) (h : x - x = 0) : ((x.toReal : ℝ) : EReal) = x := by
  induction x with
  | bot => simp at h
  | coe r => rfl
  | top => simp at h

/-- One of the precondition's comparisons, read at an entry. -/
theorem real_of_cmp {S : Shape} (x z : FVec Ideal S .f32) (hz : ∀ i, z i = (0 : EReal)) (h : cmpf .oeq (subf x x) z = fun _ => 1#1) (i : S.Idx) :
    (((show EReal from x i).toReal : ℝ) : EReal) = x i := by
  refine real_of_sub _ ?_
  have h' : Ideal.cmp .oeq ((show EReal from x i) - x i) (z i) = 1#1 := congrFun h i
  rw [hz i] at h'
  by_contra hne
  have e : decide ((show EReal from x i) - x i = 0) = false := decide_eq_false hne
  unfold Ideal.cmp at h'
  simp only [e] at h'
  exact absurd h' (by decide)

/-- The precondition says of the arguments it names that they are real numbers. -/
theorem isReal (m : (ℓ : Loc Cert.ScanIdeal.nD Cert.ScanIdeal.τ Cert.ScanIdeal.sig) → Buf (Elt Ideal) ℓ)
    (h : Cert.Pre_ScanIdeal_scan_real (hPre_scan_real := Cert.Pre_scan_real.Gen.facts) m) (c : Dev Cert.ScanIdeal.nD) :
    (Cert.ScanIdeal.Blk.params m c).IsReal := by
  obtain ⟨h0, h1, h2, h3, h4, h5⟩ := h c
  constructor
  · exact fun b i q => real_of_cmp _ _ (fun _ => Ideal.ofBits_zero _) h0 (ix3 b i q)
  · exact fun g p => real_of_cmp _ _ (fun _ => Ideal.ofBits_zero _) h1 (ix2 g p)
  · exact fun g p => real_of_cmp _ _ (fun _ => Ideal.ofBits_zero _) h2 (ix2 g p)
  · exact fun g p k => real_of_cmp _ _ (fun _ => Ideal.ofBits_zero _) h3 (ix3 g p k)
  · exact fun g p k => real_of_cmp _ _ (fun _ => Ideal.ofBits_zero _) h4 (ix3 g p k)
  · exact fun g k p => real_of_cmp _ _ (fun _ => Ideal.ofBits_zero _) h5 (ix3 g k p)

end Cert.ScanValue

end
-- ==== Proof.Scan.Equation.lean ====
/- The value claim of the state-space branch: kernel and reference end with the same arrays. -/
module

public import proofs.«01_k».proof.Proof.Scan.Arrays
public import proofs.«01_k».proof.Proof.Scan.Ref
public import proofs.«01_k».proof.Proof.Scan.Real
public import Idealize.ShloMosaic.Lib.Quiescent

@[expose] public section

set_option maxRecDepth 16384

noncomputable section

namespace Cert.ScanValue

open Idealize.ShloMosaic Idealize.ShloMosaic.TcCoe Idealize.SL.Sem Cert.ScanRow
open Cert.ScanIdeal.Blk (OutArr ReArr ImArr)

variable (m : (ℓ : Loc Cert.ScanIdeal.nD Cert.ScanIdeal.τ Cert.ScanIdeal.sig) → Buf (Elt Ideal) ℓ)
  (m' : (ℓ : Loc Cert.ScanRefIdeal.nD Cert.ScanRefIdeal.τ Cert.ScanRefIdeal.sig) → Buf (Elt Ideal) ℓ)

/-- Memories that agree on the arguments give both programs the same parameters. -/
theorem params_eq (c : Dev Cert.ScanIdeal.nD)
    (h : m' ((c.tc : Thread Cert.ScanRefIdeal.nD Cert.ScanRefIdeal.τ).loc Cert.ScanRefIdeal.main_arg0) = m ((c.tc : Thread Cert.ScanIdeal.nD Cert.ScanIdeal.τ).loc Cert.ScanIdeal.main_arg0)
      ∧ m' ((c.tc : Thread Cert.ScanRefIdeal.nD Cert.ScanRefIdeal.τ).loc Cert.ScanRefIdeal.main_arg1) = m ((c.tc : Thread Cert.ScanIdeal.nD Cert.ScanIdeal.τ).loc Cert.ScanIdeal.main_arg1)
      ∧ m' ((c.tc : Thread Cert.ScanRefIdeal.nD Cert.ScanRefIdeal.τ).loc Cert.ScanRefIdeal.main_arg2) = m ((c.tc : Thread Cert.ScanIdeal.nD Cert.ScanIdeal.τ).loc Cert.ScanIdeal.main_arg2)
      ∧ m' ((c.tc : Thread Cert.ScanRefIdeal.nD Cert.ScanRefIdeal.τ).loc Cert.ScanRefIdeal.main_arg3) = m ((c.tc : Thread Cert.ScanIdeal.nD Cert.ScanIdeal.τ).loc Cert.ScanIdeal.main_arg3)
      ∧ m' ((c.tc : Thread Cert.ScanRefIdeal.nD Cert.ScanRefIdeal.τ).loc Cert.ScanRefIdeal.main_arg4) = m ((c.tc : Thread Cert.ScanIdeal.nD Cert.ScanIdeal.τ).loc Cert.ScanIdeal.main_arg4)
      ∧ m' ((c.tc : Thread Cert.ScanRefIdeal.nD Cert.ScanRefIdeal.τ).loc Cert.ScanRefIdeal.main_arg5) = m ((c.tc : Thread Cert.ScanIdeal.nD Cert.ScanIdeal.τ).loc Cert.ScanIdeal.main_arg5)
      ∧ m' ((c.tc : Thread Cert.ScanRefIdeal.nD Cert.ScanRefIdeal.τ).loc Cert.ScanRefIdeal.main_arg6) = m ((c.tc : Thread Cert.ScanIdeal.nD Cert.ScanIdeal.τ).loc Cert.ScanIdeal.main_arg6)
      ∧ m' ((c.tc : Thread Cert.ScanRefIdeal.nD Cert.ScanRefIdeal.τ).loc Cert.ScanRefIdeal.main_arg7) = m ((c.tc : Thread Cert.ScanIdeal.nD Cert.ScanIdeal.τ).loc Cert.ScanIdeal.main_arg7)
      ∧ m' ((c.tc : Thread Cert.ScanRefIdeal.nD Cert.ScanRefIdeal.τ).loc Cert.ScanRefIdeal.main_arg8) = m ((c.tc : Thread Cert.ScanIdeal.nD Cert.ScanIdeal.τ).loc Cert.ScanIdeal.main_arg8)
      ∧ m' ((c.tc : Thread Cert.ScanRefIdeal.nD Cert.ScanRefIdeal.τ).loc Cert.ScanRefIdeal.main_arg9) = m ((c.tc : Thread Cert.ScanIdeal.nD Cert.ScanIdeal.τ).loc Cert.ScanIdeal.main_arg9)) :
    Cert.ScanRefIdeal.Rows.params m' c = Cert.ScanIdeal.Blk.params m c := by
  obtain ⟨e0, e1, e2, e3, e4, e5, e6, e7, e8, e9⟩ := h
  unfold Cert.ScanRefIdeal.Rows.params Cert.ScanIdeal.Blk.params
  congr 1
  · exact funext fun b => funext fun i => funext fun q => congrFun e0 (ix3 b i q)
  · exact funext fun g => funext fun p => congrFun e1 (ix2 g p)
  · exact funext fun g => funext fun p => congrFun e2 (ix2 g p)
  · exact funext fun g => funext fun p => funext fun k => congrFun e3 (ix3 g p k)
  · exact funext fun g => funext fun p => funext fun k => congrFun e4 (ix3 g p k)
  · exact funext fun g => funext fun k => funext fun p => congrFun e5 (ix3 g k p)
  · exact funext fun g => funext fun k => funext fun p => congrFun e6 (ix3 g k p)
  · exact funext fun q => congrFun e7 (ix1 q)
  · exact funext fun q => funext fun j => congrFun e8 (ix2 q j)
  · exact funext fun j => congrFun e9 (ix1 j)

/-- The value claim: from memories that agree on the arguments, those named by the precondition being real numbers, the
    kernel and the reference end with equal results. -/
theorem algebraic : Cert.algebraic_ScanIdeal_ScanRefIdeal_pre_scan_real (hScanIdeal := Cert.ScanIdeal.Gen.facts)
    (hScanRefIdeal := Cert.ScanRefIdeal.Gen.facts) (hPre_scan_real := Cert.Pre_scan_real.Gen.facts) := by
  intro m g m' g' hpre hagree
  refine ⟨fun c => OutArr m c, fun c => ReArr m c, fun c => ImArr m c, ?_, ?_⟩
  · refine (θ_run _ _ _).mono (fun r h c => ?_) (Cert.ScanIdeal.Value.run (F := Ideal) m g)
    obtain ⟨h0, h1, h2, ha⟩ := h c
    have hP := isReal m hpre c
    exact ⟨h0.trans ((Cert.ScanIdeal.Value.final9 m c).symm.trans (Cert.ScanIdeal.Blk.arr9 m c hP)),
      h1.trans ((Cert.ScanIdeal.Value.final10 m c).symm.trans (Cert.ScanIdeal.Blk.arr10 m c hP)),
      h2.trans ((Cert.ScanIdeal.Value.final11 m c).symm.trans (Cert.ScanIdeal.Blk.arr11 m c hP)), ha⟩
  · refine (θ_run _ _ _).mono (fun r h c => ?_) (Cert.ScanRefIdeal.Value.run (F := Ideal) m' g')
    obtain ⟨h0, h1, h2, ha⟩ := h c
    have e := params_eq m m' c (hagree c)
    have hP : (Cert.ScanRefIdeal.Rows.params m' c).IsReal := e ▸ isReal m hpre c
    refine ⟨h0.trans ?_, h1.trans ?_, h2.trans ?_, ha⟩
    · funext i
      rw [eq_ix3 i]
      refine (Cert.ScanRefIdeal.Rows.out44 hP (i 0) (i 1) (i 2)).trans ?_
      rw [e]
      rfl
    · funext i
      have hi : i = ix3 (i 0) 0 (i 2) := (eq_ix3 i).trans (congrArg (fun z => ix3 (i 0) z (i 2)) (Subsingleton.elim (α := Fin 1) _ _))
      rw [hi]
      refine (Cert.ScanRefIdeal.Rows.out45 hP (i 0) (i 2)).trans ?_
      rw [e]
      rfl
    · funext i
      have hi : i = ix3 (i 0) 0 (i 2) := (eq_ix3 i).trans (congrArg (fun z => ix3 (i 0) z (i 2)) (Subsingleton.elim (α := Fin 1) _ _))
      rw [hi]
      refine (Cert.ScanRefIdeal.Rows.out46 hP (i 0) (i 2)).trans ?_
      rw [e]
      rfl

/-- The reference runs, leaves its arguments alone and ends with every counter at zero. -/
theorem frame_ref : Cert.quiescent_ScanRefIdeal (hScanRefIdeal := Cert.ScanRefIdeal.Gen.facts) := fun m ρ _ =>
  (θ_run Cert.ScanRefIdeal.defs _ _).mono (fun r h => ⟨fun c => (h c).2.2.2, sem_eq_zero_of_no_sems (by decide) r.2⟩)
    (Cert.ScanRefIdeal.Value.run (F := Ideal) m ρ)

/-- The same from memories of which the precondition holds. -/
theorem frame_ref_pre : Cert.quiescent_ScanRefIdeal_pre_scan_real (hScanRefIdeal := Cert.ScanRefIdeal.Gen.facts)
    (hPre_scan_real := Cert.Pre_scan_real.Gen.facts) := fun m ρ _ => frame_ref m ρ trivial

end Cert.ScanValue

end
-- ==== Proof.Proj.Row.lean ====
/- What the input projection computes of one row of the hidden states: the normed row times the projection's columns, the
   rotary rotation of the first sixteen of each head's sixty-four columns, the scaled index weights and the two gates.  The
   second half is the same rotation spelled with lane rolls and three tables, and the columns of the padded weights. -/
module

public import proofs.«01_k».proof.Proof.Tail.Row

@[expose] public section

noncomputable section

namespace Cert.LayerRow

open Idealize.ShloMosaic

/-- One column of the projection of a row `h`. -/
def col {N : ℕ} (h : Fin 1024 → EReal) (w : Fin 1024 → Fin N → EReal) (o : Fin N) : EReal := ∑ k, h k * w k o

/-- The logistic function as it is printed. -/
def logistic (x : EReal) : EReal := Ideal.div 1 (1 + Ideal.exp (-x))

/-- The rotary angle of frequency `j` at a position: the position times `500000 ^ (-j / 8)`. -/
def angle (pos : BitVec 32) (j : Fin 8) : EReal :=
  FloatOps.sitofp (F := Ideal) FTy.f32 pos * Ideal.pow (Ideal.ofBits FTy.f32 1223959552#32)
    (Ideal.div (-FloatOps.sitofp (F := Ideal) FTy.f32 (BitVec.ofNat 32 j.1)) (Ideal.ofBits FTy.f32 1090519040#32))

/-- The rotation of one head: columns `d` and `8 + d` for `d < 8` turn by the angle `d`, the columns from 16 on stay. -/
def rope (pos : BitVec 32) (p : Fin 64 → EReal) (d : Fin 64) : EReal :=
  if h : d.1 < 16 then
    if h' : d.1 < 8 then p d * Ideal.cos (angle pos ⟨d.1, h'⟩) - p ⟨8 + d.1, by omega⟩ * Ideal.sin (angle pos ⟨d.1, h'⟩)
    else p ⟨d.1 - 8, by omega⟩ * Ideal.sin (angle pos ⟨d.1 - 8, by omega⟩) + p d * Ideal.cos (angle pos ⟨d.1 - 8, by omega⟩)
  else p d

/-- The heads of a group of columns from `o` on, rotated: column `l` belongs to head `l / 64`. -/
def roped {n : ℕ} (o : ℕ) (ho : o + n ≤ 3912) (hn : n % 64 = 0) (pos : BitVec 32) (h : Fin 1024 → EReal)
    (w : Fin 1024 → Fin 3912 → EReal) (l : Fin n) : EReal :=
  rope pos (fun d => col h w ⟨o + (l.1 / 64 * 64 + d.1), by omega⟩) ⟨l.1 % 64, by omega⟩

/-- The columns of a group from `o` on, as they are. -/
def part {n : ℕ} (o : ℕ) (ho : o + n ≤ 3912) (h : Fin 1024 → EReal) (w : Fin 1024 → Fin 3912 → EReal) (l : Fin n) : EReal :=
  col h w ⟨o + l.1, by omega⟩

/-- The state-space branch's input. -/
def projU (h : Fin 1024 → EReal) (w : Fin 1024 → Fin 3912 → EReal) (l : Fin 512) : EReal := part 0 (by decide) h w l

/-- The queries: eight rotated heads, scaled by `1 / 8`. -/
def projQ (pos : BitVec 32) (h : Fin 1024 → EReal) (w : Fin 1024 → Fin 3912 → EReal) (l : Fin 512) : EReal :=
  roped 512 (by decide) (by decide) pos h w l * Ideal.ofBits FTy.f32 0x3E000000#32

/-- The keys: two rotated heads. -/
def projK (pos : BitVec 32) (h : Fin 1024 → EReal) (w : Fin 1024 → Fin 3912 → EReal) (l : Fin 128) : EReal :=
  roped 1024 (by decide) (by decide) pos h w l

/-- The values. -/
def projV (h : Fin 1024 → EReal) (w : Fin 1024 → Fin 3912 → EReal) (l : Fin 128) : EReal := part 1152 (by decide) h w l

/-- The index queries: eight rotated heads. -/
def projQi (pos : BitVec 32) (h : Fin 1024 → EReal) (w : Fin 1024 → Fin 3912 → EReal) (l : Fin 512) : EReal :=
  roped 1280 (by decide) (by decide) pos h w l

/-- The index key: one rotated head. -/
def projKi (pos : BitVec 32) (h : Fin 1024 → EReal) (w : Fin 1024 → Fin 3912 → EReal) (l : Fin 64) : EReal :=
  roped 1792 (by decide) (by decide) pos h w l

/-- The index heads' weights, scaled by the rounded `8 ^ (-1/2)`. -/
def projWi (h : Fin 1024 → EReal) (w : Fin 1024 → Fin 3912 → EReal) (l : Fin 8) : EReal :=
  part 1856 (by decide) h w l * Ideal.ofBits FTy.f32 0x3EB504F3#32

/-- The gate of the state-space branch. -/
def projGs (h : Fin 1024 → EReal) (w : Fin 1024 → Fin 3912 → EReal) (l : Fin 1024) : EReal :=
  logistic (part 1864 (by decide) h w l)

/-- The gate of the attention branch. -/
def projGa (h : Fin 1024 → EReal) (w : Fin 1024 → Fin 3912 → EReal) (l : Fin 1024) : EReal :=
  logistic (part 2888 (by decide) h w l)

/-! ### The same with rolls, tables and padded weights -/

/-- Two heads side by side, times a table, plus the lanes eight on times a second, plus the lanes eight back times a third. -/
def rolled (tc ta tb p : Fin 128 → EReal) (l : Fin 128) : EReal :=
  p l * tc l + p ⟨(l.1 + 128 - 120) % 128, by omega⟩ * ta l + p ⟨(l.1 + 128 - 8) % 128, by omega⟩ * tb l

/-- The table of the cosines. -/
def tabC (pos : BitVec 32) (l : Fin 128) : EReal :=
  if h : l.1 % 64 < 8 then Ideal.cos (angle pos ⟨l.1 % 64, h⟩)
  else if h' : l.1 % 64 < 16 then Ideal.cos (angle pos ⟨l.1 % 64 - 8, by omega⟩) else 1

/-- The table of the sines of the lower eight columns, with their sign. -/
def tabA (pos : BitVec 32) (l : Fin 128) : EReal := if h : l.1 % 64 < 8 then -Ideal.sin (angle pos ⟨l.1 % 64, h⟩) else 0

/-- The table of the sines of the upper eight columns. -/
def tabB (pos : BitVec 32) (l : Fin 128) : EReal :=
  if _h : l.1 % 64 < 8 then 0
  else if h' : l.1 % 64 < 16 then Ideal.sin (angle pos ⟨l.1 % 64 - 8, by omega⟩) else 0

/-- With these tables the rolls rotate each of the two heads. -/
theorem rolled_eq (pos : BitVec 32) (p : Fin 128 → EReal) (l : Fin 128) :
    rolled (tabC pos) (tabA pos) (tabB pos) p l
      = rope pos (fun d => p ⟨l.1 / 64 * 64 + d.1, by omega⟩) ⟨l.1 % 64, by omega⟩ := by
  have e : ∀ (i : Fin 128) (j : ℕ) (hj : l.1 / 64 * 64 + j < 128), i.1 = l.1 / 64 * 64 + j → p i = p ⟨l.1 / 64 * 64 + j, hj⟩ :=
    fun i j hj hi => congrArg p (Fin.ext hi)
  unfold rolled rope tabC tabA tabB
  by_cases h8 : l.1 % 64 < 8
  · have h16 : l.1 % 64 < 16 := by omega
    simp only [h8, h16, dif_pos, mul_zero, add_zero, mul_neg, ← sub_eq_add_neg]
    rw [e l (l.1 % 64) (by omega) (by omega),
      e ⟨(l.1 + 128 - 120) % 128, by omega⟩ (8 + l.1 % 64) (by omega) (show (l.1 + 128 - 120) % 128 = _ by omega)]
  · by_cases h16 : l.1 % 64 < 16
    · simp only [h8, h16, dif_pos, dif_neg, not_false_eq_true, mul_zero, add_zero]
      rw [e l (l.1 % 64) (by omega) (by omega),
        e ⟨(l.1 + 128 - 8) % 128, by omega⟩ (l.1 % 64 - 8) (by omega) (show (l.1 + 128 - 8) % 128 = _ by omega), add_comm]
    · simp only [h8, h16, dif_neg, not_false_eq_true, mul_zero, add_zero, mul_one]
      exact e l (l.1 % 64) (by omega) (by omega)

/-- The padded weights: fifty-six columns of zeros after column 1863. -/
def padded (w : Fin 1024 → Fin 3912 → EReal) (a : Fin 1024) (b : Fin 3968) : EReal :=
  if h : b.1 < 1864 then w a ⟨b.1, by omega⟩ else if h' : b.1 < 1920 then 0 else w a ⟨b.1 - 56, by omega⟩

/-- A column before the padding. -/
theorem col_padded_lo (h : Fin 1024 → EReal) (w : Fin 1024 → Fin 3912 → EReal) (o : ℕ) (ho : o < 3968) (h1 : o < 1864) :
    col h (padded w) ⟨o, ho⟩ = col h w ⟨o, by omega⟩ := by
  simp only [col, padded, h1, dif_pos]

/-- A column after the padding. -/
theorem col_padded_hi (h : Fin 1024 → EReal) (w : Fin 1024 → Fin 3912 → EReal) (o : ℕ) (ho : o < 3968) (h1 : 1920 ≤ o) :
    col h (padded w) ⟨o, ho⟩ = col h w ⟨o - 56, by omega⟩ := by
  have h2 : ¬ o < 1864 := by omega
  have h3 : ¬ o < 1920 := by omega
  simp only [col, padded, h2, h3, dif_neg, not_false_eq_true]

/-- Rolled columns of the padded weights: two rotated heads of the projection. -/
theorem rolled_padded (pos : BitVec 32) (h : Fin 1024 → EReal) (w : Fin 1024 → Fin 3912 → EReal) (o : ℕ) (l : Fin 128)
    (ho : o + 128 ≤ 3968) (h1 : o + l.1 / 64 * 64 + 64 ≤ 1864) :
    rolled (tabC pos) (tabA pos) (tabB pos) (fun i => col h (padded w) ⟨o + i.1, by omega⟩) l
      = rope pos (fun d => col h w ⟨o + (l.1 / 64 * 64 + d.1), by omega⟩) ⟨l.1 % 64, by omega⟩ := by
  rw [rolled_eq]
  congr 1
  funext d
  refine (col_padded_lo h w (o + (l.1 / 64 * 64 + d.1)) (by omega) ?_).trans rfl
  omega

/-- A head read through the group of two it lies in is the head read through all of them. -/
theorem rope_at (pos : BitVec 32) (h : Fin 1024 → EReal) (w : Fin 1024 → Fin 3912 → EReal) {o : ℕ} (ho : o + 512 ≤ 3912) (l : Fin 512)
    (hb : ∀ d : Fin 64, o + l.1 / 128 * 128 + (l.1 % 128 / 64 * 64 + d.1) < 3912) :
    rope pos (fun d => col h w ⟨o + l.1 / 128 * 128 + (l.1 % 128 / 64 * 64 + d.1), hb d⟩) ⟨l.1 % 128 % 64, by omega⟩
      = roped o ho (by decide) pos h w l := by
  have e : (⟨l.1 % 128 % 64, by omega⟩ : Fin 64) = ⟨l.1 % 64, by omega⟩ := Fin.ext (by simp only; omega)
  unfold roped
  rw [e]
  congr 1
  funext d
  exact congrArg (col h w) (Fin.ext (show o + l.1 / 128 * 128 + (l.1 % 128 / 64 * 64 + d.1) = o + (l.1 / 64 * 64 + d.1) by omega))

end Cert.LayerRow

end
-- ==== Proof.Proj.Spelled.lean ====
/- The nine kinds of columns of the projection as the kernel spells them — rolled lanes with tables for the rotated heads,
   columns of the padded weights for the rest — are the row functions; and so is a rotated head as the reference
   concatenates it.  The prompt's and the sample's calls both use these. -/
module

public import proofs.«01_k».proof.Proof.Proj.Row

@[expose] public section

noncomputable section

namespace Cert.LayerRow

open Idealize.ShloMosaic

section Kernel

variable (pos : BitVec 32) (h : Fin 1024 → EReal) (w : Fin 1024 → Fin 3912 → EReal)

/-- The rolled columns of the padded weights from `o` on, with the tables of a position. -/
def turned (o : ℕ) (ho : o + 128 ≤ 3968) (l : Fin 128) : EReal :=
  rolled (tabC pos) (tabA pos) (tabB pos) (fun i => col h (padded w) ⟨o + i.1, by omega⟩) l

/-- The state-space branch's input. -/
theorem u_spelled (l : Fin 512) (hl : l.1 < 3968) : col h (padded w) ⟨l.1, hl⟩ = projU h w l := by
  rw [col_padded_lo _ _ _ _ (by omega)]
  exact congrArg (col h w) (Fin.ext (show l.1 = 0 + l.1 by omega))

/-- The values. -/
theorem v_spelled (l : Fin 128) (hl : 1152 + l.1 < 3968) : col h (padded w) ⟨1152 + l.1, hl⟩ = projV h w l :=
  col_padded_lo _ _ _ _ (by omega)

/-- The index heads' weights. -/
theorem wi_spelled (l : Fin 8) (hl : 1856 + l.1 < 3968) :
    col h (padded w) ⟨1856 + l.1, hl⟩ * Ideal.ofBits FTy.f32 0x3EB504F3#32 = projWi h w l :=
  congrArg (· * Ideal.ofBits FTy.f32 0x3EB504F3#32) (col_padded_lo _ _ _ _ (by omega))

/-- The gate of the state-space branch. -/
theorem gs_spelled (l : Fin 1024) (hl : 1920 + l.1 < 3968) : logistic (col h (padded w) ⟨1920 + l.1, hl⟩) = projGs h w l := by
  rw [col_padded_hi _ _ _ _ (by omega)]
  exact congrArg (fun k => logistic (col h w k)) (Fin.ext (show 1920 + l.1 - 56 = 1864 + l.1 by omega))

/-- The gate of the attention branch. -/
theorem ga_spelled (l : Fin 1024) (hl : 2944 + l.1 < 3968) : logistic (col h (padded w) ⟨2944 + l.1, hl⟩) = projGa h w l := by
  rw [col_padded_hi _ _ _ _ (by omega)]
  exact congrArg (fun k => logistic (col h w k)) (Fin.ext (show 2944 + l.1 - 56 = 2888 + l.1 by omega))

/-- The keys. -/
theorem k_spelled (l : Fin 128) : turned pos h w 1024 (by decide) l = projK pos h w l :=
  rolled_padded pos h w 1024 l (by decide) (by omega)

/-- The index key. -/
theorem ki_spelled (l : Fin 64) : turned pos h w 1792 (by decide) ⟨l.1, by omega⟩ = projKi pos h w l :=
  rolled_padded pos h w 1792 ⟨l.1, by omega⟩ (by decide) (by simp only; omega)

/-- Eight heads, two at a time. -/
theorem eight_spelled (o : ℕ) (ho : o + 512 ≤ 1864) (l : Fin 512) :
    turned pos h w (o + l.1 / 128 * 128) (by omega) ⟨l.1 % 128, by omega⟩ = roped o (by omega) (by decide) pos h w l :=
  (rolled_padded pos h w (o + l.1 / 128 * 128) ⟨l.1 % 128, by omega⟩ (by omega) (by simp only; omega)).trans
    (rope_at pos h w (by omega) l fun d => by omega)

/-- The queries. -/
theorem q_spelled (l : Fin 512) :
    turned pos h w (512 + l.1 / 128 * 128) (by omega) ⟨l.1 % 128, by omega⟩ * Ideal.ofBits FTy.f32 0x3E000000#32 = projQ pos h w l :=
  congrArg (· * Ideal.ofBits FTy.f32 0x3E000000#32) (eight_spelled pos h w 512 (by decide) l)

/-- The index queries. -/
theorem qi_spelled (l : Fin 512) :
    turned pos h w (1280 + l.1 / 128 * 128) (by omega) ⟨l.1 % 128, by omega⟩ = projQi pos h w l :=
  eight_spelled pos h w 1280 (by decide) l

end Kernel

/-- The comparison that keeps the first sixty-four columns of the last group holds on them. -/
theorem keep (l : Fin 64) (a b : EReal) :
    Scalar.select (IntOp.cmpi CmpIPredicate.slt (BitVec.ofNat 32 l.1) 64#32) a b = a := by
  have h : IntOp.cmpi CmpIPredicate.slt (BitVec.ofNat 32 l.1) 64#32 = 1#1 := by
    revert l; decide
  rw [h]; rfl

/-- A rotated head as the reference's concatenation reads it. -/
theorem head_at (pos : BitVec 32) (f : Fin 3912 → EReal) (o l : ℕ) (ho : o + l / 64 * 64 + 64 ≤ 3912) :
    (if h : l % 64 < 16 then
      if h' : l % 64 < 8 then
        f ⟨o + l, by omega⟩ * Ideal.cos (angle pos ⟨l % 64, h'⟩)
          - f ⟨o + (l / 64 * 64 + (8 + l % 64)), by omega⟩ * Ideal.sin (angle pos ⟨l % 64, h'⟩)
      else
        f ⟨o + (l / 64 * 64 + (l % 64 - 8)), by omega⟩ * Ideal.sin (angle pos ⟨l % 64 - 8, by omega⟩)
          + f ⟨o + (l / 64 * 64 + (8 + (l % 64 - 8))), by omega⟩ * Ideal.cos (angle pos ⟨l % 64 - 8, by omega⟩)
    else f ⟨o + (l / 64 * 64 + (16 + (l % 64 - 16))), by omega⟩)
      = rope pos (fun d => f ⟨o + (l / 64 * 64 + d.1), by omega⟩) ⟨l % 64, by omega⟩ := by
  have e : ∀ (i j : ℕ) (hi : i < 3912) (hj : j < 3912), i = j → f ⟨i, hi⟩ = f ⟨j, hj⟩ := fun i j hi hj h => congrArg f (Fin.ext h)
  unfold rope
  by_cases h : l % 64 < 16
  · by_cases h' : l % 64 < 8
    · simp only [h, h', dif_pos]
      rw [e (o + l) (o + (l / 64 * 64 + l % 64)) _ _ (by omega)]
    · simp only [h, h', dif_pos, dif_neg, not_false_eq_true]
      rw [e (o + (l / 64 * 64 + (8 + (l % 64 - 8)))) (o + (l / 64 * 64 + l % 64)) _ _ (by omega)]
  · simp only [h, dif_neg, not_false_eq_true]
    exact e _ _ _ _ (by omega)

/-- The same for a group of one head. -/
theorem head_one (pos : BitVec 32) (f : Fin 3912 → EReal) (o l : ℕ) (hl : l < 64) (ho : o + 64 ≤ 3912) :
    (if h : l < 16 then
      if h' : l < 8 then f ⟨o + l, by omega⟩ * Ideal.cos (angle pos ⟨l, h'⟩) - f ⟨o + (8 + l), by omega⟩ * Ideal.sin (angle pos ⟨l, h'⟩)
      else
        f ⟨o + (l - 8), by omega⟩ * Ideal.sin (angle pos ⟨l - 8, by omega⟩)
          + f ⟨o + (8 + (l - 8)), by omega⟩ * Ideal.cos (angle pos ⟨l - 8, by omega⟩)
    else f ⟨o + (16 + (l - 16)), by omega⟩)
      = rope pos (fun d => f ⟨o + (l / 64 * 64 + d.1), by omega⟩) ⟨l % 64, by omega⟩ := by
  have e : ∀ (i j : ℕ) (hi : i < 3912) (hj : j < 3912), i = j → f ⟨i, hi⟩ = f ⟨j, hj⟩ := fun i j hi hj h => congrArg f (Fin.ext h)
  have e0 : l / 64 = 0 := by omega
  have e1 : l % 64 = l := by omega
  unfold rope
  by_cases h : l < 16
  · by_cases h' : l < 8
    · simp only [e0, e1, h, h', dif_pos, zero_mul, zero_add]
    · simp only [e0, e1, h, h', dif_pos, dif_neg, not_false_eq_true, zero_mul, zero_add]
      rw [e (o + (8 + (l - 8))) (o + l) _ _ (by omega)]
  · simp only [e0, e1, h, dif_neg, not_false_eq_true, zero_mul, zero_add]
    exact e _ _ _ _ (by omega)

end Cert.LayerRow

end
-- ==== Proof.Proj.Block.lean ====
/- One block of the projection kernel: what its body leaves in each of its twelve result blocks, row by row. -/
module

public import proofs.«01_k».proof.Proof.Proj.Spelled
public import proofs.«01_k».proof.Proof.Gen.ProjIdeal.Frame
public import Idealize.ShloMosaic.Lib.Pointwise
public import Idealize.ShloMosaic.Lib.Pipeline.ValueKit

@[expose] public section

set_option maxRecDepth 16384

noncomputable section

namespace Cert.ProjIdeal.Block

open Cert.ProjIdeal Cert.ProjIdeal.Gen Idealize.ShloMosaic Cert.LayerRow

variable (x0 : Vec Ideal S256x1024 .f32) (x1 : Vec Ideal S1x1024 .f32) (x2 : Vec Ideal S1024x3968 .bf16)
  (x3 x4 x5 : Vec Ideal S256x128 .f32)

/-- The normed row `r` of the block. -/
def hrow (r : Fin 256) : Fin 1024 → EReal := rms (fun j => x0 (ix2 r j)) (fun j => x1 (ix2 0 j))

/-- The weights as a function of row and column. -/
def wts (a : Fin 1024) (b : Fin 3968) : EReal := x2 (ix2 a b)

/-- The rolled columns from `o` on of row `r`. -/
def turn (r : Fin 256) (o : ℕ) (ho : o + 128 ≤ 3968) (l : Fin 128) : EReal :=
  rolled (fun j => x3 (ix2 r j)) (fun j => x4 (ix2 r j)) (fun j => x5 (ix2 r j))
    (fun i => col (hrow x0 x1 r) (wts x2) ⟨o + i.1, by omega⟩) l

theorem pay29_apply (r : Fin 256) (l : Fin 1024) : k0_pay29 x0 x1 x2 x3 x4 x5 (ix2 r l) = hrow x0 x1 r l := by
  unfold k0_pay29
  pointwise [k0_pay3]
  rfl

theorem pay3_apply (r : Fin 256) (l : Fin 1024) : k0_pay3 x0 x1 (ix2 r l) = hrow x0 x1 r l := by
  pointwise [k0_pay3]
  rfl

theorem pay30_apply (r : Fin 256) (l : Fin 128) : k0_pay30 x0 x1 x2 x3 x4 x5 (ix2 r l) = x3 (ix2 r l) := by
  unfold k0_pay30
  pointwise [k0_pay4]

theorem pay31_apply (r : Fin 256) (l : Fin 128) : k0_pay31 x0 x1 x2 x3 x4 x5 (ix2 r l) = x4 (ix2 r l) := by
  unfold k0_pay31
  pointwise [k0_pay5]

theorem pay32_apply (r : Fin 256) (l : Fin 128) : k0_pay32 x0 x1 x2 x3 x4 x5 (ix2 r l) = x5 (ix2 r l) := by
  unfold k0_pay32
  pointwise [k0_pay6]

theorem hrow_ld (r : Fin 256) : hrow (View.ld x0 r0_0) (View.ld x1 r0_1) r = hrow x0 x1 r := by
  unfold hrow
  congr 1 <;> funext j <;> pointwise []

/-- The state-space branch's input. -/
theorem u_apply (r : Fin 256) (l : Fin 512) :
    out0_6 x0 x1 x2 x3 x4 x5 (ix2 r l) = col (hrow x0 x1 r) (wts x2) ⟨l.1, by omega⟩ := by
  frame_out
  pointwise [k0_pay7]
  simp only [pay3_apply]
  rfl

theorem k_apply (r : Fin 256) (l : Fin 128) :
    out0_8 x0 x1 x2 x3 x4 x5 (ix2 r l) = turn x0 x1 x2 x3 x4 x5 r 1024 (by decide) l := by
  frame_out
  pointwise [k0_pay16]
  simp only [pay29_apply, pay30_apply, pay31_apply, pay32_apply]
  rfl

/-- The keys for the attention: the same numbers. -/
theorem kb_eq : out0_9 x0 x1 x2 x3 x4 x5 = out0_8 x0 x1 x2 x3 x4 x5 := rfl

theorem v_apply (r : Fin 256) (l : Fin 128) :
    out0_10 x0 x1 x2 x3 x4 x5 (ix2 r l) = col (hrow x0 x1 r) (wts x2) ⟨1152 + l.1, by omega⟩ := by
  frame_out
  pointwise [k0_pay18]
  simp only [pay29_apply]
  rfl

/-- The values for the attention: the same numbers. -/
theorem vb_eq : out0_11 x0 x1 x2 x3 x4 x5 = out0_10 x0 x1 x2 x3 x4 x5 := rfl

theorem ki_apply (r : Fin 256) (l : Fin 64) :
    out0_13 x0 x1 x2 x3 x4 x5 (ix2 r l) = turn x0 x1 x2 x3 x4 x5 r 1792 (by decide) ⟨l.1, by omega⟩ := by
  frame_out
  pointwise [k0_pay26, k0_pay25, k0_pay24]
  simp only [pay29_apply, pay30_apply, pay31_apply, pay32_apply]
  exact keep l _ _

/-- The index keys for the search: the same numbers. -/
theorem kib_eq : out0_14 x0 x1 x2 x3 x4 x5 = out0_13 x0 x1 x2 x3 x4 x5 := rfl

theorem gs_apply (r : Fin 256) (l : Fin 1024) :
    out0_16 x0 x1 x2 x3 x4 x5 (ix2 r l) = logistic (col (hrow x0 x1 r) (wts x2) ⟨1920 + l.1, by omega⟩) := by
  frame_out
  pointwise [k0_pay1]
  simp only [pay29_apply, zero_sub]
  rfl

theorem ga_apply (r : Fin 256) (l : Fin 1024) :
    out0_17 x0 x1 x2 x3 x4 x5 (ix2 r l) = logistic (col (hrow x0 x1 r) (wts x2) ⟨2944 + l.1, by omega⟩) := by
  frame_out
  pointwise [k0_pay2]
  simp only [pay29_apply, zero_sub]
  rfl

theorem wi_apply (r : Fin 256) (l : Fin 8) :
    out0_15 x0 x1 x2 x3 x4 x5 (ix2 r l)
      = col (hrow x0 x1 r) (wts x2) ⟨1856 + l.1, by omega⟩ * Ideal.ofBits FTy.f32 0x3EB504F3#32 := by
  frame_out
  pointwise [k0_pay28, k0_pay25, k0_pay24]
  simp only [pay29_apply]
  congr 1
  exact congrArg (col (hrow x0 x1 r) (wts x2)) (Fin.ext (show 1792 + (64 + l.1) = 1856 + l.1 by omega))

theorem turn_at (r : Fin 256) {o o' : ℕ} (e : o = o') (ho : o + 128 ≤ 3968) (ho' : o' + 128 ≤ 3968) {l l' : Fin 128} (f : l.1 = l'.1) :
    turn x0 x1 x2 x3 x4 x5 r o ho l = turn x0 x1 x2 x3 x4 x5 r o' ho' l' := by
  subst e
  rw [Fin.ext f]

theorem q_apply (r : Fin 256) (l : Fin 512) :
    out0_7 x0 x1 x2 x3 x4 x5 (ix2 r l)
      = turn x0 x1 x2 x3 x4 x5 r (512 + l.1 / 128 * 128) (by omega) ⟨l.1 % 128, by omega⟩ * Ideal.ofBits FTy.f32 0x3E000000#32 := by
  unfold out0_7
  canon_tiles y h
  all_goals
    idx_vars y
    obtain rfl : r = y0 := Fin.ext h0
    clear h0
    replace h1 : l.1 = _ := h1
  all_goals pointwise [k0_pay15, k0_pay14, k0_pay13, k0_pay12, k0_pay11, k0_pay10, k0_pay9, k0_pay8, k0_pay5, k0_pay4]
  all_goals simp only [pay29_apply, pay30_apply, pay31_apply, pay32_apply, pay3_apply, hrow_ld]
  · exact Eq.trans rfl (congrArg (· * _) (turn_at x0 x1 x2 x3 x4 x5 r (o := 896) (l := y1) (by omega) (by decide) (by omega) (by simp only; omega)))
  · exact Eq.trans rfl (congrArg (· * _) (turn_at x0 x1 x2 x3 x4 x5 r (o := 768) (l := y1) (by omega) (by decide) (by omega) (by simp only; omega)))
  · exact Eq.trans rfl (congrArg (· * _) (turn_at x0 x1 x2 x3 x4 x5 r (o := 640) (l := y1) (by omega) (by decide) (by omega) (by simp only; omega)))
  · exact Eq.trans rfl (congrArg (· * _) (turn_at x0 x1 x2 x3 x4 x5 r (o := 512) (l := y1) (by omega) (by decide) (by omega) (by simp only; omega)))

theorem qi_apply (r : Fin 256) (l : Fin 512) :
    out0_12 x0 x1 x2 x3 x4 x5 (ix2 r l)
      = turn x0 x1 x2 x3 x4 x5 r (1280 + l.1 / 128 * 128) (by omega) ⟨l.1 % 128, by omega⟩ := by
  unfold out0_12
  canon_tiles y h
  all_goals
    idx_vars y
    obtain rfl : r = y0 := Fin.ext h0
    clear h0
    replace h1 : l.1 = _ := h1
  all_goals pointwise [k0_pay23, k0_pay22, k0_pay21, k0_pay20]
  all_goals simp only [pay29_apply, pay30_apply, pay31_apply, pay32_apply, pay3_apply, hrow_ld]
  · exact Eq.trans rfl (turn_at x0 x1 x2 x3 x4 x5 r (o := 1664) (l := y1) (by omega) (by decide) (by omega) (by simp only; omega))
  · exact Eq.trans rfl (turn_at x0 x1 x2 x3 x4 x5 r (o := 1536) (l := y1) (by omega) (by decide) (by omega) (by simp only; omega))
  · exact Eq.trans rfl (turn_at x0 x1 x2 x3 x4 x5 r (o := 1408) (l := y1) (by omega) (by decide) (by omega) (by simp only; omega))
  · exact Eq.trans rfl (turn_at x0 x1 x2 x3 x4 x5 r (o := 1280) (l := y1) (by omega) (by decide) (by omega) (by simp only; omega))

end Cert.ProjIdeal.Block

end
-- ==== Proof.Proj.Value.lean ====
/- The projection kernel's result arrays after its run: row `i` of each is the row function of row `i` of the hidden states. -/
module

public import proofs.«01_k».proof.Proof.Proj.Block
public import proofs.«01_k».proof.Proof.Gen.ProjIdeal.Value
public import Idealize.ShloMosaic.Lib.StableHlo.ReadAt

@[expose] public section

set_option maxRecDepth 16384

noncomputable section

namespace Cert.ProjIdeal.Block

open Cert.ProjIdeal Cert.ProjIdeal.Gen Idealize.ShloMosaic Idealize.ShloMosaic.TcCoe Idealize.SL.Sem Cert.LayerRow

variable (m : (ℓ : Loc nD τ sig) → Buf (Elt Ideal) ℓ)

/-- The normed row `i` of the prompt, its batch `i / 4096` and its position `i % 4096`. -/
def normed (c : Dev nD) (i : Fin 65536) : Fin 1024 → EReal :=
  rms (fun j => m ((c : Thread nD τ).loc main_arg0) (ix3 ⟨i.1 / 4096, by omega⟩ ⟨i.1 % 4096, by omega⟩ j))
    (fun j => m ((c : Thread nD τ).loc main_arg1) (ix1 j))

/-- The projection's weights. -/
def weights (c : Dev nD) (a : Fin 1024) (b : Fin 3912) : EReal := m ((c : Thread nD τ).loc main_arg2) (ix2 a b)

/-- The position of row `i`. -/
def posOf (i : Fin 65536) : BitVec 32 := BitVec.ofNat 32 (i.1 % 4096)

/-- Where the blocks of the inputs lie: point `t` reads the rows from `256 t` on, and the tables' rows from `256 (t % 16)` on. -/
theorem idx_in : ∀ t : Fin cfg0.N, win0_0.index t = ![t.val, 0] ∧ win0_1.index t = ![0, 0] ∧ win0_2.index t = ![0, 0]
    ∧ win0_3.index t = ![t.val % 16, 0] ∧ win0_4.index t = ![t.val % 16, 0] ∧ win0_5.index t = ![t.val % 16, 0] :=
  (by decide +kernel : ∀ t : Fin grid0.N, _)

/-- Row `r` of block `t` as a row of the array. -/
def at_ (t : Fin cfg0.N) (r : Fin 256) : Fin 65536 := ⟨t.val * 256 + r.1, by
  have h : t.val < 256 := t.isLt
  omega⟩

theorem hrow_blk (c : Dev nD) (t : Fin cfg0.N) (r : Fin 256) : hrow (iblk m c 0 t) (iblk m c 1 t) r = normed m c (at_ t r) := by
  obtain ⟨e0, e1, e2, e3, e4, e5⟩ := idx_in t
  unfold hrow normed
  congr 1
  · funext j; blk_point [iblk, V, e0, at_]
  · funext j; blk_point [iblk, V, e1]

/-- The weights the kernel is given are the padded ones. -/
theorem V36 (c : Dev nD) (a : Fin 1024) (b : Fin 3968) : V m c main_v36 (ix2 a b) = padded (weights m c) a b := by
  unfold V padded weights
  after_reads_at
  split
  · after_reads_at
  · by_cases h : b.1 < 1920
    · rw [dif_pos (by omega), dif_pos h]
      after_reads_at
    · rw [dif_neg (by omega), dif_neg h]
      after_reads_at
      exact congrArg (fun k => m ((c : Thread nD τ).loc main_arg2) (ix2 a k)) (Fin.ext (show 1864 + (b.1 - 1864 - 56) = b.1 - 56 by omega))

/-- The first table. -/
theorem V25 (c : Dev nD) (a : Fin 4096) (b : Fin 128) : V m c main_v25 (ix2 a b) = tabC (BitVec.ofNat 32 a.1) b := by
  unfold V tabC angle
  after_reads_at
  split
  · after_reads_at
  · by_cases h : b.1 % 64 < 16
    · rw [dif_pos (by omega), dif_pos h]
      after_reads_at
    · rw [dif_neg (by omega), dif_neg h]
      after_reads_at

/-- The second table. -/
theorem V28 (c : Dev nD) (a : Fin 4096) (b : Fin 128) : V m c main_v28 (ix2 a b) = tabA (BitVec.ofNat 32 a.1) b := by
  unfold V tabA angle
  after_reads_at
  split
  · after_reads_at
  · by_cases h : b.1 % 64 < 16
    · rw [dif_pos (by omega)]
      after_reads_at
    · rw [dif_neg (by omega)]
      after_reads_at

/-- The third table. -/
theorem V31 (c : Dev nD) (a : Fin 4096) (b : Fin 128) : V m c main_v31 (ix2 a b) = tabB (BitVec.ofNat 32 a.1) b := by
  unfold V tabB angle
  after_reads_at
  split
  · after_reads_at
  · by_cases h : b.1 % 64 < 16
    · rw [dif_pos (by omega), dif_pos h]
      after_reads_at
    · rw [dif_neg (by omega), dif_neg h]
      after_reads_at

theorem wts_blk (c : Dev nD) (t : Fin cfg0.N) : wts (iblk m c 2 t) = padded (weights m c) := by
  obtain ⟨e0, e1, e2, e3, e4, e5⟩ := idx_in t
  funext a b
  rw [← V36]
  unfold wts
  blk_point [iblk, e2]

theorem tabC_blk (c : Dev nD) (t : Fin cfg0.N) (r : Fin 256) : (fun j => iblk m c 3 t (ix2 r j)) = tabC (posOf (at_ t r)) := by
  obtain ⟨e0, e1, e2, e3, e4, e5⟩ := idx_in t
  funext j
  refine Eq.trans ?_ (V25 m c ⟨(at_ t r).1 % 4096, by omega⟩ j)
  blk_point [iblk, e3, at_]

theorem tabA_blk (c : Dev nD) (t : Fin cfg0.N) (r : Fin 256) : (fun j => iblk m c 4 t (ix2 r j)) = tabA (posOf (at_ t r)) := by
  obtain ⟨e0, e1, e2, e3, e4, e5⟩ := idx_in t
  funext j
  refine Eq.trans ?_ (V28 m c ⟨(at_ t r).1 % 4096, by omega⟩ j)
  blk_point [iblk, e4, at_]

theorem tabB_blk (c : Dev nD) (t : Fin cfg0.N) (r : Fin 256) : (fun j => iblk m c 5 t (ix2 r j)) = tabB (posOf (at_ t r)) := by
  obtain ⟨e0, e1, e2, e3, e4, e5⟩ := idx_in t
  funext j
  refine Eq.trans ?_ (V31 m c ⟨(at_ t r).1 % 4096, by omega⟩ j)
  blk_point [iblk, e5, at_]

/-- The rolled columns of one row of a block are those of the row of the array, with the tables of its position. -/
theorem turn_blk (c : Dev nD) (t : Fin cfg0.N) (r : Fin 256) (o : ℕ) (ho : o + 128 ≤ 3968) (l : Fin 128) :
    turn (iblk m c 0 t) (iblk m c 1 t) (iblk m c 2 t) (iblk m c 3 t) (iblk m c 4 t) (iblk m c 5 t) r o ho l
      = turned (posOf (at_ t r)) (normed m c (at_ t r)) (weights m c) o ho l := by
  unfold turn turned
  rw [tabC_blk, tabA_blk, tabB_blk, hrow_blk, wts_blk]

end Cert.ProjIdeal.Block

end
-- ==== Proof.Proj.Arrays.lean ====
/- The projection kernel's result arrays after its run: each is a row function of the rows of the hidden states. -/
module

public import proofs.«01_k».proof.Proof.Proj.Value

@[expose] public section

set_option maxRecDepth 16384

noncomputable section

namespace Cert.ProjIdeal.Block

open Cert.ProjIdeal Cert.ProjIdeal.Gen Idealize.ShloMosaic Idealize.ShloMosaic.TcCoe Idealize.SL.Sem Cert.LayerRow

variable (m : (ℓ : Loc nD τ sig) → Buf (Elt Ideal) ℓ) (c : Dev nD)

/-- Where the blocks of the results lie: point `t` writes the rows from `256 t` on. -/
theorem idx_out : ∀ t : Fin cfg0.N, win0_6.index t = ![t.val, 0] ∧ win0_7.index t = ![t.val, 0] ∧ win0_8.index t = ![t.val, 0]
    ∧ win0_9.index t = ![t.val, 0] ∧ win0_10.index t = ![t.val, 0] ∧ win0_11.index t = ![t.val, 0] ∧ win0_12.index t = ![t.val, 0]
    ∧ win0_13.index t = ![t.val, 0] ∧ win0_14.index t = ![t.val, 0] ∧ win0_15.index t = ![t.val, 0] ∧ win0_16.index t = ![t.val, 0]
    ∧ win0_17.index t = ![t.val, 0] :=
  (by decide +kernel : ∀ t : Fin grid0.N, _)

/-- A family of rows, each a function of the normed row, laid out as an array. -/
def laid {n : ℕ} (f : (Fin 1024 → EReal) → (Fin 1024 → Fin 3912 → EReal) → Fin n → EReal) : Fin 65536 → Fin n → EReal :=
  fun i l => f (normed m c i) (weights m c) l

/-- The same for a function that also takes the position. -/
def laidAt {n : ℕ} (f : BitVec 32 → (Fin 1024 → EReal) → (Fin 1024 → Fin 3912 → EReal) → Fin n → EReal) : Fin 65536 → Fin n → EReal :=
  fun i l => f (posOf i) (normed m c i) (weights m c) l

/-- An element of a block is the element of the array it is laid at. -/
theorem place {n : ℕ} (f : Fin 65536 → Fin n → EReal) (t : Fin cfg0.N) (r : Fin 256) (l l' : Fin n) (i : Fin 65536)
    (h0 : (at_ t r).1 = i.1) (h1 : l.1 = l'.1) : f (at_ t r) l = f i l' :=
  congrArg₂ f (Fin.ext h0) (Fin.ext h1)

/-- The state-space branch's input. -/
def u : Vec Ideal S65536x512 .f32 := fun i => laid m c projU (i 0) (i 1)

theorem arr_u : (dats m 0 c).arrAt 6 cfg0.N = u m c := by
  refine (dats m 0 c).arrAt_eq_of_covers 6 _ (by decide +kernel) fun t hf y => ?_
  blk_simp
  rw [after0_6]
  idx_vars y
  have e := (idx_out t).1
  rw [u_apply, hrow_blk, wts_blk, u_spelled]
  exact place (laid m c projU) t y0 y1 _ _ (by blk_simp [e, at_]) (by blk_simp [e])

/-- The queries. -/
def q : Vec Ideal S65536x512 .bf16 := fun i => laidAt m c projQ (i 0) (i 1)

theorem arr_q : (dats m 0 c).arrAt 7 cfg0.N = q m c := by
  refine (dats m 0 c).arrAt_eq_of_covers 7 _ (by decide +kernel) fun t hf y => ?_
  blk_simp
  rw [after0_7]
  idx_vars y
  have e := (idx_out t).2.1
  rw [q_apply, turn_blk, q_spelled]
  exact place (laidAt m c projQ) t y0 y1 _ _ (by blk_simp [e, at_]) (by blk_simp [e])

/-- The keys; those for the attention are the same numbers. -/
def k : Vec Ideal S65536x128 .f32 := fun i => laidAt m c projK (i 0) (i 1)

theorem arr_k : (dats m 0 c).arrAt 8 cfg0.N = k m c := by
  refine (dats m 0 c).arrAt_eq_of_covers 8 _ (by decide +kernel) fun t hf y => ?_
  blk_simp
  rw [after0_8]
  idx_vars y
  have e := (idx_out t).2.2.1
  rw [k_apply, turn_blk, k_spelled]
  exact place (laidAt m c projK) t y0 y1 _ _ (by blk_simp [e, at_]) (by blk_simp [e])

theorem arr_kb : (dats m 0 c).arrAt 9 cfg0.N = k m c := by
  refine (dats m 0 c).arrAt_eq_of_covers 9 _ (by decide +kernel) fun t hf y => ?_
  blk_simp
  rw [after0_9]
  idx_vars y
  have e := (idx_out t).2.2.2.1
  rw [kb_eq, k_apply, turn_blk, k_spelled]
  exact place (laidAt m c projK) t y0 y1 _ _ (by blk_simp [e, at_]) (by blk_simp [e])

/-- The values; those for the attention are the same numbers. -/
def v : Vec Ideal S65536x128 .f32 := fun i => laid m c projV (i 0) (i 1)

theorem arr_v : (dats m 0 c).arrAt 10 cfg0.N = v m c := by
  refine (dats m 0 c).arrAt_eq_of_covers 10 _ (by decide +kernel) fun t hf y => ?_
  blk_simp
  rw [after0_10]
  idx_vars y
  have e := (idx_out t).2.2.2.2.1
  rw [v_apply, hrow_blk, wts_blk, v_spelled]
  exact place (laid m c projV) t y0 y1 _ _ (by blk_simp [e, at_]) (by blk_simp [e])

theorem arr_vb : (dats m 0 c).arrAt 11 cfg0.N = v m c := by
  refine (dats m 0 c).arrAt_eq_of_covers 11 _ (by decide +kernel) fun t hf y => ?_
  blk_simp
  rw [after0_11]
  idx_vars y
  have e := (idx_out t).2.2.2.2.2.1
  rw [vb_eq, v_apply, hrow_blk, wts_blk, v_spelled]
  exact place (laid m c projV) t y0 y1 _ _ (by blk_simp [e, at_]) (by blk_simp [e])

/-- The index queries. -/
def qi : Vec Ideal S65536x512 .bf16 := fun i => laidAt m c projQi (i 0) (i 1)

theorem arr_qi : (dats m 0 c).arrAt 12 cfg0.N = qi m c := by
  refine (dats m 0 c).arrAt_eq_of_covers 12 _ (by decide +kernel) fun t hf y => ?_
  blk_simp
  rw [after0_12]
  idx_vars y
  have e := (idx_out t).2.2.2.2.2.2.1
  rw [qi_apply, turn_blk, qi_spelled]
  exact place (laidAt m c projQi) t y0 y1 _ _ (by blk_simp [e, at_]) (by blk_simp [e])

/-- The index keys; those for the search are the same numbers. -/
def ki : Vec Ideal S65536x64 .f32 := fun i => laidAt m c projKi (i 0) (i 1)

theorem arr_ki : (dats m 0 c).arrAt 13 cfg0.N = ki m c := by
  refine (dats m 0 c).arrAt_eq_of_covers 13 _ (by decide +kernel) fun t hf y => ?_
  blk_simp
  rw [after0_13]
  idx_vars y
  have e := (idx_out t).2.2.2.2.2.2.2.1
  rw [ki_apply, turn_blk, ki_spelled]
  exact place (laidAt m c projKi) t y0 y1 _ _ (by blk_simp [e, at_]) (by blk_simp [e])

theorem arr_kib : (dats m 0 c).arrAt 14 cfg0.N = ki m c := by
  refine (dats m 0 c).arrAt_eq_of_covers 14 _ (by decide +kernel) fun t hf y => ?_
  blk_simp
  rw [after0_14]
  idx_vars y
  have e := (idx_out t).2.2.2.2.2.2.2.2.1
  rw [kib_eq, ki_apply, turn_blk, ki_spelled]
  exact place (laidAt m c projKi) t y0 y1 _ _ (by blk_simp [e, at_]) (by blk_simp [e])

/-- The index heads' weights. -/
def wi : Vec Ideal S65536x8 .f32 := fun i => laid m c projWi (i 0) (i 1)

theorem arr_wi : (dats m 0 c).arrAt 15 cfg0.N = wi m c := by
  refine (dats m 0 c).arrAt_eq_of_covers 15 _ (by decide +kernel) fun t hf y => ?_
  blk_simp
  rw [after0_15]
  idx_vars y
  have e := (idx_out t).2.2.2.2.2.2.2.2.2.1
  rw [wi_apply, hrow_blk, wts_blk, wi_spelled]
  exact place (laid m c projWi) t y0 y1 _ _ (by blk_simp [e, at_]) (by blk_simp [e])

/-- The gates of the state-space branch. -/
def gs : Vec Ideal S65536x1024 .f32 := fun i => laid m c projGs (i 0) (i 1)

theorem arr_gs : (dats m 0 c).arrAt 16 cfg0.N = gs m c := by
  refine (dats m 0 c).arrAt_eq_of_covers 16 _ (by decide +kernel) fun t hf y => ?_
  blk_simp
  rw [after0_16]
  idx_vars y
  have e := (idx_out t).2.2.2.2.2.2.2.2.2.2.1
  rw [gs_apply, hrow_blk, wts_blk, gs_spelled]
  exact place (laid m c projGs) t y0 y1 _ _ (by blk_simp [e, at_]) (by blk_simp [e])

/-- The gates of the attention branch. -/
def ga : Vec Ideal S65536x1024 .f32 := fun i => laid m c projGa (i 0) (i 1)

theorem arr_ga : (dats m 0 c).arrAt 17 cfg0.N = ga m c := by
  refine (dats m 0 c).arrAt_eq_of_covers 17 _ (by decide +kernel) fun t hf y => ?_
  blk_simp
  rw [after0_17]
  idx_vars y
  have e := (idx_out t).2.2.2.2.2.2.2.2.2.2.2
  rw [ga_apply, hrow_blk, wts_blk, ga_spelled]
  exact place (laid m c projGa) t y0 y1 _ _ (by blk_simp [e, at_]) (by blk_simp [e])

end Cert.ProjIdeal.Block

end
-- ==== Proof.Proj.Ref.lean ====
/- The plain reference of the projection, read at a row: each of its results is the row function of that row. -/
module

public import proofs.«01_k».proof.Proof.Proj.Spelled
public import proofs.«01_k».proof.Proof.Gen.ProjRefIdeal.Read
public import Idealize.ShloMosaic.Lib.Pointwise

@[expose] public section

set_option maxRecDepth 16384

noncomputable section

namespace Cert.ProjRefIdeal.Rows

open Cert.ProjRefIdeal Cert.ProjRefIdeal.Read Idealize.ShloMosaic Cert.LayerRow

variable (x0 : Vec Ideal S16x4096x1024 .f32) (x1 : Vec Ideal S1024 .f32) (x2 : Vec Ideal S1024x3912 .f32)

/-- The normed row at a batch and a position. -/
def prow (b : Fin 16) (t : Fin 4096) : Fin 1024 → EReal := rms (fun j => x0 (ix3 b t j)) (fun j => x1 (ix1 j))

/-- The normed row `i` of the prompt. -/
def normed (i : Fin 65536) : Fin 1024 → EReal := prow x0 x1 ⟨i.1 / 4096, by omega⟩ ⟨i.1 % 4096, by omega⟩

/-- The weights. -/
def weights (a : Fin 1024) (b : Fin 3912) : EReal := x2 (ix2 a b)

/-- The position of row `i`. -/
def posOf (i : Fin 65536) : BitVec 32 := BitVec.ofNat 32 (i.1 % 4096)

/-- The angles the cosines and sines are taken of. -/
theorem angle_apply (t : Fin 4096) (j : Fin 8) : val_main_v35 (F := Ideal) (ix2 t j) = angle (BitVec.ofNat 32 t.1) j := by
  pointwise [val_main_v35, val_main_v34, val_main_v33, val_main_v32, val_main_v31, val_main_v30, val_main_v29,
    val_main_v28, val_main_v27, val_main_v26, val_main_v25, val_main_v24, val_main_v0, val_main_cst_2, val_main_cst_3]
  rfl

theorem cos_apply (t : Fin 4096) (j : Fin 8) : val_main_v37 (F := Ideal) (ix3 t 0 j) = Ideal.cos (angle (BitVec.ofNat 32 t.1) j) := by
  pointwise [val_main_v37, val_main_v36]
  exact congrArg Ideal.cos (angle_apply t j)

theorem sin_apply (t : Fin 4096) (j : Fin 8) : val_main_v39 (F := Ideal) (ix3 t 0 j) = Ideal.sin (angle (BitVec.ofNat 32 t.1) j) := by
  pointwise [val_main_v39, val_main_v38]
  exact congrArg Ideal.sin (angle_apply t j)

/-- The product of the normed rows and the weights. -/
theorem prod_apply (b : Fin 16) (t : Fin 4096) (o : Fin 3912) : val_main_v14 (F := Ideal) x0 x1 x2 (ix3 b t o)
    = col (prow x0 x1 b t) (weights x2) o := by
  pointwise [val_main_v14, val_main_v13, val_main_v12, val_main_v11, val_main_v10, val_main_v9, val_main_v8, val_main_v7, val_main_v6,
    val_main_v5, val_main_v4, val_main_v3, val_main_v2, val_main_v1, val_main_cst, val_main_cst_0, val_main_cst_1]
  rfl

variable (r : Fin 65536)

/-- The keys. -/
theorem k_apply (l : Fin 128) :
    val_main_v128 (F := Ideal) x0 x1 x2 (ix2 r l) = projK (posOf r) (normed x0 x1 r) (weights x2) l := by
  pointwise [val_main_v128, val_main_v83, val_main_v82, val_main_v81, val_main_v80, val_main_v79, val_main_v78, val_main_v77,
    val_main_v76, val_main_v75, val_main_v74, val_main_v73, val_main_v72, val_main_v71, val_main_v70, val_main_v69, val_main_v68,
    val_main_v67, val_main_v66, val_main_v65, val_main_v64, val_main_v63, val_main_v17]
  simp only [cos_apply, sin_apply, prod_apply]
  exact head_at (posOf r) (col (normed x0 x1 r) (weights x2)) 1024 l.1 (by omega)

/-- The queries. -/
theorem q_apply (l : Fin 512) :
    val_main_v133 (F := Ideal) x0 x1 x2 (ix2 r l) = projQ (posOf r) (normed x0 x1 r) (weights x2) l := by
  pointwise [val_main_v133, val_main_v132, val_main_v62, val_main_v61, val_main_v60, val_main_v59, val_main_v58, val_main_v57,
    val_main_v56, val_main_v55, val_main_v54, val_main_v53, val_main_v52, val_main_v51, val_main_v50, val_main_v49, val_main_v48,
    val_main_v47, val_main_v46, val_main_v45, val_main_v44, val_main_v43, val_main_v42, val_main_v41, val_main_v40, val_main_v16,
    val_main_cst_4]
  simp only [cos_apply, sin_apply, prod_apply]
  exact congrArg (· * Ideal.ofBits FTy.f32 0x3E000000#32) (head_at (posOf r) (col (normed x0 x1 r) (weights x2)) 512 l.1 (by omega))

/-- The index queries. -/
theorem qi_apply (l : Fin 512) :
    val_main_v137 (F := Ideal) x0 x1 x2 (ix2 r l) = projQi (posOf r) (normed x0 x1 r) (weights x2) l := by
  pointwise [val_main_v137, val_main_v136, val_main_v104, val_main_v103, val_main_v102, val_main_v101, val_main_v100, val_main_v99,
    val_main_v98, val_main_v97, val_main_v96, val_main_v95, val_main_v94, val_main_v93, val_main_v92, val_main_v91, val_main_v90,
    val_main_v89, val_main_v88, val_main_v87, val_main_v86, val_main_v85, val_main_v84, val_main_v19]
  simp only [cos_apply, sin_apply, prod_apply]
  exact head_at (posOf r) (col (normed x0 x1 r) (weights x2)) 1280 l.1 (by omega)

/-- The index keys. -/
theorem ki_apply (l : Fin 64) :
    val_main_v130 (F := Ideal) x0 x1 x2 (ix2 r l) = projKi (posOf r) (normed x0 x1 r) (weights x2) l := by
  pointwise [val_main_v130, val_main_v125, val_main_v124, val_main_v123, val_main_v122, val_main_v121, val_main_v120, val_main_v119,
    val_main_v118, val_main_v117, val_main_v116, val_main_v115, val_main_v114, val_main_v113, val_main_v112, val_main_v111,
    val_main_v110, val_main_v109, val_main_v108, val_main_v107, val_main_v106, val_main_v105, val_main_v20]
  simp only [cos_apply, sin_apply, prod_apply]
  exact head_one (posOf r) (col (normed x0 x1 r) (weights x2)) 1792 l.1 (by omega) (by omega)

/-- The state-space branch's input. -/
theorem u_apply (l : Fin 512) : val_main_v131 (F := Ideal) x0 x1 x2 (ix2 r l) = projU (normed x0 x1 r) (weights x2) l := by
  pointwise [val_main_v131, val_main_v15]
  rw [prod_apply]
  exact congrArg (col (normed x0 x1 r) (weights x2)) (Fin.ext (show l.1 = 0 + l.1 by omega))

/-- The values. -/
theorem v_apply (l : Fin 128) : val_main_v129 (F := Ideal) x0 x1 x2 (ix2 r l) = projV (normed x0 x1 r) (weights x2) l := by
  pointwise [val_main_v129, val_main_v18]
  exact prod_apply _ _ _ _ _ _

/-- The index heads' weights. -/
theorem wi_apply (l : Fin 8) : val_main_v139 (F := Ideal) x0 x1 x2 (ix2 r l) = projWi (normed x0 x1 r) (weights x2) l := by
  pointwise [val_main_v139, val_main_v127, val_main_v126, val_main_v21, val_main_cst_5]
  exact congrArg (· * Ideal.ofBits FTy.f32 0x3EB504F3#32) (prod_apply _ _ _ _ _ _)

/-- The gates of the state-space branch. -/
theorem gs_apply (l : Fin 1024) : val_main_v146 (F := Ideal) x0 x1 x2 (ix2 r l) = projGs (normed x0 x1 r) (weights x2) l := by
  pointwise [val_main_v146, val_main_v145, val_main_v144, val_main_v143, val_main_v142, val_main_v141, val_main_v140, val_main_v22,
    val_main_cst_6, val_main_cst_7]
  exact congrArg logistic (prod_apply _ _ _ _ _ _)

/-- The gates of the attention branch. -/
theorem ga_apply (l : Fin 1024) : val_main_v153 (F := Ideal) x0 x1 x2 (ix2 r l) = projGa (normed x0 x1 r) (weights x2) l := by
  pointwise [val_main_v153, val_main_v152, val_main_v151, val_main_v150, val_main_v149, val_main_v148, val_main_v147, val_main_v23,
    val_main_cst_8, val_main_cst_9]
  exact congrArg logistic (prod_apply _ _ _ _ _ _)

/-- The copies for the attention hold the same numbers. -/
theorem kb_eq : val_main_v134 (F := Ideal) x0 x1 x2 = val_main_v128 (F := Ideal) x0 x1 x2 := rfl

theorem vb_eq : val_main_v135 (F := Ideal) x0 x1 x2 = val_main_v129 (F := Ideal) x0 x1 x2 := rfl

theorem kib_eq : val_main_v138 (F := Ideal) x0 x1 x2 = val_main_v130 (F := Ideal) x0 x1 x2 := rfl

end Cert.ProjRefIdeal.Rows

end
-- ==== Proof.Proj.Equation.lean ====
/- The projection kernel and the reference end with the same twelve arrays: both hold the row functions of every row. -/
module

public import proofs.«01_k».proof.Proof.Proj.Arrays
public import proofs.«01_k».proof.Proof.Proj.Ref
public import proofs.«01_k».proof.Proof.Gen.ProjRefIdeal.Run
public import proofs.«01_k».proof.Defs
public import Idealize.ShloMosaic.Lib.Quiescent

@[expose] public section

set_option maxRecDepth 16384

noncomputable section

namespace Cert.ProjValue

open Idealize.ShloMosaic Idealize.ShloMosaic.TcCoe Idealize.SL.Sem Cert.ProjRefIdeal.Read Cert.ProjIdeal.Block

/-- The value claim: from memories that agree on the arguments the kernel and the reference end with equal results. -/
theorem algebraic : Cert.algebraic_ProjIdeal_ProjRefIdeal (hProjIdeal := Cert.ProjIdeal.Gen.facts)
    (hProjRefIdeal := Cert.ProjRefIdeal.Gen.facts) := by
  intro m g m' g' _ hagree
  refine ⟨fun c => u m c, fun c => q m c, fun c => k m c, fun c => k m c, fun c => v m c, fun c => v m c, fun c => qi m c,
    fun c => ki m c, fun c => ki m c, fun c => wi m c, fun c => gs m c, fun c => ga m c, ?_, ?_⟩
  · refine (θ_run _ _ _).mono (fun r h c => ?_) (Cert.ProjIdeal.Value.run_blocks (F := Ideal) m g)
    obtain ⟨hu, hq, hk, hkb, hv, hvb, hqi, hki, hkib, hwi, hgs, hga, ha⟩ := h c
    exact ⟨hu.trans (arr_u m c), hq.trans (arr_q m c), hk.trans (arr_k m c), hkb.trans (arr_kb m c), hv.trans (arr_v m c),
      hvb.trans (arr_vb m c), hqi.trans (arr_qi m c), hki.trans (arr_ki m c), hkib.trans (arr_kib m c), hwi.trans (arr_wi m c),
      hgs.trans (arr_gs m c), hga.trans (arr_ga m c), ha⟩
  · refine (θ_run _ _ _).mono (fun r h c => ?_) (Cert.ProjRefIdeal.Value.run (F := Ideal) m' g')
    obtain ⟨hu, hq, hk, hkb, hv, hvb, hqi, hki, hkib, hwi, hgs, hga, ha⟩ := h c
    obtain ⟨e0, e1, e2⟩ := hagree c
    refine ⟨hu.trans ((val_main_v131_eq _ _ _).trans ?_), hq.trans ((val_main_v133_eq m' c).trans ?_),
      hk.trans ((val_main_v128_eq m' c).trans ?_), hkb.trans ((val_main_v134_eq m' c).trans ?_),
      hv.trans ((val_main_v129_eq _ _ _).trans ?_), hvb.trans ((val_main_v135_eq _ _ _).trans ?_),
      hqi.trans ((val_main_v137_eq m' c).trans ?_), hki.trans ((val_main_v130_eq m' c).trans ?_),
      hkib.trans ((val_main_v138_eq m' c).trans ?_), hwi.trans ((val_main_v139_eq _ _ _).trans ?_),
      hgs.trans ((val_main_v146_eq _ _ _).trans ?_), hga.trans ((val_main_v153_eq _ _ _).trans ?_), ha⟩ <;> rw [e0, e1, e2]
    · funext i; rw [eq_ix2 i]; exact Cert.ProjRefIdeal.Rows.u_apply _ _ _ (i 0) (i 1)
    · funext i; rw [eq_ix2 i]; exact Cert.ProjRefIdeal.Rows.q_apply _ _ _ (i 0) (i 1)
    · funext i; rw [eq_ix2 i]; exact Cert.ProjRefIdeal.Rows.k_apply _ _ _ (i 0) (i 1)
    · rw [Cert.ProjRefIdeal.Rows.kb_eq]; funext i; rw [eq_ix2 i]; exact Cert.ProjRefIdeal.Rows.k_apply _ _ _ (i 0) (i 1)
    · funext i; rw [eq_ix2 i]; exact Cert.ProjRefIdeal.Rows.v_apply _ _ _ (i 0) (i 1)
    · rw [Cert.ProjRefIdeal.Rows.vb_eq]; funext i; rw [eq_ix2 i]; exact Cert.ProjRefIdeal.Rows.v_apply _ _ _ (i 0) (i 1)
    · funext i; rw [eq_ix2 i]; exact Cert.ProjRefIdeal.Rows.qi_apply _ _ _ (i 0) (i 1)
    · funext i; rw [eq_ix2 i]; exact Cert.ProjRefIdeal.Rows.ki_apply _ _ _ (i 0) (i 1)
    · rw [Cert.ProjRefIdeal.Rows.kib_eq]; funext i; rw [eq_ix2 i]; exact Cert.ProjRefIdeal.Rows.ki_apply _ _ _ (i 0) (i 1)
    · funext i; rw [eq_ix2 i]; exact Cert.ProjRefIdeal.Rows.wi_apply _ _ _ (i 0) (i 1)
    · funext i; rw [eq_ix2 i]; exact Cert.ProjRefIdeal.Rows.gs_apply _ _ _ (i 0) (i 1)
    · funext i; rw [eq_ix2 i]; exact Cert.ProjRefIdeal.Rows.ga_apply _ _ _ (i 0) (i 1)

/-- The reference runs, leaves its arguments alone and ends with every counter at zero. -/
theorem frame_ref : Cert.quiescent_ProjRefIdeal (hProjRefIdeal := Cert.ProjRefIdeal.Gen.facts) := fun m ρ _ =>
  (θ_run Cert.ProjRefIdeal.defs _ _).mono (fun r h => ⟨fun c => (h c).2.2.2.2.2.2.2.2.2.2.2.2, sem_eq_zero_of_no_sems (by decide) r.2⟩)
    (Cert.ProjRefIdeal.Value.run (F := Ideal) m ρ)

end Cert.ProjValue

end
-- ==== Proof.ProjS.Block.lean ====
/- The projection of the sample: the one block its kernel computes, row by row.  A row of a result is spelled by the row
   functions that the prompt's call uses as well. -/
module

public import proofs.«01_k».proof.Proof.Proj.Spelled
public import proofs.«01_k».proof.Proof.Gen.ProjSIdeal.Frame
public import Idealize.ShloMosaic.Lib.Pointwise
public import Idealize.ShloMosaic.Lib.Pipeline.ValueKit

@[expose] public section

set_option maxRecDepth 16384

noncomputable section

namespace Cert.ProjSIdeal.Block

open Cert.ProjSIdeal Cert.ProjSIdeal.Gen Idealize.ShloMosaic Cert.LayerRow

variable (x0 : Vec Ideal S128x1024 .f32) (x1 : Vec Ideal S1x1024 .f32) (x2 : Vec Ideal S1024x3968 .bf16)
  (x3 x4 x5 : Vec Ideal S128x128 .f32) (r : Fin 128)

/-- The normed row `r`. -/
def hrow : Fin 1024 → EReal := rms (fun j => x0 (ix2 r j)) (fun j => x1 (ix2 0 j))

/-- The padded weights as a function of row and column. -/
def wts (a : Fin 1024) (b : Fin 3968) : EReal := x2 (ix2 a b)

/-- One group of columns from `o` on, rolled with the tables' row `r`. -/
def turn (o : ℕ) (ho : o + 128 ≤ 3968) (l : Fin 128) : EReal :=
  rolled (fun j => x3 (ix2 r j)) (fun j => x4 (ix2 r j)) (fun j => x5 (ix2 r j))
    (fun i => col (hrow x0 x1 r) (wts x2) ⟨o + i.1, by omega⟩) l

/-- The normed rows the body computes for the first store. -/
theorem norm_first (l : Fin 1024) : k0_pay3 x0 x1 (ix2 r l) = hrow x0 x1 r l := by
  pointwise [k0_pay3]
  rfl

/-- The normed rows as the later stores use them. -/
theorem norm_later (l : Fin 1024) : k0_pay29 x0 x1 x2 x3 x4 x5 (ix2 r l) = hrow x0 x1 r l := by
  unfold k0_pay29
  pointwise [k0_pay3]
  rfl

/-- The tables as the later stores use them. -/
theorem table_c (l : Fin 128) : k0_pay30 x0 x1 x2 x3 x4 x5 (ix2 r l) = x3 (ix2 r l) := by
  unfold k0_pay30
  pointwise [k0_pay4]

theorem table_a (l : Fin 128) : k0_pay31 x0 x1 x2 x3 x4 x5 (ix2 r l) = x4 (ix2 r l) := by
  unfold k0_pay31
  pointwise [k0_pay5]

theorem table_b (l : Fin 128) : k0_pay32 x0 x1 x2 x3 x4 x5 (ix2 r l) = x5 (ix2 r l) := by
  unfold k0_pay32
  pointwise [k0_pay6]

/-- Loading the whole of a window changes nothing. -/
theorem hrow_ld : hrow (View.ld x0 r0_0) (View.ld x1 r0_1) r = hrow x0 x1 r := by
  unfold hrow
  congr 1 <;> funext j <;> pointwise []

/-- Groups at equal offsets agree at equal lanes. -/
theorem turn_at {o o' : ℕ} (e : o = o') (ho : o + 128 ≤ 3968) (ho' : o' + 128 ≤ 3968) {l l' : Fin 128} (f : l.1 = l'.1) :
    turn x0 x1 x2 x3 x4 x5 r o ho l = turn x0 x1 x2 x3 x4 x5 r o' ho' l' := by
  subst e
  rw [Fin.ext f]

theorem u_row (l : Fin 512) : out0_6 x0 x1 x2 x3 x4 x5 (ix2 r l) = col (hrow x0 x1 r) (wts x2) ⟨l.1, by omega⟩ := by
  frame_out
  pointwise [k0_pay7]
  simp only [norm_first]
  rfl

/-- The queries: four groups of columns, each stored on its own. -/
theorem q_row (l : Fin 512) : out0_7 x0 x1 x2 x3 x4 x5 (ix2 r l)
    = turn x0 x1 x2 x3 x4 x5 r (512 + l.1 / 128 * 128) (by omega) ⟨l.1 % 128, by omega⟩ * Ideal.ofBits FTy.f32 0x3E000000#32 := by
  unfold out0_7
  canon_tiles y h
  all_goals
    idx_vars y
    obtain rfl : r = y0 := Fin.ext h0
    clear h0
    replace h1 : l.1 = _ := h1
  all_goals pointwise [k0_pay15, k0_pay14, k0_pay13, k0_pay12, k0_pay11, k0_pay10, k0_pay9, k0_pay8, k0_pay5, k0_pay4]
  all_goals simp only [norm_later, table_c, table_a, table_b, norm_first, hrow_ld]
  · exact Eq.trans rfl (congrArg (· * _) (turn_at x0 x1 x2 x3 x4 x5 r (o := 896) (l := y1) (by omega) (by decide) (by omega) (by simp only; omega)))
  · exact Eq.trans rfl (congrArg (· * _) (turn_at x0 x1 x2 x3 x4 x5 r (o := 768) (l := y1) (by omega) (by decide) (by omega) (by simp only; omega)))
  · exact Eq.trans rfl (congrArg (· * _) (turn_at x0 x1 x2 x3 x4 x5 r (o := 640) (l := y1) (by omega) (by decide) (by omega) (by simp only; omega)))
  · exact Eq.trans rfl (congrArg (· * _) (turn_at x0 x1 x2 x3 x4 x5 r (o := 512) (l := y1) (by omega) (by decide) (by omega) (by simp only; omega)))

theorem k_row (l : Fin 128) : out0_8 x0 x1 x2 x3 x4 x5 (ix2 r l) = turn x0 x1 x2 x3 x4 x5 r 1024 (by decide) l := by
  frame_out
  pointwise [k0_pay16]
  simp only [norm_later, table_c, table_a, table_b]
  rfl

theorem v_row (l : Fin 128) : out0_10 x0 x1 x2 x3 x4 x5 (ix2 r l) = col (hrow x0 x1 r) (wts x2) ⟨1152 + l.1, by omega⟩ := by
  frame_out
  pointwise [k0_pay18]
  simp only [norm_later]
  rfl

/-- The index queries: four groups of columns as well. -/
theorem qi_row (l : Fin 512) : out0_12 x0 x1 x2 x3 x4 x5 (ix2 r l)
    = turn x0 x1 x2 x3 x4 x5 r (1280 + l.1 / 128 * 128) (by omega) ⟨l.1 % 128, by omega⟩ := by
  unfold out0_12
  canon_tiles y h
  all_goals
    idx_vars y
    obtain rfl : r = y0 := Fin.ext h0
    clear h0
    replace h1 : l.1 = _ := h1
  all_goals pointwise [k0_pay23, k0_pay22, k0_pay21, k0_pay20]
  all_goals simp only [norm_later, table_c, table_a, table_b, norm_first, hrow_ld]
  · exact Eq.trans rfl (turn_at x0 x1 x2 x3 x4 x5 r (o := 1664) (l := y1) (by omega) (by decide) (by omega) (by simp only; omega))
  · exact Eq.trans rfl (turn_at x0 x1 x2 x3 x4 x5 r (o := 1536) (l := y1) (by omega) (by decide) (by omega) (by simp only; omega))
  · exact Eq.trans rfl (turn_at x0 x1 x2 x3 x4 x5 r (o := 1408) (l := y1) (by omega) (by decide) (by omega) (by simp only; omega))
  · exact Eq.trans rfl (turn_at x0 x1 x2 x3 x4 x5 r (o := 1280) (l := y1) (by omega) (by decide) (by omega) (by simp only; omega))

theorem ki_row (l : Fin 64) : out0_13 x0 x1 x2 x3 x4 x5 (ix2 r l) = turn x0 x1 x2 x3 x4 x5 r 1792 (by decide) ⟨l.1, by omega⟩ := by
  frame_out
  pointwise [k0_pay26, k0_pay25, k0_pay24]
  simp only [norm_later, table_c, table_a, table_b]
  exact keep l _ _

theorem wi_row (l : Fin 8) : out0_15 x0 x1 x2 x3 x4 x5 (ix2 r l)
    = col (hrow x0 x1 r) (wts x2) ⟨1856 + l.1, by omega⟩ * Ideal.ofBits FTy.f32 0x3EB504F3#32 := by
  frame_out
  pointwise [k0_pay28, k0_pay25, k0_pay24]
  simp only [norm_later]
  congr 1
  exact congrArg (col (hrow x0 x1 r) (wts x2)) (Fin.ext (show 1792 + (64 + l.1) = 1856 + l.1 by omega))

theorem gs_row (l : Fin 1024) : out0_16 x0 x1 x2 x3 x4 x5 (ix2 r l) = logistic (col (hrow x0 x1 r) (wts x2) ⟨1920 + l.1, by omega⟩) := by
  frame_out
  pointwise [k0_pay1]
  simp only [norm_later, zero_sub]
  rfl

theorem ga_row (l : Fin 1024) : out0_17 x0 x1 x2 x3 x4 x5 (ix2 r l) = logistic (col (hrow x0 x1 r) (wts x2) ⟨2944 + l.1, by omega⟩) := by
  frame_out
  pointwise [k0_pay2]
  simp only [norm_later, zero_sub]
  rfl

/-- The copies for the attention and the search hold the same numbers. -/
theorem copies : out0_9 x0 x1 x2 x3 x4 x5 = out0_8 x0 x1 x2 x3 x4 x5 ∧ out0_11 x0 x1 x2 x3 x4 x5 = out0_10 x0 x1 x2 x3 x4 x5
    ∧ out0_14 x0 x1 x2 x3 x4 x5 = out0_13 x0 x1 x2 x3 x4 x5 := ⟨rfl, rfl, rfl⟩

end Cert.ProjSIdeal.Block

end
-- ==== Proof.ProjS.Host.lean ====
/- The projection of the sample: what the kernel is handed.  The tables are those of position 8192 in every row, the
   weights are padded, and the one block is the whole of each array. -/
module

public import proofs.«01_k».proof.Proof.ProjS.Block
public import proofs.«01_k».proof.Proof.Gen.ProjSIdeal.Value
public import Idealize.ShloMosaic.Lib.StableHlo.ReadAt

@[expose] public section

set_option maxRecDepth 16384

noncomputable section

namespace Cert.ProjSIdeal.Block

open Cert.ProjSIdeal Cert.ProjSIdeal.Gen Idealize.ShloMosaic Idealize.ShloMosaic.TcCoe Idealize.SL.Sem Cert.LayerRow

variable (m : (ℓ : Loc nD τ sig) → Buf (Elt Ideal) ℓ) (c : Dev nD)

/-- The normed row `i` of the sample. -/
def normed (i : Fin 128) : Fin 1024 → EReal :=
  rms (fun j => m ((c : Thread nD τ).loc main_arg0) (ix3 i 0 j)) (fun j => m ((c : Thread nD τ).loc main_arg1) (ix1 j))

/-- The projection's weights. -/
def weights (a : Fin 1024) (b : Fin 3912) : EReal := m ((c : Thread nD τ).loc main_arg2) (ix2 a b)

/-- The weights the kernel is given are the padded ones. -/
theorem given_weights (a : Fin 1024) (b : Fin 3968) : V m c main_v36 (ix2 a b) = padded (weights m c) a b := by
  unfold V padded weights
  after_reads_at
  split
  · after_reads_at
  · by_cases h : b.1 < 1920
    · rw [dif_pos (by omega), dif_pos h]
      after_reads_at
    · rw [dif_neg (by omega), dif_neg h]
      after_reads_at
      exact congrArg (fun k => m ((c : Thread nD τ).loc main_arg2) (ix2 a k)) (Fin.ext (show 1864 + (b.1 - 1864 - 56) = b.1 - 56 by omega))

/-- The table of cosines. -/
theorem given_c (a b : Fin 128) : V m c main_v25 (ix2 a b) = tabC 8192#32 b := by
  unfold V tabC angle
  after_reads_at
  split
  · after_reads_at
  · by_cases h : b.1 % 64 < 16
    · rw [dif_pos (by omega), dif_pos h]
      after_reads_at
    · rw [dif_neg (by omega), dif_neg h]
      after_reads_at

/-- The table of negated sines, for the first eight of a head. -/
theorem given_a (a b : Fin 128) : V m c main_v28 (ix2 a b) = tabA 8192#32 b := by
  unfold V tabA angle
  after_reads_at
  split
  · after_reads_at
  · by_cases h : b.1 % 64 < 16
    · rw [dif_pos (by omega)]
      after_reads_at
    · rw [dif_neg (by omega)]
      after_reads_at

/-- The table of sines, for the next eight. -/
theorem given_b (a b : Fin 128) : V m c main_v31 (ix2 a b) = tabB 8192#32 b := by
  unfold V tabB angle
  after_reads_at
  split
  · after_reads_at
  · by_cases h : b.1 % 64 < 16
    · rw [dif_pos (by omega), dif_pos h]
      after_reads_at
    · rw [dif_neg (by omega), dif_neg h]
      after_reads_at

/-- Where the blocks lie: every one at the beginning of its array. -/
theorem idx_in : ∀ t : Fin cfg0.N, win0_0.index t = ![0, 0] ∧ win0_1.index t = ![0, 0] ∧ win0_2.index t = ![0, 0]
    ∧ win0_3.index t = ![0, 0] ∧ win0_4.index t = ![0, 0] ∧ win0_5.index t = ![0, 0] :=
  (by decide +kernel : ∀ t : Fin grid0.N, _)

variable (t : Fin cfg0.N) (r : Fin 128)

theorem hrow_blk : hrow (iblk m c 0 t) (iblk m c 1 t) r = normed m c r := by
  obtain ⟨e0, e1, -⟩ := idx_in t
  unfold hrow normed
  congr 1
  · funext j; blk_point [iblk, V, e0]
  · funext j; blk_point [iblk, V, e1]

theorem wts_blk : wts (iblk m c 2 t) = padded (weights m c) := by
  have e := (idx_in t).2.2.1
  funext a b
  rw [← given_weights]
  unfold wts
  blk_point [iblk, e]

/-- The rolled columns of row `r` are those with the tables of position 8192. -/
theorem turn_blk (o : ℕ) (ho : o + 128 ≤ 3968) (l : Fin 128) :
    turn (iblk m c 0 t) (iblk m c 1 t) (iblk m c 2 t) (iblk m c 3 t) (iblk m c 4 t) (iblk m c 5 t) r o ho l
      = turned 8192#32 (normed m c r) (weights m c) o ho l := by
  obtain ⟨-, -, -, e3, e4, e5⟩ := idx_in t
  unfold turn turned
  rw [hrow_blk, wts_blk]
  congr 1
  · funext j; rw [← given_c m c r j]; blk_point [iblk, e3]
  · funext j; rw [← given_a m c r j]; blk_point [iblk, e4]
  · funext j; rw [← given_b m c r j]; blk_point [iblk, e5]

end Cert.ProjSIdeal.Block

end
-- ==== Proof.ProjS.Arrays.lean ====
/- The projection of the sample: the kernel's result arrays after its run, row by row. -/
module

public import proofs.«01_k».proof.Proof.ProjS.Host

@[expose] public section

set_option maxRecDepth 16384

noncomputable section

namespace Cert.ProjSIdeal.Block

open Cert.ProjSIdeal Cert.ProjSIdeal.Gen Idealize.ShloMosaic Idealize.ShloMosaic.TcCoe Idealize.SL.Sem Cert.LayerRow

variable (m : (ℓ : Loc nD τ sig) → Buf (Elt Ideal) ℓ) (c : Dev nD)

/-- Where the result blocks lie: each at the beginning of its array. -/
theorem idx_out : ∀ t : Fin cfg0.N, win0_6.index t = ![0, 0] ∧ win0_7.index t = ![0, 0] ∧ win0_8.index t = ![0, 0]
    ∧ win0_9.index t = ![0, 0] ∧ win0_10.index t = ![0, 0] ∧ win0_11.index t = ![0, 0] ∧ win0_12.index t = ![0, 0]
    ∧ win0_13.index t = ![0, 0] ∧ win0_14.index t = ![0, 0] ∧ win0_15.index t = ![0, 0] ∧ win0_16.index t = ![0, 0]
    ∧ win0_17.index t = ![0, 0] :=
  (by decide +kernel : ∀ t : Fin grid0.N, _)

/-- A row function of the normed rows, row by row. -/
def rows {n : ℕ} (f : (Fin 1024 → EReal) → (Fin 1024 → Fin 3912 → EReal) → Fin n → EReal) (i : Fin 128) (l : Fin n) : EReal :=
  f (normed m c i) (weights m c) l

/-- An element of the block is the element of the array with the same row and column. -/
theorem same {n : ℕ} (f : Fin 128 → Fin n → EReal) (r i : Fin 128) (l l' : Fin n) (h0 : r.1 = i.1) (h1 : l.1 = l'.1) : f r l = f i l' :=
  congrArg₂ f (Fin.ext h0) (Fin.ext h1)

/-- The state-space branch's input. -/
def u : Vec Ideal S128x512 .f32 := fun i => rows m c projU (i 0) (i 1)

theorem arr_u : (dats m 0 c).arrAt 6 cfg0.N = u m c := by
  refine (dats m 0 c).arrAt_eq_of_covers 6 _ (by decide +kernel) fun t hf y => ?_
  blk_simp
  rw [after0_6]
  idx_vars y
  have e := (idx_out t).1
  rw [u_row, hrow_blk, wts_blk, u_spelled]
  exact same (rows m c projU) y0 _ y1 _ (by blk_simp [e]) (by blk_simp [e])

/-- The queries, at position 8192 like every rotated result. -/
def q : Vec Ideal S128x512 .bf16 := fun i => rows m c (projQ 8192#32) (i 0) (i 1)

theorem arr_q : (dats m 0 c).arrAt 7 cfg0.N = q m c := by
  refine (dats m 0 c).arrAt_eq_of_covers 7 _ (by decide +kernel) fun t hf y => ?_
  blk_simp
  rw [after0_7]
  idx_vars y
  have e := (idx_out t).2.1
  rw [q_row, turn_blk, q_spelled]
  exact same (rows m c (projQ 8192#32)) y0 _ y1 _ (by blk_simp [e]) (by blk_simp [e])

/-- The keys, and those for the attention. -/
def k : Vec Ideal S128x128 .f32 := fun i => rows m c (projK 8192#32) (i 0) (i 1)

theorem arr_k : (dats m 0 c).arrAt 8 cfg0.N = k m c := by
  refine (dats m 0 c).arrAt_eq_of_covers 8 _ (by decide +kernel) fun t hf y => ?_
  blk_simp
  rw [after0_8]
  idx_vars y
  have e := (idx_out t).2.2.1
  rw [k_row, turn_blk, k_spelled]
  exact same (rows m c (projK 8192#32)) y0 _ y1 _ (by blk_simp [e]) (by blk_simp [e])

theorem arr_kb : (dats m 0 c).arrAt 9 cfg0.N = k m c := by
  refine (dats m 0 c).arrAt_eq_of_covers 9 _ (by decide +kernel) fun t hf y => ?_
  blk_simp
  rw [after0_9, (copies _ _ _ _ _ _).1]
  idx_vars y
  have e := (idx_out t).2.2.2.1
  rw [k_row, turn_blk, k_spelled]
  exact same (rows m c (projK 8192#32)) y0 _ y1 _ (by blk_simp [e]) (by blk_simp [e])

/-- The values, and those for the attention. -/
def v : Vec Ideal S128x128 .f32 := fun i => rows m c projV (i 0) (i 1)

theorem arr_v : (dats m 0 c).arrAt 10 cfg0.N = v m c := by
  refine (dats m 0 c).arrAt_eq_of_covers 10 _ (by decide +kernel) fun t hf y => ?_
  blk_simp
  rw [after0_10]
  idx_vars y
  have e := (idx_out t).2.2.2.2.1
  rw [v_row, hrow_blk, wts_blk, v_spelled]
  exact same (rows m c projV) y0 _ y1 _ (by blk_simp [e]) (by blk_simp [e])

theorem arr_vb : (dats m 0 c).arrAt 11 cfg0.N = v m c := by
  refine (dats m 0 c).arrAt_eq_of_covers 11 _ (by decide +kernel) fun t hf y => ?_
  blk_simp
  rw [after0_11, (copies _ _ _ _ _ _).2.1]
  idx_vars y
  have e := (idx_out t).2.2.2.2.2.1
  rw [v_row, hrow_blk, wts_blk, v_spelled]
  exact same (rows m c projV) y0 _ y1 _ (by blk_simp [e]) (by blk_simp [e])

/-- The index queries. -/
def qi : Vec Ideal S128x512 .bf16 := fun i => rows m c (projQi 8192#32) (i 0) (i 1)

theorem arr_qi : (dats m 0 c).arrAt 12 cfg0.N = qi m c := by
  refine (dats m 0 c).arrAt_eq_of_covers 12 _ (by decide +kernel) fun t hf y => ?_
  blk_simp
  rw [after0_12]
  idx_vars y
  have e := (idx_out t).2.2.2.2.2.2.1
  rw [qi_row, turn_blk, qi_spelled]
  exact same (rows m c (projQi 8192#32)) y0 _ y1 _ (by blk_simp [e]) (by blk_simp [e])

/-- The index keys, and those for the search. -/
def ki : Vec Ideal S128x64 .f32 := fun i => rows m c (projKi 8192#32) (i 0) (i 1)

theorem arr_ki : (dats m 0 c).arrAt 13 cfg0.N = ki m c := by
  refine (dats m 0 c).arrAt_eq_of_covers 13 _ (by decide +kernel) fun t hf y => ?_
  blk_simp
  rw [after0_13]
  idx_vars y
  have e := (idx_out t).2.2.2.2.2.2.2.1
  rw [ki_row, turn_blk, ki_spelled]
  exact same (rows m c (projKi 8192#32)) y0 _ y1 _ (by blk_simp [e]) (by blk_simp [e])

theorem arr_kib : (dats m 0 c).arrAt 14 cfg0.N = ki m c := by
  refine (dats m 0 c).arrAt_eq_of_covers 14 _ (by decide +kernel) fun t hf y => ?_
  blk_simp
  rw [after0_14, (copies _ _ _ _ _ _).2.2]
  idx_vars y
  have e := (idx_out t).2.2.2.2.2.2.2.2.1
  rw [ki_row, turn_blk, ki_spelled]
  exact same (rows m c (projKi 8192#32)) y0 _ y1 _ (by blk_simp [e]) (by blk_simp [e])

/-- The index heads' weights. -/
def wi : Vec Ideal S128x8 .f32 := fun i => rows m c projWi (i 0) (i 1)

theorem arr_wi : (dats m 0 c).arrAt 15 cfg0.N = wi m c := by
  refine (dats m 0 c).arrAt_eq_of_covers 15 _ (by decide +kernel) fun t hf y => ?_
  blk_simp
  rw [after0_15]
  idx_vars y
  have e := (idx_out t).2.2.2.2.2.2.2.2.2.1
  rw [wi_row, hrow_blk, wts_blk, wi_spelled]
  exact same (rows m c projWi) y0 _ y1 _ (by blk_simp [e]) (by blk_simp [e])

/-- The gates of the state-space branch. -/
def gs : Vec Ideal S128x1024 .f32 := fun i => rows m c projGs (i 0) (i 1)

theorem arr_gs : (dats m 0 c).arrAt 16 cfg0.N = gs m c := by
  refine (dats m 0 c).arrAt_eq_of_covers 16 _ (by decide +kernel) fun t hf y => ?_
  blk_simp
  rw [after0_16]
  idx_vars y
  have e := (idx_out t).2.2.2.2.2.2.2.2.2.2.1
  rw [gs_row, hrow_blk, wts_blk, gs_spelled]
  exact same (rows m c projGs) y0 _ y1 _ (by blk_simp [e]) (by blk_simp [e])

/-- The gates of the attention branch. -/
def ga : Vec Ideal S128x1024 .f32 := fun i => rows m c projGa (i 0) (i 1)

theorem arr_ga : (dats m 0 c).arrAt 17 cfg0.N = ga m c := by
  refine (dats m 0 c).arrAt_eq_of_covers 17 _ (by decide +kernel) fun t hf y => ?_
  blk_simp
  rw [after0_17]
  idx_vars y
  have e := (idx_out t).2.2.2.2.2.2.2.2.2.2.2
  rw [ga_row, hrow_blk, wts_blk, ga_spelled]
  exact same (rows m c projGa) y0 _ y1 _ (by blk_simp [e]) (by blk_simp [e])

end Cert.ProjSIdeal.Block

end
-- ==== Proof.ProjS.Ref.lean ====
/- The plain reference of the sample's projection, read at a row: each of its results is the row function of that row at
   position 8192. -/
module

public import proofs.«01_k».proof.Proof.Proj.Spelled
public import proofs.«01_k».proof.Proof.Gen.ProjSRefIdeal.Read
public import Idealize.ShloMosaic.Lib.Pointwise

@[expose] public section

set_option maxRecDepth 16384

noncomputable section

namespace Cert.ProjSRefIdeal.Rows

open Cert.ProjSRefIdeal Cert.ProjSRefIdeal.Read Idealize.ShloMosaic Cert.LayerRow

variable (x0 : Vec Ideal S128x1x1024 .f32) (x1 : Vec Ideal S1024 .f32) (x2 : Vec Ideal S1024x3912 .f32) (r : Fin 128)

/-- The normed row `r` of the sample. -/
def normed : Fin 1024 → EReal := rms (fun j => x0 (ix3 r 0 j)) (fun j => x1 (ix1 j))

/-- The weights. -/
def weights (a : Fin 1024) (b : Fin 3912) : EReal := x2 (ix2 a b)

/-- The angles at the sample's one position. -/
theorem angles (j : Fin 8) : val_main_v36 (F := Ideal) (ix2 0 j) = angle 8192#32 j := by
  pointwise [val_main_v36, val_main_v35, val_main_v34, val_main_v33, val_main_v32, val_main_v31, val_main_v30, val_main_v29,
    val_main_v28, val_main_v27, val_main_v26, val_main_v2, val_main_v1, val_main_v0, val_main_c, val_main_cst_2, val_main_cst_3]
  rfl

theorem cosines (j : Fin 8) : val_main_v38 (F := Ideal) (ix3 0 0 j) = Ideal.cos (angle 8192#32 j) := by
  pointwise [val_main_v38, val_main_v37]
  exact congrArg Ideal.cos (angles j)

theorem sines (j : Fin 8) : val_main_v40 (F := Ideal) (ix3 0 0 j) = Ideal.sin (angle 8192#32 j) := by
  pointwise [val_main_v40, val_main_v39]
  exact congrArg Ideal.sin (angles j)

/-- The product of the normed rows and the weights. -/
theorem product (o : Fin 3912) : val_main_v16 (F := Ideal) x0 x1 x2 (ix3 r 0 o) = col (normed x0 x1 r) (weights x2) o := by
  pointwise [val_main_v16, val_main_v15, val_main_v14, val_main_v13, val_main_v12, val_main_v11, val_main_v10, val_main_v9,
    val_main_v8, val_main_v7, val_main_v6, val_main_v5, val_main_v4, val_main_v3, val_main_cst, val_main_cst_0, val_main_cst_1]
  rfl

theorem u_row (l : Fin 512) : val_main_v132 (F := Ideal) x0 x1 x2 (ix2 r l) = projU (normed x0 x1 r) (weights x2) l := by
  pointwise [val_main_v132, val_main_v17]
  rw [product]
  exact congrArg (col (normed x0 x1 r) (weights x2)) (Fin.ext (show l.1 = 0 + l.1 by omega))

theorem q_row (l : Fin 512) : val_main_v134 (F := Ideal) x0 x1 x2 (ix2 r l) = projQ 8192#32 (normed x0 x1 r) (weights x2) l := by
  pointwise [val_main_v134, val_main_v133, val_main_v63, val_main_v62, val_main_v61, val_main_v60, val_main_v59, val_main_v58,
    val_main_v57, val_main_v56, val_main_v55, val_main_v54, val_main_v53, val_main_v52, val_main_v51, val_main_v50, val_main_v49,
    val_main_v48, val_main_v47, val_main_v46, val_main_v45, val_main_v44, val_main_v43, val_main_v42, val_main_v41, val_main_v18,
    val_main_cst_4]
  simp only [cosines, sines, product]
  exact congrArg (· * Ideal.ofBits FTy.f32 0x3E000000#32) (head_at 8192#32 (col (normed x0 x1 r) (weights x2)) 512 l.1 (by omega))

theorem k_row (l : Fin 128) : val_main_v129 (F := Ideal) x0 x1 x2 (ix2 r l) = projK 8192#32 (normed x0 x1 r) (weights x2) l := by
  pointwise [val_main_v129, val_main_v84, val_main_v83, val_main_v82, val_main_v81, val_main_v80, val_main_v79, val_main_v78,
    val_main_v77, val_main_v76, val_main_v75, val_main_v74, val_main_v73, val_main_v72, val_main_v71, val_main_v70, val_main_v69,
    val_main_v68, val_main_v67, val_main_v66, val_main_v65, val_main_v64, val_main_v19]
  simp only [cosines, sines, product]
  exact head_at 8192#32 (col (normed x0 x1 r) (weights x2)) 1024 l.1 (by omega)

theorem v_row (l : Fin 128) : val_main_v130 (F := Ideal) x0 x1 x2 (ix2 r l) = projV (normed x0 x1 r) (weights x2) l := by
  pointwise [val_main_v130, val_main_v20]
  exact product _ _ _ _ _

theorem qi_row (l : Fin 512) : val_main_v138 (F := Ideal) x0 x1 x2 (ix2 r l) = projQi 8192#32 (normed x0 x1 r) (weights x2) l := by
  pointwise [val_main_v138, val_main_v137, val_main_v105, val_main_v104, val_main_v103, val_main_v102, val_main_v101,
    val_main_v100, val_main_v99, val_main_v98, val_main_v97, val_main_v96, val_main_v95, val_main_v94, val_main_v93, val_main_v92,
    val_main_v91, val_main_v90, val_main_v89, val_main_v88, val_main_v87, val_main_v86, val_main_v85, val_main_v21]
  simp only [cosines, sines, product]
  exact head_at 8192#32 (col (normed x0 x1 r) (weights x2)) 1280 l.1 (by omega)

theorem ki_row (l : Fin 64) : val_main_v131 (F := Ideal) x0 x1 x2 (ix2 r l) = projKi 8192#32 (normed x0 x1 r) (weights x2) l := by
  pointwise [val_main_v131, val_main_v126, val_main_v125, val_main_v124, val_main_v123, val_main_v122, val_main_v121,
    val_main_v120, val_main_v119, val_main_v118, val_main_v117, val_main_v116, val_main_v115, val_main_v114, val_main_v113,
    val_main_v112, val_main_v111, val_main_v110, val_main_v109, val_main_v108, val_main_v107, val_main_v106, val_main_v22]
  simp only [cosines, sines, product]
  exact head_one 8192#32 (col (normed x0 x1 r) (weights x2)) 1792 l.1 (by omega) (by omega)

theorem wi_row (l : Fin 8) : val_main_v140 (F := Ideal) x0 x1 x2 (ix2 r l) = projWi (normed x0 x1 r) (weights x2) l := by
  pointwise [val_main_v140, val_main_v128, val_main_v127, val_main_v23, val_main_cst_5]
  exact congrArg (· * Ideal.ofBits FTy.f32 0x3EB504F3#32) (product _ _ _ _ _)

theorem gs_row (l : Fin 1024) : val_main_v147 (F := Ideal) x0 x1 x2 (ix2 r l) = projGs (normed x0 x1 r) (weights x2) l := by
  pointwise [val_main_v147, val_main_v146, val_main_v145, val_main_v144, val_main_v143, val_main_v142, val_main_v141, val_main_v24,
    val_main_cst_6, val_main_cst_7]
  exact congrArg logistic (product _ _ _ _ _)

theorem ga_row (l : Fin 1024) : val_main_v154 (F := Ideal) x0 x1 x2 (ix2 r l) = projGa (normed x0 x1 r) (weights x2) l := by
  pointwise [val_main_v154, val_main_v153, val_main_v152, val_main_v151, val_main_v150, val_main_v149, val_main_v148, val_main_v25,
    val_main_cst_8, val_main_cst_9]
  exact congrArg logistic (product _ _ _ _ _)

/-- The copies for the attention and the search hold the same numbers. -/
theorem copies : val_main_v135 (F := Ideal) x0 x1 x2 = val_main_v129 (F := Ideal) x0 x1 x2
    ∧ val_main_v136 (F := Ideal) x0 x1 x2 = val_main_v130 (F := Ideal) x0 x1 x2
    ∧ val_main_v139 (F := Ideal) x0 x1 x2 = val_main_v131 (F := Ideal) x0 x1 x2 := ⟨rfl, rfl, rfl⟩

end Cert.ProjSRefIdeal.Rows

end
-- ==== Proof.ProjS.Equation.lean ====
/- The sample's projection: the kernel and the reference end with the same twelve arrays. -/
module

public import proofs.«01_k».proof.Proof.ProjS.Arrays
public import proofs.«01_k».proof.Proof.ProjS.Ref
public import proofs.«01_k».proof.Proof.Gen.ProjSRefIdeal.Run
public import proofs.«01_k».proof.Defs
public import Idealize.ShloMosaic.Lib.Quiescent

@[expose] public section

set_option maxRecDepth 16384

noncomputable section

namespace Cert.ProjSValue

open Idealize.ShloMosaic Idealize.ShloMosaic.TcCoe Idealize.SL.Sem Cert.ProjSRefIdeal.Read

section

open Cert.ProjSRefIdeal.Rows

variable (m : (ℓ : Loc Cert.ProjSIdeal.nD Cert.ProjSIdeal.τ Cert.ProjSIdeal.sig) → Buf (Elt Ideal) ℓ) (c : Dev Cert.ProjSIdeal.nD)

/-- The reference's keys on the kernel's arguments are the kernel's. -/
theorem keys : val_main_v129 (F := Ideal) (m ((c : Thread Cert.ProjSIdeal.nD Cert.ProjSIdeal.τ).loc Cert.ProjSIdeal.main_arg0))
    (m ((c : Thread Cert.ProjSIdeal.nD Cert.ProjSIdeal.τ).loc Cert.ProjSIdeal.main_arg1))
    (m ((c : Thread Cert.ProjSIdeal.nD Cert.ProjSIdeal.τ).loc Cert.ProjSIdeal.main_arg2)) = Cert.ProjSIdeal.Block.k m c := by
  funext i; rw [eq_ix2 i]; exact k_row _ _ _ (i 0) (i 1)

/-- So are its values. -/
theorem values : val_main_v130 (F := Ideal) (m ((c : Thread Cert.ProjSIdeal.nD Cert.ProjSIdeal.τ).loc Cert.ProjSIdeal.main_arg0))
    (m ((c : Thread Cert.ProjSIdeal.nD Cert.ProjSIdeal.τ).loc Cert.ProjSIdeal.main_arg1))
    (m ((c : Thread Cert.ProjSIdeal.nD Cert.ProjSIdeal.τ).loc Cert.ProjSIdeal.main_arg2)) = Cert.ProjSIdeal.Block.v m c := by
  funext i; rw [eq_ix2 i]; exact v_row _ _ _ (i 0) (i 1)

/-- And its index keys. -/
theorem index_keys : val_main_v131 (F := Ideal) (m ((c : Thread Cert.ProjSIdeal.nD Cert.ProjSIdeal.τ).loc Cert.ProjSIdeal.main_arg0))
    (m ((c : Thread Cert.ProjSIdeal.nD Cert.ProjSIdeal.τ).loc Cert.ProjSIdeal.main_arg1))
    (m ((c : Thread Cert.ProjSIdeal.nD Cert.ProjSIdeal.τ).loc Cert.ProjSIdeal.main_arg2)) = Cert.ProjSIdeal.Block.ki m c := by
  funext i; rw [eq_ix2 i]; exact ki_row _ _ _ (i 0) (i 1)

end

open Cert.ProjSIdeal.Block

/-- The value claim: from memories that agree on the arguments the kernel and the reference end with equal results. -/
theorem algebraic : Cert.algebraic_ProjSIdeal_ProjSRefIdeal (hProjSIdeal := Cert.ProjSIdeal.Gen.facts)
    (hProjSRefIdeal := Cert.ProjSRefIdeal.Gen.facts) := by
  intro m g m' g' _ hagree
  refine ⟨fun c => u m c, fun c => q m c, fun c => k m c, fun c => k m c, fun c => v m c, fun c => v m c, fun c => qi m c,
    fun c => ki m c, fun c => ki m c, fun c => wi m c, fun c => gs m c, fun c => ga m c, ?_, ?_⟩
  · refine (θ_run _ _ _).mono (fun r h c => ?_) (Cert.ProjSIdeal.Value.run_blocks (F := Ideal) m g)
    obtain ⟨hu, hq, hk, hkb, hv, hvb, hqi, hki, hkib, hwi, hgs, hga, ha⟩ := h c
    exact ⟨hu.trans (arr_u m c), hq.trans (arr_q m c), hk.trans (arr_k m c), hkb.trans (arr_kb m c), hv.trans (arr_v m c),
      hvb.trans (arr_vb m c), hqi.trans (arr_qi m c), hki.trans (arr_ki m c), hkib.trans (arr_kib m c), hwi.trans (arr_wi m c),
      hgs.trans (arr_gs m c), hga.trans (arr_ga m c), ha⟩
  · refine (θ_run _ _ _).mono (fun r h c => ?_) (Cert.ProjSRefIdeal.Value.run (F := Ideal) m' g')
    obtain ⟨hu, hq, hk, hkb, hv, hvb, hqi, hki, hkib, hwi, hgs, hga, ha⟩ := h c
    obtain ⟨e0, e1, e2⟩ := hagree c
    refine ⟨hu.trans ((val_main_v132_eq _ _ _).trans ?_), hq.trans ((val_main_v134_eq m' c).trans ?_),
      hk.trans ((val_main_v129_eq m' c).trans ?_), hkb.trans ((val_main_v135_eq m' c).trans ?_),
      hv.trans ((val_main_v130_eq _ _ _).trans ?_), hvb.trans ((val_main_v136_eq _ _ _).trans ?_),
      hqi.trans ((val_main_v138_eq m' c).trans ?_), hki.trans ((val_main_v131_eq m' c).trans ?_),
      hkib.trans ((val_main_v139_eq m' c).trans ?_), hwi.trans ((val_main_v140_eq _ _ _).trans ?_),
      hgs.trans ((val_main_v147_eq _ _ _).trans ?_), hga.trans ((val_main_v154_eq _ _ _).trans ?_), ha⟩ <;> rw [e0, e1, e2]
    · funext i; rw [eq_ix2 i]; exact Cert.ProjSRefIdeal.Rows.u_row _ _ _ (i 0) (i 1)
    · funext i; rw [eq_ix2 i]; exact Cert.ProjSRefIdeal.Rows.q_row _ _ _ (i 0) (i 1)
    · exact keys m c
    · rw [(Cert.ProjSRefIdeal.Rows.copies _ _ _).1]; exact keys m c
    · exact values m c
    · rw [(Cert.ProjSRefIdeal.Rows.copies _ _ _).2.1]; exact values m c
    · funext i; rw [eq_ix2 i]; exact Cert.ProjSRefIdeal.Rows.qi_row _ _ _ (i 0) (i 1)
    · exact index_keys m c
    · rw [(Cert.ProjSRefIdeal.Rows.copies _ _ _).2.2]; exact index_keys m c
    · funext i; rw [eq_ix2 i]; exact Cert.ProjSRefIdeal.Rows.wi_row _ _ _ (i 0) (i 1)
    · funext i; rw [eq_ix2 i]; exact Cert.ProjSRefIdeal.Rows.gs_row _ _ _ (i 0) (i 1)
    · funext i; rw [eq_ix2 i]; exact Cert.ProjSRefIdeal.Rows.ga_row _ _ _ (i 0) (i 1)

/-- The reference runs, leaves its arguments alone and ends with every counter at zero. -/
theorem frame_ref : Cert.quiescent_ProjSRefIdeal (hProjSRefIdeal := Cert.ProjSRefIdeal.Gen.facts) := fun m ρ _ =>
  (θ_run Cert.ProjSRefIdeal.defs _ _).mono (fun r h => ⟨fun c => (h c).2.2.2.2.2.2.2.2.2.2.2.2, sem_eq_zero_of_no_sems (by decide) r.2⟩)
    (Cert.ProjSRefIdeal.Value.run (F := Ideal) m ρ)

end Cert.ProjSValue

end
-- ==== Proof.ScanS.Row.lean ====
/- One step of the state-space branch from given states, as plain functions of its arguments. Kernel and reference are
   both read down to these. Nothing is asked of the arguments: sums of extended reals may be taken in any order. -/
module

public import proofs.«01_k».proof.Proof.Scan.Gate

@[expose] public section

noncomputable section

namespace Cert.StepRow

open Idealize.ShloMosaic Cert.ScanRow Cert.ScanIdeal.Blk

/-- The arguments: the input, the states before the step, and the parameters (real and imaginary parts). -/
structure Args where
  u : Fin 128 → Fin 512 → EReal
  sr : Fin 128 → Fin 32 → Fin 64 → EReal
  si : Fin 128 → Fin 32 → Fin 64 → EReal
  ar : Fin 32 → Fin 64 → EReal
  ai : Fin 32 → Fin 64 → EReal
  br : Fin 32 → Fin 64 → Fin 16 → EReal
  bi : Fin 32 → Fin 64 → Fin 16 → EReal
  cr : Fin 32 → Fin 16 → Fin 64 → EReal
  ci : Fin 32 → Fin 16 → Fin 64 → EReal
  d : Fin 512 → EReal
  w : Fin 512 → Fin 2048 → EReal
  bg : Fin 2048 → EReal

variable (A : Args) (b : Fin 128)

/-- The real part of the new state. -/
def Args.re (g : Fin 32) (p : Fin 64) : EReal :=
  ∑ k : Fin 16, A.u b (chan g k) * A.br g p k + (A.ar g p * A.sr b g p - A.ai g p * A.si b g p)

/-- The imaginary part of the new state. -/
def Args.im (g : Fin 32) (p : Fin 64) : EReal :=
  ∑ k : Fin 16, A.u b (chan g k) * A.bi g p k + (A.ar g p * A.si b g p + A.ai g p * A.sr b g p)

/-- The readout of a channel: the real part of the output map times the state, with the direct term. -/
def Args.y (q : Fin 512) : EReal :=
  ∑ p : Fin 64, (A.cr (cgrp q) (cpos q) p * A.re b (cgrp q) p - A.ci (cgrp q) (cpos q) p * A.im b (cgrp q) p) + A.d q * A.u b q

/-- The output. -/
def Args.out (j : Fin 1024) : EReal := glu (A.y b) A.w A.bg j

/-- The mask on one side of the spread input map: outside its group a column is zero. -/
theorem spread_step (u : Fin 512 → EReal) (B : Fin 32 → Fin 64 → Fin 16 → EReal) (l : Fin 2048) :
    ∑ q : Fin 512, u q * (B (cgrp q) (pos l) (cpos q) * if q.val / 16 = l.val / 64 then (1 : EReal) else 0)
      = ∑ k : Fin 16, u (chan (grp l) k) * B (grp l) (pos l) k := by
  refine spread_in u _ (fun k => B (grp l) (pos l) k) (grp l) fun q => ?_
  split
  · next e => rw [mul_one]; exact congrArg (fun g => B g (pos l) (cpos q)) (Fin.ext e)
  · next e => rw [mul_zero]

/-- The same on the side of the output map. -/
theorem spread_read (h : Fin 32 → Fin 64 → EReal) (C : Fin 32 → Fin 16 → Fin 64 → EReal) (q : Fin 512) :
    ∑ l : Fin 2048, h (grp l) (pos l) * (C (grp l) (cpos q) (pos l) * if l.val / 64 = q.val / 16 then (1 : EReal) else 0)
      = ∑ p : Fin 64, h (cgrp q) p * C (cgrp q) (cpos q) p := by
  refine spread_out (fun l => h (grp l) (pos l)) _ (cgrp q) (h (cgrp q)) (C (cgrp q) (cpos q))
    (fun l e => congrArg (fun g => h g (pos l)) (Fin.ext e)) fun l => ?_
  split
  · next e => rw [mul_one]; exact congrArg (fun g => C g (cpos q) (pos l)) (Fin.ext e)
  · next e => rw [mul_zero]

/-- The readout from the two products, the one over the imaginary parts with its map negated. -/
theorem Args.y_of_products (q : Fin 512) :
    ∑ p : Fin 64, A.re b (cgrp q) p * A.cr (cgrp q) (cpos q) p + ∑ p : Fin 64, A.im b (cgrp q) p * -A.ci (cgrp q) (cpos q) p
      + A.d q * A.u b q = A.y b q := by
  unfold Args.y
  rw [← Finset.sum_add_distrib]
  refine congrArg (fun s : EReal => s + A.d q * A.u b q) (Finset.sum_congr rfl fun p _ => ?_)
  rw [mul_comm (A.re b _ p), mul_neg, mul_comm (A.im b _ p), sub_eq_add_neg]

end Cert.StepRow

end
-- ==== Proof.ScanS.Kernel.lean ====
/- The state-space kernel on the sample: one step from given states, in one grid point over whole arrays. -/
module

public import proofs.«01_k».proof.Proof.ScanS.Row
public import proofs.«01_k».proof.Proof.Gen.ScanSIdeal.Value
public import Idealize.ShloMosaic.Lib.Pointwise
public import Idealize.ShloMosaic.Lib.Pipeline.ValueKit
public import Idealize.ShloMosaic.Lib.Pipeline.ReadBack
public import Idealize.ShloMosaic.Lib.StableHlo.ReadAt

@[expose] public section

set_option maxRecDepth 16384

noncomputable section

namespace Cert.ScanSIdeal.Step

open Cert.ScanSIdeal Cert.ScanSIdeal.Gen Idealize.ShloMosaic Idealize.ShloMosaic.TcCoe Idealize.SL.Sem Cert.ScanRow Cert.StepRow
open Cert.ScanIdeal.Blk (cgrp cpos grp pos mask_eq)

/-! ## The body on any blocks -/

section Body

variable (u : FVec Ideal S128x512 .f32) (ar ai : FVec Ideal S1x2048 .f32) (sr si : FVec Ideal S128x2048 .f32)
  (b : FVec Ideal S512x2048 .bf16) (r : Fin 128)

/-- The new real parts. -/
theorem re_apply (l : Fin 2048) : k0_pay6 (F := Ideal) u ar ai sr si b (ix2 r l)
    = ((ar (ix2 0 l) : EReal) * sr (ix2 r l) - (ai (ix2 0 l) : EReal) * si (ix2 r l))
      + ∑ q : Fin 512, (u (ix2 r q) : EReal) * b (ix2 q l) := by
  pointwise [k0_pay6, k0_pay1, k0_pay2, k0_pay3, k0_pay4, k0_pay5]

/-- The new imaginary parts. -/
theorem im_apply (l : Fin 2048) : k0_pay7 (F := Ideal) u ar ai sr si b (ix2 r l)
    = ((ar (ix2 0 l) : EReal) * si (ix2 r l) + (ai (ix2 0 l) : EReal) * sr (ix2 r l))
      + ∑ q : Fin 512, (u (ix2 r q) : EReal) * b (ix2 q l) := by
  pointwise [k0_pay7, k0_pay1, k0_pay2, k0_pay3, k0_pay4, k0_pay5]

/-- The product of the real parts with the output map. -/
theorem product_apply (cr : FVec Ideal S2048x512 .bf16) (q : Fin 512) : k0_pay8 (F := Ideal) u ar ai sr si b cr (ix2 r q)
    = ∑ l : Fin 2048, (k0_pay6 (F := Ideal) u ar ai sr si b (ix2 r l) : EReal) * cr (ix2 l q) := by
  pointwise [k0_pay8]

/-- The gated output over the two products' ingredients. -/
theorem gate_apply (y : FVec Ideal S128x512 .f32) (h : FVec Ideal S128x2048 .bf16) (ci : FVec Ideal S2048x512 .bf16)
    (d : FVec Ideal S1x512 .f32) (w : FVec Ideal S512x2048 .bf16) (bg : FVec Ideal S1x2048 .f32) (j : Fin 1024) :
    k0_pay10 (F := Ideal) u y h ci d w bg (ix2 r j)
      = glu (fun q => (y (ix2 r q) : EReal) + ∑ l : Fin 2048, (h (ix2 r l) : EReal) * ci (ix2 l q) + (d (ix2 0 q) : EReal) * u (ix2 r q))
          (fun q l => w (ix2 q l)) (fun l => bg (ix2 0 l)) j := by
  pointwise [k0_pay10]
  simp only [zero_sub]
  unfold glu mixed gelu
  rfl

end Body

/-! ## What the point reads -/

variable (m : (ℓ : Loc nD τ sig) → Buf (Elt Ideal) ℓ) (c : Dev nD)

/-- The arguments on one device. -/
def args : Args where
  u b q := m (c, Proc.tc.devRef main_arg0) (ix2 b q)
  sr b g p := m (c, Proc.tc.devRef main_arg1) (ix3 b g p)
  si b g p := m (c, Proc.tc.devRef main_arg2) (ix3 b g p)
  ar g p := m (c, Proc.tc.devRef main_arg3) (ix2 g p)
  ai g p := m (c, Proc.tc.devRef main_arg4) (ix2 g p)
  br g p k := m (c, Proc.tc.devRef main_arg5) (ix3 g p k)
  bi g p k := m (c, Proc.tc.devRef main_arg6) (ix3 g p k)
  cr g k p := m (c, Proc.tc.devRef main_arg7) (ix3 g k p)
  ci g k p := m (c, Proc.tc.devRef main_arg8) (ix3 g k p)
  d q := m (c, Proc.tc.devRef main_arg9) (ix1 q)
  w q j := m (c, Proc.tc.devRef main_arg10) (ix2 q j)
  bg j := m (c, Proc.tc.devRef main_arg11) (ix1 j)

variable (t : Fin cfg0.N)

/-- Every window is its whole array. -/
theorem whole : ∀ t : Fin cfg0.N, (win0_0.index t = ![0, 0] ∧ win0_1.index t = ![0, 0] ∧ win0_2.index t = ![0, 0]
      ∧ win0_3.index t = ![0, 0] ∧ win0_4.index t = ![0, 0] ∧ win0_5.index t = ![0, 0] ∧ win0_6.index t = ![0, 0])
    ∧ (win0_7.index t = ![0, 0] ∧ win0_8.index t = ![0, 0] ∧ win0_9.index t = ![0, 0] ∧ win0_10.index t = ![0, 0]
      ∧ win0_11.index t = ![0, 0])
    ∧ win0_12.index t = ![0, 0] ∧ win0_13.index t = ![0, 0] ∧ win0_14.index t = ![0, 0] :=
  (by decide +kernel : ∀ t : Fin grid0.N, _)

theorem read_u (b : Fin 128) (q : Fin 512) : iblk m c 0 t (ix2 b q) = (args m c).u b q := by
  have e := (whole t).1.1
  blk_point [iblk, V, e]

theorem read_sr (b : Fin 128) (l : Fin 2048) : iblk m c 1 t (ix2 b l) = (args m c).sr b (grp l) (pos l) := by
  have e := (whole t).1.2.1
  refine Eq.trans (b := V m c main_v120 (ix2 b l)) (by blk_point [iblk, e]) ?_
  unfold V; after_reads_at; rfl

theorem read_si (b : Fin 128) (l : Fin 2048) : iblk m c 2 t (ix2 b l) = (args m c).si b (grp l) (pos l) := by
  have e := (whole t).1.2.2.1
  refine Eq.trans (b := V m c main_v121 (ix2 b l)) (by blk_point [iblk, e]) ?_
  unfold V; after_reads_at; rfl

theorem read_ar (l : Fin 2048) : iblk m c 3 t (ix2 0 l) = (args m c).ar (grp l) (pos l) := by
  have e := (whole t).1.2.2.2.1
  refine Eq.trans (b := V m c main_v39 (ix2 0 l)) (by blk_point [iblk, e]) ?_
  unfold V; after_reads_at; rfl

theorem read_ai (l : Fin 2048) : iblk m c 4 t (ix2 0 l) = (args m c).ai (grp l) (pos l) := by
  have e := (whole t).1.2.2.2.2.1
  refine Eq.trans (b := V m c main_v40 (ix2 0 l)) (by blk_point [iblk, e]) ?_
  unfold V; after_reads_at; rfl

theorem read_br (q : Fin 512) (l : Fin 2048) : iblk m c 5 t (ix2 q l)
    = (args m c).br (cgrp q) (pos l) (cpos q) * if q.val / 16 = l.val / 64 then (1 : EReal) else 0 := by
  have e := (whole t).1.2.2.2.2.2.1
  refine Eq.trans (b := V m c main_v13 (ix2 q l)) (by blk_point [iblk, e]) ?_
  rw [← mask_eq _ _ (by omega) (by omega)]
  unfold V; after_reads_at; rfl

theorem read_bi (q : Fin 512) (l : Fin 2048) : iblk m c 6 t (ix2 q l)
    = (args m c).bi (cgrp q) (pos l) (cpos q) * if q.val / 16 = l.val / 64 then (1 : EReal) else 0 := by
  have e := (whole t).1.2.2.2.2.2.2
  refine Eq.trans (b := V m c main_v21 (ix2 q l)) (by blk_point [iblk, e]) ?_
  rw [← mask_eq _ _ (by omega) (by omega)]
  unfold V; after_reads_at; rfl

theorem read_cr (l : Fin 2048) (q : Fin 512) : iblk m c 7 t (ix2 l q)
    = (args m c).cr (grp l) (cpos q) (pos l) * if l.val / 64 = q.val / 16 then (1 : EReal) else 0 := by
  have e := (whole t).2.1.1
  refine Eq.trans (b := V m c main_v29 (ix2 l q)) (by blk_point [iblk, e]) ?_
  rw [← mask_eq _ _ (by omega) (by omega)]
  unfold V; after_reads_at; rfl

theorem read_ci (l : Fin 2048) (q : Fin 512) : iblk m c 8 t (ix2 l q)
    = -(args m c).ci (grp l) (cpos q) (pos l) * if l.val / 64 = q.val / 16 then (1 : EReal) else 0 := by
  have e := (whole t).2.1.2.1
  refine Eq.trans (b := V m c main_v38 (ix2 l q)) (by blk_point [iblk, e]) ?_
  rw [← mask_eq _ _ (by omega) (by omega)]
  unfold V; after_reads_at; rfl

theorem read_d (q : Fin 512) : iblk m c 9 t (ix2 0 q) = (args m c).d q := by
  have e := (whole t).2.1.2.2.1
  refine Eq.trans (b := V m c main_v123 (ix2 0 q)) (by blk_point [iblk, e]) ?_
  unfold V; after_reads_at; rfl

theorem read_w (q : Fin 512) (j : Fin 2048) : iblk m c 10 t (ix2 q j) = (args m c).w q j := by
  have e := (whole t).2.1.2.2.2.1
  refine Eq.trans (b := V m c main_v122 (ix2 q j)) (by blk_point [iblk, e]) ?_
  unfold V; after_reads_at; rfl

theorem read_bg (j : Fin 2048) : iblk m c 11 t (ix2 0 j) = (args m c).bg j := by
  have e := (whole t).2.1.2.2.2.2
  refine Eq.trans (b := V m c main_v124 (ix2 0 j)) (by blk_point [iblk, e]) ?_
  unfold V; after_reads_at; rfl

end Cert.ScanSIdeal.Step

end
-- ==== Proof.ScanS.Arrays.lean ====
/- The state-space kernel's three result arrays on the sample, after its run. -/
module

public import proofs.«01_k».proof.Proof.ScanS.Kernel

@[expose] public section

set_option maxRecDepth 16384

noncomputable section

namespace Cert.ScanSIdeal.Step

open Cert.ScanSIdeal Cert.ScanSIdeal.Gen Idealize.ShloMosaic Idealize.ShloMosaic.TcCoe Idealize.SL.Sem Cert.ScanRow Cert.StepRow
open Cert.ScanIdeal.Blk (cgrp cpos grp pos)

variable (m : (ℓ : Loc nD τ sig) → Buf (Elt Ideal) ℓ) (c : Dev nD) (t : Fin cfg0.N) (b : Fin 128)

/-- The real parts the point leaves: the inputs' product collapses to one group. -/
theorem new_re (l : Fin 2048) : k0_pay6 (F := Ideal) (iblk m c 0 t) (iblk m c 3 t) (iblk m c 4 t) (iblk m c 1 t) (iblk m c 2 t)
    (iblk m c 5 t) (ix2 b l) = (args m c).re b (grp l) (pos l) := by
  rw [re_apply, read_ar, read_ai, read_sr, read_si, add_comm]
  unfold Args.re
  refine congrArg₂ (fun x y : EReal => x + y) ?_ rfl
  exact (Finset.sum_congr rfl fun q _ => congrArg₂ (fun x y : EReal => x * y) (read_u m c t b q) (read_br m c t q l)).trans
    (spread_step ((args m c).u b) (args m c).br l)

/-- The imaginary parts the point leaves. -/
theorem new_im (l : Fin 2048) : k0_pay7 (F := Ideal) (iblk m c 0 t) (iblk m c 3 t) (iblk m c 4 t) (iblk m c 1 t) (iblk m c 2 t)
    (iblk m c 6 t) (ix2 b l) = (args m c).im b (grp l) (pos l) := by
  rw [im_apply, read_ar, read_ai, read_sr, read_si, add_comm]
  unfold Args.im
  refine congrArg₂ (fun x y : EReal => x + y) ?_ rfl
  exact (Finset.sum_congr rfl fun q _ => congrArg₂ (fun x y : EReal => x * y) (read_u m c t b q) (read_bi m c t q l)).trans
    (spread_step ((args m c).u b) (args m c).bi l)

/-- The readout the point forms. -/
theorem new_y (q : Fin 512) :
    (k0_pay8 (F := Ideal) (iblk m c 0 t) (iblk m c 3 t) (iblk m c 4 t) (iblk m c 1 t) (iblk m c 2 t) (iblk m c 5 t) (iblk m c 7 t) (ix2 b q) : EReal)
      + ∑ l : Fin 2048, (k0_pay9 (F := Ideal) (iblk m c 0 t) (iblk m c 3 t) (iblk m c 4 t) (iblk m c 1 t) (iblk m c 2 t) (iblk m c 6 t) (ix2 b l) : EReal)
          * iblk m c 8 t (ix2 l q)
      + @HMul.hMul EReal EReal EReal _ (iblk m c 9 t (ix2 0 q)) (iblk m c 0 t (ix2 b q)) = (args m c).y b q := by
  rw [← Args.y_of_products]
  refine congrArg₂ (fun x y : EReal => x + y) (congrArg₂ (fun x y : EReal => x + y) ?_ ?_)
    (congrArg₂ (fun x y : EReal => x * y) (read_d m c t q) (read_u m c t b q))
  · refine (product_apply _ _ _ _ _ _ _ _ _).trans ?_
    exact (Finset.sum_congr rfl fun l _ => congrArg₂ (fun x y : EReal => x * y) (new_re m c t b l) (read_cr m c t l q)).trans
      (spread_read ((args m c).re b) (args m c).cr q)
  · exact (Finset.sum_congr rfl fun l _ => congrArg₂ (fun x y : EReal => x * y) (new_im m c t b l) (read_ci m c t l q)).trans
      (spread_read ((args m c).im b) (fun g k p => -(args m c).ci g k p) q)

/-- The output, as an array. -/
def OutArr : Vec Ideal S128x1024 .f32 := fun i => (args m c).out (i 0) (i 1)

/-- The new real parts, as an array. -/
def ReArr : Vec Ideal S128x2048 .f32 := fun i => (args m c).re (i 0) (grp (i 1)) (pos (i 1))

/-- The new imaginary parts, as an array. -/
def ImArr : Vec Ideal S128x2048 .f32 := fun i => (args m c).im (i 0) (grp (i 1)) (pos (i 1))

theorem arr12 : (dats m 0 c).arrAt 12 cfg0.N = OutArr m c := by
  refine (dats m 0 c).arrAt_eq_of_covers 12 _ (by decide +kernel) fun t hf y => ?_
  blk_simp
  rw [after0_12]
  idx_vars y
  have e := (whole t).2.2.1
  frame_out
  rw [gate_apply, funext (new_y m c t y0), funext fun q => funext (read_w m c t q), funext (read_bg m c t)]
  exact congrArg₂ (args m c).out (Fin.ext (by blk_simp [e])) (Fin.ext (by blk_simp [e]))

theorem arr13 : (dats m 0 c).arrAt 13 cfg0.N = ReArr m c := by
  refine (dats m 0 c).arrAt_eq_of_covers 13 _ (by decide +kernel) fun t hf y => ?_
  blk_simp
  rw [after0_13]
  idx_vars y
  have e := (whole t).2.2.2.1
  frame_out
  rw [new_re]
  exact congrArg₂ (fun b l => (args m c).re b (grp l) (pos l)) (Fin.ext (by blk_simp [e])) (Fin.ext (by blk_simp [e]))

theorem arr14 : (dats m 0 c).arrAt 14 cfg0.N = ImArr m c := by
  refine (dats m 0 c).arrAt_eq_of_covers 14 _ (by decide +kernel) fun t hf y => ?_
  blk_simp
  rw [after0_14]
  idx_vars y
  have e := (whole t).2.2.2.2
  frame_out
  rw [new_im]
  exact congrArg₂ (fun b l => (args m c).im b (grp l) (pos l)) (Fin.ext (by blk_simp [e])) (Fin.ext (by blk_simp [e]))

end Cert.ScanSIdeal.Step

end
-- ==== Proof.ScanS.Equation.lean ====
/- The sample's state-space step, the reference's side: its states, readout and output are `StepRow`'s of the same
   arguments, so it ends with the kernel's arrays. -/
module

public import proofs.«01_k».proof.Proof.ScanS.Arrays
public import proofs.«01_k».proof.Proof.Gen.ScanSRefIdeal.Read
public import proofs.«01_k».proof.Defs
public import Idealize.ShloMosaic.Lib.Quiescent

@[expose] public section

set_option maxRecDepth 16384

noncomputable section

namespace Cert.ScanSValue

open Idealize.ShloMosaic Idealize.ShloMosaic.TcCoe Idealize.SL.Sem Cert.ScanRow Cert.StepRow
open Cert.ScanIdeal.Blk (cgrp cpos grp pos)

section Reference

open Cert.ScanSRefIdeal Cert.ScanSRefIdeal.Read

variable (x0 : Vec Ideal S128x512 .f32) (x1 x2 : Vec Ideal S128x32x64 .f32) (x3 x4 : Vec Ideal S32x64 .f32)
  (x5 x6 : Vec Ideal S32x64x16 .f32) (x7 x8 : Vec Ideal S32x16x64 .f32) (x9 : Vec Ideal S512 .f32)
  (x10 : Vec Ideal S512x2048 .f32) (x11 : Vec Ideal S2048 .f32)

/-- The reference's arguments. -/
def refArgs : Args where
  u b q := x0 (ix2 b q)
  sr b g p := x1 (ix3 b g p)
  si b g p := x2 (ix3 b g p)
  ar g p := x3 (ix2 g p)
  ai g p := x4 (ix2 g p)
  br g p k := x5 (ix3 g p k)
  bi g p k := x6 (ix3 g p k)
  cr g k p := x7 (ix3 g k p)
  ci g k p := x8 (ix3 g k p)
  d q := x9 (ix1 q)
  w q j := x10 (ix2 q j)
  bg j := x11 (ix1 j)

theorem re_at (b : Fin 128) (g : Fin 32) (p : Fin 64) : val_main_v10 (F := Ideal) x0 x1 x2 x3 x4 x5 (ix3 b g p)
    = (refArgs x0 x1 x2 x3 x4 x5 x6 x7 x8 x9 x10 x11).re b g p := by
  pointwise [val_main_v10, val_main_v9, val_main_v8, val_main_v7, val_main_v6, val_main_v5, val_main_v4, val_main_v3,
    val_main_v2, val_main_v1, val_main_v0]
  rfl

theorem im_at (b : Fin 128) (g : Fin 32) (p : Fin 64) : val_main_v20 (F := Ideal) x0 x1 x2 x3 x4 x6 (ix3 b g p)
    = (refArgs x0 x1 x2 x3 x4 x5 x6 x7 x8 x9 x10 x11).im b g p := by
  pointwise [val_main_v20, val_main_v19, val_main_v18, val_main_v17, val_main_v16, val_main_v15, val_main_v14, val_main_v13,
    val_main_v12, val_main_v11, val_main_v0]
  rfl

theorem y_at (b : Fin 128) (q : Fin 512) : val_main_v37 (F := Ideal) x0 x1 x2 x3 x4 x5 x6 x7 x8 x9 (ix2 b q)
    = (refArgs x0 x1 x2 x3 x4 x5 x6 x7 x8 x9 x10 x11).y b q := by
  pointwise [val_main_v37, val_main_v36, val_main_v35, val_main_v34, val_main_v33, val_main_v32, val_main_v31, val_main_v30,
    val_main_v29, val_main_v28, val_main_v27, val_main_v26, val_main_v25, val_main_v24, val_main_v23, val_main_v22,
    val_main_v21, val_main_cst]
  simp only [re_at x0 x1 x2 x3 x4 x5 x6 x7 x8 x9 x10 x11, im_at x0 x1 x2 x3 x4 x5 x6 x7 x8 x9 x10 x11]
  rfl

/-- The output at an element, over the readout. -/
theorem gate_at (b : Fin 128) (j : Fin 1024) : val_main_v63 (F := Ideal) x0 x1 x2 x3 x4 x5 x6 x7 x8 x9 x10 x11 (ix2 b j)
    = glu (fun q => val_main_v37 (F := Ideal) x0 x1 x2 x3 x4 x5 x6 x7 x8 x9 (ix2 b q)) (fun q l => x10 (ix2 q l))
        (fun l => x11 (ix1 l)) j := by
  pointwise [val_main_v63, val_main_v62, val_main_v61, val_main_v60, val_main_v59, val_main_v58, val_main_v57, val_main_v56,
    val_main_v55, val_main_v54, val_main_v53, val_main_v52, val_main_v51, val_main_v50, val_main_v49, val_main_v48,
    val_main_v47, val_main_v46, val_main_v45, val_main_v44, val_main_v43, val_main_v42, val_main_v41, val_main_v40,
    val_main_v39, val_main_v38, val_main_cst_0, val_main_cst_1, val_main_cst_2, val_main_cst_3, val_main_cst_4, val_main_cst_5]
  unfold glu mixed gelu
  rfl

theorem out_at (b : Fin 128) (j : Fin 1024) : val_main_v63 (F := Ideal) x0 x1 x2 x3 x4 x5 x6 x7 x8 x9 x10 x11 (ix2 b j)
    = (refArgs x0 x1 x2 x3 x4 x5 x6 x7 x8 x9 x10 x11).out b j := by
  rw [gate_at, funext fun q => y_at x0 x1 x2 x3 x4 x5 x6 x7 x8 x9 x10 x11 b q]
  rfl

/-- The new states as the flat rows the reference returns. -/
theorem re_flat (b : Fin 128) (l : Fin 2048) : val_main_v64 (F := Ideal) x0 x1 x2 x3 x4 x5 (ix2 b l)
    = (refArgs x0 x1 x2 x3 x4 x5 x6 x7 x8 x9 x10 x11).re b (grp l) (pos l) := by
  rw [← re_at]
  pointwise [val_main_v64]

theorem im_flat (b : Fin 128) (l : Fin 2048) : val_main_v65 (F := Ideal) x0 x1 x2 x3 x4 x6 (ix2 b l)
    = (refArgs x0 x1 x2 x3 x4 x5 x6 x7 x8 x9 x10 x11).im b (grp l) (pos l) := by
  rw [← im_at]
  pointwise [val_main_v65]

end Reference

/-- The value claim: from memories that agree on the arguments the kernel and the reference end with equal results. -/
theorem algebraic : Cert.algebraic_ScanSIdeal_ScanSRefIdeal (hScanSIdeal := Cert.ScanSIdeal.Gen.facts)
    (hScanSRefIdeal := Cert.ScanSRefIdeal.Gen.facts) := by
  intro m g m' g' _ hagree
  refine ⟨fun c => Cert.ScanSIdeal.Step.OutArr m c, fun c => Cert.ScanSIdeal.Step.ReArr m c,
    fun c => Cert.ScanSIdeal.Step.ImArr m c, ?_, ?_⟩
  · refine (θ_run _ _ _).mono (fun r h c => ?_) (Cert.ScanSIdeal.Value.run_blocks (F := Ideal) m g)
    obtain ⟨h0, h1, h2, ha⟩ := h c
    exact ⟨h0.trans (Cert.ScanSIdeal.Step.arr12 m c), h1.trans (Cert.ScanSIdeal.Step.arr13 m c),
      h2.trans (Cert.ScanSIdeal.Step.arr14 m c), ha⟩
  · refine (θ_run _ _ _).mono (fun r h c => ?_) (Cert.ScanSRefIdeal.Value.run (F := Ideal) m' g')
    obtain ⟨h0, h1, h2, ha⟩ := h c
    obtain ⟨e0, e1, e2, e3, e4, e5, e6, e7, e8, e9, e10, e11⟩ := hagree c
    refine ⟨h0.trans ?_, h1.trans ?_, h2.trans ?_, ha⟩
    · rw [Cert.ScanSRefIdeal.Read.val_main_v63_eq, e0, e1, e2, e3, e4, e5, e6, e7, e8, e9, e10, e11]
      funext i
      rw [eq_ix2 i]
      exact out_at _ _ _ _ _ _ _ _ _ _ _ _ (i 0) (i 1)
    · refine (Cert.ScanSRefIdeal.Read.val_main_v64_eq _ _ _ _ _ _).trans ?_
      rw [e0, e1, e2, e3, e4, e5]
      funext i
      rw [eq_ix2 i]
      exact re_flat _ _ _ _ _ _ _ _ _ _ _ _ (i 0) (i 1)
    · refine (Cert.ScanSRefIdeal.Read.val_main_v65_eq _ _ _ _ _ _).trans ?_
      rw [e0, e1, e2, e3, e4, e6]
      funext i
      rw [eq_ix2 i]
      exact im_flat _ _ _ _ _ _ _ _ _ _ _ _ (i 0) (i 1)

/-- The reference runs, leaves its arguments alone and ends with every counter at zero. -/
theorem frame_ref : Cert.quiescent_ScanSRefIdeal (hScanSRefIdeal := Cert.ScanSRefIdeal.Gen.facts) := fun m ρ _ =>
  (θ_run Cert.ScanSRefIdeal.defs _ _).mono (fun r h => ⟨fun c => (h c).2.2.2, sem_eq_zero_of_no_sems (by decide) r.2⟩)
    (Cert.ScanSRefIdeal.Value.run (F := Ideal) m ρ)

end Cert.ScanSValue

end
-- ==== Proof.TailS.Kernel.lean ====
/- The end of the layer on the sample: one block of 128 rows and one grid point. What the point stores is
   `LayerRow.tail` of each row, the same function of a row as in the prompt's kernel. -/
module

public import proofs.«01_k».proof.Proof.Tail.Row
public import proofs.«01_k».proof.Proof.Gen.TailSIdeal.Value
public import Idealize.ShloMosaic.Lib.Pointwise
public import Idealize.ShloMosaic.Lib.Pipeline.ValueKit

@[expose] public section

set_option maxRecDepth 16384

noncomputable section

namespace Cert.TailSIdeal.Block

open Cert.TailSIdeal Cert.TailSIdeal.Gen Idealize.ShloMosaic Idealize.ShloMosaic.TcCoe Idealize.SL.Sem Cert.LayerRow

section Point

variable (x0 : Vec Ideal S128x1024 .f32) (x1 : Vec Ideal S128x512 .bf16) (x2 x3 x4 : Vec Ideal S128x1024 .f32)
  (x5 : Vec Ideal S512x1024 .bf16) (x6 : Vec Ideal S1024x1024 .bf16) (x7 : Vec Ideal S1x1024 .f32)
  (x8 : Vec Ideal S1024x4096 .bf16) (x9 : Vec Ideal S4096x1024 .bf16) (x10 : Vec Ideal S1x1024 .f32) (r : Fin 128)

/-- The residual after the mix, row by row. -/
theorem residual : (fun l => k0_pay2 x1 x5 x3 x2 x4 x0 x6 (ix2 r l))
    = mixed (fun j => x0 (ix2 r j)) (fun j => x2 (ix2 r j)) (fun j => x3 (ix2 r j)) (fun j => x4 (ix2 r j))
        (fun j => x1 (ix2 r j)) (fun a b => x5 (ix2 a b)) (fun a b => x6 (ix2 a b)) := by
  funext l
  pointwise [k0_pay2]
  rfl

/-- The hidden layer, row by row, over the residual. -/
theorem hiddenRow : (fun l => k0_pay3 x1 x5 x3 x2 x4 x0 x6 x7 x8 (ix2 r l))
    = hidden (fun j => k0_pay2 x1 x5 x3 x2 x4 x0 x6 (ix2 r j)) (fun j => x7 (ix2 0 j)) (fun a b => x8 (ix2 a b)) := by
  funext l
  pointwise [k0_pay3]
  rfl

/-- The network and the last norm, over any residual `y` and hidden layer `h`. -/
theorem stored (y : FVec Ideal S128x1024 .f32) (h : FVec Ideal S128x4096 .f32) (z : Ideal .f32) (hz : z = (0 : EReal)) (l : Fin 1024) :
    k0_pay1 y h z x9 x10 (ix2 r l)
      = rms (fed (fun j => y (ix2 r j)) (fun j => h (ix2 r j)) (fun a b => x9 (ix2 a b))) (fun j => x10 (ix2 0 j)) l := by
  subst hz
  pointwise [k0_pay1]
  rfl

/-- The point's result at an element. -/
theorem result (l : Fin 1024) :
    out0_11 x0 x1 x2 x3 x4 x5 x6 x7 x8 x9 x10 (ix2 r l)
      = tail (fun j => x0 (ix2 r j)) (fun j => x2 (ix2 r j)) (fun j => x3 (ix2 r j)) (fun j => x4 (ix2 r j))
          (fun j => x1 (ix2 r j)) (fun a b => x5 (ix2 a b)) (fun a b => x6 (ix2 a b)) (fun j => x7 (ix2 0 j))
          (fun a b => x8 (ix2 a b)) (fun a b => x9 (ix2 a b)) (fun j => x10 (ix2 0 j)) l := by
  frame_out
  rw [stored x9 x10 r _ _ (FloatOps.ofBits (F := Ideal) .f32 0x00000000#32) Ideal.ofBits_zero_f32,
    hiddenRow, residual]
  rfl

end Point

variable (m : (ℓ : Loc nD τ sig) → Buf (Elt Ideal) ℓ) (c : Dev nD)

/-- The result array, from the arguments. -/
def G : Vec Ideal S128x1024 .f32 := fun i =>
  tail (fun j => m ((c : Thread nD τ).loc main_arg0) (ix2 (i 0) j)) (fun j => m ((c : Thread nD τ).loc main_arg2) (ix2 (i 0) j))
    (fun j => m ((c : Thread nD τ).loc main_arg3) (ix2 (i 0) j)) (fun j => m ((c : Thread nD τ).loc main_arg4) (ix2 (i 0) j))
    (fun j => m ((c : Thread nD τ).loc main_arg1) (ix2 (i 0) j)) (fun a b => m ((c : Thread nD τ).loc main_arg5) (ix2 a b))
    (fun a b => m ((c : Thread nD τ).loc main_arg6) (ix2 a b)) (fun j => m ((c : Thread nD τ).loc main_arg7) (ix1 j))
    (fun a b => m ((c : Thread nD τ).loc main_arg8) (ix2 a b)) (fun a b => m ((c : Thread nD τ).loc main_arg9) (ix2 a b))
    (fun j => m ((c : Thread nD τ).loc main_arg10) (ix1 j)) (i 1)

/-- Every window is its whole array. -/
theorem whole : ∀ t : Fin cfg0.N, (win0_0.index t = ![0, 0] ∧ win0_1.index t = ![0, 0] ∧ win0_2.index t = ![0, 0]
      ∧ win0_3.index t = ![0, 0] ∧ win0_4.index t = ![0, 0] ∧ win0_5.index t = ![0, 0])
    ∧ win0_6.index t = ![0, 0] ∧ win0_7.index t = ![0, 0] ∧ win0_8.index t = ![0, 0] ∧ win0_9.index t = ![0, 0]
      ∧ win0_10.index t = ![0, 0] ∧ win0_11.index t = ![0, 0] :=
  (by decide +kernel : ∀ t : Fin grid0.N, _)

/-- The result array after the run. -/
theorem final : (dats m 0 c).arrAt 11 cfg0.N = G m c := by
  refine (dats m 0 c).arrAt_eq_of_covers 11 _ (by decide +kernel) fun t hf y => ?_
  blk_simp
  rw [after0_11]
  idx_vars y
  rw [result]
  unfold G
  obtain ⟨⟨e0, e1, e2, e3, e4, e5⟩, e6, e7, e8, e9, e10, e11⟩ := whole t
  congr 1
  · funext j; blk_point [iblk, V, e0, e11]
  · funext j; blk_point [iblk, V, e2, e11]
  · funext j; blk_point [iblk, V, e3, e11]
  · funext j; blk_point [iblk, V, e4, e11]
  · funext j; blk_point [iblk, V, e1, e11]
  · funext a b; blk_point [iblk, V, e5]
  · funext a b; blk_point [iblk, V, e6]
  · funext j; blk_point [iblk, V, e7]
  · funext a b; blk_point [iblk, V, e8]
  · funext a b; blk_point [iblk, V, e9]
  · funext j; blk_point [iblk, V, e10]
  · exact Fin.ext (by blk_simp [e11])

end Cert.TailSIdeal.Block

end
-- ==== Proof.TailS.Equation.lean ====
/- The sample's end of the layer, the reference's side: each row of its result is `LayerRow.tail` of the same row of the
   arguments, so it ends with the kernel's array. -/
module

public import proofs.«01_k».proof.Proof.TailS.Kernel
public import proofs.«01_k».proof.Proof.Gen.TailSRefIdeal.Read
public import proofs.«01_k».proof.Defs
public import Idealize.ShloMosaic.Lib.Quiescent

@[expose] public section

set_option maxRecDepth 16384

noncomputable section

namespace Cert.TailSValue

open Idealize.ShloMosaic Idealize.ShloMosaic.TcCoe Idealize.SL.Sem Cert.LayerRow

section Reference

open Cert.TailSRefIdeal Cert.TailSRefIdeal.Read

variable (x0 : Vec Ideal S128x1024 .f32) (x1 : Vec Ideal S128x512 .bf16) (x2 x3 x4 : Vec Ideal S128x1024 .f32)
  (x5 : Vec Ideal S512x1024 .f32) (x6 : Vec Ideal S1024x1024 .f32) (x7 : Vec Ideal S1024 .f32)
  (x8 : Vec Ideal S1024x4096 .f32) (x9 : Vec Ideal S4096x1024 .f32) (x10 : Vec Ideal S1024 .f32) (r : Fin 128)

/-- The residual after the mix, row by row. -/
theorem residual : (fun l => val_main_v6 (F := Ideal) x0 x1 x2 x3 x4 x5 x6 (ix2 r l))
    = mixed (fun j => x0 (ix2 r j)) (fun j => x2 (ix2 r j)) (fun j => x3 (ix2 r j)) (fun j => x4 (ix2 r j))
        (fun j => x1 (ix2 r j)) (fun a b => x5 (ix2 a b)) (fun a b => x6 (ix2 a b)) := by
  funext l
  pointwise [val_main_v6, val_main_v5, val_main_v4, val_main_v3, val_main_v2, val_main_v1, val_main_v0]
  rfl

/-- The hidden layer, row by row, over the residual. -/
theorem hiddenRow : (fun l => val_main_v20 (F := Ideal) x0 x1 x2 x3 x4 x5 x6 x7 x8 (ix2 r l))
    = hidden (fun j => val_main_v6 (F := Ideal) x0 x1 x2 x3 x4 x5 x6 (ix2 r j)) (fun j => x7 (ix1 j)) (fun a b => x8 (ix2 a b)) := by
  funext l
  pointwise [val_main_v20, val_main_v19, val_main_v18, val_main_v17, val_main_v16, val_main_v15, val_main_v14, val_main_v13,
    val_main_v12, val_main_v11, val_main_v10, val_main_v9, val_main_v8, val_main_v7, val_main_cst, val_main_cst_0, val_main_cst_1]
  rfl

/-- The residual after the network, row by row. -/
theorem fedRow : (fun l => val_main_v24 (F := Ideal) x0 x1 x2 x3 x4 x5 x6 x7 x8 x9 (ix2 r l))
    = fed (fun j => val_main_v6 (F := Ideal) x0 x1 x2 x3 x4 x5 x6 (ix2 r j))
        (fun j => val_main_v20 (F := Ideal) x0 x1 x2 x3 x4 x5 x6 x7 x8 (ix2 r j)) (fun a b => x9 (ix2 a b)) := by
  funext l
  pointwise [val_main_v24, val_main_v23, val_main_v22, val_main_v21, val_main_call0_v0, val_main_call0_cst]
  rfl

/-- The result at an element: the norm of the last residual. -/
theorem normed (l : Fin 1024) : val_main_v37 (F := Ideal) x0 x1 x2 x3 x4 x5 x6 x7 x8 x9 x10 (ix2 r l)
    = rms (fun j => val_main_v24 (F := Ideal) x0 x1 x2 x3 x4 x5 x6 x7 x8 x9 (ix2 r j)) (fun j => x10 (ix1 j)) l := by
  pointwise [val_main_v37, val_main_v36, val_main_v35, val_main_v34, val_main_v33, val_main_v32, val_main_v31, val_main_v30,
    val_main_v29, val_main_v28, val_main_v27, val_main_v26, val_main_v25, val_main_cst_2, val_main_cst_3, val_main_cst_4]
  rfl

/-- The result at an element, from the arguments. -/
theorem result (l : Fin 1024) : val_main_v37 (F := Ideal) x0 x1 x2 x3 x4 x5 x6 x7 x8 x9 x10 (ix2 r l)
    = tail (fun j => x0 (ix2 r j)) (fun j => x2 (ix2 r j)) (fun j => x3 (ix2 r j)) (fun j => x4 (ix2 r j))
        (fun j => x1 (ix2 r j)) (fun a b => x5 (ix2 a b)) (fun a b => x6 (ix2 a b)) (fun j => x7 (ix1 j))
        (fun a b => x8 (ix2 a b)) (fun a b => x9 (ix2 a b)) (fun j => x10 (ix1 j)) l := by
  rw [normed, fedRow, hiddenRow, residual]
  rfl

end Reference

/-- The value claim: from memories that agree on the arguments the kernel and the reference end with equal results. -/
theorem algebraic : Cert.algebraic_TailSIdeal_TailSRefIdeal (hTailSIdeal := Cert.TailSIdeal.Gen.facts)
    (hTailSRefIdeal := Cert.TailSRefIdeal.Gen.facts) := by
  intro m g m' g' _ hagree
  refine ⟨fun c => Cert.TailSIdeal.Block.G m c, ?_, ?_⟩
  · refine (θ_run _ _ _).mono (fun r h c => ?_) (Cert.TailSIdeal.Value.run_blocks (F := Ideal) m g)
    exact ⟨(h c).1.trans (Cert.TailSIdeal.Block.final m c), (h c).2⟩
  · refine (θ_run _ _ _).mono (fun r h c => ?_) (Cert.TailSRefIdeal.Value.run (F := Ideal) m' g')
    refine ⟨(h c).1.trans ?_, (h c).2⟩
    rw [Cert.TailSRefIdeal.Read.val_main_v37_eq]
    obtain ⟨h0, h1, h2, h3, h4, h5, h6, h7, h8, h9, h10⟩ := hagree c
    rw [h0, h1, h2, h3, h4, h5, h6, h7, h8, h9, h10]
    funext i
    rw [eq_ix2 i]
    exact result _ _ _ _ _ _ _ _ _ _ _ (i 0) (i 1)

/-- The reference runs, leaves its arguments alone and ends with every counter at zero. -/
theorem frame_ref : Cert.quiescent_TailSRefIdeal (hTailSRefIdeal := Cert.TailSRefIdeal.Gen.facts) := fun m ρ _ =>
  (θ_run Cert.TailSRefIdeal.defs _ _).mono (fun r h => ⟨fun c => (h c).2, sem_eq_zero_of_no_sems (by decide) r.2⟩)
    (Cert.TailSRefIdeal.Value.run (F := Ideal) m ρ)

end Cert.TailSValue

end
-- ==== Proof.lean ====
module

public import proofs.«01_k».proof.Defs
public import proofs.«01_k».proof.Proof.Gen.Tail
public import proofs.«01_k».proof.Proof.Gen.Tail.Skeleton
public import proofs.«01_k».proof.Proof.Gen.Tail.Launch
public import proofs.«01_k».proof.Proof.Gen.Tail.Points
public import proofs.«01_k».proof.Proof.Gen.Tail.Frame
public import proofs.«01_k».proof.Proof.Gen.TailIdeal
public import proofs.«01_k».proof.Proof.Gen.TailIdeal.Skeleton
public import proofs.«01_k».proof.Proof.Gen.TailIdeal.Launch
public import proofs.«01_k».proof.Proof.Gen.TailIdeal.Points
public import proofs.«01_k».proof.Proof.Gen.TailIdeal.Frame
public import proofs.«01_k».proof.Proof.Gen.TailRefIdeal
public import proofs.«01_k».proof.Proof.Gen.TailIdeal.Value
public import proofs.«01_k».proof.Proof.Gen.TailRefIdeal.Run
public import proofs.«01_k».proof.Proof.Gen.TailRefIdeal.Read
public import proofs.«01_k».proof.Proof.Tail.Equation
public import proofs.«01_k».proof.Proof.Gen.Proj.Frame
public import proofs.«01_k».proof.Proof.Gen.Scan.Frame
public import proofs.«01_k».proof.Proof.Gen.ScanIdeal.Value
public import proofs.«01_k».proof.Proof.Gen.ScanRefIdeal.Run
public import proofs.«01_k».proof.Proof.Gen.Pre_scan_real
public import proofs.«01_k».proof.Proof.Scan.Equation
public import proofs.«01_k».proof.Proof.Gen.ProjIdeal.Value
public import proofs.«01_k».proof.Proof.Gen.ProjRefIdeal.Run
public import proofs.«01_k».proof.Proof.Gen.ProjRefIdeal.Read
public import proofs.«01_k».proof.Proof.Proj.Equation
public import proofs.«01_k».proof.Proof.Gen.ProjS.Frame
public import proofs.«01_k».proof.Proof.Gen.ProjSIdeal.Value
public import proofs.«01_k».proof.Proof.Gen.ProjSRefIdeal.Run
public import proofs.«01_k».proof.Proof.Gen.ProjSRefIdeal.Read
public import proofs.«01_k».proof.Proof.ProjS.Equation
public import proofs.«01_k».proof.Proof.Gen.ScanS.Frame
public import proofs.«01_k».proof.Proof.Gen.ScanSIdeal.Value
public import proofs.«01_k».proof.Proof.Gen.ScanSRefIdeal.Run
public import proofs.«01_k».proof.Proof.Gen.ScanSRefIdeal.Read
public import proofs.«01_k».proof.Proof.ScanS.Equation
public import proofs.«01_k».proof.Proof.Gen.TailS.Frame
public import proofs.«01_k».proof.Proof.Gen.TailSIdeal.Value
public import proofs.«01_k».proof.Proof.Gen.TailSRefIdeal.Run
public import proofs.«01_k».proof.Proof.Gen.TailSRefIdeal.Read
public import proofs.«01_k».proof.Proof.TailS.Equation
public import Idealize.ShloMosaic.Adequacy
public import Idealize.ShloMosaic.Init

@[expose] public section

noncomputable section

namespace Cert.Proof

open Idealize.ShloMosaic Idealize.SL.Sem Cert.Tail

theorem claim : Cert.Claim := ⟨Cert.Tail.Gen.facts, Cert.TailIdeal.Gen.facts, Cert.TailRefIdeal.Gen.facts,
  Cert.Proj.Gen.facts, Cert.ProjIdeal.Gen.facts, Cert.ProjRefIdeal.Gen.facts,
  Cert.Scan.Gen.facts, Cert.ScanIdeal.Gen.facts, Cert.ScanRefIdeal.Gen.facts,
  Cert.ProjS.Gen.facts, Cert.ProjSIdeal.Gen.facts, Cert.ProjSRefIdeal.Gen.facts,
  Cert.ScanS.Gen.facts, Cert.ScanSIdeal.Gen.facts, Cert.ScanSRefIdeal.Gen.facts,
  Cert.TailS.Gen.facts, Cert.TailSIdeal.Gen.facts, Cert.TailSRefIdeal.Gen.facts, Cert.Pre_scan_real.Gen.facts,
  fun m ρ _ => Cert.Tail.Gen.frame m ρ, fun m ρ _ => Cert.TailIdeal.Gen.frame m ρ, Cert.TailValue.frame_ref,
  fun m ρ _ => Cert.Proj.Gen.frame m ρ, fun m ρ _ => Cert.ProjIdeal.Gen.frame m ρ, Cert.ProjValue.frame_ref,
  fun m ρ _ => Cert.Scan.Gen.frame m ρ, fun m ρ _ => Cert.ScanIdeal.Gen.frame m ρ, fun m ρ _ => Cert.ScanIdeal.Gen.frame m ρ,
  Cert.ScanValue.frame_ref, Cert.ScanValue.frame_ref_pre,
  fun m ρ _ => Cert.ProjS.Gen.frame m ρ, fun m ρ _ => Cert.ProjSIdeal.Gen.frame m ρ, Cert.ProjSValue.frame_ref,
  fun m ρ _ => Cert.ScanS.Gen.frame m ρ, fun m ρ _ => Cert.ScanSIdeal.Gen.frame m ρ, Cert.ScanSValue.frame_ref,
  fun m ρ _ => Cert.TailS.Gen.frame m ρ, fun m ρ _ => Cert.TailSIdeal.Gen.frame m ρ, Cert.TailSValue.frame_ref,
  trivial, Cert.TailValue.algebraic, trivial, Cert.ProjValue.algebraic, trivial, Cert.ScanValue.algebraic,
  trivial, Cert.ProjSValue.algebraic, trivial, Cert.ScanSValue.algebraic, trivial, Cert.TailSValue.algebraic⟩

end Cert.Proof

end
